-- ==== Defs.lean ====
def Pre_Layer0 (m : (ℓ : Loc Cert.Layer0.nD Cert.Layer0.τ Cert.Layer0.sig) → Buf (Elt Bits) ℓ) : Prop :=
  True

def Pre_Layer0Ideal (m : (ℓ : Loc Cert.Layer0Ideal.nD Cert.Layer0Ideal.τ Cert.Layer0Ideal.sig) → Buf (Elt Ideal) ℓ) : Prop :=
  True

def Pre_Layer0Ideal_finite [hPre_finite : Cert.Pre_finite.Facts] (m : (ℓ : Loc Cert.Layer0Ideal.nD Cert.Layer0Ideal.τ Cert.Layer0Ideal.sig) → Buf (Elt Ideal) ℓ) : Prop :=
  ∀ c : Dev Cert.Layer0Ideal.nD,
    (Cert.Pre_finite.fn (F := Ideal) (m ((c.tc : Thread Cert.Layer0Ideal.nD Cert.Layer0Ideal.τ).loc Cert.Layer0Ideal.main_arg0)) (m ((c.tc : Thread Cert.Layer0Ideal.nD Cert.Layer0Ideal.τ).loc Cert.Layer0Ideal.main_arg1)) (m ((c.tc : Thread Cert.Layer0Ideal.nD Cert.Layer0Ideal.τ).loc Cert.Layer0Ideal.main_arg2)) (m ((c.tc : Thread Cert.Layer0Ideal.nD Cert.Layer0Ideal.τ).loc Cert.Layer0Ideal.main_arg3)) (m ((c.tc : Thread Cert.Layer0Ideal.nD Cert.Layer0Ideal.τ).loc Cert.Layer0Ideal.main_arg4))) = (fun _ => 1#1)

def Pre_Plain0Ideal (m : (ℓ : Loc Cert.Plain0Ideal.nD Cert.Plain0Ideal.τ Cert.Plain0Ideal.sig) → Buf (Elt Ideal) ℓ) : Prop :=
  True

def Pre_Plain0Ideal_finite [hPre_finite : Cert.Pre_finite.Facts] (m : (ℓ : Loc Cert.Plain0Ideal.nD Cert.Plain0Ideal.τ Cert.Plain0Ideal.sig) → Buf (Elt Ideal) ℓ) : Prop :=
  ∀ c : Dev Cert.Plain0Ideal.nD,
    (Cert.Pre_finite.fn (F := Ideal) (m ((c.tc : Thread Cert.Plain0Ideal.nD Cert.Plain0Ideal.τ).loc Cert.Plain0Ideal.main_arg0)) (m ((c.tc : Thread Cert.Plain0Ideal.nD Cert.Plain0Ideal.τ).loc Cert.Plain0Ideal.main_arg1)) (m ((c.tc : Thread Cert.Plain0Ideal.nD Cert.Plain0Ideal.τ).loc Cert.Plain0Ideal.main_arg2)) (m ((c.tc : Thread Cert.Plain0Ideal.nD Cert.Plain0Ideal.τ).loc Cert.Plain0Ideal.main_arg3)) (m ((c.tc : Thread Cert.Plain0Ideal.nD Cert.Plain0Ideal.τ).loc Cert.Plain0Ideal.main_arg4))) = (fun _ => 1#1)

def Pre_Layer1 (m : (ℓ : Loc Cert.Layer1.nD Cert.Layer1.τ Cert.Layer1.sig) → Buf (Elt Bits) ℓ) : Prop :=
  True

def Pre_Layer1Ideal (m : (ℓ : Loc Cert.Layer1Ideal.nD Cert.Layer1Ideal.τ Cert.Layer1Ideal.sig) → Buf (Elt Ideal) ℓ) : Prop :=
  True

def Pre_Layer1Ideal_finite_feat [hPre_finite_feat : Cert.Pre_finite_feat.Facts] (m : (ℓ : Loc Cert.Layer1Ideal.nD Cert.Layer1Ideal.τ Cert.Layer1Ideal.sig) → Buf (Elt Ideal) ℓ) : Prop :=
  ∀ c : Dev Cert.Layer1Ideal.nD,
    (Cert.Pre_finite_feat.fn (F := Ideal) (m ((c.tc : Thread Cert.Layer1Ideal.nD Cert.Layer1Ideal.τ).loc Cert.Layer1Ideal.main_arg0)) (m ((c.tc : Thread Cert.Layer1Ideal.nD Cert.Layer1Ideal.τ).loc Cert.Layer1Ideal.main_arg1)) (m ((c.tc : Thread Cert.Layer1Ideal.nD Cert.Layer1Ideal.τ).loc Cert.Layer1Ideal.main_arg2)) (m ((c.tc : Thread Cert.Layer1Ideal.nD Cert.Layer1Ideal.τ).loc Cert.Layer1Ideal.main_arg3)) (m ((c.tc : Thread Cert.Layer1Ideal.nD Cert.Layer1Ideal.τ).loc Cert.Layer1Ideal.main_arg4))) = (fun _ => 1#1)

def Pre_Plain1Ideal (m : (ℓ : Loc Cert.Plain1Ideal.nD Cert.Plain1Ideal.τ Cert.Plain1Ideal.sig) → Buf (Elt Ideal) ℓ) : Prop :=
  True

def Pre_Plain1Ideal_finite_feat [hPre_finite_feat : Cert.Pre_finite_feat.Facts] (m : (ℓ : Loc Cert.Plain1Ideal.nD Cert.Plain1Ideal.τ Cert.Plain1Ideal.sig) → Buf (Elt Ideal) ℓ) : Prop :=
  ∀ c : Dev Cert.Plain1Ideal.nD,
    (Cert.Pre_finite_feat.fn (F := Ideal) (m ((c.tc : Thread Cert.Plain1Ideal.nD Cert.Plain1Ideal.τ).loc Cert.Plain1Ideal.main_arg0)) (m ((c.tc : Thread Cert.Plain1Ideal.nD Cert.Plain1Ideal.τ).loc Cert.Plain1Ideal.main_arg1)) (m ((c.tc : Thread Cert.Plain1Ideal.nD Cert.Plain1Ideal.τ).loc Cert.Plain1Ideal.main_arg2)) (m ((c.tc : Thread Cert.Plain1Ideal.nD Cert.Plain1Ideal.τ).loc Cert.Plain1Ideal.main_arg3)) (m ((c.tc : Thread Cert.Plain1Ideal.nD Cert.Plain1Ideal.τ).loc Cert.Plain1Ideal.main_arg4))) = (fun _ => 1#1)

def Pre_Layer2 (m : (ℓ : Loc Cert.Layer2.nD Cert.Layer2.τ Cert.Layer2.sig) → Buf (Elt Bits) ℓ) : Prop :=
  True

def Pre_Layer2Ideal (m : (ℓ : Loc Cert.Layer2Ideal.nD Cert.Layer2Ideal.τ Cert.Layer2Ideal.sig) → Buf (Elt Ideal) ℓ) : Prop :=
  True

def Pre_Layer2Ideal_finite_feat [hPre_finite_feat : Cert.Pre_finite_feat.Facts] (m : (ℓ : Loc Cert.Layer2Ideal.nD Cert.Layer2Ideal.τ Cert.Layer2Ideal.sig) → Buf (Elt Ideal) ℓ) : Prop :=
  ∀ c : Dev Cert.Layer2Ideal.nD,
    (Cert.Pre_finite_feat.fn (F := Ideal) (m ((c.tc : Thread Cert.Layer2Ideal.nD Cert.Layer2Ideal.τ).loc Cert.Layer2Ideal.main_arg0)) (m ((c.tc : Thread Cert.Layer2Ideal.nD Cert.Layer2Ideal.τ).loc Cert.Layer2Ideal.main_arg1)) (m ((c.tc : Thread Cert.Layer2Ideal.nD Cert.Layer2Ideal.τ).loc Cert.Layer2Ideal.main_arg2)) (m ((c.tc : Thread Cert.Layer2Ideal.nD Cert.Layer2Ideal.τ).loc Cert.Layer2Ideal.main_arg3)) (m ((c.tc : Thread Cert.Layer2Ideal.nD Cert.Layer2Ideal.τ).loc Cert.Layer2Ideal.main_arg4))) = (fun _ => 1#1)

def Pre_Plain2Ideal (m : (ℓ : Loc Cert.Plain2Ideal.nD Cert.Plain2Ideal.τ Cert.Plain2Ideal.sig) → Buf (Elt Ideal) ℓ) : Prop :=
  True

def Pre_Plain2Ideal_finite_feat [hPre_finite_feat : Cert.Pre_finite_feat.Facts] (m : (ℓ : Loc Cert.Plain2Ideal.nD Cert.Plain2Ideal.τ Cert.Plain2Ideal.sig) → Buf (Elt Ideal) ℓ) : Prop :=
  ∀ c : Dev Cert.Plain2Ideal.nD,
    (Cert.Pre_finite_feat.fn (F := Ideal) (m ((c.tc : Thread Cert.Plain2Ideal.nD Cert.Plain2Ideal.τ).loc Cert.Plain2Ideal.main_arg0)) (m ((c.tc : Thread Cert.Plain2Ideal.nD Cert.Plain2Ideal.τ).loc Cert.Plain2Ideal.main_arg1)) (m ((c.tc : Thread Cert.Plain2Ideal.nD Cert.Plain2Ideal.τ).loc Cert.Plain2Ideal.main_arg2)) (m ((c.tc : Thread Cert.Plain2Ideal.nD Cert.Plain2Ideal.τ).loc Cert.Plain2Ideal.main_arg3)) (m ((c.tc : Thread Cert.Plain2Ideal.nD Cert.Plain2Ideal.τ).loc Cert.Plain2Ideal.main_arg4))) = (fun _ => 1#1)

def Pre_Layer3 (m : (ℓ : Loc Cert.Layer3.nD Cert.Layer3.τ Cert.Layer3.sig) → Buf (Elt Bits) ℓ) : Prop :=
  True

def Pre_Layer3Ideal (m : (ℓ : Loc Cert.Layer3Ideal.nD Cert.Layer3Ideal.τ Cert.Layer3Ideal.sig) → Buf (Elt Ideal) ℓ) : Prop :=
  True

def Pre_Layer3Ideal_finite_feat [hPre_finite_feat : Cert.Pre_finite_feat.Facts] (m : (ℓ : Loc Cert.Layer3Ideal.nD Cert.Layer3Ideal.τ Cert.Layer3Ideal.sig) → Buf (Elt Ideal) ℓ) : Prop :=
  ∀ c : Dev Cert.Layer3Ideal.nD,
    (Cert.Pre_finite_feat.fn (F := Ideal) (m ((c.tc : Thread Cert.Layer3Ideal.nD Cert.Layer3Ideal.τ).loc Cert.Layer3Ideal.main_arg0)) (m ((c.tc : Thread Cert.Layer3Ideal.nD Cert.Layer3Ideal.τ).loc Cert.Layer3Ideal.main_arg1)) (m ((c.tc : Thread Cert.Layer3Ideal.nD Cert.Layer3Ideal.τ).loc Cert.Layer3Ideal.main_arg2)) (m ((c.tc : Thread Cert.Layer3Ideal.nD Cert.Layer3Ideal.τ).loc Cert.Layer3Ideal.main_arg3)) (m ((c.tc : Thread Cert.Layer3Ideal.nD Cert.Layer3Ideal.τ).loc Cert.Layer3Ideal.main_arg4))) = (fun _ => 1#1)

def Pre_Plain3Ideal (m : (ℓ : Loc Cert.Plain3Ideal.nD Cert.Plain3Ideal.τ Cert.Plain3Ideal.sig) → Buf (Elt Ideal) ℓ) : Prop :=
  True

def Pre_Plain3Ideal_finite_feat [hPre_finite_feat : Cert.Pre_finite_feat.Facts] (m : (ℓ : Loc Cert.Plain3Ideal.nD Cert.Plain3Ideal.τ Cert.Plain3Ideal.sig) → Buf (Elt Ideal) ℓ) : Prop :=
  ∀ c : Dev Cert.Plain3Ideal.nD,
    (Cert.Pre_finite_feat.fn (F := Ideal) (m ((c.tc : Thread Cert.Plain3Ideal.nD Cert.Plain3Ideal.τ).loc Cert.Plain3Ideal.main_arg0)) (m ((c.tc : Thread Cert.Plain3Ideal.nD Cert.Plain3Ideal.τ).loc Cert.Plain3Ideal.main_arg1)) (m ((c.tc : Thread Cert.Plain3Ideal.nD Cert.Plain3Ideal.τ).loc Cert.Plain3Ideal.main_arg2)) (m ((c.tc : Thread Cert.Plain3Ideal.nD Cert.Plain3Ideal.τ).loc Cert.Plain3Ideal.main_arg3)) (m ((c.tc : Thread Cert.Plain3Ideal.nD Cert.Plain3Ideal.τ).loc Cert.Plain3Ideal.main_arg4))) = (fun _ => 1#1)

def Pre_Layer4 (m : (ℓ : Loc Cert.Layer4.nD Cert.Layer4.τ Cert.Layer4.sig) → Buf (Elt Bits) ℓ) : Prop :=
  True

def Pre_Layer4Ideal (m : (ℓ : Loc Cert.Layer4Ideal.nD Cert.Layer4Ideal.τ Cert.Layer4Ideal.sig) → Buf (Elt Ideal) ℓ) : Prop :=
  True

def Pre_Layer4Ideal_finite_feat [hPre_finite_feat : Cert.Pre_finite_feat.Facts] (m : (ℓ : Loc Cert.Layer4Ideal.nD Cert.Layer4Ideal.τ Cert.Layer4Ideal.sig) → Buf (Elt Ideal) ℓ) : Prop :=
  ∀ c : Dev Cert.Layer4Ideal.nD,
    (Cert.Pre_finite_feat.fn (F := Ideal) (m ((c.tc : Thread Cert.Layer4Ideal.nD Cert.Layer4Ideal.τ).loc Cert.Layer4Ideal.main_arg0)) (m ((c.tc : Thread Cert.Layer4Ideal.nD Cert.Layer4Ideal.τ).loc Cert.Layer4Ideal.main_arg1)) (m ((c.tc : Thread Cert.Layer4Ideal.nD Cert.Layer4Ideal.τ).loc Cert.Layer4Ideal.main_arg2)) (m ((c.tc : Thread Cert.Layer4Ideal.nD Cert.Layer4Ideal.τ).loc Cert.Layer4Ideal.main_arg3)) (m ((c.tc : Thread Cert.Layer4Ideal.nD Cert.Layer4Ideal.τ).loc Cert.Layer4Ideal.main_arg4))) = (fun _ => 1#1)

def Pre_Plain4Ideal (m : (ℓ : Loc Cert.Plain4Ideal.nD Cert.Plain4Ideal.τ Cert.Plain4Ideal.sig) → Buf (Elt Ideal) ℓ) : Prop :=
  True

def Pre_Plain4Ideal_finite_feat [hPre_finite_feat : Cert.Pre_finite_feat.Facts] (m : (ℓ : Loc Cert.Plain4Ideal.nD Cert.Plain4Ideal.τ Cert.Plain4Ideal.sig) → Buf (Elt Ideal) ℓ) : Prop :=
  ∀ c : Dev Cert.Plain4Ideal.nD,
    (Cert.Pre_finite_feat.fn (F := Ideal) (m ((c.tc : Thread Cert.Plain4Ideal.nD Cert.Plain4Ideal.τ).loc Cert.Plain4Ideal.main_arg0)) (m ((c.tc : Thread Cert.Plain4Ideal.nD Cert.Plain4Ideal.τ).loc Cert.Plain4Ideal.main_arg1)) (m ((c.tc : Thread Cert.Plain4Ideal.nD Cert.Plain4Ideal.τ).loc Cert.Plain4Ideal.main_arg2)) (m ((c.tc : Thread Cert.Plain4Ideal.nD Cert.Plain4Ideal.τ).loc Cert.Plain4Ideal.main_arg3)) (m ((c.tc : Thread Cert.Plain4Ideal.nD Cert.Plain4Ideal.τ).loc Cert.Plain4Ideal.main_arg4))) = (fun _ => 1#1)

def Pre_Layer5 (m : (ℓ : Loc Cert.Layer5.nD Cert.Layer5.τ Cert.Layer5.sig) → Buf (Elt Bits) ℓ) : Prop :=
  True

def Pre_Layer5Ideal (m : (ℓ : Loc Cert.Layer5Ideal.nD Cert.Layer5Ideal.τ Cert.Layer5Ideal.sig) → Buf (Elt Ideal) ℓ) : Prop :=
  True

def Pre_Layer5Ideal_finite_feat [hPre_finite_feat : Cert.Pre_finite_feat.Facts] (m : (ℓ : Loc Cert.Layer5Ideal.nD Cert.Layer5Ideal.τ Cert.Layer5Ideal.sig) → Buf (Elt Ideal) ℓ) : Prop :=
  ∀ c : Dev Cert.Layer5Ideal.nD,
    (Cert.Pre_finite_feat.fn (F := Ideal) (m ((c.tc : Thread Cert.Layer5Ideal.nD Cert.Layer5Ideal.τ).loc Cert.Layer5Ideal.main_arg0)) (m ((c.tc : Thread Cert.Layer5Ideal.nD Cert.Layer5Ideal.τ).loc Cert.Layer5Ideal.main_arg1)) (m ((c.tc : Thread Cert.Layer5Ideal.nD Cert.Layer5Ideal.τ).loc Cert.Layer5Ideal.main_arg2)) (m ((c.tc : Thread Cert.Layer5Ideal.nD Cert.Layer5Ideal.τ).loc Cert.Layer5Ideal.main_arg3)) (m ((c.tc : Thread Cert.Layer5Ideal.nD Cert.Layer5Ideal.τ).loc Cert.Layer5Ideal.main_arg4))) = (fun _ => 1#1)

def Pre_Plain5Ideal (m : (ℓ : Loc Cert.Plain5Ideal.nD Cert.Plain5Ideal.τ Cert.Plain5Ideal.sig) → Buf (Elt Ideal) ℓ) : Prop :=
  True

def Pre_Plain5Ideal_finite_feat [hPre_finite_feat : Cert.Pre_finite_feat.Facts] (m : (ℓ : Loc Cert.Plain5Ideal.nD Cert.Plain5Ideal.τ Cert.Plain5Ideal.sig) → Buf (Elt Ideal) ℓ) : Prop :=
  ∀ c : Dev Cert.Plain5Ideal.nD,
    (Cert.Pre_finite_feat.fn (F := Ideal) (m ((c.tc : Thread Cert.Plain5Ideal.nD Cert.Plain5Ideal.τ).loc Cert.Plain5Ideal.main_arg0)) (m ((c.tc : Thread Cert.Plain5Ideal.nD Cert.Plain5Ideal.τ).loc Cert.Plain5Ideal.main_arg1)) (m ((c.tc : Thread Cert.Plain5Ideal.nD Cert.Plain5Ideal.τ).loc Cert.Plain5Ideal.main_arg2)) (m ((c.tc : Thread Cert.Plain5Ideal.nD Cert.Plain5Ideal.τ).loc Cert.Plain5Ideal.main_arg3)) (m ((c.tc : Thread Cert.Plain5Ideal.nD Cert.Plain5Ideal.τ).loc Cert.Plain5Ideal.main_arg4))) = (fun _ => 1#1)

def Pre_Layer6 (m : (ℓ : Loc Cert.Layer6.nD Cert.Layer6.τ Cert.Layer6.sig) → Buf (Elt Bits) ℓ) : Prop :=
  True

def Pre_Layer6Ideal (m : (ℓ : Loc Cert.Layer6Ideal.nD Cert.Layer6Ideal.τ Cert.Layer6Ideal.sig) → Buf (Elt Ideal) ℓ) : Prop :=
  True

def Pre_Layer6Ideal_finite_feat [hPre_finite_feat : Cert.Pre_finite_feat.Facts] (m : (ℓ : Loc Cert.Layer6Ideal.nD Cert.Layer6Ideal.τ Cert.Layer6Ideal.sig) → Buf (Elt Ideal) ℓ) : Prop :=
  ∀ c : Dev Cert.Layer6Ideal.nD,
    (Cert.Pre_finite_feat.fn (F := Ideal) (m ((c.tc : Thread Cert.Layer6Ideal.nD Cert.Layer6Ideal.τ).loc Cert.Layer6Ideal.main_arg0)) (m ((c.tc : Thread Cert.Layer6Ideal.nD Cert.Layer6Ideal.τ).loc Cert.Layer6Ideal.main_arg1)) (m ((c.tc : Thread Cert.Layer6Ideal.nD Cert.Layer6Ideal.τ).loc Cert.Layer6Ideal.main_arg2)) (m ((c.tc : Thread Cert.Layer6Ideal.nD Cert.Layer6Ideal.τ).loc Cert.Layer6Ideal.main_arg3)) (m ((c.tc : Thread Cert.Layer6Ideal.nD Cert.Layer6Ideal.τ).loc Cert.Layer6Ideal.main_arg4))) = (fun _ => 1#1)

def Pre_Plain6Ideal (m : (ℓ : Loc Cert.Plain6Ideal.nD Cert.Plain6Ideal.τ Cert.Plain6Ideal.sig) → Buf (Elt Ideal) ℓ) : Prop :=
  True

def Pre_Plain6Ideal_finite_feat [hPre_finite_feat : Cert.Pre_finite_feat.Facts] (m : (ℓ : Loc Cert.Plain6Ideal.nD Cert.Plain6Ideal.τ Cert.Plain6Ideal.sig) → Buf (Elt Ideal) ℓ) : Prop :=
  ∀ c : Dev Cert.Plain6Ideal.nD,
    (Cert.Pre_finite_feat.fn (F := Ideal) (m ((c.tc : Thread Cert.Plain6Ideal.nD Cert.Plain6Ideal.τ).loc Cert.Plain6Ideal.main_arg0)) (m ((c.tc : Thread Cert.Plain6Ideal.nD Cert.Plain6Ideal.τ).loc Cert.Plain6Ideal.main_arg1)) (m ((c.tc : Thread Cert.Plain6Ideal.nD Cert.Plain6Ideal.τ).loc Cert.Plain6Ideal.main_arg2)) (m ((c.tc : Thread Cert.Plain6Ideal.nD Cert.Plain6Ideal.τ).loc Cert.Plain6Ideal.main_arg3)) (m ((c.tc : Thread Cert.Plain6Ideal.nD Cert.Plain6Ideal.τ).loc Cert.Plain6Ideal.main_arg4))) = (fun _ => 1#1)

def quiescent_Layer0 [hLayer0 : Cert.Layer0.Facts] : Prop :=
  ∀ (m : (ℓ : Loc Cert.Layer0.nD Cert.Layer0.τ Cert.Layer0.sig) → Buf (Elt Bits) ℓ) (g : Dev Cert.Layer0.nD → PrngReg), Pre_Layer0 m →
    θ_run (Cert.Layer0.defs (F := Bits)) (onTc (τ := Cert.Layer0.τ) (Cert.Layer0.main (F := Bits))) ⟨m, fun _ => 0, g⟩ (fun r => (∀ c : Dev Cert.Layer0.nD,
      r.2.mem ((c.tc : Thread Cert.Layer0.nD Cert.Layer0.τ).loc Cert.Layer0.main_arg0) = m ((c.tc : Thread Cert.Layer0.nD Cert.Layer0.τ).loc Cert.Layer0.main_arg0)
      ∧ r.2.mem ((c.tc : Thread Cert.Layer0.nD Cert.Layer0.τ).loc Cert.Layer0.main_arg1) = m ((c.tc : Thread Cert.Layer0.nD Cert.Layer0.τ).loc Cert.Layer0.main_arg1)
      ∧ r.2.mem ((c.tc : Thread Cert.Layer0.nD Cert.Layer0.τ).loc Cert.Layer0.main_arg2) = m ((c.tc : Thread Cert.Layer0.nD Cert.Layer0.τ).loc Cert.Layer0.main_arg2)
      ∧ r.2.mem ((c.tc : Thread Cert.Layer0.nD Cert.Layer0.τ).loc Cert.Layer0.main_arg3) = m ((c.tc : Thread Cert.Layer0.nD Cert.Layer0.τ).loc Cert.Layer0.main_arg3)
      ∧ r.2.mem ((c.tc : Thread Cert.Layer0.nD Cert.Layer0.τ).loc Cert.Layer0.main_arg4) = m ((c.tc : Thread Cert.Layer0.nD Cert.Layer0.τ).loc Cert.Layer0.main_arg4))
      ∧ r.2.sem = fun _ => 0)

def quiescent_Layer0Ideal [hLayer0Ideal : Cert.Layer0Ideal.Facts] : Prop :=
  ∀ (m : (ℓ : Loc Cert.Layer0Ideal.nD Cert.Layer0Ideal.τ Cert.Layer0Ideal.sig) → Buf (Elt Ideal) ℓ) (g : Dev Cert.Layer0Ideal.nD → PrngReg), Pre_Layer0Ideal m →
    θ_run (Cert.Layer0Ideal.defs (F := Ideal)) (onTc (τ := Cert.Layer0Ideal.τ) (Cert.Layer0Ideal.main (F := Ideal))) ⟨m, fun _ => 0, g⟩ (fun r => (∀ c : Dev Cert.Layer0Ideal.nD,
      r.2.mem ((c.tc : Thread Cert.Layer0Ideal.nD Cert.Layer0Ideal.τ).loc Cert.Layer0Ideal.main_arg0) = m ((c.tc : Thread Cert.Layer0Ideal.nD Cert.Layer0Ideal.τ).loc Cert.Layer0Ideal.main_arg0)
      ∧ r.2.mem ((c.tc : Thread Cert.Layer0Ideal.nD Cert.Layer0Ideal.τ).loc Cert.Layer0Ideal.main_arg1) = m ((c.tc : Thread Cert.Layer0Ideal.nD Cert.Layer0Ideal.τ).loc Cert.Layer0Ideal.main_arg1)
      ∧ r.2.mem ((c.tc : Thread Cert.Layer0Ideal.nD Cert.Layer0Ideal.τ).loc Cert.Layer0Ideal.main_arg2) = m ((c.tc : Thread Cert.Layer0Ideal.nD Cert.Layer0Ideal.τ).loc Cert.Layer0Ideal.main_arg2)
      ∧ r.2.mem ((c.tc : Thread Cert.Layer0Ideal.nD Cert.Layer0Ideal.τ).loc Cert.Layer0Ideal.main_arg3) = m ((c.tc : Thread Cert.Layer0Ideal.nD Cert.Layer0Ideal.τ).loc Cert.Layer0Ideal.main_arg3)
      ∧ r.2.mem ((c.tc : Thread Cert.Layer0Ideal.nD Cert.Layer0Ideal.τ).loc Cert.Layer0Ideal.main_arg4) = m ((c.tc : Thread Cert.Layer0Ideal.nD Cert.Layer0Ideal.τ).loc Cert.Layer0Ideal.main_arg4))
      ∧ r.2.sem = fun _ => 0)

def quiescent_Layer0Ideal_pre_finite [hLayer0Ideal : Cert.Layer0Ideal.Facts] [hPre_finite : Cert.Pre_finite.Facts] : Prop :=
  ∀ (m : (ℓ : Loc Cert.Layer0Ideal.nD Cert.Layer0Ideal.τ Cert.Layer0Ideal.sig) → Buf (Elt Ideal) ℓ) (g : Dev Cert.Layer0Ideal.nD → PrngReg), Pre_Layer0Ideal_finite m →
    θ_run (Cert.Layer0Ideal.defs (F := Ideal)) (onTc (τ := Cert.Layer0Ideal.τ) (Cert.Layer0Ideal.main (F := Ideal))) ⟨m, fun _ => 0, g⟩ (fun r => (∀ c : Dev Cert.Layer0Ideal.nD,
      r.2.mem ((c.tc : Thread Cert.Layer0Ideal.nD Cert.Layer0Ideal.τ).loc Cert.Layer0Ideal.main_arg0) = m ((c.tc : Thread Cert.Layer0Ideal.nD Cert.Layer0Ideal.τ).loc Cert.Layer0Ideal.main_arg0)
      ∧ r.2.mem ((c.tc : Thread Cert.Layer0Ideal.nD Cert.Layer0Ideal.τ).loc Cert.Layer0Ideal.main_arg1) = m ((c.tc : Thread Cert.Layer0Ideal.nD Cert.Layer0Ideal.τ).loc Cert.Layer0Ideal.main_arg1)
      ∧ r.2.mem ((c.tc : Thread Cert.Layer0Ideal.nD Cert.Layer0Ideal.τ).loc Cert.Layer0Ideal.main_arg2) = m ((c.tc : Thread Cert.Layer0Ideal.nD Cert.Layer0Ideal.τ).loc Cert.Layer0Ideal.main_arg2)
      ∧ r.2.mem ((c.tc : Thread Cert.Layer0Ideal.nD Cert.Layer0Ideal.τ).loc Cert.Layer0Ideal.main_arg3) = m ((c.tc : Thread Cert.Layer0Ideal.nD Cert.Layer0Ideal.τ).loc Cert.Layer0Ideal.main_arg3)
      ∧ r.2.mem ((c.tc : Thread Cert.Layer0Ideal.nD Cert.Layer0Ideal.τ).loc Cert.Layer0Ideal.main_arg4) = m ((c.tc : Thread Cert.Layer0Ideal.nD Cert.Layer0Ideal.τ).loc Cert.Layer0Ideal.main_arg4))
      ∧ r.2.sem = fun _ => 0)

def quiescent_Plain0Ideal [hPlain0Ideal : Cert.Plain0Ideal.Facts] : Prop :=
  ∀ (m : (ℓ : Loc Cert.Plain0Ideal.nD Cert.Plain0Ideal.τ Cert.Plain0Ideal.sig) → Buf (Elt Ideal) ℓ) (g : Dev Cert.Plain0Ideal.nD → PrngReg), Pre_Plain0Ideal m →
    θ_run (Cert.Plain0Ideal.defs (F := Ideal)) (onTc (τ := Cert.Plain0Ideal.τ) (Cert.Plain0Ideal.main (F := Ideal))) ⟨m, fun _ => 0, g⟩ (fun r => (∀ c : Dev Cert.Plain0Ideal.nD,
      r.2.mem ((c.tc : Thread Cert.Plain0Ideal.nD Cert.Plain0Ideal.τ).loc Cert.Plain0Ideal.main_arg0) = m ((c.tc : Thread Cert.Plain0Ideal.nD Cert.Plain0Ideal.τ).loc Cert.Plain0Ideal.main_arg0)
      ∧ r.2.mem ((c.tc : Thread Cert.Plain0Ideal.nD Cert.Plain0Ideal.τ).loc Cert.Plain0Ideal.main_arg1) = m ((c.tc : Thread Cert.Plain0Ideal.nD Cert.Plain0Ideal.τ).loc Cert.Plain0Ideal.main_arg1)
      ∧ r.2.mem ((c.tc : Thread Cert.Plain0Ideal.nD Cert.Plain0Ideal.τ).loc Cert.Plain0Ideal.main_arg2) = m ((c.tc : Thread Cert.Plain0Ideal.nD Cert.Plain0Ideal.τ).loc Cert.Plain0Ideal.main_arg2)
      ∧ r.2.mem ((c.tc : Thread Cert.Plain0Ideal.nD Cert.Plain0Ideal.τ).loc Cert.Plain0Ideal.main_arg3) = m ((c.tc : Thread Cert.Plain0Ideal.nD Cert.Plain0Ideal.τ).loc Cert.Plain0Ideal.main_arg3)
      ∧ r.2.mem ((c.tc : Thread Cert.Plain0Ideal.nD Cert.Plain0Ideal.τ).loc Cert.Plain0Ideal.main_arg4) = m ((c.tc : Thread Cert.Plain0Ideal.nD Cert.Plain0Ideal.τ).loc Cert.Plain0Ideal.main_arg4))
      ∧ r.2.sem = fun _ => 0)

def quiescent_Plain0Ideal_pre_finite [hPlain0Ideal : Cert.Plain0Ideal.Facts] [hPre_finite : Cert.Pre_finite.Facts] : Prop :=
  ∀ (m : (ℓ : Loc Cert.Plain0Ideal.nD Cert.Plain0Ideal.τ Cert.Plain0Ideal.sig) → Buf (Elt Ideal) ℓ) (g : Dev Cert.Plain0Ideal.nD → PrngReg), Pre_Plain0Ideal_finite m →
    θ_run (Cert.Plain0Ideal.defs (F := Ideal)) (onTc (τ := Cert.Plain0Ideal.τ) (Cert.Plain0Ideal.main (F := Ideal))) ⟨m, fun _ => 0, g⟩ (fun r => (∀ c : Dev Cert.Plain0Ideal.nD,
      r.2.mem ((c.tc : Thread Cert.Plain0Ideal.nD Cert.Plain0Ideal.τ).loc Cert.Plain0Ideal.main_arg0) = m ((c.tc : Thread Cert.Plain0Ideal.nD Cert.Plain0Ideal.τ).loc Cert.Plain0Ideal.main_arg0)
      ∧ r.2.mem ((c.tc : Thread Cert.Plain0Ideal.nD Cert.Plain0Ideal.τ).loc Cert.Plain0Ideal.main_arg1) = m ((c.tc : Thread Cert.Plain0Ideal.nD Cert.Plain0Ideal.τ).loc Cert.Plain0Ideal.main_arg1)
      ∧ r.2.mem ((c.tc : Thread Cert.Plain0Ideal.nD Cert.Plain0Ideal.τ).loc Cert.Plain0Ideal.main_arg2) = m ((c.tc : Thread Cert.Plain0Ideal.nD Cert.Plain0Ideal.τ).loc Cert.Plain0Ideal.main_arg2)
      ∧ r.2.mem ((c.tc : Thread Cert.Plain0Ideal.nD Cert.Plain0Ideal.τ).loc Cert.Plain0Ideal.main_arg3) = m ((c.tc : Thread Cert.Plain0Ideal.nD Cert.Plain0Ideal.τ).loc Cert.Plain0Ideal.main_arg3)
      ∧ r.2.mem ((c.tc : Thread Cert.Plain0Ideal.nD Cert.Plain0Ideal.τ).loc Cert.Plain0Ideal.main_arg4) = m ((c.tc : Thread Cert.Plain0Ideal.nD Cert.Plain0Ideal.τ).loc Cert.Plain0Ideal.main_arg4))
      ∧ r.2.sem = fun _ => 0)

def quiescent_Layer1 [hLayer1 : Cert.Layer1.Facts] : Prop :=
  ∀ (m : (ℓ : Loc Cert.Layer1.nD Cert.Layer1.τ Cert.Layer1.sig) → Buf (Elt Bits) ℓ) (g : Dev Cert.Layer1.nD → PrngReg), Pre_Layer1 m →
    θ_run (Cert.Layer1.defs (F := Bits)) (onTc (τ := Cert.Layer1.τ) (Cert.Layer1.main (F := Bits))) ⟨m, fun _ => 0, g⟩ (fun r => (∀ c : Dev Cert.Layer1.nD,
      r.2.mem ((c.tc : Thread Cert.Layer1.nD Cert.Layer1.τ).loc Cert.Layer1.main_arg0) = m ((c.tc : Thread Cert.Layer1.nD Cert.Layer1.τ).loc Cert.Layer1.main_arg0)
      ∧ r.2.mem ((c.tc : Thread Cert.Layer1.nD Cert.Layer1.τ).loc Cert.Layer1.main_arg1) = m ((c.tc : Thread Cert.Layer1.nD Cert.Layer1.τ).loc Cert.Layer1.main_arg1)
      ∧ r.2.mem ((c.tc : Thread Cert.Layer1.nD Cert.Layer1.τ).loc Cert.Layer1.main_arg2) = m ((c.tc : Thread Cert.Layer1.nD Cert.Layer1.τ).loc Cert.Layer1.main_arg2)
      ∧ r.2.mem ((c.tc : Thread Cert.Layer1.nD Cert.Layer1.τ).loc Cert.Layer1.main_arg3) = m ((c.tc : Thread Cert.Layer1.nD Cert.Layer1.τ).loc Cert.Layer1.main_arg3)
      ∧ r.2.mem ((c.tc : Thread Cert.Layer1.nD Cert.Layer1.τ).loc Cert.Layer1.main_arg4) = m ((c.tc : Thread Cert.Layer1.nD Cert.Layer1.τ).loc Cert.Layer1.main_arg4))
      ∧ r.2.sem = fun _ => 0)

def quiescent_Layer1Ideal [hLayer1Ideal : Cert.Layer1Ideal.Facts] : Prop :=
  ∀ (m : (ℓ : Loc Cert.Layer1Ideal.nD Cert.Layer1Ideal.τ Cert.Layer1Ideal.sig) → Buf (Elt Ideal) ℓ) (g : Dev Cert.Layer1Ideal.nD → PrngReg), Pre_Layer1Ideal m →
    θ_run (Cert.Layer1Ideal.defs (F := Ideal)) (onTc (τ := Cert.Layer1Ideal.τ) (Cert.Layer1Ideal.main (F := Ideal))) ⟨m, fun _ => 0, g⟩ (fun r => (∀ c : Dev Cert.Layer1Ideal.nD,
      r.2.mem ((c.tc : Thread Cert.Layer1Ideal.nD Cert.Layer1Ideal.τ).loc Cert.Layer1Ideal.main_arg0) = m ((c.tc : Thread Cert.Layer1Ideal.nD Cert.Layer1Ideal.τ).loc Cert.Layer1Ideal.main_arg0)
      ∧ r.2.mem ((c.tc : Thread Cert.Layer1Ideal.nD Cert.Layer1Ideal.τ).loc Cert.Layer1Ideal.main_arg1) = m ((c.tc : Thread Cert.Layer1Ideal.nD Cert.Layer1Ideal.τ).loc Cert.Layer1Ideal.main_arg1)
      ∧ r.2.mem ((c.tc : Thread Cert.Layer1Ideal.nD Cert.Layer1Ideal.τ).loc Cert.Layer1Ideal.main_arg2) = m ((c.tc : Thread Cert.Layer1Ideal.nD Cert.Layer1Ideal.τ).loc Cert.Layer1Ideal.main_arg2)
      ∧ r.2.mem ((c.tc : Thread Cert.Layer1Ideal.nD Cert.Layer1Ideal.τ).loc Cert.Layer1Ideal.main_arg3) = m ((c.tc : Thread Cert.Layer1Ideal.nD Cert.Layer1Ideal.τ).loc Cert.Layer1Ideal.main_arg3)
      ∧ r.2.mem ((c.tc : Thread Cert.Layer1Ideal.nD Cert.Layer1Ideal.τ).loc Cert.Layer1Ideal.main_arg4) = m ((c.tc : Thread Cert.Layer1Ideal.nD Cert.Layer1Ideal.τ).loc Cert.Layer1Ideal.main_arg4))
      ∧ r.2.sem = fun _ => 0)

def quiescent_Layer1Ideal_pre_finite_feat [hLayer1Ideal : Cert.Layer1Ideal.Facts] [hPre_finite_feat : Cert.Pre_finite_feat.Facts] : Prop :=
  ∀ (m : (ℓ : Loc Cert.Layer1Ideal.nD Cert.Layer1Ideal.τ Cert.Layer1Ideal.sig) → Buf (Elt Ideal) ℓ) (g : Dev Cert.Layer1Ideal.nD → PrngReg), Pre_Layer1Ideal_finite_feat m →
    θ_run (Cert.Layer1Ideal.defs (F := Ideal)) (onTc (τ := Cert.Layer1Ideal.τ) (Cert.Layer1Ideal.main (F := Ideal))) ⟨m, fun _ => 0, g⟩ (fun r => (∀ c : Dev Cert.Layer1Ideal.nD,
      r.2.mem ((c.tc : Thread Cert.Layer1Ideal.nD Cert.Layer1Ideal.τ).loc Cert.Layer1Ideal.main_arg0) = m ((c.tc : Thread Cert.Layer1Ideal.nD Cert.Layer1Ideal.τ).loc Cert.Layer1Ideal.main_arg0)
      ∧ r.2.mem ((c.tc : Thread Cert.Layer1Ideal.nD Cert.Layer1Ideal.τ).loc Cert.Layer1Ideal.main_arg1) = m ((c.tc : Thread Cert.Layer1Ideal.nD Cert.Layer1Ideal.τ).loc Cert.Layer1Ideal.main_arg1)
      ∧ r.2.mem ((c.tc : Thread Cert.Layer1Ideal.nD Cert.Layer1Ideal.τ).loc Cert.Layer1Ideal.main_arg2) = m ((c.tc : Thread Cert.Layer1Ideal.nD Cert.Layer1Ideal.τ).loc Cert.Layer1Ideal.main_arg2)
      ∧ r.2.mem ((c.tc : Thread Cert.Layer1Ideal.nD Cert.Layer1Ideal.τ).loc Cert.Layer1Ideal.main_arg3) = m ((c.tc : Thread Cert.Layer1Ideal.nD Cert.Layer1Ideal.τ).loc Cert.Layer1Ideal.main_arg3)
      ∧ r.2.mem ((c.tc : Thread Cert.Layer1Ideal.nD Cert.Layer1Ideal.τ).loc Cert.Layer1Ideal.main_arg4) = m ((c.tc : Thread Cert.Layer1Ideal.nD Cert.Layer1Ideal.τ).loc Cert.Layer1Ideal.main_arg4))
      ∧ r.2.sem = fun _ => 0)

def quiescent_Plain1Ideal [hPlain1Ideal : Cert.Plain1Ideal.Facts] : Prop :=
  ∀ (m : (ℓ : Loc Cert.Plain1Ideal.nD Cert.Plain1Ideal.τ Cert.Plain1Ideal.sig) → Buf (Elt Ideal) ℓ) (g : Dev Cert.Plain1Ideal.nD → PrngReg), Pre_Plain1Ideal m →
    θ_run (Cert.Plain1Ideal.defs (F := Ideal)) (onTc (τ := Cert.Plain1Ideal.τ) (Cert.Plain1Ideal.main (F := Ideal))) ⟨m, fun _ => 0, g⟩ (fun r => (∀ c : Dev Cert.Plain1Ideal.nD,
      r.2.mem ((c.tc : Thread Cert.Plain1Ideal.nD Cert.Plain1Ideal.τ).loc Cert.Plain1Ideal.main_arg0) = m ((c.tc : Thread Cert.Plain1Ideal.nD Cert.Plain1Ideal.τ).loc Cert.Plain1Ideal.main_arg0)
      ∧ r.2.mem ((c.tc : Thread Cert.Plain1Ideal.nD Cert.Plain1Ideal.τ).loc Cert.Plain1Ideal.main_arg1) = m ((c.tc : Thread Cert.Plain1Ideal.nD Cert.Plain1Ideal.τ).loc Cert.Plain1Ideal.main_arg1)
      ∧ r.2.mem ((c.tc : Thread Cert.Plain1Ideal.nD Cert.Plain1Ideal.τ).loc Cert.Plain1Ideal.main_arg2) = m ((c.tc : Thread Cert.Plain1Ideal.nD Cert.Plain1Ideal.τ).loc Cert.Plain1Ideal.main_arg2)
      ∧ r.2.mem ((c.tc : Thread Cert.Plain1Ideal.nD Cert.Plain1Ideal.τ).loc Cert.Plain1Ideal.main_arg3) = m ((c.tc : Thread Cert.Plain1Ideal.nD Cert.Plain1Ideal.τ).loc Cert.Plain1Ideal.main_arg3)
      ∧ r.2.mem ((c.tc : Thread Cert.Plain1Ideal.nD Cert.Plain1Ideal.τ).loc Cert.Plain1Ideal.main_arg4) = m ((c.tc : Thread Cert.Plain1Ideal.nD Cert.Plain1Ideal.τ).loc Cert.Plain1Ideal.main_arg4))
      ∧ r.2.sem = fun _ => 0)

def quiescent_Plain1Ideal_pre_finite_feat [hPlain1Ideal : Cert.Plain1Ideal.Facts] [hPre_finite_feat : Cert.Pre_finite_feat.Facts] : Prop :=
  ∀ (m : (ℓ : Loc Cert.Plain1Ideal.nD Cert.Plain1Ideal.τ Cert.Plain1Ideal.sig) → Buf (Elt Ideal) ℓ) (g : Dev Cert.Plain1Ideal.nD → PrngReg), Pre_Plain1Ideal_finite_feat m →
    θ_run (Cert.Plain1Ideal.defs (F := Ideal)) (onTc (τ := Cert.Plain1Ideal.τ) (Cert.Plain1Ideal.main (F := Ideal))) ⟨m, fun _ => 0, g⟩ (fun r => (∀ c : Dev Cert.Plain1Ideal.nD,
      r.2.mem ((c.tc : Thread Cert.Plain1Ideal.nD Cert.Plain1Ideal.τ).loc Cert.Plain1Ideal.main_arg0) = m ((c.tc : Thread Cert.Plain1Ideal.nD Cert.Plain1Ideal.τ).loc Cert.Plain1Ideal.main_arg0)
      ∧ r.2.mem ((c.tc : Thread Cert.Plain1Ideal.nD Cert.Plain1Ideal.τ).loc Cert.Plain1Ideal.main_arg1) = m ((c.tc : Thread Cert.Plain1Ideal.nD Cert.Plain1Ideal.τ).loc Cert.Plain1Ideal.main_arg1)
      ∧ r.2.mem ((c.tc : Thread Cert.Plain1Ideal.nD Cert.Plain1Ideal.τ).loc Cert.Plain1Ideal.main_arg2) = m ((c.tc : Thread Cert.Plain1Ideal.nD Cert.Plain1Ideal.τ).loc Cert.Plain1Ideal.main_arg2)
      ∧ r.2.mem ((c.tc : Thread Cert.Plain1Ideal.nD Cert.Plain1Ideal.τ).loc Cert.Plain1Ideal.main_arg3) = m ((c.tc : Thread Cert.Plain1Ideal.nD Cert.Plain1Ideal.τ).loc Cert.Plain1Ideal.main_arg3)
      ∧ r.2.mem ((c.tc : Thread Cert.Plain1Ideal.nD Cert.Plain1Ideal.τ).loc Cert.Plain1Ideal.main_arg4) = m ((c.tc : Thread Cert.Plain1Ideal.nD Cert.Plain1Ideal.τ).loc Cert.Plain1Ideal.main_arg4))
      ∧ r.2.sem = fun _ => 0)

def quiescent_Layer2 [hLayer2 : Cert.Layer2.Facts] : Prop :=
  ∀ (m : (ℓ : Loc Cert.Layer2.nD Cert.Layer2.τ Cert.Layer2.sig) → Buf (Elt Bits) ℓ) (g : Dev Cert.Layer2.nD → PrngReg), Pre_Layer2 m →
    θ_run (Cert.Layer2.defs (F := Bits)) (onTc (τ := Cert.Layer2.τ) (Cert.Layer2.main (F := Bits))) ⟨m, fun _ => 0, g⟩ (fun r => (∀ c : Dev Cert.Layer2.nD,
      r.2.mem ((c.tc : Thread Cert.Layer2.nD Cert.Layer2.τ).loc Cert.Layer2.main_arg0) = m ((c.tc : Thread Cert.Layer2.nD Cert.Layer2.τ).loc Cert.Layer2.main_arg0)
      ∧ r.2.mem ((c.tc : Thread Cert.Layer2.nD Cert.Layer2.τ).loc Cert.Layer2.main_arg1) = m ((c.tc : Thread Cert.Layer2.nD Cert.Layer2.τ).loc Cert.Layer2.main_arg1)
      ∧ r.2.mem ((c.tc : Thread Cert.Layer2.nD Cert.Layer2.τ).loc Cert.Layer2.main_arg2) = m ((c.tc : Thread Cert.Layer2.nD Cert.Layer2.τ).loc Cert.Layer2.main_arg2)
      ∧ r.2.mem ((c.tc : Thread Cert.Layer2.nD Cert.Layer2.τ).loc Cert.Layer2.main_arg3) = m ((c.tc : Thread Cert.Layer2.nD Cert.Layer2.τ).loc Cert.Layer2.main_arg3)
      ∧ r.2.mem ((c.tc : Thread Cert.Layer2.nD Cert.Layer2.τ).loc Cert.Layer2.main_arg4) = m ((c.tc : Thread Cert.Layer2.nD Cert.Layer2.τ).loc Cert.Layer2.main_arg4))
      ∧ r.2.sem = fun _ => 0)

def quiescent_Layer2Ideal [hLayer2Ideal : Cert.Layer2Ideal.Facts] : Prop :=
  ∀ (m : (ℓ : Loc Cert.Layer2Ideal.nD Cert.Layer2Ideal.τ Cert.Layer2Ideal.sig) → Buf (Elt Ideal) ℓ) (g : Dev Cert.Layer2Ideal.nD → PrngReg), Pre_Layer2Ideal m →
    θ_run (Cert.Layer2Ideal.defs (F := Ideal)) (onTc (τ := Cert.Layer2Ideal.τ) (Cert.Layer2Ideal.main (F := Ideal))) ⟨m, fun _ => 0, g⟩ (fun r => (∀ c : Dev Cert.Layer2Ideal.nD,
      r.2.mem ((c.tc : Thread Cert.Layer2Ideal.nD Cert.Layer2Ideal.τ).loc Cert.Layer2Ideal.main_arg0) = m ((c.tc : Thread Cert.Layer2Ideal.nD Cert.Layer2Ideal.τ).loc Cert.Layer2Ideal.main_arg0)
      ∧ r.2.mem ((c.tc : Thread Cert.Layer2Ideal.nD Cert.Layer2Ideal.τ).loc Cert.Layer2Ideal.main_arg1) = m ((c.tc : Thread Cert.Layer2Ideal.nD Cert.Layer2Ideal.τ).loc Cert.Layer2Ideal.main_arg1)
      ∧ r.2.mem ((c.tc : Thread Cert.Layer2Ideal.nD Cert.Layer2Ideal.τ).loc Cert.Layer2Ideal.main_arg2) = m ((c.tc : Thread Cert.Layer2Ideal.nD Cert.Layer2Ideal.τ).loc Cert.Layer2Ideal.main_arg2)
      ∧ r.2.mem ((c.tc : Thread Cert.Layer2Ideal.nD Cert.Layer2Ideal.τ).loc Cert.Layer2Ideal.main_arg3) = m ((c.tc : Thread Cert.Layer2Ideal.nD Cert.Layer2Ideal.τ).loc Cert.Layer2Ideal.main_arg3)
      ∧ r.2.mem ((c.tc : Thread Cert.Layer2Ideal.nD Cert.Layer2Ideal.τ).loc Cert.Layer2Ideal.main_arg4) = m ((c.tc : Thread Cert.Layer2Ideal.nD Cert.Layer2Ideal.τ).loc Cert.Layer2Ideal.main_arg4))
      ∧ r.2.sem = fun _ => 0)

def quiescent_Layer2Ideal_pre_finite_feat [hLayer2Ideal : Cert.Layer2Ideal.Facts] [hPre_finite_feat : Cert.Pre_finite_feat.Facts] : Prop :=
  ∀ (m : (ℓ : Loc Cert.Layer2Ideal.nD Cert.Layer2Ideal.τ Cert.Layer2Ideal.sig) → Buf (Elt Ideal) ℓ) (g : Dev Cert.Layer2Ideal.nD → PrngReg), Pre_Layer2Ideal_finite_feat m →
    θ_run (Cert.Layer2Ideal.defs (F := Ideal)) (onTc (τ := Cert.Layer2Ideal.τ) (Cert.Layer2Ideal.main (F := Ideal))) ⟨m, fun _ => 0, g⟩ (fun r => (∀ c : Dev Cert.Layer2Ideal.nD,
      r.2.mem ((c.tc : Thread Cert.Layer2Ideal.nD Cert.Layer2Ideal.τ).loc Cert.Layer2Ideal.main_arg0) = m ((c.tc : Thread Cert.Layer2Ideal.nD Cert.Layer2Ideal.τ).loc Cert.Layer2Ideal.main_arg0)
      ∧ r.2.mem ((c.tc : Thread Cert.Layer2Ideal.nD Cert.Layer2Ideal.τ).loc Cert.Layer2Ideal.main_arg1) = m ((c.tc : Thread Cert.Layer2Ideal.nD Cert.Layer2Ideal.τ).loc Cert.Layer2Ideal.main_arg1)
      ∧ r.2.mem ((c.tc : Thread Cert.Layer2Ideal.nD Cert.Layer2Ideal.τ).loc Cert.Layer2Ideal.main_arg2) = m ((c.tc : Thread Cert.Layer2Ideal.nD Cert.Layer2Ideal.τ).loc Cert.Layer2Ideal.main_arg2)
      ∧ r.2.mem ((c.tc : Thread Cert.Layer2Ideal.nD Cert.Layer2Ideal.τ).loc Cert.Layer2Ideal.main_arg3) = m ((c.tc : Thread Cert.Layer2Ideal.nD Cert.Layer2Ideal.τ).loc Cert.Layer2Ideal.main_arg3)
      ∧ r.2.mem ((c.tc : Thread Cert.Layer2Ideal.nD Cert.Layer2Ideal.τ).loc Cert.Layer2Ideal.main_arg4) = m ((c.tc : Thread Cert.Layer2Ideal.nD Cert.Layer2Ideal.τ).loc Cert.Layer2Ideal.main_arg4))
      ∧ r.2.sem = fun _ => 0)

def quiescent_Plain2Ideal [hPlain2Ideal : Cert.Plain2Ideal.Facts] : Prop :=
  ∀ (m : (ℓ : Loc Cert.Plain2Ideal.nD Cert.Plain2Ideal.τ Cert.Plain2Ideal.sig) → Buf (Elt Ideal) ℓ) (g : Dev Cert.Plain2Ideal.nD → PrngReg), Pre_Plain2Ideal m →
    θ_run (Cert.Plain2Ideal.defs (F := Ideal)) (onTc (τ := Cert.Plain2Ideal.τ) (Cert.Plain2Ideal.main (F := Ideal))) ⟨m, fun _ => 0, g⟩ (fun r => (∀ c : Dev Cert.Plain2Ideal.nD,
      r.2.mem ((c.tc : Thread Cert.Plain2Ideal.nD Cert.Plain2Ideal.τ).loc Cert.Plain2Ideal.main_arg0) = m ((c.tc : Thread Cert.Plain2Ideal.nD Cert.Plain2Ideal.τ).loc Cert.Plain2Ideal.main_arg0)
      ∧ r.2.mem ((c.tc : Thread Cert.Plain2Ideal.nD Cert.Plain2Ideal.τ).loc Cert.Plain2Ideal.main_arg1) = m ((c.tc : Thread Cert.Plain2Ideal.nD Cert.Plain2Ideal.τ).loc Cert.Plain2Ideal.main_arg1)
      ∧ r.2.mem ((c.tc : Thread Cert.Plain2Ideal.nD Cert.Plain2Ideal.τ).loc Cert.Plain2Ideal.main_arg2) = m ((c.tc : Thread Cert.Plain2Ideal.nD Cert.Plain2Ideal.τ).loc Cert.Plain2Ideal.main_arg2)
      ∧ r.2.mem ((c.tc : Thread Cert.Plain2Ideal.nD Cert.Plain2Ideal.τ).loc Cert.Plain2Ideal.main_arg3) = m ((c.tc : Thread Cert.Plain2Ideal.nD Cert.Plain2Ideal.τ).loc Cert.Plain2Ideal.main_arg3)
      ∧ r.2.mem ((c.tc : Thread Cert.Plain2Ideal.nD Cert.Plain2Ideal.τ).loc Cert.Plain2Ideal.main_arg4) = m ((c.tc : Thread Cert.Plain2Ideal.nD Cert.Plain2Ideal.τ).loc Cert.Plain2Ideal.main_arg4))
      ∧ r.2.sem = fun _ => 0)

def quiescent_Plain2Ideal_pre_finite_feat [hPlain2Ideal : Cert.Plain2Ideal.Facts] [hPre_finite_feat : Cert.Pre_finite_feat.Facts] : Prop :=
  ∀ (m : (ℓ : Loc Cert.Plain2Ideal.nD Cert.Plain2Ideal.τ Cert.Plain2Ideal.sig) → Buf (Elt Ideal) ℓ) (g : Dev Cert.Plain2Ideal.nD → PrngReg), Pre_Plain2Ideal_finite_feat m →
    θ_run (Cert.Plain2Ideal.defs (F := Ideal)) (onTc (τ := Cert.Plain2Ideal.τ) (Cert.Plain2Ideal.main (F := Ideal))) ⟨m, fun _ => 0, g⟩ (fun r => (∀ c : Dev Cert.Plain2Ideal.nD,
      r.2.mem ((c.tc : Thread Cert.Plain2Ideal.nD Cert.Plain2Ideal.τ).loc Cert.Plain2Ideal.main_arg0) = m ((c.tc : Thread Cert.Plain2Ideal.nD Cert.Plain2Ideal.τ).loc Cert.Plain2Ideal.main_arg0)
      ∧ r.2.mem ((c.tc : Thread Cert.Plain2Ideal.nD Cert.Plain2Ideal.τ).loc Cert.Plain2Ideal.main_arg1) = m ((c.tc : Thread Cert.Plain2Ideal.nD Cert.Plain2Ideal.τ).loc Cert.Plain2Ideal.main_arg1)
      ∧ r.2.mem ((c.tc : Thread Cert.Plain2Ideal.nD Cert.Plain2Ideal.τ).loc Cert.Plain2Ideal.main_arg2) = m ((c.tc : Thread Cert.Plain2Ideal.nD Cert.Plain2Ideal.τ).loc Cert.Plain2Ideal.main_arg2)
      ∧ r.2.mem ((c.tc : Thread Cert.Plain2Ideal.nD Cert.Plain2Ideal.τ).loc Cert.Plain2Ideal.main_arg3) = m ((c.tc : Thread Cert.Plain2Ideal.nD Cert.Plain2Ideal.τ).loc Cert.Plain2Ideal.main_arg3)
      ∧ r.2.mem ((c.tc : Thread Cert.Plain2Ideal.nD Cert.Plain2Ideal.τ).loc Cert.Plain2Ideal.main_arg4) = m ((c.tc : Thread Cert.Plain2Ideal.nD Cert.Plain2Ideal.τ).loc Cert.Plain2Ideal.main_arg4))
      ∧ r.2.sem = fun _ => 0)

def quiescent_Layer3 [hLayer3 : Cert.Layer3.Facts] : Prop :=
  ∀ (m : (ℓ : Loc Cert.Layer3.nD Cert.Layer3.τ Cert.Layer3.sig) → Buf (Elt Bits) ℓ) (g : Dev Cert.Layer3.nD → PrngReg), Pre_Layer3 m →
    θ_run (Cert.Layer3.defs (F := Bits)) (onTc (τ := Cert.Layer3.τ) (Cert.Layer3.main (F := Bits))) ⟨m, fun _ => 0, g⟩ (fun r => (∀ c : Dev Cert.Layer3.nD,
      r.2.mem ((c.tc : Thread Cert.Layer3.nD Cert.Layer3.τ).loc Cert.Layer3.main_arg0) = m ((c.tc : Thread Cert.Layer3.nD Cert.Layer3.τ).loc Cert.Layer3.main_arg0)
      ∧ r.2.mem ((c.tc : Thread Cert.Layer3.nD Cert.Layer3.τ).loc Cert.Layer3.main_arg1) = m ((c.tc : Thread Cert.Layer3.nD Cert.Layer3.τ).loc Cert.Layer3.main_arg1)
      ∧ r.2.mem ((c.tc : Thread Cert.Layer3.nD Cert.Layer3.τ).loc Cert.Layer3.main_arg2) = m ((c.tc : Thread Cert.Layer3.nD Cert.Layer3.τ).loc Cert.Layer3.main_arg2)
      ∧ r.2.mem ((c.tc : Thread Cert.Layer3.nD Cert.Layer3.τ).loc Cert.Layer3.main_arg3) = m ((c.tc : Thread Cert.Layer3.nD Cert.Layer3.τ).loc Cert.Layer3.main_arg3)
      ∧ r.2.mem ((c.tc : Thread Cert.Layer3.nD Cert.Layer3.τ).loc Cert.Layer3.main_arg4) = m ((c.tc : Thread Cert.Layer3.nD Cert.Layer3.τ).loc Cert.Layer3.main_arg4))
      ∧ r.2.sem = fun _ => 0)

def quiescent_Layer3Ideal [hLayer3Ideal : Cert.Layer3Ideal.Facts] : Prop :=
  ∀ (m : (ℓ : Loc Cert.Layer3Ideal.nD Cert.Layer3Ideal.τ Cert.Layer3Ideal.sig) → Buf (Elt Ideal) ℓ) (g : Dev Cert.Layer3Ideal.nD → PrngReg), Pre_Layer3Ideal m →
    θ_run (Cert.Layer3Ideal.defs (F := Ideal)) (onTc (τ := Cert.Layer3Ideal.τ) (Cert.Layer3Ideal.main (F := Ideal))) ⟨m, fun _ => 0, g⟩ (fun r => (∀ c : Dev Cert.Layer3Ideal.nD,
      r.2.mem ((c.tc : Thread Cert.Layer3Ideal.nD Cert.Layer3Ideal.τ).loc Cert.Layer3Ideal.main_arg0) = m ((c.tc : Thread Cert.Layer3Ideal.nD Cert.Layer3Ideal.τ).loc Cert.Layer3Ideal.main_arg0)
      ∧ r.2.mem ((c.tc : Thread Cert.Layer3Ideal.nD Cert.Layer3Ideal.τ).loc Cert.Layer3Ideal.main_arg1) = m ((c.tc : Thread Cert.Layer3Ideal.nD Cert.Layer3Ideal.τ).loc Cert.Layer3Ideal.main_arg1)
      ∧ r.2.mem ((c.tc : Thread Cert.Layer3Ideal.nD Cert.Layer3Ideal.τ).loc Cert.Layer3Ideal.main_arg2) = m ((c.tc : Thread Cert.Layer3Ideal.nD Cert.Layer3Ideal.τ).loc Cert.Layer3Ideal.main_arg2)
      ∧ r.2.mem ((c.tc : Thread Cert.Layer3Ideal.nD Cert.Layer3Ideal.τ).loc Cert.Layer3Ideal.main_arg3) = m ((c.tc : Thread Cert.Layer3Ideal.nD Cert.Layer3Ideal.τ).loc Cert.Layer3Ideal.main_arg3)
      ∧ r.2.mem ((c.tc : Thread Cert.Layer3Ideal.nD Cert.Layer3Ideal.τ).loc Cert.Layer3Ideal.main_arg4) = m ((c.tc : Thread Cert.Layer3Ideal.nD Cert.Layer3Ideal.τ).loc Cert.Layer3Ideal.main_arg4))
      ∧ r.2.sem = fun _ => 0)

def quiescent_Layer3Ideal_pre_finite_feat [hLayer3Ideal : Cert.Layer3Ideal.Facts] [hPre_finite_feat : Cert.Pre_finite_feat.Facts] : Prop :=
  ∀ (m : (ℓ : Loc Cert.Layer3Ideal.nD Cert.Layer3Ideal.τ Cert.Layer3Ideal.sig) → Buf (Elt Ideal) ℓ) (g : Dev Cert.Layer3Ideal.nD → PrngReg), Pre_Layer3Ideal_finite_feat m →
    θ_run (Cert.Layer3Ideal.defs (F := Ideal)) (onTc (τ := Cert.Layer3Ideal.τ) (Cert.Layer3Ideal.main (F := Ideal))) ⟨m, fun _ => 0, g⟩ (fun r => (∀ c : Dev Cert.Layer3Ideal.nD,
      r.2.mem ((c.tc : Thread Cert.Layer3Ideal.nD Cert.Layer3Ideal.τ).loc Cert.Layer3Ideal.main_arg0) = m ((c.tc : Thread Cert.Layer3Ideal.nD Cert.Layer3Ideal.τ).loc Cert.Layer3Ideal.main_arg0)
      ∧ r.2.mem ((c.tc : Thread Cert.Layer3Ideal.nD Cert.Layer3Ideal.τ).loc Cert.Layer3Ideal.main_arg1) = m ((c.tc : Thread Cert.Layer3Ideal.nD Cert.Layer3Ideal.τ).loc Cert.Layer3Ideal.main_arg1)
      ∧ r.2.mem ((c.tc : Thread Cert.Layer3Ideal.nD Cert.Layer3Ideal.τ).loc Cert.Layer3Ideal.main_arg2) = m ((c.tc : Thread Cert.Layer3Ideal.nD Cert.Layer3Ideal.τ).loc Cert.Layer3Ideal.main_arg2)
      ∧ r.2.mem ((c.tc : Thread Cert.Layer3Ideal.nD Cert.Layer3Ideal.τ).loc Cert.Layer3Ideal.main_arg3) = m ((c.tc : Thread Cert.Layer3Ideal.nD Cert.Layer3Ideal.τ).loc Cert.Layer3Ideal.main_arg3)
      ∧ r.2.mem ((c.tc : Thread Cert.Layer3Ideal.nD Cert.Layer3Ideal.τ).loc Cert.Layer3Ideal.main_arg4) = m ((c.tc : Thread Cert.Layer3Ideal.nD Cert.Layer3Ideal.τ).loc Cert.Layer3Ideal.main_arg4))
      ∧ r.2.sem = fun _ => 0)

def quiescent_Plain3Ideal [hPlain3Ideal : Cert.Plain3Ideal.Facts] : Prop :=
  ∀ (m : (ℓ : Loc Cert.Plain3Ideal.nD Cert.Plain3Ideal.τ Cert.Plain3Ideal.sig) → Buf (Elt Ideal) ℓ) (g : Dev Cert.Plain3Ideal.nD → PrngReg), Pre_Plain3Ideal m →
    θ_run (Cert.Plain3Ideal.defs (F := Ideal)) (onTc (τ := Cert.Plain3Ideal.τ) (Cert.Plain3Ideal.main (F := Ideal))) ⟨m, fun _ => 0, g⟩ (fun r => (∀ c : Dev Cert.Plain3Ideal.nD,
      r.2.mem ((c.tc : Thread Cert.Plain3Ideal.nD Cert.Plain3Ideal.τ).loc Cert.Plain3Ideal.main_arg0) = m ((c.tc : Thread Cert.Plain3Ideal.nD Cert.Plain3Ideal.τ).loc Cert.Plain3Ideal.main_arg0)
      ∧ r.2.mem ((c.tc : Thread Cert.Plain3Ideal.nD Cert.Plain3Ideal.τ).loc Cert.Plain3Ideal.main_arg1) = m ((c.tc : Thread Cert.Plain3Ideal.nD Cert.Plain3Ideal.τ).loc Cert.Plain3Ideal.main_arg1)
      ∧ r.2.mem ((c.tc : Thread Cert.Plain3Ideal.nD Cert.Plain3Ideal.τ).loc Cert.Plain3Ideal.main_arg2) = m ((c.tc : Thread Cert.Plain3Ideal.nD Cert.Plain3Ideal.τ).loc Cert.Plain3Ideal.main_arg2)
      ∧ r.2.mem ((c.tc : Thread Cert.Plain3Ideal.nD Cert.Plain3Ideal.τ).loc Cert.Plain3Ideal.main_arg3) = m ((c.tc : Thread Cert.Plain3Ideal.nD Cert.Plain3Ideal.τ).loc Cert.Plain3Ideal.main_arg3)
      ∧ r.2.mem ((c.tc : Thread Cert.Plain3Ideal.nD Cert.Plain3Ideal.τ).loc Cert.Plain3Ideal.main_arg4) = m ((c.tc : Thread Cert.Plain3Ideal.nD Cert.Plain3Ideal.τ).loc Cert.Plain3Ideal.main_arg4))
      ∧ r.2.sem = fun _ => 0)

def quiescent_Plain3Ideal_pre_finite_feat [hPlain3Ideal : Cert.Plain3Ideal.Facts] [hPre_finite_feat : Cert.Pre_finite_feat.Facts] : Prop :=
  ∀ (m : (ℓ : Loc Cert.Plain3Ideal.nD Cert.Plain3Ideal.τ Cert.Plain3Ideal.sig) → Buf (Elt Ideal) ℓ) (g : Dev Cert.Plain3Ideal.nD → PrngReg), Pre_Plain3Ideal_finite_feat m →
    θ_run (Cert.Plain3Ideal.defs (F := Ideal)) (onTc (τ := Cert.Plain3Ideal.τ) (Cert.Plain3Ideal.main (F := Ideal))) ⟨m, fun _ => 0, g⟩ (fun r => (∀ c : Dev Cert.Plain3Ideal.nD,
      r.2.mem ((c.tc : Thread Cert.Plain3Ideal.nD Cert.Plain3Ideal.τ).loc Cert.Plain3Ideal.main_arg0) = m ((c.tc : Thread Cert.Plain3Ideal.nD Cert.Plain3Ideal.τ).loc Cert.Plain3Ideal.main_arg0)
      ∧ r.2.mem ((c.tc : Thread Cert.Plain3Ideal.nD Cert.Plain3Ideal.τ).loc Cert.Plain3Ideal.main_arg1) = m ((c.tc : Thread Cert.Plain3Ideal.nD Cert.Plain3Ideal.τ).loc Cert.Plain3Ideal.main_arg1)
      ∧ r.2.mem ((c.tc : Thread Cert.Plain3Ideal.nD Cert.Plain3Ideal.τ).loc Cert.Plain3Ideal.main_arg2) = m ((c.tc : Thread Cert.Plain3Ideal.nD Cert.Plain3Ideal.τ).loc Cert.Plain3Ideal.main_arg2)
      ∧ r.2.mem ((c.tc : Thread Cert.Plain3Ideal.nD Cert.Plain3Ideal.τ).loc Cert.Plain3Ideal.main_arg3) = m ((c.tc : Thread Cert.Plain3Ideal.nD Cert.Plain3Ideal.τ).loc Cert.Plain3Ideal.main_arg3)
      ∧ r.2.mem ((c.tc : Thread Cert.Plain3Ideal.nD Cert.Plain3Ideal.τ).loc Cert.Plain3Ideal.main_arg4) = m ((c.tc : Thread Cert.Plain3Ideal.nD Cert.Plain3Ideal.τ).loc Cert.Plain3Ideal.main_arg4))
      ∧ r.2.sem = fun _ => 0)

def quiescent_Layer4 [hLayer4 : Cert.Layer4.Facts] : Prop :=
  ∀ (m : (ℓ : Loc Cert.Layer4.nD Cert.Layer4.τ Cert.Layer4.sig) → Buf (Elt Bits) ℓ) (g : Dev Cert.Layer4.nD → PrngReg), Pre_Layer4 m →
    θ_run (Cert.Layer4.defs (F := Bits)) (onTc (τ := Cert.Layer4.τ) (Cert.Layer4.main (F := Bits))) ⟨m, fun _ => 0, g⟩ (fun r => (∀ c : Dev Cert.Layer4.nD,
      r.2.mem ((c.tc : Thread Cert.Layer4.nD Cert.Layer4.τ).loc Cert.Layer4.main_arg0) = m ((c.tc : Thread Cert.Layer4.nD Cert.Layer4.τ).loc Cert.Layer4.main_arg0)
      ∧ r.2.mem ((c.tc : Thread Cert.Layer4.nD Cert.Layer4.τ).loc Cert.Layer4.main_arg1) = m ((c.tc : Thread Cert.Layer4.nD Cert.Layer4.τ).loc Cert.Layer4.main_arg1)
      ∧ r.2.mem ((c.tc : Thread Cert.Layer4.nD Cert.Layer4.τ).loc Cert.Layer4.main_arg2) = m ((c.tc : Thread Cert.Layer4.nD Cert.Layer4.τ).loc Cert.Layer4.main_arg2)
      ∧ r.2.mem ((c.tc : Thread Cert.Layer4.nD Cert.Layer4.τ).loc Cert.Layer4.main_arg3) = m ((c.tc : Thread Cert.Layer4.nD Cert.Layer4.τ).loc Cert.Layer4.main_arg3)
      ∧ r.2.mem ((c.tc : Thread Cert.Layer4.nD Cert.Layer4.τ).loc Cert.Layer4.main_arg4) = m ((c.tc : Thread Cert.Layer4.nD Cert.Layer4.τ).loc Cert.Layer4.main_arg4))
      ∧ r.2.sem = fun _ => 0)

def quiescent_Layer4Ideal [hLayer4Ideal : Cert.Layer4Ideal.Facts] : Prop :=
  ∀ (m : (ℓ : Loc Cert.Layer4Ideal.nD Cert.Layer4Ideal.τ Cert.Layer4Ideal.sig) → Buf (Elt Ideal) ℓ) (g : Dev Cert.Layer4Ideal.nD → PrngReg), Pre_Layer4Ideal m →
    θ_run (Cert.Layer4Ideal.defs (F := Ideal)) (onTc (τ := Cert.Layer4Ideal.τ) (Cert.Layer4Ideal.main (F := Ideal))) ⟨m, fun _ => 0, g⟩ (fun r => (∀ c : Dev Cert.Layer4Ideal.nD,
      r.2.mem ((c.tc : Thread Cert.Layer4Ideal.nD Cert.Layer4Ideal.τ).loc Cert.Layer4Ideal.main_arg0) = m ((c.tc : Thread Cert.Layer4Ideal.nD Cert.Layer4Ideal.τ).loc Cert.Layer4Ideal.main_arg0)
      ∧ r.2.mem ((c.tc : Thread Cert.Layer4Ideal.nD Cert.Layer4Ideal.τ).loc Cert.Layer4Ideal.main_arg1) = m ((c.tc : Thread Cert.Layer4Ideal.nD Cert.Layer4Ideal.τ).loc Cert.Layer4Ideal.main_arg1)
      ∧ r.2.mem ((c.tc : Thread Cert.Layer4Ideal.nD Cert.Layer4Ideal.τ).loc Cert.Layer4Ideal.main_arg2) = m ((c.tc : Thread Cert.Layer4Ideal.nD Cert.Layer4Ideal.τ).loc Cert.Layer4Ideal.main_arg2)
      ∧ r.2.mem ((c.tc : Thread Cert.Layer4Ideal.nD Cert.Layer4Ideal.τ).loc Cert.Layer4Ideal.main_arg3) = m ((c.tc : Thread Cert.Layer4Ideal.nD Cert.Layer4Ideal.τ).loc Cert.Layer4Ideal.main_arg3)
      ∧ r.2.mem ((c.tc : Thread Cert.Layer4Ideal.nD Cert.Layer4Ideal.τ).loc Cert.Layer4Ideal.main_arg4) = m ((c.tc : Thread Cert.Layer4Ideal.nD Cert.Layer4Ideal.τ).loc Cert.Layer4Ideal.main_arg4))
      ∧ r.2.sem = fun _ => 0)

def quiescent_Layer4Ideal_pre_finite_feat [hLayer4Ideal : Cert.Layer4Ideal.Facts] [hPre_finite_feat : Cert.Pre_finite_feat.Facts] : Prop :=
  ∀ (m : (ℓ : Loc Cert.Layer4Ideal.nD Cert.Layer4Ideal.τ Cert.Layer4Ideal.sig) → Buf (Elt Ideal) ℓ) (g : Dev Cert.Layer4Ideal.nD → PrngReg), Pre_Layer4Ideal_finite_feat m →
    θ_run (Cert.Layer4Ideal.defs (F := Ideal)) (onTc (τ := Cert.Layer4Ideal.τ) (Cert.Layer4Ideal.main (F := Ideal))) ⟨m, fun _ => 0, g⟩ (fun r => (∀ c : Dev Cert.Layer4Ideal.nD,
      r.2.mem ((c.tc : Thread Cert.Layer4Ideal.nD Cert.Layer4Ideal.τ).loc Cert.Layer4Ideal.main_arg0) = m ((c.tc : Thread Cert.Layer4Ideal.nD Cert.Layer4Ideal.τ).loc Cert.Layer4Ideal.main_arg0)
      ∧ r.2.mem ((c.tc : Thread Cert.Layer4Ideal.nD Cert.Layer4Ideal.τ).loc Cert.Layer4Ideal.main_arg1) = m ((c.tc : Thread Cert.Layer4Ideal.nD Cert.Layer4Ideal.τ).loc Cert.Layer4Ideal.main_arg1)
      ∧ r.2.mem ((c.tc : Thread Cert.Layer4Ideal.nD Cert.Layer4Ideal.τ).loc Cert.Layer4Ideal.main_arg2) = m ((c.tc : Thread Cert.Layer4Ideal.nD Cert.Layer4Ideal.τ).loc Cert.Layer4Ideal.main_arg2)
      ∧ r.2.mem ((c.tc : Thread Cert.Layer4Ideal.nD Cert.Layer4Ideal.τ).loc Cert.Layer4Ideal.main_arg3) = m ((c.tc : Thread Cert.Layer4Ideal.nD Cert.Layer4Ideal.τ).loc Cert.Layer4Ideal.main_arg3)
      ∧ r.2.mem ((c.tc : Thread Cert.Layer4Ideal.nD Cert.Layer4Ideal.τ).loc Cert.Layer4Ideal.main_arg4) = m ((c.tc : Thread Cert.Layer4Ideal.nD Cert.Layer4Ideal.τ).loc Cert.Layer4Ideal.main_arg4))
      ∧ r.2.sem = fun _ => 0)

def quiescent_Plain4Ideal [hPlain4Ideal : Cert.Plain4Ideal.Facts] : Prop :=
  ∀ (m : (ℓ : Loc Cert.Plain4Ideal.nD Cert.Plain4Ideal.τ Cert.Plain4Ideal.sig) → Buf (Elt Ideal) ℓ) (g : Dev Cert.Plain4Ideal.nD → PrngReg), Pre_Plain4Ideal m →
    θ_run (Cert.Plain4Ideal.defs (F := Ideal)) (onTc (τ := Cert.Plain4Ideal.τ) (Cert.Plain4Ideal.main (F := Ideal))) ⟨m, fun _ => 0, g⟩ (fun r => (∀ c : Dev Cert.Plain4Ideal.nD,
      r.2.mem ((c.tc : Thread Cert.Plain4Ideal.nD Cert.Plain4Ideal.τ).loc Cert.Plain4Ideal.main_arg0) = m ((c.tc : Thread Cert.Plain4Ideal.nD Cert.Plain4Ideal.τ).loc Cert.Plain4Ideal.main_arg0)
      ∧ r.2.mem ((c.tc : Thread Cert.Plain4Ideal.nD Cert.Plain4Ideal.τ).loc Cert.Plain4Ideal.main_arg1) = m ((c.tc : Thread Cert.Plain4Ideal.nD Cert.Plain4Ideal.τ).loc Cert.Plain4Ideal.main_arg1)
      ∧ r.2.mem ((c.tc : Thread Cert.Plain4Ideal.nD Cert.Plain4Ideal.τ).loc Cert.Plain4Ideal.main_arg2) = m ((c.tc : Thread Cert.Plain4Ideal.nD Cert.Plain4Ideal.τ).loc Cert.Plain4Ideal.main_arg2)
      ∧ r.2.mem ((c.tc : Thread Cert.Plain4Ideal.nD Cert.Plain4Ideal.τ).loc Cert.Plain4Ideal.main_arg3) = m ((c.tc : Thread Cert.Plain4Ideal.nD Cert.Plain4Ideal.τ).loc Cert.Plain4Ideal.main_arg3)
      ∧ r.2.mem ((c.tc : Thread Cert.Plain4Ideal.nD Cert.Plain4Ideal.τ).loc Cert.Plain4Ideal.main_arg4) = m ((c.tc : Thread Cert.Plain4Ideal.nD Cert.Plain4Ideal.τ).loc Cert.Plain4Ideal.main_arg4))
      ∧ r.2.sem = fun _ => 0)

def quiescent_Plain4Ideal_pre_finite_feat [hPlain4Ideal : Cert.Plain4Ideal.Facts] [hPre_finite_feat : Cert.Pre_finite_feat.Facts] : Prop :=
  ∀ (m : (ℓ : Loc Cert.Plain4Ideal.nD Cert.Plain4Ideal.τ Cert.Plain4Ideal.sig) → Buf (Elt Ideal) ℓ) (g : Dev Cert.Plain4Ideal.nD → PrngReg), Pre_Plain4Ideal_finite_feat m →
    θ_run (Cert.Plain4Ideal.defs (F := Ideal)) (onTc (τ := Cert.Plain4Ideal.τ) (Cert.Plain4Ideal.main (F := Ideal))) ⟨m, fun _ => 0, g⟩ (fun r => (∀ c : Dev Cert.Plain4Ideal.nD,
      r.2.mem ((c.tc : Thread Cert.Plain4Ideal.nD Cert.Plain4Ideal.τ).loc Cert.Plain4Ideal.main_arg0) = m ((c.tc : Thread Cert.Plain4Ideal.nD Cert.Plain4Ideal.τ).loc Cert.Plain4Ideal.main_arg0)
      ∧ r.2.mem ((c.tc : Thread Cert.Plain4Ideal.nD Cert.Plain4Ideal.τ).loc Cert.Plain4Ideal.main_arg1) = m ((c.tc : Thread Cert.Plain4Ideal.nD Cert.Plain4Ideal.τ).loc Cert.Plain4Ideal.main_arg1)
      ∧ r.2.mem ((c.tc : Thread Cert.Plain4Ideal.nD Cert.Plain4Ideal.τ).loc Cert.Plain4Ideal.main_arg2) = m ((c.tc : Thread Cert.Plain4Ideal.nD Cert.Plain4Ideal.τ).loc Cert.Plain4Ideal.main_arg2)
      ∧ r.2.mem ((c.tc : Thread Cert.Plain4Ideal.nD Cert.Plain4Ideal.τ).loc Cert.Plain4Ideal.main_arg3) = m ((c.tc : Thread Cert.Plain4Ideal.nD Cert.Plain4Ideal.τ).loc Cert.Plain4Ideal.main_arg3)
      ∧ r.2.mem ((c.tc : Thread Cert.Plain4Ideal.nD Cert.Plain4Ideal.τ).loc Cert.Plain4Ideal.main_arg4) = m ((c.tc : Thread Cert.Plain4Ideal.nD Cert.Plain4Ideal.τ).loc Cert.Plain4Ideal.main_arg4))
      ∧ r.2.sem = fun _ => 0)

def quiescent_Layer5 [hLayer5 : Cert.Layer5.Facts] : Prop :=
  ∀ (m : (ℓ : Loc Cert.Layer5.nD Cert.Layer5.τ Cert.Layer5.sig) → Buf (Elt Bits) ℓ) (g : Dev Cert.Layer5.nD → PrngReg), Pre_Layer5 m →
    θ_run (Cert.Layer5.defs (F := Bits)) (onTc (τ := Cert.Layer5.τ) (Cert.Layer5.main (F := Bits))) ⟨m, fun _ => 0, g⟩ (fun r => (∀ c : Dev Cert.Layer5.nD,
      r.2.mem ((c.tc : Thread Cert.Layer5.nD Cert.Layer5.τ).loc Cert.Layer5.main_arg0) = m ((c.tc : Thread Cert.Layer5.nD Cert.Layer5.τ).loc Cert.Layer5.main_arg0)
      ∧ r.2.mem ((c.tc : Thread Cert.Layer5.nD Cert.Layer5.τ).loc Cert.Layer5.main_arg1) = m ((c.tc : Thread Cert.Layer5.nD Cert.Layer5.τ).loc Cert.Layer5.main_arg1)
      ∧ r.2.mem ((c.tc : Thread Cert.Layer5.nD Cert.Layer5.τ).loc Cert.Layer5.main_arg2) = m ((c.tc : Thread Cert.Layer5.nD Cert.Layer5.τ).loc Cert.Layer5.main_arg2)
      ∧ r.2.mem ((c.tc : Thread Cert.Layer5.nD Cert.Layer5.τ).loc Cert.Layer5.main_arg3) = m ((c.tc : Thread Cert.Layer5.nD Cert.Layer5.τ).loc Cert.Layer5.main_arg3)
      ∧ r.2.mem ((c.tc : Thread Cert.Layer5.nD Cert.Layer5.τ).loc Cert.Layer5.main_arg4) = m ((c.tc : Thread Cert.Layer5.nD Cert.Layer5.τ).loc Cert.Layer5.main_arg4))
      ∧ r.2.sem = fun _ => 0)

def quiescent_Layer5Ideal [hLayer5Ideal : Cert.Layer5Ideal.Facts] : Prop :=
  ∀ (m : (ℓ : Loc Cert.Layer5Ideal.nD Cert.Layer5Ideal.τ Cert.Layer5Ideal.sig) → Buf (Elt Ideal) ℓ) (g : Dev Cert.Layer5Ideal.nD → PrngReg), Pre_Layer5Ideal m →
    θ_run (Cert.Layer5Ideal.defs (F := Ideal)) (onTc (τ := Cert.Layer5Ideal.τ) (Cert.Layer5Ideal.main (F := Ideal))) ⟨m, fun _ => 0, g⟩ (fun r => (∀ c : Dev Cert.Layer5Ideal.nD,
      r.2.mem ((c.tc : Thread Cert.Layer5Ideal.nD Cert.Layer5Ideal.τ).loc Cert.Layer5Ideal.main_arg0) = m ((c.tc : Thread Cert.Layer5Ideal.nD Cert.Layer5Ideal.τ).loc Cert.Layer5Ideal.main_arg0)
      ∧ r.2.mem ((c.tc : Thread Cert.Layer5Ideal.nD Cert.Layer5Ideal.τ).loc Cert.Layer5Ideal.main_arg1) = m ((c.tc : Thread Cert.Layer5Ideal.nD Cert.Layer5Ideal.τ).loc Cert.Layer5Ideal.main_arg1)
      ∧ r.2.mem ((c.tc : Thread Cert.Layer5Ideal.nD Cert.Layer5Ideal.τ).loc Cert.Layer5Ideal.main_arg2) = m ((c.tc : Thread Cert.Layer5Ideal.nD Cert.Layer5Ideal.τ).loc Cert.Layer5Ideal.main_arg2)
      ∧ r.2.mem ((c.tc : Thread Cert.Layer5Ideal.nD Cert.Layer5Ideal.τ).loc Cert.Layer5Ideal.main_arg3) = m ((c.tc : Thread Cert.Layer5Ideal.nD Cert.Layer5Ideal.τ).loc Cert.Layer5Ideal.main_arg3)
      ∧ r.2.mem ((c.tc : Thread Cert.Layer5Ideal.nD Cert.Layer5Ideal.τ).loc Cert.Layer5Ideal.main_arg4) = m ((c.tc : Thread Cert.Layer5Ideal.nD Cert.Layer5Ideal.τ).loc Cert.Layer5Ideal.main_arg4))
      ∧ r.2.sem = fun _ => 0)

def quiescent_Layer5Ideal_pre_finite_feat [hLayer5Ideal : Cert.Layer5Ideal.Facts] [hPre_finite_feat : Cert.Pre_finite_feat.Facts] : Prop :=
  ∀ (m : (ℓ : Loc Cert.Layer5Ideal.nD Cert.Layer5Ideal.τ Cert.Layer5Ideal.sig) → Buf (Elt Ideal) ℓ) (g : Dev Cert.Layer5Ideal.nD → PrngReg), Pre_Layer5Ideal_finite_feat m →
    θ_run (Cert.Layer5Ideal.defs (F := Ideal)) (onTc (τ := Cert.Layer5Ideal.τ) (Cert.Layer5Ideal.main (F := Ideal))) ⟨m, fun _ => 0, g⟩ (fun r => (∀ c : Dev Cert.Layer5Ideal.nD,
      r.2.mem ((c.tc : Thread Cert.Layer5Ideal.nD Cert.Layer5Ideal.τ).loc Cert.Layer5Ideal.main_arg0) = m ((c.tc : Thread Cert.Layer5Ideal.nD Cert.Layer5Ideal.τ).loc Cert.Layer5Ideal.main_arg0)
      ∧ r.2.mem ((c.tc : Thread Cert.Layer5Ideal.nD Cert.Layer5Ideal.τ).loc Cert.Layer5Ideal.main_arg1) = m ((c.tc : Thread Cert.Layer5Ideal.nD Cert.Layer5Ideal.τ).loc Cert.Layer5Ideal.main_arg1)
      ∧ r.2.mem ((c.tc : Thread Cert.Layer5Ideal.nD Cert.Layer5Ideal.τ).loc Cert.Layer5Ideal.main_arg2) = m ((c.tc : Thread Cert.Layer5Ideal.nD Cert.Layer5Ideal.τ).loc Cert.Layer5Ideal.main_arg2)
      ∧ r.2.mem ((c.tc : Thread Cert.Layer5Ideal.nD Cert.Layer5Ideal.τ).loc Cert.Layer5Ideal.main_arg3) = m ((c.tc : Thread Cert.Layer5Ideal.nD Cert.Layer5Ideal.τ).loc Cert.Layer5Ideal.main_arg3)
      ∧ r.2.mem ((c.tc : Thread Cert.Layer5Ideal.nD Cert.Layer5Ideal.τ).loc Cert.Layer5Ideal.main_arg4) = m ((c.tc : Thread Cert.Layer5Ideal.nD Cert.Layer5Ideal.τ).loc Cert.Layer5Ideal.main_arg4))
      ∧ r.2.sem = fun _ => 0)

def quiescent_Plain5Ideal [hPlain5Ideal : Cert.Plain5Ideal.Facts] : Prop :=
  ∀ (m : (ℓ : Loc Cert.Plain5Ideal.nD Cert.Plain5Ideal.τ Cert.Plain5Ideal.sig) → Buf (Elt Ideal) ℓ) (g : Dev Cert.Plain5Ideal.nD → PrngReg), Pre_Plain5Ideal m →
    θ_run (Cert.Plain5Ideal.defs (F := Ideal)) (onTc (τ := Cert.Plain5Ideal.τ) (Cert.Plain5Ideal.main (F := Ideal))) ⟨m, fun _ => 0, g⟩ (fun r => (∀ c : Dev Cert.Plain5Ideal.nD,
      r.2.mem ((c.tc : Thread Cert.Plain5Ideal.nD Cert.Plain5Ideal.τ).loc Cert.Plain5Ideal.main_arg0) = m ((c.tc : Thread Cert.Plain5Ideal.nD Cert.Plain5Ideal.τ).loc Cert.Plain5Ideal.main_arg0)
      ∧ r.2.mem ((c.tc : Thread Cert.Plain5Ideal.nD Cert.Plain5Ideal.τ).loc Cert.Plain5Ideal.main_arg1) = m ((c.tc : Thread Cert.Plain5Ideal.nD Cert.Plain5Ideal.τ).loc Cert.Plain5Ideal.main_arg1)
      ∧ r.2.mem ((c.tc : Thread Cert.Plain5Ideal.nD Cert.Plain5Ideal.τ).loc Cert.Plain5Ideal.main_arg2) = m ((c.tc : Thread Cert.Plain5Ideal.nD Cert.Plain5Ideal.τ).loc Cert.Plain5Ideal.main_arg2)
      ∧ r.2.mem ((c.tc : Thread Cert.Plain5Ideal.nD Cert.Plain5Ideal.τ).loc Cert.Plain5Ideal.main_arg3) = m ((c.tc : Thread Cert.Plain5Ideal.nD Cert.Plain5Ideal.τ).loc Cert.Plain5Ideal.main_arg3)
      ∧ r.2.mem ((c.tc : Thread Cert.Plain5Ideal.nD Cert.Plain5Ideal.τ).loc Cert.Plain5Ideal.main_arg4) = m ((c.tc : Thread Cert.Plain5Ideal.nD Cert.Plain5Ideal.τ).loc Cert.Plain5Ideal.main_arg4))
      ∧ r.2.sem = fun _ => 0)

def quiescent_Plain5Ideal_pre_finite_feat [hPlain5Ideal : Cert.Plain5Ideal.Facts] [hPre_finite_feat : Cert.Pre_finite_feat.Facts] : Prop :=
  ∀ (m : (ℓ : Loc Cert.Plain5Ideal.nD Cert.Plain5Ideal.τ Cert.Plain5Ideal.sig) → Buf (Elt Ideal) ℓ) (g : Dev Cert.Plain5Ideal.nD → PrngReg), Pre_Plain5Ideal_finite_feat m →
    θ_run (Cert.Plain5Ideal.defs (F := Ideal)) (onTc (τ := Cert.Plain5Ideal.τ) (Cert.Plain5Ideal.main (F := Ideal))) ⟨m, fun _ => 0, g⟩ (fun r => (∀ c : Dev Cert.Plain5Ideal.nD,
      r.2.mem ((c.tc : Thread Cert.Plain5Ideal.nD Cert.Plain5Ideal.τ).loc Cert.Plain5Ideal.main_arg0) = m ((c.tc : Thread Cert.Plain5Ideal.nD Cert.Plain5Ideal.τ).loc Cert.Plain5Ideal.main_arg0)
      ∧ r.2.mem ((c.tc : Thread Cert.Plain5Ideal.nD Cert.Plain5Ideal.τ).loc Cert.Plain5Ideal.main_arg1) = m ((c.tc : Thread Cert.Plain5Ideal.nD Cert.Plain5Ideal.τ).loc Cert.Plain5Ideal.main_arg1)
      ∧ r.2.mem ((c.tc : Thread Cert.Plain5Ideal.nD Cert.Plain5Ideal.τ).loc Cert.Plain5Ideal.main_arg2) = m ((c.tc : Thread Cert.Plain5Ideal.nD Cert.Plain5Ideal.τ).loc Cert.Plain5Ideal.main_arg2)
      ∧ r.2.mem ((c.tc : Thread Cert.Plain5Ideal.nD Cert.Plain5Ideal.τ).loc Cert.Plain5Ideal.main_arg3) = m ((c.tc : Thread Cert.Plain5Ideal.nD Cert.Plain5Ideal.τ).loc Cert.Plain5Ideal.main_arg3)
      ∧ r.2.mem ((c.tc : Thread Cert.Plain5Ideal.nD Cert.Plain5Ideal.τ).loc Cert.Plain5Ideal.main_arg4) = m ((c.tc : Thread Cert.Plain5Ideal.nD Cert.Plain5Ideal.τ).loc Cert.Plain5Ideal.main_arg4))
      ∧ r.2.sem = fun _ => 0)

def quiescent_Layer6 [hLayer6 : Cert.Layer6.Facts] : Prop :=
  ∀ (m : (ℓ : Loc Cert.Layer6.nD Cert.Layer6.τ Cert.Layer6.sig) → Buf (Elt Bits) ℓ) (g : Dev Cert.Layer6.nD → PrngReg), Pre_Layer6 m →
    θ_run (Cert.Layer6.defs (F := Bits)) (onTc (τ := Cert.Layer6.τ) (Cert.Layer6.main (F := Bits))) ⟨m, fun _ => 0, g⟩ (fun r => (∀ c : Dev Cert.Layer6.nD,
      r.2.mem ((c.tc : Thread Cert.Layer6.nD Cert.Layer6.τ).loc Cert.Layer6.main_arg0) = m ((c.tc : Thread Cert.Layer6.nD Cert.Layer6.τ).loc Cert.Layer6.main_arg0)
      ∧ r.2.mem ((c.tc : Thread Cert.Layer6.nD Cert.Layer6.τ).loc Cert.Layer6.main_arg1) = m ((c.tc : Thread Cert.Layer6.nD Cert.Layer6.τ).loc Cert.Layer6.main_arg1)
      ∧ r.2.mem ((c.tc : Thread Cert.Layer6.nD Cert.Layer6.τ).loc Cert.Layer6.main_arg2) = m ((c.tc : Thread Cert.Layer6.nD Cert.Layer6.τ).loc Cert.Layer6.main_arg2)
      ∧ r.2.mem ((c.tc : Thread Cert.Layer6.nD Cert.Layer6.τ).loc Cert.Layer6.main_arg3) = m ((c.tc : Thread Cert.Layer6.nD Cert.Layer6.τ).loc Cert.Layer6.main_arg3)
      ∧ r.2.mem ((c.tc : Thread Cert.Layer6.nD Cert.Layer6.τ).loc Cert.Layer6.main_arg4) = m ((c.tc : Thread Cert.Layer6.nD Cert.Layer6.τ).loc Cert.Layer6.main_arg4))
      ∧ r.2.sem = fun _ => 0)

def quiescent_Layer6Ideal [hLayer6Ideal : Cert.Layer6Ideal.Facts] : Prop :=
  ∀ (m : (ℓ : Loc Cert.Layer6Ideal.nD Cert.Layer6Ideal.τ Cert.Layer6Ideal.sig) → Buf (Elt Ideal) ℓ) (g : Dev Cert.Layer6Ideal.nD → PrngReg), Pre_Layer6Ideal m →
    θ_run (Cert.Layer6Ideal.defs (F := Ideal)) (onTc (τ := Cert.Layer6Ideal.τ) (Cert.Layer6Ideal.main (F := Ideal))) ⟨m, fun _ => 0, g⟩ (fun r => (∀ c : Dev Cert.Layer6Ideal.nD,
      r.2.mem ((c.tc : Thread Cert.Layer6Ideal.nD Cert.Layer6Ideal.τ).loc Cert.Layer6Ideal.main_arg0) = m ((c.tc : Thread Cert.Layer6Ideal.nD Cert.Layer6Ideal.τ).loc Cert.Layer6Ideal.main_arg0)
      ∧ r.2.mem ((c.tc : Thread Cert.Layer6Ideal.nD Cert.Layer6Ideal.τ).loc Cert.Layer6Ideal.main_arg1) = m ((c.tc : Thread Cert.Layer6Ideal.nD Cert.Layer6Ideal.τ).loc Cert.Layer6Ideal.main_arg1)
      ∧ r.2.mem ((c.tc : Thread Cert.Layer6Ideal.nD Cert.Layer6Ideal.τ).loc Cert.Layer6Ideal.main_arg2) = m ((c.tc : Thread Cert.Layer6Ideal.nD Cert.Layer6Ideal.τ).loc Cert.Layer6Ideal.main_arg2)
      ∧ r.2.mem ((c.tc : Thread Cert.Layer6Ideal.nD Cert.Layer6Ideal.τ).loc Cert.Layer6Ideal.main_arg3) = m ((c.tc : Thread Cert.Layer6Ideal.nD Cert.Layer6Ideal.τ).loc Cert.Layer6Ideal.main_arg3)
      ∧ r.2.mem ((c.tc : Thread Cert.Layer6Ideal.nD Cert.Layer6Ideal.τ).loc Cert.Layer6Ideal.main_arg4) = m ((c.tc : Thread Cert.Layer6Ideal.nD Cert.Layer6Ideal.τ).loc Cert.Layer6Ideal.main_arg4))
      ∧ r.2.sem = fun _ => 0)

def quiescent_Layer6Ideal_pre_finite_feat [hLayer6Ideal : Cert.Layer6Ideal.Facts] [hPre_finite_feat : Cert.Pre_finite_feat.Facts] : Prop :=
  ∀ (m : (ℓ : Loc Cert.Layer6Ideal.nD Cert.Layer6Ideal.τ Cert.Layer6Ideal.sig) → Buf (Elt Ideal) ℓ) (g : Dev Cert.Layer6Ideal.nD → PrngReg), Pre_Layer6Ideal_finite_feat m →
    θ_run (Cert.Layer6Ideal.defs (F := Ideal)) (onTc (τ := Cert.Layer6Ideal.τ) (Cert.Layer6Ideal.main (F := Ideal))) ⟨m, fun _ => 0, g⟩ (fun r => (∀ c : Dev Cert.Layer6Ideal.nD,
      r.2.mem ((c.tc : Thread Cert.Layer6Ideal.nD Cert.Layer6Ideal.τ).loc Cert.Layer6Ideal.main_arg0) = m ((c.tc : Thread Cert.Layer6Ideal.nD Cert.Layer6Ideal.τ).loc Cert.Layer6Ideal.main_arg0)
      ∧ r.2.mem ((c.tc : Thread Cert.Layer6Ideal.nD Cert.Layer6Ideal.τ).loc Cert.Layer6Ideal.main_arg1) = m ((c.tc : Thread Cert.Layer6Ideal.nD Cert.Layer6Ideal.τ).loc Cert.Layer6Ideal.main_arg1)
      ∧ r.2.mem ((c.tc : Thread Cert.Layer6Ideal.nD Cert.Layer6Ideal.τ).loc Cert.Layer6Ideal.main_arg2) = m ((c.tc : Thread Cert.Layer6Ideal.nD Cert.Layer6Ideal.τ).loc Cert.Layer6Ideal.main_arg2)
      ∧ r.2.mem ((c.tc : Thread Cert.Layer6Ideal.nD Cert.Layer6Ideal.τ).loc Cert.Layer6Ideal.main_arg3) = m ((c.tc : Thread Cert.Layer6Ideal.nD Cert.Layer6Ideal.τ).loc Cert.Layer6Ideal.main_arg3)
      ∧ r.2.mem ((c.tc : Thread Cert.Layer6Ideal.nD Cert.Layer6Ideal.τ).loc Cert.Layer6Ideal.main_arg4) = m ((c.tc : Thread Cert.Layer6Ideal.nD Cert.Layer6Ideal.τ).loc Cert.Layer6Ideal.main_arg4))
      ∧ r.2.sem = fun _ => 0)

def quiescent_Plain6Ideal [hPlain6Ideal : Cert.Plain6Ideal.Facts] : Prop :=
  ∀ (m : (ℓ : Loc Cert.Plain6Ideal.nD Cert.Plain6Ideal.τ Cert.Plain6Ideal.sig) → Buf (Elt Ideal) ℓ) (g : Dev Cert.Plain6Ideal.nD → PrngReg), Pre_Plain6Ideal m →
    θ_run (Cert.Plain6Ideal.defs (F := Ideal)) (onTc (τ := Cert.Plain6Ideal.τ) (Cert.Plain6Ideal.main (F := Ideal))) ⟨m, fun _ => 0, g⟩ (fun r => (∀ c : Dev Cert.Plain6Ideal.nD,
      r.2.mem ((c.tc : Thread Cert.Plain6Ideal.nD Cert.Plain6Ideal.τ).loc Cert.Plain6Ideal.main_arg0) = m ((c.tc : Thread Cert.Plain6Ideal.nD Cert.Plain6Ideal.τ).loc Cert.Plain6Ideal.main_arg0)
      ∧ r.2.mem ((c.tc : Thread Cert.Plain6Ideal.nD Cert.Plain6Ideal.τ).loc Cert.Plain6Ideal.main_arg1) = m ((c.tc : Thread Cert.Plain6Ideal.nD Cert.Plain6Ideal.τ).loc Cert.Plain6Ideal.main_arg1)
      ∧ r.2.mem ((c.tc : Thread Cert.Plain6Ideal.nD Cert.Plain6Ideal.τ).loc Cert.Plain6Ideal.main_arg2) = m ((c.tc : Thread Cert.Plain6Ideal.nD Cert.Plain6Ideal.τ).loc Cert.Plain6Ideal.main_arg2)
      ∧ r.2.mem ((c.tc : Thread Cert.Plain6Ideal.nD Cert.Plain6Ideal.τ).loc Cert.Plain6Ideal.main_arg3) = m ((c.tc : Thread Cert.Plain6Ideal.nD Cert.Plain6Ideal.τ).loc Cert.Plain6Ideal.main_arg3)
      ∧ r.2.mem ((c.tc : Thread Cert.Plain6Ideal.nD Cert.Plain6Ideal.τ).loc Cert.Plain6Ideal.main_arg4) = m ((c.tc : Thread Cert.Plain6Ideal.nD Cert.Plain6Ideal.τ).loc Cert.Plain6Ideal.main_arg4))
      ∧ r.2.sem = fun _ => 0)

def quiescent_Plain6Ideal_pre_finite_feat [hPlain6Ideal : Cert.Plain6Ideal.Facts] [hPre_finite_feat : Cert.Pre_finite_feat.Facts] : Prop :=
  ∀ (m : (ℓ : Loc Cert.Plain6Ideal.nD Cert.Plain6Ideal.τ Cert.Plain6Ideal.sig) → Buf (Elt Ideal) ℓ) (g : Dev Cert.Plain6Ideal.nD → PrngReg), Pre_Plain6Ideal_finite_feat m →
    θ_run (Cert.Plain6Ideal.defs (F := Ideal)) (onTc (τ := Cert.Plain6Ideal.τ) (Cert.Plain6Ideal.main (F := Ideal))) ⟨m, fun _ => 0, g⟩ (fun r => (∀ c : Dev Cert.Plain6Ideal.nD,
      r.2.mem ((c.tc : Thread Cert.Plain6Ideal.nD Cert.Plain6Ideal.τ).loc Cert.Plain6Ideal.main_arg0) = m ((c.tc : Thread Cert.Plain6Ideal.nD Cert.Plain6Ideal.τ).loc Cert.Plain6Ideal.main_arg0)
      ∧ r.2.mem ((c.tc : Thread Cert.Plain6Ideal.nD Cert.Plain6Ideal.τ).loc Cert.Plain6Ideal.main_arg1) = m ((c.tc : Thread Cert.Plain6Ideal.nD Cert.Plain6Ideal.τ).loc Cert.Plain6Ideal.main_arg1)
      ∧ r.2.mem ((c.tc : Thread Cert.Plain6Ideal.nD Cert.Plain6Ideal.τ).loc Cert.Plain6Ideal.main_arg2) = m ((c.tc : Thread Cert.Plain6Ideal.nD Cert.Plain6Ideal.τ).loc Cert.Plain6Ideal.main_arg2)
      ∧ r.2.mem ((c.tc : Thread Cert.Plain6Ideal.nD Cert.Plain6Ideal.τ).loc Cert.Plain6Ideal.main_arg3) = m ((c.tc : Thread Cert.Plain6Ideal.nD Cert.Plain6Ideal.τ).loc Cert.Plain6Ideal.main_arg3)
      ∧ r.2.mem ((c.tc : Thread Cert.Plain6Ideal.nD Cert.Plain6Ideal.τ).loc Cert.Plain6Ideal.main_arg4) = m ((c.tc : Thread Cert.Plain6Ideal.nD Cert.Plain6Ideal.τ).loc Cert.Plain6Ideal.main_arg4))
      ∧ r.2.sem = fun _ => 0)

def preserves_Layer0_Layer0Ideal : Prop :=
  IdealRules.named_const.Statement Cert.Layer0Ideal.κ "taken" .f32 0x7F61B1E6#32 ⊤

def algebraic_Layer0Ideal_Plain0Ideal_pre_finite [hLayer0Ideal : Cert.Layer0Ideal.Facts] [hPlain0Ideal : Cert.Plain0Ideal.Facts] [hPre_finite : Cert.Pre_finite.Facts] : Prop :=
  ∀ (m : (ℓ : Loc Cert.Layer0Ideal.nD Cert.Layer0Ideal.τ Cert.Layer0Ideal.sig) → Buf (Elt Ideal) ℓ) (g : Dev Cert.Layer0Ideal.nD → PrngReg)
    (m' : (ℓ : Loc Cert.Plain0Ideal.nD Cert.Plain0Ideal.τ Cert.Plain0Ideal.sig) → Buf (Elt Ideal) ℓ) (g' : Dev Cert.Plain0Ideal.nD → PrngReg), Pre_Layer0Ideal_finite m →
    (∀ c : Dev Cert.Layer0Ideal.nD,
      m' ((c.tc : Thread Cert.Plain0Ideal.nD Cert.Plain0Ideal.τ).loc Cert.Plain0Ideal.main_arg0) = m ((c.tc : Thread Cert.Layer0Ideal.nD Cert.Layer0Ideal.τ).loc Cert.Layer0Ideal.main_arg0)
      ∧ m' ((c.tc : Thread Cert.Plain0Ideal.nD Cert.Plain0Ideal.τ).loc Cert.Plain0Ideal.main_arg1) = m ((c.tc : Thread Cert.Layer0Ideal.nD Cert.Layer0Ideal.τ).loc Cert.Layer0Ideal.main_arg1)
      ∧ m' ((c.tc : Thread Cert.Plain0Ideal.nD Cert.Plain0Ideal.τ).loc Cert.Plain0Ideal.main_arg2) = m ((c.tc : Thread Cert.Layer0Ideal.nD Cert.Layer0Ideal.τ).loc Cert.Layer0Ideal.main_arg2)
      ∧ m' ((c.tc : Thread Cert.Plain0Ideal.nD Cert.Plain0Ideal.τ).loc Cert.Plain0Ideal.main_arg3) = m ((c.tc : Thread Cert.Layer0Ideal.nD Cert.Layer0Ideal.τ).loc Cert.Layer0Ideal.main_arg3)
      ∧ m' ((c.tc : Thread Cert.Plain0Ideal.nD Cert.Plain0Ideal.τ).loc Cert.Plain0Ideal.main_arg4) = m ((c.tc : Thread Cert.Layer0Ideal.nD Cert.Layer0Ideal.τ).loc Cert.Layer0Ideal.main_arg4)) →
    ∃ (v0 : (c : Dev Cert.Layer0Ideal.nD) → Buf (Elt Ideal) ((c.tc : Thread Cert.Layer0Ideal.nD Cert.Layer0Ideal.τ).loc Cert.Layer0Ideal.main_v52)) (v1 : (c : Dev Cert.Layer0Ideal.nD) → Buf (Elt Ideal) ((c.tc : Thread Cert.Layer0Ideal.nD Cert.Layer0Ideal.τ).loc Cert.Layer0Ideal.main_v5)),
      θ_run (Cert.Layer0Ideal.defs (F := Ideal)) (onTc (τ := Cert.Layer0Ideal.τ) (Cert.Layer0Ideal.main (F := Ideal))) ⟨m, fun _ => 0, g⟩ (fun r => ∀ c : Dev Cert.Layer0Ideal.nD,
          r.2.mem ((c.tc : Thread Cert.Layer0Ideal.nD Cert.Layer0Ideal.τ).loc Cert.Layer0Ideal.main_v52) = v0 c
          ∧ r.2.mem ((c.tc : Thread Cert.Layer0Ideal.nD Cert.Layer0Ideal.τ).loc Cert.Layer0Ideal.main_v5) = v1 c
          ∧ r.2.mem ((c.tc : Thread Cert.Layer0Ideal.nD Cert.Layer0Ideal.τ).loc Cert.Layer0Ideal.main_arg0) = m ((c.tc : Thread Cert.Layer0Ideal.nD Cert.Layer0Ideal.τ).loc Cert.Layer0Ideal.main_arg0)
          ∧ r.2.mem ((c.tc : Thread Cert.Layer0Ideal.nD Cert.Layer0Ideal.τ).loc Cert.Layer0Ideal.main_arg1) = m ((c.tc : Thread Cert.Layer0Ideal.nD Cert.Layer0Ideal.τ).loc Cert.Layer0Ideal.main_arg1)
          ∧ r.2.mem ((c.tc : Thread Cert.Layer0Ideal.nD Cert.Layer0Ideal.τ).loc Cert.Layer0Ideal.main_arg2) = m ((c.tc : Thread Cert.Layer0Ideal.nD Cert.Layer0Ideal.τ).loc Cert.Layer0Ideal.main_arg2)
          ∧ r.2.mem ((c.tc : Thread Cert.Layer0Ideal.nD Cert.Layer0Ideal.τ).loc Cert.Layer0Ideal.main_arg3) = m ((c.tc : Thread Cert.Layer0Ideal.nD Cert.Layer0Ideal.τ).loc Cert.Layer0Ideal.main_arg3)
          ∧ r.2.mem ((c.tc : Thread Cert.Layer0Ideal.nD Cert.Layer0Ideal.τ).loc Cert.Layer0Ideal.main_arg4) = m ((c.tc : Thread Cert.Layer0Ideal.nD Cert.Layer0Ideal.τ).loc Cert.Layer0Ideal.main_arg4))
      ∧ θ_run (Cert.Plain0Ideal.defs (F := Ideal)) (onTc (τ := Cert.Plain0Ideal.τ) (Cert.Plain0Ideal.main (F := Ideal))) ⟨m', fun _ => 0, g'⟩ (fun r => ∀ c : Dev Cert.Plain0Ideal.nD,
          r.2.mem ((c.tc : Thread Cert.Plain0Ideal.nD Cert.Plain0Ideal.τ).loc Cert.Plain0Ideal.main_v69) = v0 c
          ∧ r.2.mem ((c.tc : Thread Cert.Plain0Ideal.nD Cert.Plain0Ideal.τ).loc Cert.Plain0Ideal.main_v71) = v1 c
          ∧ r.2.mem ((c.tc : Thread Cert.Plain0Ideal.nD Cert.Plain0Ideal.τ).loc Cert.Plain0Ideal.main_arg0) = m' ((c.tc : Thread Cert.Plain0Ideal.nD Cert.Plain0Ideal.τ).loc Cert.Plain0Ideal.main_arg0)
          ∧ r.2.mem ((c.tc : Thread Cert.Plain0Ideal.nD Cert.Plain0Ideal.τ).loc Cert.Plain0Ideal.main_arg1) = m' ((c.tc : Thread Cert.Plain0Ideal.nD Cert.Plain0Ideal.τ).loc Cert.Plain0Ideal.main_arg1)
          ∧ r.2.mem ((c.tc : Thread Cert.Plain0Ideal.nD Cert.Plain0Ideal.τ).loc Cert.Plain0Ideal.main_arg2) = m' ((c.tc : Thread Cert.Plain0Ideal.nD Cert.Plain0Ideal.τ).loc Cert.Plain0Ideal.main_arg2)
          ∧ r.2.mem ((c.tc : Thread Cert.Plain0Ideal.nD Cert.Plain0Ideal.τ).loc Cert.Plain0Ideal.main_arg3) = m' ((c.tc : Thread Cert.Plain0Ideal.nD Cert.Plain0Ideal.τ).loc Cert.Plain0Ideal.main_arg3)
          ∧ r.2.mem ((c.tc : Thread Cert.Plain0Ideal.nD Cert.Plain0Ideal.τ).loc Cert.Plain0Ideal.main_arg4) = m' ((c.tc : Thread Cert.Plain0Ideal.nD Cert.Plain0Ideal.τ).loc Cert.Plain0Ideal.main_arg4))

def preserves_Layer1_Layer1Ideal : Prop :=
  IdealRules.named_const.Statement Cert.Layer1Ideal.κ "taken" .f32 0x7F61B1E6#32 ⊤

def algebraic_Layer1Ideal_Plain1Ideal_pre_finite_feat [hLayer1Ideal : Cert.Layer1Ideal.Facts] [hPlain1Ideal : Cert.Plain1Ideal.Facts] [hPre_finite_feat : Cert.Pre_finite_feat.Facts] : Prop :=
  ∀ (m : (ℓ : Loc Cert.Layer1Ideal.nD Cert.Layer1Ideal.τ Cert.Layer1Ideal.sig) → Buf (Elt Ideal) ℓ) (g : Dev Cert.Layer1Ideal.nD → PrngReg)
    (m' : (ℓ : Loc Cert.Plain1Ideal.nD Cert.Plain1Ideal.τ Cert.Plain1Ideal.sig) → Buf (Elt Ideal) ℓ) (g' : Dev Cert.Plain1Ideal.nD → PrngReg), Pre_Layer1Ideal_finite_feat m →
    (∀ c : Dev Cert.Layer1Ideal.nD,
      m' ((c.tc : Thread Cert.Plain1Ideal.nD Cert.Plain1Ideal.τ).loc Cert.Plain1Ideal.main_arg0) = m ((c.tc : Thread Cert.Layer1Ideal.nD Cert.Layer1Ideal.τ).loc Cert.Layer1Ideal.main_arg0)
      ∧ m' ((c.tc : Thread Cert.Plain1Ideal.nD Cert.Plain1Ideal.τ).loc Cert.Plain1Ideal.main_arg1) = m ((c.tc : Thread Cert.Layer1Ideal.nD Cert.Layer1Ideal.τ).loc Cert.Layer1Ideal.main_arg1)
      ∧ m' ((c.tc : Thread Cert.Plain1Ideal.nD Cert.Plain1Ideal.τ).loc Cert.Plain1Ideal.main_arg2) = m ((c.tc : Thread Cert.Layer1Ideal.nD Cert.Layer1Ideal.τ).loc Cert.Layer1Ideal.main_arg2)
      ∧ m' ((c.tc : Thread Cert.Plain1Ideal.nD Cert.Plain1Ideal.τ).loc Cert.Plain1Ideal.main_arg3) = m ((c.tc : Thread Cert.Layer1Ideal.nD Cert.Layer1Ideal.τ).loc Cert.Layer1Ideal.main_arg3)
      ∧ m' ((c.tc : Thread Cert.Plain1Ideal.nD Cert.Plain1Ideal.τ).loc Cert.Plain1Ideal.main_arg4) = m ((c.tc : Thread Cert.Layer1Ideal.nD Cert.Layer1Ideal.τ).loc Cert.Layer1Ideal.main_arg4)) →
    ∃ (v0 : (c : Dev Cert.Layer1Ideal.nD) → Buf (Elt Ideal) ((c.tc : Thread Cert.Layer1Ideal.nD Cert.Layer1Ideal.τ).loc Cert.Layer1Ideal.main_v50)) (v1 : (c : Dev Cert.Layer1Ideal.nD) → Buf (Elt Ideal) ((c.tc : Thread Cert.Layer1Ideal.nD Cert.Layer1Ideal.τ).loc Cert.Layer1Ideal.main_v2)),
      θ_run (Cert.Layer1Ideal.defs (F := Ideal)) (onTc (τ := Cert.Layer1Ideal.τ) (Cert.Layer1Ideal.main (F := Ideal))) ⟨m, fun _ => 0, g⟩ (fun r => ∀ c : Dev Cert.Layer1Ideal.nD,
          r.2.mem ((c.tc : Thread Cert.Layer1Ideal.nD Cert.Layer1Ideal.τ).loc Cert.Layer1Ideal.main_v50) = v0 c
          ∧ r.2.mem ((c.tc : Thread Cert.Layer1Ideal.nD Cert.Layer1Ideal.τ).loc Cert.Layer1Ideal.main_v2) = v1 c
          ∧ r.2.mem ((c.tc : Thread Cert.Layer1Ideal.nD Cert.Layer1Ideal.τ).loc Cert.Layer1Ideal.main_arg0) = m ((c.tc : Thread Cert.Layer1Ideal.nD Cert.Layer1Ideal.τ).loc Cert.Layer1Ideal.main_arg0)
          ∧ r.2.mem ((c.tc : Thread Cert.Layer1Ideal.nD Cert.Layer1Ideal.τ).loc Cert.Layer1Ideal.main_arg1) = m ((c.tc : Thread Cert.Layer1Ideal.nD Cert.Layer1Ideal.τ).loc Cert.Layer1Ideal.main_arg1)
          ∧ r.2.mem ((c.tc : Thread Cert.Layer1Ideal.nD Cert.Layer1Ideal.τ).loc Cert.Layer1Ideal.main_arg2) = m ((c.tc : Thread Cert.Layer1Ideal.nD Cert.Layer1Ideal.τ).loc Cert.Layer1Ideal.main_arg2)
          ∧ r.2.mem ((c.tc : Thread Cert.Layer1Ideal.nD Cert.Layer1Ideal.τ).loc Cert.Layer1Ideal.main_arg3) = m ((c.tc : Thread Cert.Layer1Ideal.nD Cert.Layer1Ideal.τ).loc Cert.Layer1Ideal.main_arg3)
          ∧ r.2.mem ((c.tc : Thread Cert.Layer1Ideal.nD Cert.Layer1Ideal.τ).loc Cert.Layer1Ideal.main_arg4) = m ((c.tc : Thread Cert.Layer1Ideal.nD Cert.Layer1Ideal.τ).loc Cert.Layer1Ideal.main_arg4))
      ∧ θ_run (Cert.Plain1Ideal.defs (F := Ideal)) (onTc (τ := Cert.Plain1Ideal.τ) (Cert.Plain1Ideal.main (F := Ideal))) ⟨m', fun _ => 0, g'⟩ (fun r => ∀ c : Dev Cert.Plain1Ideal.nD,
          r.2.mem ((c.tc : Thread Cert.Plain1Ideal.nD Cert.Plain1Ideal.τ).loc Cert.Plain1Ideal.main_v69) = v0 c
          ∧ r.2.mem ((c.tc : Thread Cert.Plain1Ideal.nD Cert.Plain1Ideal.τ).loc Cert.Plain1Ideal.main_v71) = v1 c
          ∧ r.2.mem ((c.tc : Thread Cert.Plain1Ideal.nD Cert.Plain1Ideal.τ).loc Cert.Plain1Ideal.main_arg0) = m' ((c.tc : Thread Cert.Plain1Ideal.nD Cert.Plain1Ideal.τ).loc Cert.Plain1Ideal.main_arg0)
          ∧ r.2.mem ((c.tc : Thread Cert.Plain1Ideal.nD Cert.Plain1Ideal.τ).loc Cert.Plain1Ideal.main_arg1) = m' ((c.tc : Thread Cert.Plain1Ideal.nD Cert.Plain1Ideal.τ).loc Cert.Plain1Ideal.main_arg1)
          ∧ r.2.mem ((c.tc : Thread Cert.Plain1Ideal.nD Cert.Plain1Ideal.τ).loc Cert.Plain1Ideal.main_arg2) = m' ((c.tc : Thread Cert.Plain1Ideal.nD Cert.Plain1Ideal.τ).loc Cert.Plain1Ideal.main_arg2)
          ∧ r.2.mem ((c.tc : Thread Cert.Plain1Ideal.nD Cert.Plain1Ideal.τ).loc Cert.Plain1Ideal.main_arg3) = m' ((c.tc : Thread Cert.Plain1Ideal.nD Cert.Plain1Ideal.τ).loc Cert.Plain1Ideal.main_arg3)
          ∧ r.2.mem ((c.tc : Thread Cert.Plain1Ideal.nD Cert.Plain1Ideal.τ).loc Cert.Plain1Ideal.main_arg4) = m' ((c.tc : Thread Cert.Plain1Ideal.nD Cert.Plain1Ideal.τ).loc Cert.Plain1Ideal.main_arg4))

def preserves_Layer2_Layer2Ideal : Prop :=
  IdealRules.named_const.Statement Cert.Layer2Ideal.κ "taken" .f32 0x7F61B1E6#32 ⊤

def algebraic_Layer2Ideal_Plain2Ideal_pre_finite_feat [hLayer2Ideal : Cert.Layer2Ideal.Facts] [hPlain2Ideal : Cert.Plain2Ideal.Facts] [hPre_finite_feat : Cert.Pre_finite_feat.Facts] : Prop :=
  ∀ (m : (ℓ : Loc Cert.Layer2Ideal.nD Cert.Layer2Ideal.τ Cert.Layer2Ideal.sig) → Buf (Elt Ideal) ℓ) (g : Dev Cert.Layer2Ideal.nD → PrngReg)
    (m' : (ℓ : Loc Cert.Plain2Ideal.nD Cert.Plain2Ideal.τ Cert.Plain2Ideal.sig) → Buf (Elt Ideal) ℓ) (g' : Dev Cert.Plain2Ideal.nD → PrngReg), Pre_Layer2Ideal_finite_feat m →
    (∀ c : Dev Cert.Layer2Ideal.nD,
      m' ((c.tc : Thread Cert.Plain2Ideal.nD Cert.Plain2Ideal.τ).loc Cert.Plain2Ideal.main_arg0) = m ((c.tc : Thread Cert.Layer2Ideal.nD Cert.Layer2Ideal.τ).loc Cert.Layer2Ideal.main_arg0)
      ∧ m' ((c.tc : Thread Cert.Plain2Ideal.nD Cert.Plain2Ideal.τ).loc Cert.Plain2Ideal.main_arg1) = m ((c.tc : Thread Cert.Layer2Ideal.nD Cert.Layer2Ideal.τ).loc Cert.Layer2Ideal.main_arg1)
      ∧ m' ((c.tc : Thread Cert.Plain2Ideal.nD Cert.Plain2Ideal.τ).loc Cert.Plain2Ideal.main_arg2) = m ((c.tc : Thread Cert.Layer2Ideal.nD Cert.Layer2Ideal.τ).loc Cert.Layer2Ideal.main_arg2)
      ∧ m' ((c.tc : Thread Cert.Plain2Ideal.nD Cert.Plain2Ideal.τ).loc Cert.Plain2Ideal.main_arg3) = m ((c.tc : Thread Cert.Layer2Ideal.nD Cert.Layer2Ideal.τ).loc Cert.Layer2Ideal.main_arg3)
      ∧ m' ((c.tc : Thread Cert.Plain2Ideal.nD Cert.Plain2Ideal.τ).loc Cert.Plain2Ideal.main_arg4) = m ((c.tc : Thread Cert.Layer2Ideal.nD Cert.Layer2Ideal.τ).loc Cert.Layer2Ideal.main_arg4)) →
    ∃ (v0 : (c : Dev Cert.Layer2Ideal.nD) → Buf (Elt Ideal) ((c.tc : Thread Cert.Layer2Ideal.nD Cert.Layer2Ideal.τ).loc Cert.Layer2Ideal.main_v50)) (v1 : (c : Dev Cert.Layer2Ideal.nD) → Buf (Elt Ideal) ((c.tc : Thread Cert.Layer2Ideal.nD Cert.Layer2Ideal.τ).loc Cert.Layer2Ideal.main_v2)),
      θ_run (Cert.Layer2Ideal.defs (F := Ideal)) (onTc (τ := Cert.Layer2Ideal.τ) (Cert.Layer2Ideal.main (F := Ideal))) ⟨m, fun _ => 0, g⟩ (fun r => ∀ c : Dev Cert.Layer2Ideal.nD,
          r.2.mem ((c.tc : Thread Cert.Layer2Ideal.nD Cert.Layer2Ideal.τ).loc Cert.Layer2Ideal.main_v50) = v0 c
          ∧ r.2.mem ((c.tc : Thread Cert.Layer2Ideal.nD Cert.Layer2Ideal.τ).loc Cert.Layer2Ideal.main_v2) = v1 c
          ∧ r.2.mem ((c.tc : Thread Cert.Layer2Ideal.nD Cert.Layer2Ideal.τ).loc Cert.Layer2Ideal.main_arg0) = m ((c.tc : Thread Cert.Layer2Ideal.nD Cert.Layer2Ideal.τ).loc Cert.Layer2Ideal.main_arg0)
          ∧ r.2.mem ((c.tc : Thread Cert.Layer2Ideal.nD Cert.Layer2Ideal.τ).loc Cert.Layer2Ideal.main_arg1) = m ((c.tc : Thread Cert.Layer2Ideal.nD Cert.Layer2Ideal.τ).loc Cert.Layer2Ideal.main_arg1)
          ∧ r.2.mem ((c.tc : Thread Cert.Layer2Ideal.nD Cert.Layer2Ideal.τ).loc Cert.Layer2Ideal.main_arg2) = m ((c.tc : Thread Cert.Layer2Ideal.nD Cert.Layer2Ideal.τ).loc Cert.Layer2Ideal.main_arg2)
          ∧ r.2.mem ((c.tc : Thread Cert.Layer2Ideal.nD Cert.Layer2Ideal.τ).loc Cert.Layer2Ideal.main_arg3) = m ((c.tc : Thread Cert.Layer2Ideal.nD Cert.Layer2Ideal.τ).loc Cert.Layer2Ideal.main_arg3)
          ∧ r.2.mem ((c.tc : Thread Cert.Layer2Ideal.nD Cert.Layer2Ideal.τ).loc Cert.Layer2Ideal.main_arg4) = m ((c.tc : Thread Cert.Layer2Ideal.nD Cert.Layer2Ideal.τ).loc Cert.Layer2Ideal.main_arg4))
      ∧ θ_run (Cert.Plain2Ideal.defs (F := Ideal)) (onTc (τ := Cert.Plain2Ideal.τ) (Cert.Plain2Ideal.main (F := Ideal))) ⟨m', fun _ => 0, g'⟩ (fun r => ∀ c : Dev Cert.Plain2Ideal.nD,
          r.2.mem ((c.tc : Thread Cert.Plain2Ideal.nD Cert.Plain2Ideal.τ).loc Cert.Plain2Ideal.main_v70) = v0 c
          ∧ r.2.mem ((c.tc : Thread Cert.Plain2Ideal.nD Cert.Plain2Ideal.τ).loc Cert.Plain2Ideal.main_v72) = v1 c
          ∧ r.2.mem ((c.tc : Thread Cert.Plain2Ideal.nD Cert.Plain2Ideal.τ).loc Cert.Plain2Ideal.main_arg0) = m' ((c.tc : Thread Cert.Plain2Ideal.nD Cert.Plain2Ideal.τ).loc Cert.Plain2Ideal.main_arg0)
          ∧ r.2.mem ((c.tc : Thread Cert.Plain2Ideal.nD Cert.Plain2Ideal.τ).loc Cert.Plain2Ideal.main_arg1) = m' ((c.tc : Thread Cert.Plain2Ideal.nD Cert.Plain2Ideal.τ).loc Cert.Plain2Ideal.main_arg1)
          ∧ r.2.mem ((c.tc : Thread Cert.Plain2Ideal.nD Cert.Plain2Ideal.τ).loc Cert.Plain2Ideal.main_arg2) = m' ((c.tc : Thread Cert.Plain2Ideal.nD Cert.Plain2Ideal.τ).loc Cert.Plain2Ideal.main_arg2)
          ∧ r.2.mem ((c.tc : Thread Cert.Plain2Ideal.nD Cert.Plain2Ideal.τ).loc Cert.Plain2Ideal.main_arg3) = m' ((c.tc : Thread Cert.Plain2Ideal.nD Cert.Plain2Ideal.τ).loc Cert.Plain2Ideal.main_arg3)
          ∧ r.2.mem ((c.tc : Thread Cert.Plain2Ideal.nD Cert.Plain2Ideal.τ).loc Cert.Plain2Ideal.main_arg4) = m' ((c.tc : Thread Cert.Plain2Ideal.nD Cert.Plain2Ideal.τ).loc Cert.Plain2Ideal.main_arg4))

def preserves_Layer3_Layer3Ideal : Prop :=
  IdealRules.named_const.Statement Cert.Layer3Ideal.κ "taken" .f32 0x7F61B1E6#32 ⊤

def algebraic_Layer3Ideal_Plain3Ideal_pre_finite_feat [hLayer3Ideal : Cert.Layer3Ideal.Facts] [hPlain3Ideal : Cert.Plain3Ideal.Facts] [hPre_finite_feat : Cert.Pre_finite_feat.Facts] : Prop :=
  ∀ (m : (ℓ : Loc Cert.Layer3Ideal.nD Cert.Layer3Ideal.τ Cert.Layer3Ideal.sig) → Buf (Elt Ideal) ℓ) (g : Dev Cert.Layer3Ideal.nD → PrngReg)
    (m' : (ℓ : Loc Cert.Plain3Ideal.nD Cert.Plain3Ideal.τ Cert.Plain3Ideal.sig) → Buf (Elt Ideal) ℓ) (g' : Dev Cert.Plain3Ideal.nD → PrngReg), Pre_Layer3Ideal_finite_feat m →
    (∀ c : Dev Cert.Layer3Ideal.nD,
      m' ((c.tc : Thread Cert.Plain3Ideal.nD Cert.Plain3Ideal.τ).loc Cert.Plain3Ideal.main_arg0) = m ((c.tc : Thread Cert.Layer3Ideal.nD Cert.Layer3Ideal.τ).loc Cert.Layer3Ideal.main_arg0)
      ∧ m' ((c.tc : Thread Cert.Plain3Ideal.nD Cert.Plain3Ideal.τ).loc Cert.Plain3Ideal.main_arg1) = m ((c.tc : Thread Cert.Layer3Ideal.nD Cert.Layer3Ideal.τ).loc Cert.Layer3Ideal.main_arg1)
      ∧ m' ((c.tc : Thread Cert.Plain3Ideal.nD Cert.Plain3Ideal.τ).loc Cert.Plain3Ideal.main_arg2) = m ((c.tc : Thread Cert.Layer3Ideal.nD Cert.Layer3Ideal.τ).loc Cert.Layer3Ideal.main_arg2)
      ∧ m' ((c.tc : Thread Cert.Plain3Ideal.nD Cert.Plain3Ideal.τ).loc Cert.Plain3Ideal.main_arg3) = m ((c.tc : Thread Cert.Layer3Ideal.nD Cert.Layer3Ideal.τ).loc Cert.Layer3Ideal.main_arg3)
      ∧ m' ((c.tc : Thread Cert.Plain3Ideal.nD Cert.Plain3Ideal.τ).loc Cert.Plain3Ideal.main_arg4) = m ((c.tc : Thread Cert.Layer3Ideal.nD Cert.Layer3Ideal.τ).loc Cert.Layer3Ideal.main_arg4)) →
    ∃ (v0 : (c : Dev Cert.Layer3Ideal.nD) → Buf (Elt Ideal) ((c.tc : Thread Cert.Layer3Ideal.nD Cert.Layer3Ideal.τ).loc Cert.Layer3Ideal.main_v50)) (v1 : (c : Dev Cert.Layer3Ideal.nD) → Buf (Elt Ideal) ((c.tc : Thread Cert.Layer3Ideal.nD Cert.Layer3Ideal.τ).loc Cert.Layer3Ideal.main_v2)),
      θ_run (Cert.Layer3Ideal.defs (F := Ideal)) (onTc (τ := Cert.Layer3Ideal.τ) (Cert.Layer3Ideal.main (F := Ideal))) ⟨m, fun _ => 0, g⟩ (fun r => ∀ c : Dev Cert.Layer3Ideal.nD,
          r.2.mem ((c.tc : Thread Cert.Layer3Ideal.nD Cert.Layer3Ideal.τ).loc Cert.Layer3Ideal.main_v50) = v0 c
          ∧ r.2.mem ((c.tc : Thread Cert.Layer3Ideal.nD Cert.Layer3Ideal.τ).loc Cert.Layer3Ideal.main_v2) = v1 c
          ∧ r.2.mem ((c.tc : Thread Cert.Layer3Ideal.nD Cert.Layer3Ideal.τ).loc Cert.Layer3Ideal.main_arg0) = m ((c.tc : Thread Cert.Layer3Ideal.nD Cert.Layer3Ideal.τ).loc Cert.Layer3Ideal.main_arg0)
          ∧ r.2.mem ((c.tc : Thread Cert.Layer3Ideal.nD Cert.Layer3Ideal.τ).loc Cert.Layer3Ideal.main_arg1) = m ((c.tc : Thread Cert.Layer3Ideal.nD Cert.Layer3Ideal.τ).loc Cert.Layer3Ideal.main_arg1)
          ∧ r.2.mem ((c.tc : Thread Cert.Layer3Ideal.nD Cert.Layer3Ideal.τ).loc Cert.Layer3Ideal.main_arg2) = m ((c.tc : Thread Cert.Layer3Ideal.nD Cert.Layer3Ideal.τ).loc Cert.Layer3Ideal.main_arg2)
          ∧ r.2.mem ((c.tc : Thread Cert.Layer3Ideal.nD Cert.Layer3Ideal.τ).loc Cert.Layer3Ideal.main_arg3) = m ((c.tc : Thread Cert.Layer3Ideal.nD Cert.Layer3Ideal.τ).loc Cert.Layer3Ideal.main_arg3)
          ∧ r.2.mem ((c.tc : Thread Cert.Layer3Ideal.nD Cert.Layer3Ideal.τ).loc Cert.Layer3Ideal.main_arg4) = m ((c.tc : Thread Cert.Layer3Ideal.nD Cert.Layer3Ideal.τ).loc Cert.Layer3Ideal.main_arg4))
      ∧ θ_run (Cert.Plain3Ideal.defs (F := Ideal)) (onTc (τ := Cert.Plain3Ideal.τ) (Cert.Plain3Ideal.main (F := Ideal))) ⟨m', fun _ => 0, g'⟩ (fun r => ∀ c : Dev Cert.Plain3Ideal.nD,
          r.2.mem ((c.tc : Thread Cert.Plain3Ideal.nD Cert.Plain3Ideal.τ).loc Cert.Plain3Ideal.main_v70) = v0 c
          ∧ r.2.mem ((c.tc : Thread Cert.Plain3Ideal.nD Cert.Plain3Ideal.τ).loc Cert.Plain3Ideal.main_v72) = v1 c
          ∧ r.2.mem ((c.tc : Thread Cert.Plain3Ideal.nD Cert.Plain3Ideal.τ).loc Cert.Plain3Ideal.main_arg0) = m' ((c.tc : Thread Cert.Plain3Ideal.nD Cert.Plain3Ideal.τ).loc Cert.Plain3Ideal.main_arg0)
          ∧ r.2.mem ((c.tc : Thread Cert.Plain3Ideal.nD Cert.Plain3Ideal.τ).loc Cert.Plain3Ideal.main_arg1) = m' ((c.tc : Thread Cert.Plain3Ideal.nD Cert.Plain3Ideal.τ).loc Cert.Plain3Ideal.main_arg1)
          ∧ r.2.mem ((c.tc : Thread Cert.Plain3Ideal.nD Cert.Plain3Ideal.τ).loc Cert.Plain3Ideal.main_arg2) = m' ((c.tc : Thread Cert.Plain3Ideal.nD Cert.Plain3Ideal.τ).loc Cert.Plain3Ideal.main_arg2)
          ∧ r.2.mem ((c.tc : Thread Cert.Plain3Ideal.nD Cert.Plain3Ideal.τ).loc Cert.Plain3Ideal.main_arg3) = m' ((c.tc : Thread Cert.Plain3Ideal.nD Cert.Plain3Ideal.τ).loc Cert.Plain3Ideal.main_arg3)
          ∧ r.2.mem ((c.tc : Thread Cert.Plain3Ideal.nD Cert.Plain3Ideal.τ).loc Cert.Plain3Ideal.main_arg4) = m' ((c.tc : Thread Cert.Plain3Ideal.nD Cert.Plain3Ideal.τ).loc Cert.Plain3Ideal.main_arg4))

def preserves_Layer4_Layer4Ideal : Prop :=
  IdealRules.named_const.Statement Cert.Layer4Ideal.κ "taken" .f32 0x7F61B1E6#32 ⊤

def algebraic_Layer4Ideal_Plain4Ideal_pre_finite_feat [hLayer4Ideal : Cert.Layer4Ideal.Facts] [hPlain4Ideal : Cert.Plain4Ideal.Facts] [hPre_finite_feat : Cert.Pre_finite_feat.Facts] : Prop :=
  ∀ (m : (ℓ : Loc Cert.Layer4Ideal.nD Cert.Layer4Ideal.τ Cert.Layer4Ideal.sig) → Buf (Elt Ideal) ℓ) (g : Dev Cert.Layer4Ideal.nD → PrngReg)
    (m' : (ℓ : Loc Cert.Plain4Ideal.nD Cert.Plain4Ideal.τ Cert.Plain4Ideal.sig) → Buf (Elt Ideal) ℓ) (g' : Dev Cert.Plain4Ideal.nD → PrngReg), Pre_Layer4Ideal_finite_feat m →
    (∀ c : Dev Cert.Layer4Ideal.nD,
      m' ((c.tc : Thread Cert.Plain4Ideal.nD Cert.Plain4Ideal.τ).loc Cert.Plain4Ideal.main_arg0) = m ((c.tc : Thread Cert.Layer4Ideal.nD Cert.Layer4Ideal.τ).loc Cert.Layer4Ideal.main_arg0)
      ∧ m' ((c.tc : Thread Cert.Plain4Ideal.nD Cert.Plain4Ideal.τ).loc Cert.Plain4Ideal.main_arg1) = m ((c.tc : Thread Cert.Layer4Ideal.nD Cert.Layer4Ideal.τ).loc Cert.Layer4Ideal.main_arg1)
      ∧ m' ((c.tc : Thread Cert.Plain4Ideal.nD Cert.Plain4Ideal.τ).loc Cert.Plain4Ideal.main_arg2) = m ((c.tc : Thread Cert.Layer4Ideal.nD Cert.Layer4Ideal.τ).loc Cert.Layer4Ideal.main_arg2)
      ∧ m' ((c.tc : Thread Cert.Plain4Ideal.nD Cert.Plain4Ideal.τ).loc Cert.Plain4Ideal.main_arg3) = m ((c.tc : Thread Cert.Layer4Ideal.nD Cert.Layer4Ideal.τ).loc Cert.Layer4Ideal.main_arg3)
      ∧ m' ((c.tc : Thread Cert.Plain4Ideal.nD Cert.Plain4Ideal.τ).loc Cert.Plain4Ideal.main_arg4) = m ((c.tc : Thread Cert.Layer4Ideal.nD Cert.Layer4Ideal.τ).loc Cert.Layer4Ideal.main_arg4)) →
    ∃ (v0 : (c : Dev Cert.Layer4Ideal.nD) → Buf (Elt Ideal) ((c.tc : Thread Cert.Layer4Ideal.nD Cert.Layer4Ideal.τ).loc Cert.Layer4Ideal.main_v50)) (v1 : (c : Dev Cert.Layer4Ideal.nD) → Buf (Elt Ideal) ((c.tc : Thread Cert.Layer4Ideal.nD Cert.Layer4Ideal.τ).loc Cert.Layer4Ideal.main_v2)),
      θ_run (Cert.Layer4Ideal.defs (F := Ideal)) (onTc (τ := Cert.Layer4Ideal.τ) (Cert.Layer4Ideal.main (F := Ideal))) ⟨m, fun _ => 0, g⟩ (fun r => ∀ c : Dev Cert.Layer4Ideal.nD,
          r.2.mem ((c.tc : Thread Cert.Layer4Ideal.nD Cert.Layer4Ideal.τ).loc Cert.Layer4Ideal.main_v50) = v0 c
          ∧ r.2.mem ((c.tc : Thread Cert.Layer4Ideal.nD Cert.Layer4Ideal.τ).loc Cert.Layer4Ideal.main_v2) = v1 c
          ∧ r.2.mem ((c.tc : Thread Cert.Layer4Ideal.nD Cert.Layer4Ideal.τ).loc Cert.Layer4Ideal.main_arg0) = m ((c.tc : Thread Cert.Layer4Ideal.nD Cert.Layer4Ideal.τ).loc Cert.Layer4Ideal.main_arg0)
          ∧ r.2.mem ((c.tc : Thread Cert.Layer4Ideal.nD Cert.Layer4Ideal.τ).loc Cert.Layer4Ideal.main_arg1) = m ((c.tc : Thread Cert.Layer4Ideal.nD Cert.Layer4Ideal.τ).loc Cert.Layer4Ideal.main_arg1)
          ∧ r.2.mem ((c.tc : Thread Cert.Layer4Ideal.nD Cert.Layer4Ideal.τ).loc Cert.Layer4Ideal.main_arg2) = m ((c.tc : Thread Cert.Layer4Ideal.nD Cert.Layer4Ideal.τ).loc Cert.Layer4Ideal.main_arg2)
          ∧ r.2.mem ((c.tc : Thread Cert.Layer4Ideal.nD Cert.Layer4Ideal.τ).loc Cert.Layer4Ideal.main_arg3) = m ((c.tc : Thread Cert.Layer4Ideal.nD Cert.Layer4Ideal.τ).loc Cert.Layer4Ideal.main_arg3)
          ∧ r.2.mem ((c.tc : Thread Cert.Layer4Ideal.nD Cert.Layer4Ideal.τ).loc Cert.Layer4Ideal.main_arg4) = m ((c.tc : Thread Cert.Layer4Ideal.nD Cert.Layer4Ideal.τ).loc Cert.Layer4Ideal.main_arg4))
      ∧ θ_run (Cert.Plain4Ideal.defs (F := Ideal)) (onTc (τ := Cert.Plain4Ideal.τ) (Cert.Plain4Ideal.main (F := Ideal))) ⟨m', fun _ => 0, g'⟩ (fun r => ∀ c : Dev Cert.Plain4Ideal.nD,
          r.2.mem ((c.tc : Thread Cert.Plain4Ideal.nD Cert.Plain4Ideal.τ).loc Cert.Plain4Ideal.main_v70) = v0 c
          ∧ r.2.mem ((c.tc : Thread Cert.Plain4Ideal.nD Cert.Plain4Ideal.τ).loc Cert.Plain4Ideal.main_v72) = v1 c
          ∧ r.2.mem ((c.tc : Thread Cert.Plain4Ideal.nD Cert.Plain4Ideal.τ).loc Cert.Plain4Ideal.main_arg0) = m' ((c.tc : Thread Cert.Plain4Ideal.nD Cert.Plain4Ideal.τ).loc Cert.Plain4Ideal.main_arg0)
          ∧ r.2.mem ((c.tc : Thread Cert.Plain4Ideal.nD Cert.Plain4Ideal.τ).loc Cert.Plain4Ideal.main_arg1) = m' ((c.tc : Thread Cert.Plain4Ideal.nD Cert.Plain4Ideal.τ).loc Cert.Plain4Ideal.main_arg1)
          ∧ r.2.mem ((c.tc : Thread Cert.Plain4Ideal.nD Cert.Plain4Ideal.τ).loc Cert.Plain4Ideal.main_arg2) = m' ((c.tc : Thread Cert.Plain4Ideal.nD Cert.Plain4Ideal.τ).loc Cert.Plain4Ideal.main_arg2)
          ∧ r.2.mem ((c.tc : Thread Cert.Plain4Ideal.nD Cert.Plain4Ideal.τ).loc Cert.Plain4Ideal.main_arg3) = m' ((c.tc : Thread Cert.Plain4Ideal.nD Cert.Plain4Ideal.τ).loc Cert.Plain4Ideal.main_arg3)
          ∧ r.2.mem ((c.tc : Thread Cert.Plain4Ideal.nD Cert.Plain4Ideal.τ).loc Cert.Plain4Ideal.main_arg4) = m' ((c.tc : Thread Cert.Plain4Ideal.nD Cert.Plain4Ideal.τ).loc Cert.Plain4Ideal.main_arg4))

def preserves_Layer5_Layer5Ideal : Prop :=
  IdealRules.named_const.Statement Cert.Layer5Ideal.κ "taken" .f32 0x7F61B1E6#32 ⊤

def algebraic_Layer5Ideal_Plain5Ideal_pre_finite_feat [hLayer5Ideal : Cert.Layer5Ideal.Facts] [hPlain5Ideal : Cert.Plain5Ideal.Facts] [hPre_finite_feat : Cert.Pre_finite_feat.Facts] : Prop :=
  ∀ (m : (ℓ : Loc Cert.Layer5Ideal.nD Cert.Layer5Ideal.τ Cert.Layer5Ideal.sig) → Buf (Elt Ideal) ℓ) (g : Dev Cert.Layer5Ideal.nD → PrngReg)
    (m' : (ℓ : Loc Cert.Plain5Ideal.nD Cert.Plain5Ideal.τ Cert.Plain5Ideal.sig) → Buf (Elt Ideal) ℓ) (g' : Dev Cert.Plain5Ideal.nD → PrngReg), Pre_Layer5Ideal_finite_feat m →
    (∀ c : Dev Cert.Layer5Ideal.nD,
      m' ((c.tc : Thread Cert.Plain5Ideal.nD Cert.Plain5Ideal.τ).loc Cert.Plain5Ideal.main_arg0) = m ((c.tc : Thread Cert.Layer5Ideal.nD Cert.Layer5Ideal.τ).loc Cert.Layer5Ideal.main_arg0)
      ∧ m' ((c.tc : Thread Cert.Plain5Ideal.nD Cert.Plain5Ideal.τ).loc Cert.Plain5Ideal.main_arg1) = m ((c.tc : Thread Cert.Layer5Ideal.nD Cert.Layer5Ideal.τ).loc Cert.Layer5Ideal.main_arg1)
      ∧ m' ((c.tc : Thread Cert.Plain5Ideal.nD Cert.Plain5Ideal.τ).loc Cert.Plain5Ideal.main_arg2) = m ((c.tc : Thread Cert.Layer5Ideal.nD Cert.Layer5Ideal.τ).loc Cert.Layer5Ideal.main_arg2)
      ∧ m' ((c.tc : Thread Cert.Plain5Ideal.nD Cert.Plain5Ideal.τ).loc Cert.Plain5Ideal.main_arg3) = m ((c.tc : Thread Cert.Layer5Ideal.nD Cert.Layer5Ideal.τ).loc Cert.Layer5Ideal.main_arg3)
      ∧ m' ((c.tc : Thread Cert.Plain5Ideal.nD Cert.Plain5Ideal.τ).loc Cert.Plain5Ideal.main_arg4) = m ((c.tc : Thread Cert.Layer5Ideal.nD Cert.Layer5Ideal.τ).loc Cert.Layer5Ideal.main_arg4)) →
    ∃ (v0 : (c : Dev Cert.Layer5Ideal.nD) → Buf (Elt Ideal) ((c.tc : Thread Cert.Layer5Ideal.nD Cert.Layer5Ideal.τ).loc Cert.Layer5Ideal.main_v50)) (v1 : (c : Dev Cert.Layer5Ideal.nD) → Buf (Elt Ideal) ((c.tc : Thread Cert.Layer5Ideal.nD Cert.Layer5Ideal.τ).loc Cert.Layer5Ideal.main_v2)),
      θ_run (Cert.Layer5Ideal.defs (F := Ideal)) (onTc (τ := Cert.Layer5Ideal.τ) (Cert.Layer5Ideal.main (F := Ideal))) ⟨m, fun _ => 0, g⟩ (fun r => ∀ c : Dev Cert.Layer5Ideal.nD,
          r.2.mem ((c.tc : Thread Cert.Layer5Ideal.nD Cert.Layer5Ideal.τ).loc Cert.Layer5Ideal.main_v50) = v0 c
          ∧ r.2.mem ((c.tc : Thread Cert.Layer5Ideal.nD Cert.Layer5Ideal.τ).loc Cert.Layer5Ideal.main_v2) = v1 c
          ∧ r.2.mem ((c.tc : Thread Cert.Layer5Ideal.nD Cert.Layer5Ideal.τ).loc Cert.Layer5Ideal.main_arg0) = m ((c.tc : Thread Cert.Layer5Ideal.nD Cert.Layer5Ideal.τ).loc Cert.Layer5Ideal.main_arg0)
          ∧ r.2.mem ((c.tc : Thread Cert.Layer5Ideal.nD Cert.Layer5Ideal.τ).loc Cert.Layer5Ideal.main_arg1) = m ((c.tc : Thread Cert.Layer5Ideal.nD Cert.Layer5Ideal.τ).loc Cert.Layer5Ideal.main_arg1)
          ∧ r.2.mem ((c.tc : Thread Cert.Layer5Ideal.nD Cert.Layer5Ideal.τ).loc Cert.Layer5Ideal.main_arg2) = m ((c.tc : Thread Cert.Layer5Ideal.nD Cert.Layer5Ideal.τ).loc Cert.Layer5Ideal.main_arg2)
          ∧ r.2.mem ((c.tc : Thread Cert.Layer5Ideal.nD Cert.Layer5Ideal.τ).loc Cert.Layer5Ideal.main_arg3) = m ((c.tc : Thread Cert.Layer5Ideal.nD Cert.Layer5Ideal.τ).loc Cert.Layer5Ideal.main_arg3)
          ∧ r.2.mem ((c.tc : Thread Cert.Layer5Ideal.nD Cert.Layer5Ideal.τ).loc Cert.Layer5Ideal.main_arg4) = m ((c.tc : Thread Cert.Layer5Ideal.nD Cert.Layer5Ideal.τ).loc Cert.Layer5Ideal.main_arg4))
      ∧ θ_run (Cert.Plain5Ideal.defs (F := Ideal)) (onTc (τ := Cert.Plain5Ideal.τ) (Cert.Plain5Ideal.main (F := Ideal))) ⟨m', fun _ => 0, g'⟩ (fun r => ∀ c : Dev Cert.Plain5Ideal.nD,
          r.2.mem ((c.tc : Thread Cert.Plain5Ideal.nD Cert.Plain5Ideal.τ).loc Cert.Plain5Ideal.main_v70) = v0 c
          ∧ r.2.mem ((c.tc : Thread Cert.Plain5Ideal.nD Cert.Plain5Ideal.τ).loc Cert.Plain5Ideal.main_v72) = v1 c
          ∧ r.2.mem ((c.tc : Thread Cert.Plain5Ideal.nD Cert.Plain5Ideal.τ).loc Cert.Plain5Ideal.main_arg0) = m' ((c.tc : Thread Cert.Plain5Ideal.nD Cert.Plain5Ideal.τ).loc Cert.Plain5Ideal.main_arg0)
          ∧ r.2.mem ((c.tc : Thread Cert.Plain5Ideal.nD Cert.Plain5Ideal.τ).loc Cert.Plain5Ideal.main_arg1) = m' ((c.tc : Thread Cert.Plain5Ideal.nD Cert.Plain5Ideal.τ).loc Cert.Plain5Ideal.main_arg1)
          ∧ r.2.mem ((c.tc : Thread Cert.Plain5Ideal.nD Cert.Plain5Ideal.τ).loc Cert.Plain5Ideal.main_arg2) = m' ((c.tc : Thread Cert.Plain5Ideal.nD Cert.Plain5Ideal.τ).loc Cert.Plain5Ideal.main_arg2)
          ∧ r.2.mem ((c.tc : Thread Cert.Plain5Ideal.nD Cert.Plain5Ideal.τ).loc Cert.Plain5Ideal.main_arg3) = m' ((c.tc : Thread Cert.Plain5Ideal.nD Cert.Plain5Ideal.τ).loc Cert.Plain5Ideal.main_arg3)
          ∧ r.2.mem ((c.tc : Thread Cert.Plain5Ideal.nD Cert.Plain5Ideal.τ).loc Cert.Plain5Ideal.main_arg4) = m' ((c.tc : Thread Cert.Plain5Ideal.nD Cert.Plain5Ideal.τ).loc Cert.Plain5Ideal.main_arg4))

def preserves_Layer6_Layer6Ideal : Prop :=
  IdealRules.named_const.Statement Cert.Layer6Ideal.κ "taken" .f32 0x7F61B1E6#32 ⊤

def algebraic_Layer6Ideal_Plain6Ideal_pre_finite_feat [hLayer6Ideal : Cert.Layer6Ideal.Facts] [hPlain6Ideal : Cert.Plain6Ideal.Facts] [hPre_finite_feat : Cert.Pre_finite_feat.Facts] : Prop :=
  ∀ (m : (ℓ : Loc Cert.Layer6Ideal.nD Cert.Layer6Ideal.τ Cert.Layer6Ideal.sig) → Buf (Elt Ideal) ℓ) (g : Dev Cert.Layer6Ideal.nD → PrngReg)
    (m' : (ℓ : Loc Cert.Plain6Ideal.nD Cert.Plain6Ideal.τ Cert.Plain6Ideal.sig) → Buf (Elt Ideal) ℓ) (g' : Dev Cert.Plain6Ideal.nD → PrngReg), Pre_Layer6Ideal_finite_feat m →
    (∀ c : Dev Cert.Layer6Ideal.nD,
      m' ((c.tc : Thread Cert.Plain6Ideal.nD Cert.Plain6Ideal.τ).loc Cert.Plain6Ideal.main_arg0) = m ((c.tc : Thread Cert.Layer6Ideal.nD Cert.Layer6Ideal.τ).loc Cert.Layer6Ideal.main_arg0)
      ∧ m' ((c.tc : Thread Cert.Plain6Ideal.nD Cert.Plain6Ideal.τ).loc Cert.Plain6Ideal.main_arg1) = m ((c.tc : Thread Cert.Layer6Ideal.nD Cert.Layer6Ideal.τ).loc Cert.Layer6Ideal.main_arg1)
      ∧ m' ((c.tc : Thread Cert.Plain6Ideal.nD Cert.Plain6Ideal.τ).loc Cert.Plain6Ideal.main_arg2) = m ((c.tc : Thread Cert.Layer6Ideal.nD Cert.Layer6Ideal.τ).loc Cert.Layer6Ideal.main_arg2)
      ∧ m' ((c.tc : Thread Cert.Plain6Ideal.nD Cert.Plain6Ideal.τ).loc Cert.Plain6Ideal.main_arg3) = m ((c.tc : Thread Cert.Layer6Ideal.nD Cert.Layer6Ideal.τ).loc Cert.Layer6Ideal.main_arg3)
      ∧ m' ((c.tc : Thread Cert.Plain6Ideal.nD Cert.Plain6Ideal.τ).loc Cert.Plain6Ideal.main_arg4) = m ((c.tc : Thread Cert.Layer6Ideal.nD Cert.Layer6Ideal.τ).loc Cert.Layer6Ideal.main_arg4)) →
    ∃ (v0 : (c : Dev Cert.Layer6Ideal.nD) → Buf (Elt Ideal) ((c.tc : Thread Cert.Layer6Ideal.nD Cert.Layer6Ideal.τ).loc Cert.Layer6Ideal.main_v52)) (v1 : (c : Dev Cert.Layer6Ideal.nD) → Buf (Elt Ideal) ((c.tc : Thread Cert.Layer6Ideal.nD Cert.Layer6Ideal.τ).loc Cert.Layer6Ideal.main_v2)),
      θ_run (Cert.Layer6Ideal.defs (F := Ideal)) (onTc (τ := Cert.Layer6Ideal.τ) (Cert.Layer6Ideal.main (F := Ideal))) ⟨m, fun _ => 0, g⟩ (fun r => ∀ c : Dev Cert.Layer6Ideal.nD,
          r.2.mem ((c.tc : Thread Cert.Layer6Ideal.nD Cert.Layer6Ideal.τ).loc Cert.Layer6Ideal.main_v52) = v0 c
          ∧ r.2.mem ((c.tc : Thread Cert.Layer6Ideal.nD Cert.Layer6Ideal.τ).loc Cert.Layer6Ideal.main_v2) = v1 c
          ∧ r.2.mem ((c.tc : Thread Cert.Layer6Ideal.nD Cert.Layer6Ideal.τ).loc Cert.Layer6Ideal.main_arg0) = m ((c.tc : Thread Cert.Layer6Ideal.nD Cert.Layer6Ideal.τ).loc Cert.Layer6Ideal.main_arg0)
          ∧ r.2.mem ((c.tc : Thread Cert.Layer6Ideal.nD Cert.Layer6Ideal.τ).loc Cert.Layer6Ideal.main_arg1) = m ((c.tc : Thread Cert.Layer6Ideal.nD Cert.Layer6Ideal.τ).loc Cert.Layer6Ideal.main_arg1)
          ∧ r.2.mem ((c.tc : Thread Cert.Layer6Ideal.nD Cert.Layer6Ideal.τ).loc Cert.Layer6Ideal.main_arg2) = m ((c.tc : Thread Cert.Layer6Ideal.nD Cert.Layer6Ideal.τ).loc Cert.Layer6Ideal.main_arg2)
          ∧ r.2.mem ((c.tc : Thread Cert.Layer6Ideal.nD Cert.Layer6Ideal.τ).loc Cert.Layer6Ideal.main_arg3) = m ((c.tc : Thread Cert.Layer6Ideal.nD Cert.Layer6Ideal.τ).loc Cert.Layer6Ideal.main_arg3)
          ∧ r.2.mem ((c.tc : Thread Cert.Layer6Ideal.nD Cert.Layer6Ideal.τ).loc Cert.Layer6Ideal.main_arg4) = m ((c.tc : Thread Cert.Layer6Ideal.nD Cert.Layer6Ideal.τ).loc Cert.Layer6Ideal.main_arg4))
      ∧ θ_run (Cert.Plain6Ideal.defs (F := Ideal)) (onTc (τ := Cert.Plain6Ideal.τ) (Cert.Plain6Ideal.main (F := Ideal))) ⟨m', fun _ => 0, g'⟩ (fun r => ∀ c : Dev Cert.Plain6Ideal.nD,
          r.2.mem ((c.tc : Thread Cert.Plain6Ideal.nD Cert.Plain6Ideal.τ).loc Cert.Plain6Ideal.main_v72) = v0 c
          ∧ r.2.mem ((c.tc : Thread Cert.Plain6Ideal.nD Cert.Plain6Ideal.τ).loc Cert.Plain6Ideal.main_v74) = v1 c
          ∧ r.2.mem ((c.tc : Thread Cert.Plain6Ideal.nD Cert.Plain6Ideal.τ).loc Cert.Plain6Ideal.main_arg0) = m' ((c.tc : Thread Cert.Plain6Ideal.nD Cert.Plain6Ideal.τ).loc Cert.Plain6Ideal.main_arg0)
          ∧ r.2.mem ((c.tc : Thread Cert.Plain6Ideal.nD Cert.Plain6Ideal.τ).loc Cert.Plain6Ideal.main_arg1) = m' ((c.tc : Thread Cert.Plain6Ideal.nD Cert.Plain6Ideal.τ).loc Cert.Plain6Ideal.main_arg1)
          ∧ r.2.mem ((c.tc : Thread Cert.Plain6Ideal.nD Cert.Plain6Ideal.τ).loc Cert.Plain6Ideal.main_arg2) = m' ((c.tc : Thread Cert.Plain6Ideal.nD Cert.Plain6Ideal.τ).loc Cert.Plain6Ideal.main_arg2)
          ∧ r.2.mem ((c.tc : Thread Cert.Plain6Ideal.nD Cert.Plain6Ideal.τ).loc Cert.Plain6Ideal.main_arg3) = m' ((c.tc : Thread Cert.Plain6Ideal.nD Cert.Plain6Ideal.τ).loc Cert.Plain6Ideal.main_arg3)
          ∧ r.2.mem ((c.tc : Thread Cert.Plain6Ideal.nD Cert.Plain6Ideal.τ).loc Cert.Plain6Ideal.main_arg4) = m' ((c.tc : Thread Cert.Plain6Ideal.nD Cert.Plain6Ideal.τ).loc Cert.Plain6Ideal.main_arg4))

def Claim : Prop :=
  ∃ (hLayer0 : Cert.Layer0.Facts) (hLayer0Ideal : Cert.Layer0Ideal.Facts) (hPlain0Ideal : Cert.Plain0Ideal.Facts) (hLayer1 : Cert.Layer1.Facts) (hLayer1Ideal : Cert.Layer1Ideal.Facts) (hPlain1Ideal : Cert.Plain1Ideal.Facts) (hLayer2 : Cert.Layer2.Facts) (hLayer2Ideal : Cert.Layer2Ideal.Facts) (hPlain2Ideal : Cert.Plain2Ideal.Facts) (hLayer3 : Cert.Layer3.Facts) (hLayer3Ideal : Cert.Layer3Ideal.Facts) (hPlain3Ideal : Cert.Plain3Ideal.Facts) (hLayer4 : Cert.Layer4.Facts) (hLayer4Ideal : Cert.Layer4Ideal.Facts) (hPlain4Ideal : Cert.Plain4Ideal.Facts) (hLayer5 : Cert.Layer5.Facts) (hLayer5Ideal : Cert.Layer5Ideal.Facts) (hPlain5Ideal : Cert.Plain5Ideal.Facts) (hLayer6 : Cert.Layer6.Facts) (hLayer6Ideal : Cert.Layer6Ideal.Facts) (hPlain6Ideal : Cert.Plain6Ideal.Facts) (hPre_finite : Cert.Pre_finite.Facts) (hPre_finite_feat : Cert.Pre_finite_feat.Facts),
    quiescent_Layer0 (hLayer0 := hLayer0)
    ∧ quiescent_Layer0Ideal (hLayer0Ideal := hLayer0Ideal)
    ∧ quiescent_Layer0Ideal_pre_finite (hLayer0Ideal := hLayer0Ideal) (hPre_finite := hPre_finite)
    ∧ quiescent_Plain0Ideal (hPlain0Ideal := hPlain0Ideal)
    ∧ quiescent_Plain0Ideal_pre_finite (hPlain0Ideal := hPlain0Ideal) (hPre_finite := hPre_finite)
    ∧ quiescent_Layer1 (hLayer1 := hLayer1)
    ∧ quiescent_Layer1Ideal (hLayer1Ideal := hLayer1Ideal)
    ∧ quiescent_Layer1Ideal_pre_finite_feat (hLayer1Ideal := hLayer1Ideal) (hPre_finite_feat := hPre_finite_feat)
    ∧ quiescent_Plain1Ideal (hPlain1Ideal := hPlain1Ideal)
    ∧ quiescent_Plain1Ideal_pre_finite_feat (hPlain1Ideal := hPlain1Ideal) (hPre_finite_feat := hPre_finite_feat)
    ∧ quiescent_Layer2 (hLayer2 := hLayer2)
    ∧ quiescent_Layer2Ideal (hLayer2Ideal := hLayer2Ideal)
    ∧ quiescent_Layer2Ideal_pre_finite_feat (hLayer2Ideal := hLayer2Ideal) (hPre_finite_feat := hPre_finite_feat)
    ∧ quiescent_Plain2Ideal (hPlain2Ideal := hPlain2Ideal)
    ∧ quiescent_Plain2Ideal_pre_finite_feat (hPlain2Ideal := hPlain2Ideal) (hPre_finite_feat := hPre_finite_feat)
    ∧ quiescent_Layer3 (hLayer3 := hLayer3)
    ∧ quiescent_Layer3Ideal (hLayer3Ideal := hLayer3Ideal)
    ∧ quiescent_Layer3Ideal_pre_finite_feat (hLayer3Ideal := hLayer3Ideal) (hPre_finite_feat := hPre_finite_feat)
    ∧ quiescent_Plain3Ideal (hPlain3Ideal := hPlain3Ideal)
    ∧ quiescent_Plain3Ideal_pre_finite_feat (hPlain3Ideal := hPlain3Ideal) (hPre_finite_feat := hPre_finite_feat)
    ∧ quiescent_Layer4 (hLayer4 := hLayer4)
    ∧ quiescent_Layer4Ideal (hLayer4Ideal := hLayer4Ideal)
    ∧ quiescent_Layer4Ideal_pre_finite_feat (hLayer4Ideal := hLayer4Ideal) (hPre_finite_feat := hPre_finite_feat)
    ∧ quiescent_Plain4Ideal (hPlain4Ideal := hPlain4Ideal)
    ∧ quiescent_Plain4Ideal_pre_finite_feat (hPlain4Ideal := hPlain4Ideal) (hPre_finite_feat := hPre_finite_feat)
    ∧ quiescent_Layer5 (hLayer5 := hLayer5)
    ∧ quiescent_Layer5Ideal (hLayer5Ideal := hLayer5Ideal)
    ∧ quiescent_Layer5Ideal_pre_finite_feat (hLayer5Ideal := hLayer5Ideal) (hPre_finite_feat := hPre_finite_feat)
    ∧ quiescent_Plain5Ideal (hPlain5Ideal := hPlain5Ideal)
    ∧ quiescent_Plain5Ideal_pre_finite_feat (hPlain5Ideal := hPlain5Ideal) (hPre_finite_feat := hPre_finite_feat)
    ∧ quiescent_Layer6 (hLayer6 := hLayer6)
    ∧ quiescent_Layer6Ideal (hLayer6Ideal := hLayer6Ideal)
    ∧ quiescent_Layer6Ideal_pre_finite_feat (hLayer6Ideal := hLayer6Ideal) (hPre_finite_feat := hPre_finite_feat)
    ∧ quiescent_Plain6Ideal (hPlain6Ideal := hPlain6Ideal)
    ∧ quiescent_Plain6Ideal_pre_finite_feat (hPlain6Ideal := hPlain6Ideal) (hPre_finite_feat := hPre_finite_feat)
    ∧ preserves_Layer0_Layer0Ideal
    ∧ algebraic_Layer0Ideal_Plain0Ideal_pre_finite (hLayer0Ideal := hLayer0Ideal) (hPlain0Ideal := hPlain0Ideal) (hPre_finite := hPre_finite)
    ∧ preserves_Layer1_Layer1Ideal
    ∧ algebraic_Layer1Ideal_Plain1Ideal_pre_finite_feat (hLayer1Ideal := hLayer1Ideal) (hPlain1Ideal := hPlain1Ideal) (hPre_finite_feat := hPre_finite_feat)
    ∧ preserves_Layer2_Layer2Ideal
    ∧ algebraic_Layer2Ideal_Plain2Ideal_pre_finite_feat (hLayer2Ideal := hLayer2Ideal) (hPlain2Ideal := hPlain2Ideal) (hPre_finite_feat := hPre_finite_feat)
    ∧ preserves_Layer3_Layer3Ideal
    ∧ algebraic_Layer3Ideal_Plain3Ideal_pre_finite_feat (hLayer3Ideal := hLayer3Ideal) (hPlain3Ideal := hPlain3Ideal) (hPre_finite_feat := hPre_finite_feat)
    ∧ preserves_Layer4_Layer4Ideal
    ∧ algebraic_Layer4Ideal_Plain4Ideal_pre_finite_feat (hLayer4Ideal := hLayer4Ideal) (hPlain4Ideal := hPlain4Ideal) (hPre_finite_feat := hPre_finite_feat)
    ∧ preserves_Layer5_Layer5Ideal
    ∧ algebraic_Layer5Ideal_Plain5Ideal_pre_finite_feat (hLayer5Ideal := hLayer5Ideal) (hPlain5Ideal := hPlain5Ideal) (hPre_finite_feat := hPre_finite_feat)
    ∧ preserves_Layer6_Layer6Ideal
    ∧ algebraic_Layer6Ideal_Plain6Ideal_pre_finite_feat (hLayer6Ideal := hLayer6Ideal) (hPlain6Ideal := hPlain6Ideal) (hPre_finite_feat := hPre_finite_feat)
-- ==== Pre_finite.lean ====
abbrev S4x4x4096x1 : Shape := ⟨4, ![4, 4, 4096, 1]⟩
abbrev S16x8 : Shape := ⟨2, ![16, 8]⟩
abbrev S16 : Shape := ⟨1, ![16]⟩
abbrev S_ : Shape := ⟨0, ![]⟩

class Facts : Prop where
  bcast_S_S4x4x4096x1 : S_.BroadcastsInDim S4x4x4096x1 (![] : Fin 0 → Fin S4x4x4096x1.rank)

variable [Facts]

def fn {F : FTy → Type} [FloatOps F] (main_arg0 : FVec F S4x4x4096x1 .f32) (main_arg1 : FVec F S16x8 .f32) (main_arg2 : FVec F S16 .f32) (main_arg3 : FVec F S16 .f32) (main_arg4 : FVec F S16 .f32) : IVec S4x4x4096x1 1 :=
  let main_v0 : FVec F S4x4x4096x1 .f32 := Host.absf main_arg0
  let main_cst : FVec F S_ .f32 := constant S_ .f32 0x7F800000#32
  let main_v1 : FVec F S4x4x4096x1 .f32 := broadcastInDim S4x4x4096x1 ![] bcast_S_S4x4x4096x1 main_cst
  let main_v2 : IVec S4x4x4096x1 1 := cmpf .olt main_v0 main_v1
  main_v2
-- ==== Pre_finite_feat.lean ====
abbrev S4x16x4096x1 : Shape := ⟨4, ![4, 16, 4096, 1]⟩
abbrev S16x32 : Shape := ⟨2, ![16, 32]⟩
abbrev S16 : Shape := ⟨1, ![16]⟩
abbrev S_ : Shape := ⟨0, ![]⟩

class Facts : Prop where
  bcast_S_S4x16x4096x1 : S_.BroadcastsInDim S4x16x4096x1 (![] : Fin 0 → Fin S4x16x4096x1.rank)

variable [Facts]

def fn {F : FTy → Type} [FloatOps F] (main_arg0 : FVec F S4x16x4096x1 .f32) (main_arg1 : FVec F S16x32 .f32) (main_arg2 : FVec F S16 .f32) (main_arg3 : FVec F S16 .f32) (main_arg4 : FVec F S16 .f32) : IVec S4x16x4096x1 1 :=
  let main_v0 : FVec F S4x16x4096x1 .f32 := Host.absf main_arg0
  let main_cst : FVec F S_ .f32 := constant S_ .f32 0x7F800000#32
  let main_v1 : FVec F S4x16x4096x1 .f32 := broadcastInDim S4x16x4096x1 ![] bcast_S_S4x16x4096x1 main_cst
  let main_v2 : IVec S4x16x4096x1 1 := cmpf .olt main_v0 main_v1
  main_v2
-- ==== Layer0.lean ====
abbrev S4x4x4096x1 : Shape := ⟨4, ![4, 4, 4096, 1]⟩
abbrev S16x8 : Shape := ⟨2, ![16, 8]⟩
abbrev S16 : Shape := ⟨1, ![16]⟩
abbrev S4x3x4096x1 : Shape := ⟨4, ![4, 3, 4096, 1]⟩
abbrev S4x3x4096 : Shape := ⟨3, ![4, 3, 4096]⟩
abbrev S4x4096x3 : Shape := ⟨3, ![4, 4096, 3]⟩
abbrev S_ : Shape := ⟨0, ![]⟩
abbrev S4x4096x5 : Shape := ⟨3, ![4, 4096, 5]⟩
abbrev S4x4096x8 : Shape := ⟨3, ![4, 4096, 8]⟩
abbrev S4x4096 : Shape := ⟨2, ![4, 4096]⟩
abbrev S4x4096x1 : Shape := ⟨3, ![4, 4096, 1]⟩
abbrev S4x1x4096 : Shape := ⟨3, ![4, 1, 4096]⟩
abbrev S4x8x4096 : Shape := ⟨3, ![4, 8, 4096]⟩
abbrev S4x4096x20 : Shape := ⟨3, ![4, 4096, 20]⟩
abbrev S1x512x1 : Shape := ⟨3, ![1, 512, 1]⟩
abbrev S1x512x8 : Shape := ⟨3, ![1, 512, 8]⟩
abbrev S1x8x4096 : Shape := ⟨3, ![1, 8, 4096]⟩
abbrev S1x1x4096 : Shape := ⟨3, ![1, 1, 4096]⟩
abbrev S1x512x20 : Shape := ⟨3, ![1, 512, 20]⟩
abbrev S512x4096 : Shape := ⟨2, ![512, 4096]⟩
abbrev S512x8 : Shape := ⟨2, ![512, 8]⟩
abbrev S8x4096 : Shape := ⟨2, ![8, 4096]⟩
abbrev S512x1 : Shape := ⟨2, ![512, 1]⟩
abbrev S1x4096 : Shape := ⟨2, ![1, 4096]⟩
abbrev S512x20 : Shape := ⟨2, ![512, 20]⟩
abbrev S512x128 : Shape := ⟨2, ![512, 128]⟩
abbrev S512 : Shape := ⟨1, ![512]⟩
abbrev S4096 : Shape := ⟨1, ![4096]⟩
abbrev S1x4096x1 : Shape := ⟨3, ![1, 4096, 1]⟩
abbrev S4x4x4096 : Shape := ⟨3, ![4, 4, 4096]⟩
abbrev S4x4096x20x1 : Shape := ⟨4, ![4, 4096, 20, 1]⟩
abbrev S4x4x4096x20 : Shape := ⟨4, ![4, 4, 4096, 20]⟩
abbrev S4x8x4096x20 : Shape := ⟨4, ![4, 8, 4096, 20]⟩
abbrev S4x4096x20x16 : Shape := ⟨4, ![4, 4096, 20, 16]⟩
abbrev S4x16x4096x20 : Shape := ⟨4, ![4, 16, 4096, 20]⟩
abbrev S1x16x1x1 : Shape := ⟨4, ![1, 16, 1, 1]⟩
abbrev S4x16x4096 : Shape := ⟨3, ![4, 16, 4096]⟩
abbrev S4x16x4096x1 : Shape := ⟨4, ![4, 16, 4096, 1]⟩

abbrev nBuf : Space → Nat
  | .hbm => 98
  | .vmem => 11
  | .smem => 0
  | _ => 0

abbrev bufTy : (tb : Table) → Fin (tcTables nBuf tb) → BufTy
  | .hbm, ⟨0, _⟩ => ⟨S4x4x4096x1, .f32⟩
  | .hbm, ⟨1, _⟩ => ⟨S16x8, .f32⟩
  | .hbm, ⟨2, _⟩ => ⟨S16, .f32⟩
  | .hbm, ⟨3, _⟩ => ⟨S16, .f32⟩
  | .hbm, ⟨4, _⟩ => ⟨S16, .f32⟩
  | .hbm, ⟨5, _⟩ => ⟨S4x3x4096x1, .f32⟩
  | .hbm, ⟨6, _⟩ => ⟨S4x3x4096, .f32⟩
  | .hbm, ⟨7, _⟩ => ⟨S4x4096x3, .f32⟩
  | .hbm, ⟨8, _⟩ => ⟨S_, .f32⟩
  | .hbm, ⟨9, _⟩ => ⟨S4x4096x5, .f32⟩
  | .hbm, ⟨10, _⟩ => ⟨S4x4096x8, .f32⟩
  | .hbm, ⟨11, _⟩ => ⟨S4x4096x8, .f32⟩
  | .hbm, ⟨12, _⟩ => ⟨S_, .f32⟩
  | .hbm, ⟨13, _⟩ => ⟨S4x4096, .f32⟩
  | .hbm, ⟨14, _⟩ => ⟨S4x4096x1, .f32⟩
  | .hbm, ⟨15, _⟩ => ⟨S4x1x4096, .f32⟩
  | .hbm, ⟨16, _⟩ => ⟨S4x8x4096, .f32⟩
  | .hbm, ⟨17, _⟩ => ⟨S4x4096x20, .i32⟩
  | .hbm, ⟨18, _⟩ => ⟨S4096, .i32⟩
  | .hbm, ⟨19, _⟩ => ⟨S1x4096x1, .i32⟩
  | .hbm, ⟨20, _⟩ => ⟨S4x4096x20, .i32⟩
  | .hbm, ⟨21, _⟩ => ⟨S4x4x4096, .f32⟩
  | .hbm, ⟨22, _⟩ => ⟨S_, .i32⟩
  | .hbm, ⟨23, _⟩ => ⟨S4x4096x20, .i32⟩
  | .hbm, ⟨24, _⟩ => ⟨S4x4096x20, .i1⟩
  | .hbm, ⟨25, _⟩ => ⟨S_, .i32⟩
  | .hbm, ⟨26, _⟩ => ⟨S4x4096x20, .i32⟩
  | .hbm, ⟨27, _⟩ => ⟨S4x4096x20, .i32⟩
  | .hbm, ⟨28, _⟩ => ⟨S4x4096x20, .i32⟩
  | .hbm, ⟨29, _⟩ => ⟨S4x4096x20x1, .i32⟩
  | .hbm, ⟨30, _⟩ => ⟨S4x4x4096x20, .f32⟩
  | .hbm, ⟨31, _⟩ => ⟨S4x4x4096, .f32⟩
  | .hbm, ⟨32, _⟩ => ⟨S_, .i32⟩
  | .hbm, ⟨33, _⟩ => ⟨S4x4096x20, .i32⟩
  | .hbm, ⟨34, _⟩ => ⟨S4x4096x20, .i1⟩
  | .hbm, ⟨35, _⟩ => ⟨S_, .i32⟩
  | .hbm, ⟨36, _⟩ => ⟨S4x4096x20, .i32⟩
  | .hbm, ⟨37, _⟩ => ⟨S4x4096x20, .i32⟩
  | .hbm, ⟨38, _⟩ => ⟨S4x4096x20, .i32⟩
  | .hbm, ⟨39, _⟩ => ⟨S4x4096x20x1, .i32⟩
  | .hbm, ⟨40, _⟩ => ⟨S4x4x4096x20, .f32⟩
  | .hbm, ⟨41, _⟩ => ⟨S4x4x4096x20, .f32⟩
  | .hbm, ⟨42, _⟩ => ⟨S4x8x4096x20, .f32⟩
  | .hbm, ⟨43, _⟩ => ⟨S4x4096x20x16, .f32⟩
  | .hbm, ⟨44, _⟩ => ⟨S4x16x4096x20, .f32⟩
  | .hbm, ⟨45, _⟩ => ⟨S1x16x1x1, .f32⟩
  | .hbm, ⟨46, _⟩ => ⟨S4x16x4096x20, .f32⟩
  | .hbm, ⟨47, _⟩ => ⟨S4x16x4096x20, .f32⟩
  | .hbm, ⟨48, _⟩ => ⟨S_, .f32⟩
  | .hbm, ⟨49, _⟩ => ⟨S16, .f32⟩
  | .hbm, ⟨50, _⟩ => ⟨S1x16x1x1, .f32⟩
  | .hbm, ⟨51, _⟩ => ⟨S_, .f32⟩
  | .hbm, ⟨52, _⟩ => ⟨S1x16x1x1, .f32⟩
  | .hbm, ⟨53, _⟩ => ⟨S1x16x1x1, .f32⟩
  | .hbm, ⟨54, _⟩ => ⟨S_, .i32⟩
  | .hbm, ⟨55, _⟩ => ⟨S_, .f32⟩
  | .hbm, ⟨56, _⟩ => ⟨S16, .f32⟩
  | .hbm, ⟨57, _⟩ => ⟨S1x16x1x1, .f32⟩
  | .hbm, ⟨58, _⟩ => ⟨S_, .f32⟩
  | .hbm, ⟨59, _⟩ => ⟨S1x16x1x1, .f32⟩
  | .hbm, ⟨60, _⟩ => ⟨S1x16x1x1, .f32⟩
  | .hbm, ⟨61, _⟩ => ⟨S4x16x4096x20, .f32⟩
  | .hbm, ⟨62, _⟩ => ⟨S4x16x4096x20, .f32⟩
  | .hbm, ⟨63, _⟩ => ⟨S4x16x4096x20, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S16, .f32⟩
  | .hbm, ⟨69, _⟩ => ⟨S1x16x1x1, .f32⟩
  | .hbm, ⟨70, _⟩ => ⟨S1x16x1x1, .f32⟩
  | .hbm, ⟨71, _⟩ => ⟨S1x16x1x1, .f32⟩
  | .hbm, ⟨72, _⟩ => ⟨S_, .f32⟩
  | .hbm, ⟨73, _⟩ => ⟨S_, .i1⟩
  | .hbm, ⟨74, _⟩ => ⟨S_, .f32⟩
  | .hbm, ⟨75, _⟩ => ⟨S_, .f32⟩
  | .hbm, ⟨76, _⟩ => ⟨S1x16x1x1, .f32⟩
  | .hbm, ⟨77, _⟩ => ⟨S1x16x1x1, .f32⟩
  | .hbm, ⟨78, _⟩ => ⟨S4x16x4096x20, .f32⟩
  | .hbm, ⟨79, _⟩ => ⟨S4x16x4096x20, .f32⟩
  | .hbm, ⟨80, _⟩ => ⟨S_, .f32⟩
  | .hbm, ⟨81, _⟩ => ⟨S1x16x1x1, .f32⟩
  | .hbm, ⟨82, _⟩ => ⟨S1x16x1x1, .f32⟩
  | .hbm, ⟨83, _⟩ => ⟨S1x16x1x1, .f32⟩
  | .hbm, ⟨84, _⟩ => ⟨S4x16x4096x20, .f32⟩
  | .hbm, ⟨85, _⟩ => ⟨S4x16x4096x20, .f32⟩
  | .hbm, ⟨86, _⟩ => ⟨S1x16x1x1, .f32⟩
  | .hbm, ⟨87, _⟩ => ⟨S4x16x4096x20, .f32⟩
  | .hbm, ⟨88, _⟩ => ⟨S4x16x4096x20, .f32⟩
  | .hbm, ⟨89, _⟩ => ⟨S1x16x1x1, .f32⟩
  | .hbm, ⟨90, _⟩ => ⟨S4x16x4096x20, .f32⟩
  | .hbm, ⟨91, _⟩ => ⟨S4x16x4096x20, .f32⟩
  | .hbm, ⟨92, _⟩ => ⟨S_, .f32⟩
  | .hbm, ⟨93, _⟩ => ⟨S4x16x4096x20, .f32⟩
  | .hbm, ⟨94, _⟩ => ⟨S4x16x4096x20, .f32⟩
  | .hbm, ⟨95, _⟩ => ⟨S_, .f32⟩
  | .hbm, ⟨96, _⟩ => ⟨S4x16x4096, .f32⟩
  | .hbm, ⟨97, _⟩ => ⟨S4x16x4096x1, .f32⟩
  | .local _ .vmem, ⟨0, _⟩ => ⟨S1x512x1, .f32⟩
  | .local _ .vmem, ⟨1, _⟩ => ⟨S1x512x1, .f32⟩
  | .local _ .vmem, ⟨2, _⟩ => ⟨S1x512x8, .f32⟩
  | .local _ .vmem, ⟨3, _⟩ => ⟨S1x512x8, .f32⟩
  | .local _ .vmem, ⟨4, _⟩ => ⟨S1x8x4096, .f32⟩
  | .local _ .vmem, ⟨5, _⟩ => ⟨S1x8x4096, .f32⟩
  | .local _ .vmem, ⟨6, _⟩ => ⟨S1x1x4096, .f32⟩
  | .local _ .vmem, ⟨7, _⟩ => ⟨S1x1x4096, .f32⟩
  | .local _ .vmem, ⟨8, _⟩ => ⟨S1x512x20, .i32⟩
  | .local _ .vmem, ⟨9, _⟩ => ⟨S1x512x20, .i32⟩
  | .local _ .vmem, ⟨10, _⟩ => ⟨S512x4096, .f32⟩
  | _, _ => ⟨S4x4x4096x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_c_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_1 : Ref sig .tc := ⟨.hbm, 32, rfl⟩
abbrev main_v18 : Ref sig .tc := ⟨.hbm, 33, rfl⟩
abbrev main_v19 : Ref sig .tc := ⟨.hbm, 34, rfl⟩
abbrev main_c_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_v33 : Ref sig .tc := ⟨.hbm, 50, rfl⟩
abbrev main_cst_4 : Ref sig .tc := ⟨.hbm, 51, rfl⟩
abbrev main_v34 : Ref sig .tc := ⟨.hbm, 52, rfl⟩
abbrev main_v35 : Ref sig .tc := ⟨.hbm, 53, rfl⟩
abbrev main_c_5 : Ref sig .tc := ⟨.hbm, 54, rfl⟩
abbrev main_call1_cst : Ref sig .tc := ⟨.hbm, 55, rfl⟩
abbrev main_call1_v0 : Ref sig .tc := ⟨.hbm, 56, rfl⟩
abbrev main_call1_v1 : Ref sig .tc := ⟨.hbm, 57, rfl⟩
abbrev main_call1_cst_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_v6 : Ref sig .tc := ⟨.hbm, 63, rfl⟩
abbrev main_call1_v7 : Ref sig .tc := ⟨.hbm, 64, rfl⟩
abbrev main_call1_cst_1 : Ref sig .tc := ⟨.hbm, 65, rfl⟩
abbrev main_call1_v8 : Ref sig .tc := ⟨.hbm, 66, rfl⟩
abbrev main_call1_cst_2 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_v12 : Ref sig .tc := ⟨.hbm, 71, rfl⟩
abbrev main_call1_cst_3 : Ref sig .tc := ⟨.hbm, 72, rfl⟩
abbrev main_call1_v13 : Ref sig .tc := ⟨.hbm, 73, rfl⟩
abbrev main_call1_cst_4 : Ref sig .tc := ⟨.hbm, 74, rfl⟩
abbrev main_call1_call0_v0 : Ref sig .tc := ⟨.hbm, 75, rfl⟩
abbrev main_call1_call0_v1 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_cst_6 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_call2_cst : Ref sig .tc := ⟨.hbm, 92, rfl⟩
abbrev main_call2_v0 : Ref sig .tc := ⟨.hbm, 93, rfl⟩
abbrev main_v50 : Ref sig .tc := ⟨.hbm, 94, rfl⟩
abbrev main_cst_7 : Ref sig .tc := ⟨.hbm, 95, rfl⟩
abbrev main_v51 : Ref sig .tc := ⟨.hbm, 96, rfl⟩
abbrev main_v52 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_14 : BitVec 32 := 0#32
  let c20_i32 : BitVec 32 := 20#32
  let v22 : BitVec 32 := Scalar.addi c0_i32_14 c20_i32
  let c1_i32 : BitVec 32 := 1#32
  ⟨c0_i32_14, v22, c1_i32⟩
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x20 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Layer0Ideal.lean ====
variable {F : FTy → Type} [FloatOps F] [Named F]
def κ : String → Option EReal := fun
  | "taken" => some ⊤
  | _ => none
-- ==== Plain0Ideal.lean ====
abbrev S4x4x4096x1 : Shape := ⟨4, ![4, 4, 4096, 1]⟩
abbrev S16x8 : Shape := ⟨2, ![16, 8]⟩
abbrev S16 : Shape := ⟨1, ![16]⟩
abbrev S4x3x4096x1 : Shape := ⟨4, ![4, 3, 4096, 1]⟩
abbrev S4x3x4096 : Shape := ⟨3, ![4, 3, 4096]⟩
abbrev S4x4096x3 : Shape := ⟨3, ![4, 4096, 3]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x20 : Shape := ⟨3, ![4, 4096, 20]⟩
abbrev S4096 : Shape := ⟨1, ![4096]⟩
abbrev S1x4096x1 : Shape := ⟨3, ![1, 4096, 1]⟩
abbrev S1x4x4096x20 : Shape := ⟨4, ![1, 4, 4096, 20]⟩
abbrev S2x4x4096x20 : Shape := ⟨4, ![2, 4, 4096, 20]⟩
abbrev S4x4x4096 : Shape := ⟨3, ![4, 4, 4096]⟩
abbrev S4x4096x20x1 : Shape := ⟨4, ![4, 4096, 20, 1]⟩
abbrev S4x4x4096x20 : Shape := ⟨4, ![4, 4, 4096, 20]⟩
abbrev S4x8x4096x20 : Shape := ⟨4, ![4, 8, 4096, 20]⟩
abbrev S4x4096x20x16 : Shape := ⟨4, ![4, 4096, 20, 16]⟩
abbrev S4x16x4096x20 : Shape := ⟨4, ![4, 16, 4096, 20]⟩
abbrev S1x16x1x1 : Shape := ⟨4, ![1, 16, 1, 1]⟩
abbrev S4x16x4096 : Shape := ⟨3, ![4, 16, 4096]⟩
abbrev S4x16x4096x1 : Shape := ⟨4, ![4, 16, 4096, 1]⟩

abbrev nBuf : Space → Nat
  | .hbm => 114
  | .vmem => 0
  | .smem => 0
  | _ => 0

abbrev bufTy : (tb : Table) → Fin (tcTables nBuf tb) → BufTy
  | .hbm, ⟨0, _⟩ => ⟨S4x4x4096x1, .f32⟩
  | .hbm, ⟨1, _⟩ => ⟨S16x8, .f32⟩
  | .hbm, ⟨2, _⟩ => ⟨S16, .f32⟩
  | .hbm, ⟨3, _⟩ => ⟨S16, .f32⟩
  | .hbm, ⟨4, _⟩ => ⟨S16, .f32⟩
  | .hbm, ⟨5, _⟩ => ⟨S4x3x4096x1, .f32⟩
  | .hbm, ⟨6, _⟩ => ⟨S4x3x4096, .f32⟩
  | .hbm, ⟨7, _⟩ => ⟨S4x4096x3, .f32⟩
  | .hbm, ⟨8, _⟩ => ⟨S4x3x4096, .f32⟩
  | .hbm, ⟨9, _⟩ => ⟨S4x4096x4096, .f32⟩
  | .hbm, ⟨10, _⟩ => ⟨S_, .f32⟩
  | .hbm, ⟨11, _⟩ => ⟨S4x4096x4096, .f32⟩
  | .hbm, ⟨12, _⟩ => ⟨S4x4096x4096, .f32⟩
  | .hbm, ⟨13, _⟩ => ⟨S4x4096x3, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S4x4096x4096, .f32⟩
  | .hbm, ⟨18, _⟩ => ⟨S4x4096x4096, .f32⟩
  | .hbm, ⟨19, _⟩ => ⟨S4x1x4096, .f32⟩
  | .hbm, ⟨20, _⟩ => ⟨S4x4096x4096, .f32⟩
  | .hbm, ⟨21, _⟩ => ⟨S4x4096x4096, .f32⟩
  | .hbm, ⟨22, _⟩ => ⟨S4x4096x4096, .f32⟩
  | .hbm, ⟨23, _⟩ => ⟨S4x4096x20, .f32⟩
  | .hbm, ⟨24, _⟩ => ⟨S4x4096x20, .i32⟩
  | .hbm, ⟨25, _⟩ => ⟨S4096, .i32⟩
  | .hbm, ⟨26, _⟩ => ⟨S1x4096x1, .i32⟩
  | .hbm, ⟨27, _⟩ => ⟨S4x4096x20, .i32⟩
  | .hbm, ⟨28, _⟩ => ⟨S1x4x4096x20, .i32⟩
  | .hbm, ⟨29, _⟩ => ⟨S1x4x4096x20, .i32⟩
  | .hbm, ⟨30, _⟩ => ⟨S2x4x4096x20, .i32⟩
  | .hbm, ⟨31, _⟩ => ⟨S1x4x4096x20, .i32⟩
  | .hbm, ⟨32, _⟩ => ⟨S4x4096x20, .i32⟩
  | .hbm, ⟨33, _⟩ => ⟨S4x4x4096, .f32⟩
  | .hbm, ⟨34, _⟩ => ⟨S_, .i32⟩
  | .hbm, ⟨35, _⟩ => ⟨S4x4096x20, .i32⟩
  | .hbm, ⟨36, _⟩ => ⟨S4x4096x20, .i1⟩
  | .hbm, ⟨37, _⟩ => ⟨S_, .i32⟩
  | .hbm, ⟨38, _⟩ => ⟨S4x4096x20, .i32⟩
  | .hbm, ⟨39, _⟩ => ⟨S4x4096x20, .i32⟩
  | .hbm, ⟨40, _⟩ => ⟨S4x4096x20, .i32⟩
  | .hbm, ⟨41, _⟩ => ⟨S4x4096x20x1, .i32⟩
  | .hbm, ⟨42, _⟩ => ⟨S4x4x4096x20, .f32⟩
  | .hbm, ⟨43, _⟩ => ⟨S1x4x4096x20, .i32⟩
  | .hbm, ⟨44, _⟩ => ⟨S4x4096x20, .i32⟩
  | .hbm, ⟨45, _⟩ => ⟨S4x4x4096, .f32⟩
  | .hbm, ⟨46, _⟩ => ⟨S_, .i32⟩
  | .hbm, ⟨47, _⟩ => ⟨S4x4096x20, .i32⟩
  | .hbm, ⟨48, _⟩ => ⟨S4x4096x20, .i1⟩
  | .hbm, ⟨49, _⟩ => ⟨S_, .i32⟩
  | .hbm, ⟨50, _⟩ => ⟨S4x4096x20, .i32⟩
  | .hbm, ⟨51, _⟩ => ⟨S4x4096x20, .i32⟩
  | .hbm, ⟨52, _⟩ => ⟨S4x4096x20, .i32⟩
  | .hbm, ⟨53, _⟩ => ⟨S4x4096x20x1, .i32⟩
  | .hbm, ⟨54, _⟩ => ⟨S4x4x4096x20, .f32⟩
  | .hbm, ⟨55, _⟩ => ⟨S4x4x4096x20, .f32⟩
  | .hbm, ⟨56, _⟩ => ⟨S4x8x4096x20, .f32⟩
  | .hbm, ⟨57, _⟩ => ⟨S4x4096x20x16, .f32⟩
  | .hbm, ⟨58, _⟩ => ⟨S4x16x4096x20, .f32⟩
  | .hbm, ⟨59, _⟩ => ⟨S1x16x1x1, .f32⟩
  | .hbm, ⟨60, _⟩ => ⟨S4x16x4096x20, .f32⟩
  | .hbm, ⟨61, _⟩ => ⟨S4x16x4096x20, .f32⟩
  | .hbm, ⟨62, _⟩ => ⟨S_, .f32⟩
  | .hbm, ⟨63, _⟩ => ⟨S16, .f32⟩
  | .hbm, ⟨64, _⟩ => ⟨S1x16x1x1, .f32⟩
  | .hbm, ⟨65, _⟩ => ⟨S_, .f32⟩
  | .hbm, ⟨66, _⟩ => ⟨S1x16x1x1, .f32⟩
  | .hbm, ⟨67, _⟩ => ⟨S1x16x1x1, .f32⟩
  | .hbm, ⟨68, _⟩ => ⟨S_, .i32⟩
  | .hbm, ⟨69, _⟩ => ⟨S_, .f32⟩
  | .hbm, ⟨70, _⟩ => ⟨S16, .f32⟩
  | .hbm, ⟨71, _⟩ => ⟨S1x16x1x1, .f32⟩
  | .hbm, ⟨72, _⟩ => ⟨S_, .f32⟩
  | .hbm, ⟨73, _⟩ => ⟨S1x16x1x1, .f32⟩
  | .hbm, ⟨74, _⟩ => ⟨S1x16x1x1, .f32⟩
  | .hbm, ⟨75, _⟩ => ⟨S4x16x4096x20, .f32⟩
  | .hbm, ⟨76, _⟩ => ⟨S4x16x4096x20, .f32⟩
  | .hbm, ⟨77, _⟩ => ⟨S4x16x4096x20, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S16, .f32⟩
  | .hbm, ⟨83, _⟩ => ⟨S1x16x1x1, .f32⟩
  | .hbm, ⟨84, _⟩ => ⟨S1x16x1x1, .f32⟩
  | .hbm, ⟨85, _⟩ => ⟨S1x16x1x1, .f32⟩
  | .hbm, ⟨86, _⟩ => ⟨S_, .f32⟩
  | .hbm, ⟨87, _⟩ => ⟨S_, .i1⟩
  | .hbm, ⟨88, _⟩ => ⟨S_, .f32⟩
  | .hbm, ⟨89, _⟩ => ⟨S_, .f32⟩
  | .hbm, ⟨90, _⟩ => ⟨S1x16x1x1, .f32⟩
  | .hbm, ⟨91, _⟩ => ⟨S1x16x1x1, .f32⟩
  | .hbm, ⟨92, _⟩ => ⟨S4x16x4096x20, .f32⟩
  | .hbm, ⟨93, _⟩ => ⟨S4x16x4096x20, .f32⟩
  | .hbm, ⟨94, _⟩ => ⟨S_, .f32⟩
  | .hbm, ⟨95, _⟩ => ⟨S1x16x1x1, .f32⟩
  | .hbm, ⟨96, _⟩ => ⟨S1x16x1x1, .f32⟩
  | .hbm, ⟨97, _⟩ => ⟨S1x16x1x1, .f32⟩
  | .hbm, ⟨98, _⟩ => ⟨S4x16x4096x20, .f32⟩
  | .hbm, ⟨99, _⟩ => ⟨S4x16x4096x20, .f32⟩
  | .hbm, ⟨100, _⟩ => ⟨S1x16x1x1, .f32⟩
  | .hbm, ⟨101, _⟩ => ⟨S4x16x4096x20, .f32⟩
  | .hbm, ⟨102, _⟩ => ⟨S4x16x4096x20, .f32⟩
  | .hbm, ⟨103, _⟩ => ⟨S1x16x1x1, .f32⟩
  | .hbm, ⟨104, _⟩ => ⟨S4x16x4096x20, .f32⟩
  | .hbm, ⟨105, _⟩ => ⟨S4x16x4096x20, .f32⟩
  | .hbm, ⟨106, _⟩ => ⟨S_, .f32⟩
  | .hbm, ⟨107, _⟩ => ⟨S4x16x4096x20, .f32⟩
  | .hbm, ⟨108, _⟩ => ⟨S4x16x4096x20, .f32⟩
  | .hbm, ⟨109, _⟩ => ⟨S_, .f32⟩
  | .hbm, ⟨110, _⟩ => ⟨S4x16x4096, .f32⟩
  | .hbm, ⟨111, _⟩ => ⟨S4x16x4096x1, .f32⟩
  | .hbm, ⟨112, _⟩ => ⟨S1x4x4096x20, .i32⟩
  | .hbm, ⟨113, _⟩ => ⟨S4x4096x20, .i32⟩
  | _, _ => ⟨S4x4x4096x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_values : Ref sig .tc := ⟨.hbm, 23, rfl⟩
abbrev main_indices : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c : Ref sig .tc := ⟨.hbm, 34, rfl⟩
abbrev main_v25 : Ref sig .tc := ⟨.hbm, 35, rfl⟩
abbrev main_v26 : Ref sig .tc := ⟨.hbm, 36, rfl⟩
abbrev main_c_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c_2 : Ref sig .tc := ⟨.hbm, 46, rfl⟩
abbrev main_v35 : Ref sig .tc := ⟨.hbm, 47, rfl⟩
abbrev main_v36 : Ref sig .tc := ⟨.hbm, 48, rfl⟩
abbrev main_c_3 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_4 : Ref sig .tc := ⟨.hbm, 62, rfl⟩
abbrev main_v49 : Ref sig .tc := ⟨.hbm, 63, rfl⟩
abbrev main_v50 : Ref sig .tc := ⟨.hbm, 64, rfl⟩
abbrev main_cst_5 : Ref sig .tc := ⟨.hbm, 65, rfl⟩
abbrev main_v51 : Ref sig .tc := ⟨.hbm, 66, rfl⟩
abbrev main_v52 : Ref sig .tc := ⟨.hbm, 67, rfl⟩
abbrev main_c_6 : Ref sig .tc := ⟨.hbm, 68, rfl⟩
abbrev main_call0_cst : Ref sig .tc := ⟨.hbm, 69, rfl⟩
abbrev main_call0_v0 : Ref sig .tc := ⟨.hbm, 70, rfl⟩
abbrev main_call0_v1 : Ref sig .tc := ⟨.hbm, 71, rfl⟩
abbrev main_call0_cst_0 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_call0_v5 : Ref sig .tc := ⟨.hbm, 76, rfl⟩
abbrev main_call0_v6 : Ref sig .tc := ⟨.hbm, 77, rfl⟩
abbrev main_call0_v7 : Ref sig .tc := ⟨.hbm, 78, rfl⟩
abbrev main_call0_cst_1 : Ref sig .tc := ⟨.hbm, 79, rfl⟩
abbrev main_call0_v8 : Ref sig .tc := ⟨.hbm, 80, rfl⟩
abbrev main_call0_cst_2 : Ref sig .tc := ⟨.hbm, 81, rfl⟩
abbrev main_call0_v9 : Ref sig .tc := ⟨.hbm, 82, rfl⟩
abbrev main_call0_v10 : Ref sig .tc := ⟨.hbm, 83, rfl⟩
abbrev main_call0_v11 : Ref sig .tc := ⟨.hbm, 84, rfl⟩
abbrev main_call0_v12 : Ref sig .tc := ⟨.hbm, 85, rfl⟩
abbrev main_call0_cst_3 : Ref sig .tc := ⟨.hbm, 86, rfl⟩
abbrev main_call0_v13 : Ref sig .tc := ⟨.hbm, 87, rfl⟩
abbrev main_call0_cst_4 : Ref sig .tc := ⟨.hbm, 88, rfl⟩
abbrev main_call0_call0_v0 : Ref sig .tc := ⟨.hbm, 89, rfl⟩
abbrev main_call0_call0_v1 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_cst_7 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_call1_cst : Ref sig .tc := ⟨.hbm, 106, rfl⟩
abbrev main_call1_v0 : Ref sig .tc := ⟨.hbm, 107, rfl⟩
abbrev main_v67 : Ref sig .tc := ⟨.hbm, 108, rfl⟩
abbrev main_cst_8 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩

abbrev nD : Nat := 1
abbrev τ : Topo := Topo.v7x

variable {F : FTy → Type} [FloatOps F]
-- ==== Layer1.lean ====
abbrev S4x16x4096x1 : Shape := ⟨4, ![4, 16, 4096, 1]⟩
abbrev S16x32 : Shape := ⟨2, ![16, 32]⟩
abbrev S16 : Shape := ⟨1, ![16]⟩
abbrev S4x16x4096 : Shape := ⟨3, ![4, 16, 4096]⟩
abbrev S4x4096x16 : Shape := ⟨3, ![4, 4096, 16]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x20 : Shape := ⟨3, ![4, 4096, 20]⟩
abbrev S1x512x1 : Shape := ⟨3, ![1, 512, 1]⟩
abbrev S1x512x16 : Shape := ⟨3, ![1, 512, 16]⟩
abbrev S1x16x4096 : Shape := ⟨3, ![1, 16, 4096]⟩
abbrev S1x1x4096 : Shape := ⟨3, ![1, 1, 4096]⟩
abbrev S1x512x20 : Shape := ⟨3, ![1, 512, 20]⟩
abbrev S512x4096 : Shape := ⟨2, ![512, 4096]⟩
abbrev S512x16 : Shape := ⟨2, ![512, 16]⟩
abbrev S16x4096 : Shape := ⟨2, ![16, 4096]⟩
abbrev S512x1 : Shape := ⟨2, ![512, 1]⟩
abbrev S1x4096 : Shape := ⟨2, ![1, 4096]⟩
abbrev S512x20 : Shape := ⟨2, ![512, 20]⟩
abbrev S512x128 : Shape := ⟨2, ![512, 128]⟩
abbrev S512 : Shape := ⟨1, ![512]⟩
abbrev S4096 : Shape := ⟨1, ![4096]⟩
abbrev S1x4096x1 : Shape := ⟨3, ![1, 4096, 1]⟩
abbrev S4x4096x20x1 : Shape := ⟨4, ![4, 4096, 20, 1]⟩
abbrev S4x16x4096x20 : Shape := ⟨4, ![4, 16, 4096, 20]⟩
abbrev S4x32x4096x20 : Shape := ⟨4, ![4, 32, 4096, 20]⟩
abbrev S4x4096x20x16 : Shape := ⟨4, ![4, 4096, 20, 16]⟩
abbrev S1x16x1x1 : Shape := ⟨4, ![1, 16, 1, 1]⟩

abbrev nBuf : Space → Nat
  | .hbm => 95
  | .vmem => 11
  | .smem => 0
  | _ => 0

abbrev bufTy : (tb : Table) → Fin (tcTables nBuf tb) → BufTy
  | .hbm, ⟨0, _⟩ => ⟨S4x16x4096x1, .f32⟩
  | .hbm, ⟨1, _⟩ => ⟨S16x32, .f32⟩
  | .hbm, ⟨2, _⟩ => ⟨S16, .f32⟩
  | .hbm, ⟨3, _⟩ => ⟨S16, .f32⟩
  | .hbm, ⟨4, _⟩ => ⟨S16, .f32⟩
  | .hbm, ⟨5, _⟩ => ⟨S4x16x4096, .f32⟩
  | .hbm, ⟨6, _⟩ => ⟨S4x4096x16, .f32⟩
  | .hbm, ⟨7, _⟩ => ⟨S4x4096x16, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S4x1x4096, .f32⟩
  | .hbm, ⟨12, _⟩ => ⟨S4x16x4096, .f32⟩
  | .hbm, ⟨13, _⟩ => ⟨S4x4096x20, .i32⟩
  | .hbm, ⟨14, _⟩ => ⟨S4096, .i32⟩
  | .hbm, ⟨15, _⟩ => ⟨S1x4096x1, .i32⟩
  | .hbm, ⟨16, _⟩ => ⟨S4x4096x20, .i32⟩
  | .hbm, ⟨17, _⟩ => ⟨S4x16x4096, .f32⟩
  | .hbm, ⟨18, _⟩ => ⟨S_, .i32⟩
  | .hbm, ⟨19, _⟩ => ⟨S4x4096x20, .i32⟩
  | .hbm, ⟨20, _⟩ => ⟨S4x4096x20, .i1⟩
  | .hbm, ⟨21, _⟩ => ⟨S_, .i32⟩
  | .hbm, ⟨22, _⟩ => ⟨S4x4096x20, .i32⟩
  | .hbm, ⟨23, _⟩ => ⟨S4x4096x20, .i32⟩
  | .hbm, ⟨24, _⟩ => ⟨S4x4096x20, .i32⟩
  | .hbm, ⟨25, _⟩ => ⟨S4x4096x20x1, .i32⟩
  | .hbm, ⟨26, _⟩ => ⟨S4x16x4096x20, .f32⟩
  | .hbm, ⟨27, _⟩ => ⟨S4x16x4096, .f32⟩
  | .hbm, ⟨28, _⟩ => ⟨S_, .i32⟩
  | .hbm, ⟨29, _⟩ => ⟨S4x4096x20, .i32⟩
  | .hbm, ⟨30, _⟩ => ⟨S4x4096x20, .i1⟩
  | .hbm, ⟨31, _⟩ => ⟨S_, .i32⟩
  | .hbm, ⟨32, _⟩ => ⟨S4x4096x20, .i32⟩
  | .hbm, ⟨33, _⟩ => ⟨S4x4096x20, .i32⟩
  | .hbm, ⟨34, _⟩ => ⟨S4x4096x20, .i32⟩
  | .hbm, ⟨35, _⟩ => ⟨S4x4096x20x1, .i32⟩
  | .hbm, ⟨36, _⟩ => ⟨S4x16x4096x20, .f32⟩
  | .hbm, ⟨37, _⟩ => ⟨S4x16x4096x20, .f32⟩
  | .hbm, ⟨38, _⟩ => ⟨S4x32x4096x20, .f32⟩
  | .hbm, ⟨39, _⟩ => ⟨S4x4096x20x16, .f32⟩
  | .hbm, ⟨40, _⟩ => ⟨S4x16x4096x20, .f32⟩
  | .hbm, ⟨41, _⟩ => ⟨S1x16x1x1, .f32⟩
  | .hbm, ⟨42, _⟩ => ⟨S4x16x4096x20, .f32⟩
  | .hbm, ⟨43, _⟩ => ⟨S4x16x4096x20, .f32⟩
  | .hbm, ⟨44, _⟩ => ⟨S_, .f32⟩
  | .hbm, ⟨45, _⟩ => ⟨S16, .f32⟩
  | .hbm, ⟨46, _⟩ => ⟨S1x16x1x1, .f32⟩
  | .hbm, ⟨47, _⟩ => ⟨S_, .f32⟩
  | .hbm, ⟨48, _⟩ => ⟨S1x16x1x1, .f32⟩
  | .hbm, ⟨49, _⟩ => ⟨S1x16x1x1, .f32⟩
  | .hbm, ⟨50, _⟩ => ⟨S_, .i32⟩
  | .hbm, ⟨51, _⟩ => ⟨S_, .f32⟩
  | .hbm, ⟨52, _⟩ => ⟨S16, .f32⟩
  | .hbm, ⟨53, _⟩ => ⟨S1x16x1x1, .f32⟩
  | .hbm, ⟨54, _⟩ => ⟨S_, .f32⟩
  | .hbm, ⟨55, _⟩ => ⟨S1x16x1x1, .f32⟩
  | .hbm, ⟨56, _⟩ => ⟨S1x16x1x1, .f32⟩
  | .hbm, ⟨57, _⟩ => ⟨S4x16x4096x20, .f32⟩
  | .hbm, ⟨58, _⟩ => ⟨S4x16x4096x20, .f32⟩
  | .hbm, ⟨59, _⟩ => ⟨S4x16x4096x20, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S16, .f32⟩
  | .hbm, ⟨65, _⟩ => ⟨S1x16x1x1, .f32⟩
  | .hbm, ⟨66, _⟩ => ⟨S1x16x1x1, .f32⟩
  | .hbm, ⟨67, _⟩ => ⟨S1x16x1x1, .f32⟩
  | .hbm, ⟨68, _⟩ => ⟨S_, .f32⟩
  | .hbm, ⟨69, _⟩ => ⟨S_, .i1⟩
  | .hbm, ⟨70, _⟩ => ⟨S_, .f32⟩
  | .hbm, ⟨71, _⟩ => ⟨S_, .f32⟩
  | .hbm, ⟨72, _⟩ => ⟨S1x16x1x1, .f32⟩
  | .hbm, ⟨73, _⟩ => ⟨S1x16x1x1, .f32⟩
  | .hbm, ⟨74, _⟩ => ⟨S4x16x4096x20, .f32⟩
  | .hbm, ⟨75, _⟩ => ⟨S4x16x4096x20, .f32⟩
  | .hbm, ⟨76, _⟩ => ⟨S_, .f32⟩
  | .hbm, ⟨77, _⟩ => ⟨S1x16x1x1, .f32⟩
  | .hbm, ⟨78, _⟩ => ⟨S1x16x1x1, .f32⟩
  | .hbm, ⟨79, _⟩ => ⟨S1x16x1x1, .f32⟩
  | .hbm, ⟨80, _⟩ => ⟨S4x16x4096x20, .f32⟩
  | .hbm, ⟨81, _⟩ => ⟨S4x16x4096x20, .f32⟩
  | .hbm, ⟨82, _⟩ => ⟨S1x16x1x1, .f32⟩
  | .hbm, ⟨83, _⟩ => ⟨S4x16x4096x20, .f32⟩
  | .hbm, ⟨84, _⟩ => ⟨S4x16x4096x20, .f32⟩
  | .hbm, ⟨85, _⟩ => ⟨S1x16x1x1, .f32⟩
  | .hbm, ⟨86, _⟩ => ⟨S4x16x4096x20, .f32⟩
  | .hbm, ⟨87, _⟩ => ⟨S4x16x4096x20, .f32⟩
  | .hbm, ⟨88, _⟩ => ⟨S_, .f32⟩
  | .hbm, ⟨89, _⟩ => ⟨S4x16x4096x20, .f32⟩
  | .hbm, ⟨90, _⟩ => ⟨S4x16x4096x20, .f32⟩
  | .hbm, ⟨91, _⟩ => ⟨S_, .f32⟩
  | .hbm, ⟨92, _⟩ => ⟨S4x16x4096, .f32⟩
  | .hbm, ⟨93, _⟩ => ⟨S4x16x4096x1, .f32⟩
  | .hbm, ⟨94, _⟩ => ⟨S4x16x4096x1, .f32⟩
  | .local _ .vmem, ⟨0, _⟩ => ⟨S1x512x1, .f32⟩
  | .local _ .vmem, ⟨1, _⟩ => ⟨S1x512x1, .f32⟩
  | .local _ .vmem, ⟨2, _⟩ => ⟨S1x512x16, .f32⟩
  | .local _ .vmem, ⟨3, _⟩ => ⟨S1x512x16, .f32⟩
  | .local _ .vmem, ⟨4, _⟩ => ⟨S1x16x4096, .f32⟩
  | .local _ .vmem, ⟨5, _⟩ => ⟨S1x16x4096, .f32⟩
  | .local _ .vmem, ⟨6, _⟩ => ⟨S1x1x4096, .f32⟩
  | .local _ .vmem, ⟨7, _⟩ => ⟨S1x1x4096, .f32⟩
  | .local _ .vmem, ⟨8, _⟩ => ⟨S1x512x20, .i32⟩
  | .local _ .vmem, ⟨9, _⟩ => ⟨S1x512x20, .i32⟩
  | .local _ .vmem, ⟨10, _⟩ => ⟨S512x4096, .f32⟩
  | _, _ => ⟨S4x16x4096x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst : Ref sig .tc := ⟨.hbm, 44, rfl⟩
abbrev main_v29 : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_v32 : Ref sig .tc := ⟨.hbm, 49, rfl⟩
abbrev main_c_4 : Ref sig .tc := ⟨.hbm, 50, rfl⟩
abbrev main_call1_cst : Ref sig .tc := ⟨.hbm, 51, rfl⟩
abbrev main_call1_v0 : Ref sig .tc := ⟨.hbm, 52, rfl⟩
abbrev main_call1_v1 : Ref sig .tc := ⟨.hbm, 53, rfl⟩
abbrev main_call1_cst_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_cst_1 : Ref sig .tc := ⟨.hbm, 61, rfl⟩
abbrev main_call1_v8 : Ref sig .tc := ⟨.hbm, 62, rfl⟩
abbrev main_call1_cst_2 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_v12 : Ref sig .tc := ⟨.hbm, 67, rfl⟩
abbrev main_call1_cst_3 : Ref sig .tc := ⟨.hbm, 68, rfl⟩
abbrev main_call1_v13 : Ref sig .tc := ⟨.hbm, 69, rfl⟩
abbrev main_call1_cst_4 : Ref sig .tc := ⟨.hbm, 70, rfl⟩
abbrev main_call1_call0_v0 : Ref sig .tc := ⟨.hbm, 71, rfl⟩
abbrev main_call1_call0_v1 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_cst_5 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_call2_cst : Ref sig .tc := ⟨.hbm, 88, rfl⟩
abbrev main_call2_v0 : Ref sig .tc := ⟨.hbm, 89, rfl⟩
abbrev main_v47 : Ref sig .tc := ⟨.hbm, 90, rfl⟩
abbrev main_cst_6 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_14 : BitVec 32 := 0#32
  let c20_i32 : BitVec 32 := 20#32
  let v22 : BitVec 32 := Scalar.addi c0_i32_14 c20_i32
  let c1_i32 : BitVec 32 := 1#32
  ⟨c0_i32_14, v22, c1_i32⟩
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x20 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Layer1Ideal.lean ====
variable {F : FTy → Type} [FloatOps F] [Named F]
def κ : String → Option EReal := fun
  | "taken" => some ⊤
  | _ => none
-- ==== Plain1Ideal.lean ====
abbrev S4x16x4096x1 : Shape := ⟨4, ![4, 16, 4096, 1]⟩
abbrev S16x32 : Shape := ⟨2, ![16, 32]⟩
abbrev S16 : Shape := ⟨1, ![16]⟩
abbrev S4x16x4096 : Shape := ⟨3, ![4, 16, 4096]⟩
abbrev S4x4096x16 : Shape := ⟨3, ![4, 4096, 16]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x20 : Shape := ⟨3, ![4, 4096, 20]⟩
abbrev S4096 : Shape := ⟨1, ![4096]⟩
abbrev S1x4096x1 : Shape := ⟨3, ![1, 4096, 1]⟩
abbrev S1x4x4096x20 : Shape := ⟨4, ![1, 4, 4096, 20]⟩
abbrev S2x4x4096x20 : Shape := ⟨4, ![2, 4, 4096, 20]⟩
abbrev S4x4096x20x1 : Shape := ⟨4, ![4, 4096, 20, 1]⟩
abbrev S4x16x4096x20 : Shape := ⟨4, ![4, 16, 4096, 20]⟩
abbrev S4x32x4096x20 : Shape := ⟨4, ![4, 32, 4096, 20]⟩
abbrev S4x4096x20x16 : Shape := ⟨4, ![4, 4096, 20, 16]⟩
abbrev S1x16x1x1 : Shape := ⟨4, ![1, 16, 1, 1]⟩

abbrev nBuf : Space → Nat
  | .hbm => 114
  | .vmem => 0
  | .smem => 0
  | _ => 0

abbrev bufTy : (tb : Table) → Fin (tcTables nBuf tb) → BufTy
  | .hbm, ⟨0, _⟩ => ⟨S4x16x4096x1, .f32⟩
  | .hbm, ⟨1, _⟩ => ⟨S16x32, .f32⟩
  | .hbm, ⟨2, _⟩ => ⟨S16, .f32⟩
  | .hbm, ⟨3, _⟩ => ⟨S16, .f32⟩
  | .hbm, ⟨4, _⟩ => ⟨S16, .f32⟩
  | .hbm, ⟨5, _⟩ => ⟨S4x16x4096, .f32⟩
  | .hbm, ⟨6, _⟩ => ⟨S4x4096x16, .f32⟩
  | .hbm, ⟨7, _⟩ => ⟨S4x16x4096, .f32⟩
  | .hbm, ⟨8, _⟩ => ⟨S4x4096x4096, .f32⟩
  | .hbm, ⟨9, _⟩ => ⟨S_, .f32⟩
  | .hbm, ⟨10, _⟩ => ⟨S4x4096x4096, .f32⟩
  | .hbm, ⟨11, _⟩ => ⟨S4x4096x4096, .f32⟩
  | .hbm, ⟨12, _⟩ => ⟨S4x4096x16, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S4x4096x4096, .f32⟩
  | .hbm, ⟨17, _⟩ => ⟨S4x4096x4096, .f32⟩
  | .hbm, ⟨18, _⟩ => ⟨S4x1x4096, .f32⟩
  | .hbm, ⟨19, _⟩ => ⟨S4x4096x4096, .f32⟩
  | .hbm, ⟨20, _⟩ => ⟨S4x4096x4096, .f32⟩
  | .hbm, ⟨21, _⟩ => ⟨S4x4096x4096, .f32⟩
  | .hbm, ⟨22, _⟩ => ⟨S4x4096x20, .f32⟩
  | .hbm, ⟨23, _⟩ => ⟨S4x4096x20, .i32⟩
  | .hbm, ⟨24, _⟩ => ⟨S4096, .i32⟩
  | .hbm, ⟨25, _⟩ => ⟨S1x4096x1, .i32⟩
  | .hbm, ⟨26, _⟩ => ⟨S4x4096x20, .i32⟩
  | .hbm, ⟨27, _⟩ => ⟨S1x4x4096x20, .i32⟩
  | .hbm, ⟨28, _⟩ => ⟨S1x4x4096x20, .i32⟩
  | .hbm, ⟨29, _⟩ => ⟨S2x4x4096x20, .i32⟩
  | .hbm, ⟨30, _⟩ => ⟨S1x4x4096x20, .i32⟩
  | .hbm, ⟨31, _⟩ => ⟨S4x4096x20, .i32⟩
  | .hbm, ⟨32, _⟩ => ⟨S4x16x4096, .f32⟩
  | .hbm, ⟨33, _⟩ => ⟨S_, .i32⟩
  | .hbm, ⟨34, _⟩ => ⟨S4x4096x20, .i32⟩
  | .hbm, ⟨35, _⟩ => ⟨S4x4096x20, .i1⟩
  | .hbm, ⟨36, _⟩ => ⟨S_, .i32⟩
  | .hbm, ⟨37, _⟩ => ⟨S4x4096x20, .i32⟩
  | .hbm, ⟨38, _⟩ => ⟨S4x4096x20, .i32⟩
  | .hbm, ⟨39, _⟩ => ⟨S4x4096x20, .i32⟩
  | .hbm, ⟨40, _⟩ => ⟨S4x4096x20x1, .i32⟩
  | .hbm, ⟨41, _⟩ => ⟨S4x16x4096x20, .f32⟩
  | .hbm, ⟨42, _⟩ => ⟨S1x4x4096x20, .i32⟩
  | .hbm, ⟨43, _⟩ => ⟨S4x4096x20, .i32⟩
  | .hbm, ⟨44, _⟩ => ⟨S4x16x4096, .f32⟩
  | .hbm, ⟨45, _⟩ => ⟨S_, .i32⟩
  | .hbm, ⟨46, _⟩ => ⟨S4x4096x20, .i32⟩
  | .hbm, ⟨47, _⟩ => ⟨S4x4096x20, .i1⟩
  | .hbm, ⟨48, _⟩ => ⟨S_, .i32⟩
  | .hbm, ⟨49, _⟩ => ⟨S4x4096x20, .i32⟩
  | .hbm, ⟨50, _⟩ => ⟨S4x4096x20, .i32⟩
  | .hbm, ⟨51, _⟩ => ⟨S4x4096x20, .i32⟩
  | .hbm, ⟨52, _⟩ => ⟨S4x4096x20x1, .i32⟩
  | .hbm, ⟨53, _⟩ => ⟨S4x16x4096x20, .f32⟩
  | .hbm, ⟨54, _⟩ => ⟨S4x16x4096x20, .f32⟩
  | .hbm, ⟨55, _⟩ => ⟨S4x32x4096x20, .f32⟩
  | .hbm, ⟨56, _⟩ => ⟨S4x4096x20x16, .f32⟩
  | .hbm, ⟨57, _⟩ => ⟨S4x16x4096x20, .f32⟩
  | .hbm, ⟨58, _⟩ => ⟨S1x16x1x1, .f32⟩
  | .hbm, ⟨59, _⟩ => ⟨S4x16x4096x20, .f32⟩
  | .hbm, ⟨60, _⟩ => ⟨S4x16x4096x20, .f32⟩
  | .hbm, ⟨61, _⟩ => ⟨S_, .f32⟩
  | .hbm, ⟨62, _⟩ => ⟨S16, .f32⟩
  | .hbm, ⟨63, _⟩ => ⟨S1x16x1x1, .f32⟩
  | .hbm, ⟨64, _⟩ => ⟨S_, .f32⟩
  | .hbm, ⟨65, _⟩ => ⟨S1x16x1x1, .f32⟩
  | .hbm, ⟨66, _⟩ => ⟨S1x16x1x1, .f32⟩
  | .hbm, ⟨67, _⟩ => ⟨S_, .i32⟩
  | .hbm, ⟨68, _⟩ => ⟨S_, .f32⟩
  | .hbm, ⟨69, _⟩ => ⟨S16, .f32⟩
  | .hbm, ⟨70, _⟩ => ⟨S1x16x1x1, .f32⟩
  | .hbm, ⟨71, _⟩ => ⟨S_, .f32⟩
  | .hbm, ⟨72, _⟩ => ⟨S1x16x1x1, .f32⟩
  | .hbm, ⟨73, _⟩ => ⟨S1x16x1x1, .f32⟩
  | .hbm, ⟨74, _⟩ => ⟨S4x16x4096x20, .f32⟩
  | .hbm, ⟨75, _⟩ => ⟨S4x16x4096x20, .f32⟩
  | .hbm, ⟨76, _⟩ => ⟨S4x16x4096x20, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S16, .f32⟩
  | .hbm, ⟨82, _⟩ => ⟨S1x16x1x1, .f32⟩
  | .hbm, ⟨83, _⟩ => ⟨S1x16x1x1, .f32⟩
  | .hbm, ⟨84, _⟩ => ⟨S1x16x1x1, .f32⟩
  | .hbm, ⟨85, _⟩ => ⟨S_, .f32⟩
  | .hbm, ⟨86, _⟩ => ⟨S_, .i1⟩
  | .hbm, ⟨87, _⟩ => ⟨S_, .f32⟩
  | .hbm, ⟨88, _⟩ => ⟨S_, .f32⟩
  | .hbm, ⟨89, _⟩ => ⟨S1x16x1x1, .f32⟩
  | .hbm, ⟨90, _⟩ => ⟨S1x16x1x1, .f32⟩
  | .hbm, ⟨91, _⟩ => ⟨S4x16x4096x20, .f32⟩
  | .hbm, ⟨92, _⟩ => ⟨S4x16x4096x20, .f32⟩
  | .hbm, ⟨93, _⟩ => ⟨S_, .f32⟩
  | .hbm, ⟨94, _⟩ => ⟨S1x16x1x1, .f32⟩
  | .hbm, ⟨95, _⟩ => ⟨S1x16x1x1, .f32⟩
  | .hbm, ⟨96, _⟩ => ⟨S1x16x1x1, .f32⟩
  | .hbm, ⟨97, _⟩ => ⟨S4x16x4096x20, .f32⟩
  | .hbm, ⟨98, _⟩ => ⟨S4x16x4096x20, .f32⟩
  | .hbm, ⟨99, _⟩ => ⟨S1x16x1x1, .f32⟩
  | .hbm, ⟨100, _⟩ => ⟨S4x16x4096x20, .f32⟩
  | .hbm, ⟨101, _⟩ => ⟨S4x16x4096x20, .f32⟩
  | .hbm, ⟨102, _⟩ => ⟨S1x16x1x1, .f32⟩
  | .hbm, ⟨103, _⟩ => ⟨S4x16x4096x20, .f32⟩
  | .hbm, ⟨104, _⟩ => ⟨S4x16x4096x20, .f32⟩
  | .hbm, ⟨105, _⟩ => ⟨S_, .f32⟩
  | .hbm, ⟨106, _⟩ => ⟨S4x16x4096x20, .f32⟩
  | .hbm, ⟨107, _⟩ => ⟨S4x16x4096x20, .f32⟩
  | .hbm, ⟨108, _⟩ => ⟨S_, .f32⟩
  | .hbm, ⟨109, _⟩ => ⟨S4x16x4096, .f32⟩
  | .hbm, ⟨110, _⟩ => ⟨S4x16x4096x1, .f32⟩
  | .hbm, ⟨111, _⟩ => ⟨S4x16x4096x1, .f32⟩
  | .hbm, ⟨112, _⟩ => ⟨S1x4x4096x20, .i32⟩
  | .hbm, ⟨113, _⟩ => ⟨S4x4096x20, .i32⟩
  | _, _ => ⟨S4x16x4096x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_values : Ref sig .tc := ⟨.hbm, 22, rfl⟩
abbrev main_indices : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c : Ref sig .tc := ⟨.hbm, 33, rfl⟩
abbrev main_v24 : Ref sig .tc := ⟨.hbm, 34, rfl⟩
abbrev main_v25 : Ref sig .tc := ⟨.hbm, 35, rfl⟩
abbrev main_c_1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_2 : Ref sig .tc := ⟨.hbm, 45, rfl⟩
abbrev main_v34 : Ref sig .tc := ⟨.hbm, 46, rfl⟩
abbrev main_v35 : Ref sig .tc := ⟨.hbm, 47, rfl⟩
abbrev main_c_3 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_4 : Ref sig .tc := ⟨.hbm, 61, rfl⟩
abbrev main_v48 : Ref sig .tc := ⟨.hbm, 62, rfl⟩
abbrev main_v49 : Ref sig .tc := ⟨.hbm, 63, rfl⟩
abbrev main_cst_5 : Ref sig .tc := ⟨.hbm, 64, rfl⟩
abbrev main_v50 : Ref sig .tc := ⟨.hbm, 65, rfl⟩
abbrev main_v51 : Ref sig .tc := ⟨.hbm, 66, rfl⟩
abbrev main_c_6 : Ref sig .tc := ⟨.hbm, 67, rfl⟩
abbrev main_call0_cst : Ref sig .tc := ⟨.hbm, 68, rfl⟩
abbrev main_call0_v0 : Ref sig .tc := ⟨.hbm, 69, rfl⟩
abbrev main_call0_v1 : Ref sig .tc := ⟨.hbm, 70, rfl⟩
abbrev main_call0_cst_0 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_v5 : Ref sig .tc := ⟨.hbm, 75, rfl⟩
abbrev main_call0_v6 : Ref sig .tc := ⟨.hbm, 76, rfl⟩
abbrev main_call0_v7 : Ref sig .tc := ⟨.hbm, 77, rfl⟩
abbrev main_call0_cst_1 : Ref sig .tc := ⟨.hbm, 78, rfl⟩
abbrev main_call0_v8 : Ref sig .tc := ⟨.hbm, 79, rfl⟩
abbrev main_call0_cst_2 : Ref sig .tc := ⟨.hbm, 80, rfl⟩
abbrev main_call0_v9 : Ref sig .tc := ⟨.hbm, 81, rfl⟩
abbrev main_call0_v10 : Ref sig .tc := ⟨.hbm, 82, rfl⟩
abbrev main_call0_v11 : Ref sig .tc := ⟨.hbm, 83, rfl⟩
abbrev main_call0_v12 : Ref sig .tc := ⟨.hbm, 84, rfl⟩
abbrev main_call0_cst_3 : Ref sig .tc := ⟨.hbm, 85, rfl⟩
abbrev main_call0_v13 : Ref sig .tc := ⟨.hbm, 86, rfl⟩
abbrev main_call0_cst_4 : Ref sig .tc := ⟨.hbm, 87, rfl⟩
abbrev main_call0_call0_v0 : Ref sig .tc := ⟨.hbm, 88, rfl⟩
abbrev main_call0_call0_v1 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_cst_7 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_call1_cst : Ref sig .tc := ⟨.hbm, 105, rfl⟩
abbrev main_call1_v0 : Ref sig .tc := ⟨.hbm, 106, rfl⟩
abbrev main_v66 : Ref sig .tc := ⟨.hbm, 107, rfl⟩
abbrev main_cst_8 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩

abbrev nD : Nat := 1
abbrev τ : Topo := Topo.v7x

variable {F : FTy → Type} [FloatOps F]
-- ==== Layer2.lean ====
abbrev S4x16x4096x1 : Shape := ⟨4, ![4, 16, 4096, 1]⟩
abbrev S16x32 : Shape := ⟨2, ![16, 32]⟩
abbrev S16 : Shape := ⟨1, ![16]⟩
abbrev S4x16x4096 : Shape := ⟨3, ![4, 16, 4096]⟩
abbrev S4x4096x16 : Shape := ⟨3, ![4, 4096, 16]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x20 : Shape := ⟨3, ![4, 4096, 20]⟩
abbrev S1x512x1 : Shape := ⟨3, ![1, 512, 1]⟩
abbrev S1x512x16 : Shape := ⟨3, ![1, 512, 16]⟩
abbrev S1x16x4096 : Shape := ⟨3, ![1, 16, 4096]⟩
abbrev S1x1x4096 : Shape := ⟨3, ![1, 1, 4096]⟩
abbrev S1x512x20 : Shape := ⟨3, ![1, 512, 20]⟩
abbrev S512x4096 : Shape := ⟨2, ![512, 4096]⟩
abbrev S512x16 : Shape := ⟨2, ![512, 16]⟩
abbrev S16x4096 : Shape := ⟨2, ![16, 4096]⟩
abbrev S512x1 : Shape := ⟨2, ![512, 1]⟩
abbrev S1x4096 : Shape := ⟨2, ![1, 4096]⟩
abbrev S512x20 : Shape := ⟨2, ![512, 20]⟩
abbrev S512x128 : Shape := ⟨2, ![512, 128]⟩
abbrev S512 : Shape := ⟨1, ![512]⟩
abbrev S4096 : Shape := ⟨1, ![4096]⟩
abbrev S1x4096x1 : Shape := ⟨3, ![1, 4096, 1]⟩
abbrev S4x4096x20x1 : Shape := ⟨4, ![4, 4096, 20, 1]⟩
abbrev S4x16x4096x20 : Shape := ⟨4, ![4, 16, 4096, 20]⟩
abbrev S4x32x4096x20 : Shape := ⟨4, ![4, 32, 4096, 20]⟩
abbrev S4x4096x20x16 : Shape := ⟨4, ![4, 4096, 20, 16]⟩
abbrev S1x16x1x1 : Shape := ⟨4, ![1, 16, 1, 1]⟩

abbrev nBuf : Space → Nat
  | .hbm => 95
  | .vmem => 11
  | .smem => 0
  | _ => 0

abbrev bufTy : (tb : Table) → Fin (tcTables nBuf tb) → BufTy
  | .hbm, ⟨0, _⟩ => ⟨S4x16x4096x1, .f32⟩
  | .hbm, ⟨1, _⟩ => ⟨S16x32, .f32⟩
  | .hbm, ⟨2, _⟩ => ⟨S16, .f32⟩
  | .hbm, ⟨3, _⟩ => ⟨S16, .f32⟩
  | .hbm, ⟨4, _⟩ => ⟨S16, .f32⟩
  | .hbm, ⟨5, _⟩ => ⟨S4x16x4096, .f32⟩
  | .hbm, ⟨6, _⟩ => ⟨S4x4096x16, .f32⟩
  | .hbm, ⟨7, _⟩ => ⟨S4x4096x16, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S4x1x4096, .f32⟩
  | .hbm, ⟨12, _⟩ => ⟨S4x16x4096, .f32⟩
  | .hbm, ⟨13, _⟩ => ⟨S4x4096x20, .i32⟩
  | .hbm, ⟨14, _⟩ => ⟨S4096, .i32⟩
  | .hbm, ⟨15, _⟩ => ⟨S1x4096x1, .i32⟩
  | .hbm, ⟨16, _⟩ => ⟨S4x4096x20, .i32⟩
  | .hbm, ⟨17, _⟩ => ⟨S4x16x4096, .f32⟩
  | .hbm, ⟨18, _⟩ => ⟨S_, .i32⟩
  | .hbm, ⟨19, _⟩ => ⟨S4x4096x20, .i32⟩
  | .hbm, ⟨20, _⟩ => ⟨S4x4096x20, .i1⟩
  | .hbm, ⟨21, _⟩ => ⟨S_, .i32⟩
  | .hbm, ⟨22, _⟩ => ⟨S4x4096x20, .i32⟩
  | .hbm, ⟨23, _⟩ => ⟨S4x4096x20, .i32⟩
  | .hbm, ⟨24, _⟩ => ⟨S4x4096x20, .i32⟩
  | .hbm, ⟨25, _⟩ => ⟨S4x4096x20x1, .i32⟩
  | .hbm, ⟨26, _⟩ => ⟨S4x16x4096x20, .f32⟩
  | .hbm, ⟨27, _⟩ => ⟨S4x16x4096, .f32⟩
  | .hbm, ⟨28, _⟩ => ⟨S_, .i32⟩
  | .hbm, ⟨29, _⟩ => ⟨S4x4096x20, .i32⟩
  | .hbm, ⟨30, _⟩ => ⟨S4x4096x20, .i1⟩
  | .hbm, ⟨31, _⟩ => ⟨S_, .i32⟩
  | .hbm, ⟨32, _⟩ => ⟨S4x4096x20, .i32⟩
  | .hbm, ⟨33, _⟩ => ⟨S4x4096x20, .i32⟩
  | .hbm, ⟨34, _⟩ => ⟨S4x4096x20, .i32⟩
  | .hbm, ⟨35, _⟩ => ⟨S4x4096x20x1, .i32⟩
  | .hbm, ⟨36, _⟩ => ⟨S4x16x4096x20, .f32⟩
  | .hbm, ⟨37, _⟩ => ⟨S4x16x4096x20, .f32⟩
  | .hbm, ⟨38, _⟩ => ⟨S4x32x4096x20, .f32⟩
  | .hbm, ⟨39, _⟩ => ⟨S4x4096x20x16, .f32⟩
  | .hbm, ⟨40, _⟩ => ⟨S4x16x4096x20, .f32⟩
  | .hbm, ⟨41, _⟩ => ⟨S1x16x1x1, .f32⟩
  | .hbm, ⟨42, _⟩ => ⟨S4x16x4096x20, .f32⟩
  | .hbm, ⟨43, _⟩ => ⟨S4x16x4096x20, .f32⟩
  | .hbm, ⟨44, _⟩ => ⟨S_, .f32⟩
  | .hbm, ⟨45, _⟩ => ⟨S16, .f32⟩
  | .hbm, ⟨46, _⟩ => ⟨S1x16x1x1, .f32⟩
  | .hbm, ⟨47, _⟩ => ⟨S_, .f32⟩
  | .hbm, ⟨48, _⟩ => ⟨S1x16x1x1, .f32⟩
  | .hbm, ⟨49, _⟩ => ⟨S1x16x1x1, .f32⟩
  | .hbm, ⟨50, _⟩ => ⟨S_, .i32⟩
  | .hbm, ⟨51, _⟩ => ⟨S_, .f32⟩
  | .hbm, ⟨52, _⟩ => ⟨S16, .f32⟩
  | .hbm, ⟨53, _⟩ => ⟨S1x16x1x1, .f32⟩
  | .hbm, ⟨54, _⟩ => ⟨S_, .f32⟩
  | .hbm, ⟨55, _⟩ => ⟨S1x16x1x1, .f32⟩
  | .hbm, ⟨56, _⟩ => ⟨S1x16x1x1, .f32⟩
  | .hbm, ⟨57, _⟩ => ⟨S4x16x4096x20, .f32⟩
  | .hbm, ⟨58, _⟩ => ⟨S4x16x4096x20, .f32⟩
  | .hbm, ⟨59, _⟩ => ⟨S4x16x4096x20, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S16, .f32⟩
  | .hbm, ⟨65, _⟩ => ⟨S1x16x1x1, .f32⟩
  | .hbm, ⟨66, _⟩ => ⟨S1x16x1x1, .f32⟩
  | .hbm, ⟨67, _⟩ => ⟨S1x16x1x1, .f32⟩
  | .hbm, ⟨68, _⟩ => ⟨S_, .f32⟩
  | .hbm, ⟨69, _⟩ => ⟨S_, .i1⟩
  | .hbm, ⟨70, _⟩ => ⟨S_, .f32⟩
  | .hbm, ⟨71, _⟩ => ⟨S_, .f32⟩
  | .hbm, ⟨72, _⟩ => ⟨S1x16x1x1, .f32⟩
  | .hbm, ⟨73, _⟩ => ⟨S1x16x1x1, .f32⟩
  | .hbm, ⟨74, _⟩ => ⟨S4x16x4096x20, .f32⟩
  | .hbm, ⟨75, _⟩ => ⟨S4x16x4096x20, .f32⟩
  | .hbm, ⟨76, _⟩ => ⟨S_, .f32⟩
  | .hbm, ⟨77, _⟩ => ⟨S1x16x1x1, .f32⟩
  | .hbm, ⟨78, _⟩ => ⟨S1x16x1x1, .f32⟩
  | .hbm, ⟨79, _⟩ => ⟨S1x16x1x1, .f32⟩
  | .hbm, ⟨80, _⟩ => ⟨S4x16x4096x20, .f32⟩
  | .hbm, ⟨81, _⟩ => ⟨S4x16x4096x20, .f32⟩
  | .hbm, ⟨82, _⟩ => ⟨S1x16x1x1, .f32⟩
  | .hbm, ⟨83, _⟩ => ⟨S4x16x4096x20, .f32⟩
  | .hbm, ⟨84, _⟩ => ⟨S4x16x4096x20, .f32⟩
  | .hbm, ⟨85, _⟩ => ⟨S1x16x1x1, .f32⟩
  | .hbm, ⟨86, _⟩ => ⟨S4x16x4096x20, .f32⟩
  | .hbm, ⟨87, _⟩ => ⟨S4x16x4096x20, .f32⟩
  | .hbm, ⟨88, _⟩ => ⟨S_, .f32⟩
  | .hbm, ⟨89, _⟩ => ⟨S4x16x4096x20, .f32⟩
  | .hbm, ⟨90, _⟩ => ⟨S4x16x4096x20, .f32⟩
  | .hbm, ⟨91, _⟩ => ⟨S_, .f32⟩
  | .hbm, ⟨92, _⟩ => ⟨S4x16x4096, .f32⟩
  | .hbm, ⟨93, _⟩ => ⟨S4x16x4096x1, .f32⟩
  | .hbm, ⟨94, _⟩ => ⟨S4x16x4096x1, .f32⟩
  | .local _ .vmem, ⟨0, _⟩ => ⟨S1x512x1, .f32⟩
  | .local _ .vmem, ⟨1, _⟩ => ⟨S1x512x1, .f32⟩
  | .local _ .vmem, ⟨2, _⟩ => ⟨S1x512x16, .f32⟩
  | .local _ .vmem, ⟨3, _⟩ => ⟨S1x512x16, .f32⟩
  | .local _ .vmem, ⟨4, _⟩ => ⟨S1x16x4096, .f32⟩
  | .local _ .vmem, ⟨5, _⟩ => ⟨S1x16x4096, .f32⟩
  | .local _ .vmem, ⟨6, _⟩ => ⟨S1x1x4096, .f32⟩
  | .local _ .vmem, ⟨7, _⟩ => ⟨S1x1x4096, .f32⟩
  | .local _ .vmem, ⟨8, _⟩ => ⟨S1x512x20, .i32⟩
  | .local _ .vmem, ⟨9, _⟩ => ⟨S1x512x20, .i32⟩
  | .local _ .vmem, ⟨10, _⟩ => ⟨S512x4096, .f32⟩
  | _, _ => ⟨S4x16x4096x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst : Ref sig .tc := ⟨.hbm, 44, rfl⟩
abbrev main_v29 : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_v32 : Ref sig .tc := ⟨.hbm, 49, rfl⟩
abbrev main_c_4 : Ref sig .tc := ⟨.hbm, 50, rfl⟩
abbrev main_call1_cst : Ref sig .tc := ⟨.hbm, 51, rfl⟩
abbrev main_call1_v0 : Ref sig .tc := ⟨.hbm, 52, rfl⟩
abbrev main_call1_v1 : Ref sig .tc := ⟨.hbm, 53, rfl⟩
abbrev main_call1_cst_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_cst_1 : Ref sig .tc := ⟨.hbm, 61, rfl⟩
abbrev main_call1_v8 : Ref sig .tc := ⟨.hbm, 62, rfl⟩
abbrev main_call1_cst_2 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_v12 : Ref sig .tc := ⟨.hbm, 67, rfl⟩
abbrev main_call1_cst_3 : Ref sig .tc := ⟨.hbm, 68, rfl⟩
abbrev main_call1_v13 : Ref sig .tc := ⟨.hbm, 69, rfl⟩
abbrev main_call1_cst_4 : Ref sig .tc := ⟨.hbm, 70, rfl⟩
abbrev main_call1_call0_v0 : Ref sig .tc := ⟨.hbm, 71, rfl⟩
abbrev main_call1_call0_v1 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_cst_5 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_call2_cst : Ref sig .tc := ⟨.hbm, 88, rfl⟩
abbrev main_call2_v0 : Ref sig .tc := ⟨.hbm, 89, rfl⟩
abbrev main_v47 : Ref sig .tc := ⟨.hbm, 90, rfl⟩
abbrev main_cst_6 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_14 : BitVec 32 := 0#32
  let c40_i32 : BitVec 32 := 40#32
  let v22 : BitVec 32 := Scalar.addi c0_i32_14 c40_i32
  let c1_i32 : BitVec 32 := 1#32
  ⟨c0_i32_14, v22, c1_i32⟩
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x20 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Layer2Ideal.lean ====
variable {F : FTy → Type} [FloatOps F] [Named F]
def κ : String → Option EReal := fun
  | "taken" => some ⊤
  | _ => none
-- ==== Plain2Ideal.lean ====
abbrev S4x16x4096x1 : Shape := ⟨4, ![4, 16, 4096, 1]⟩
abbrev S16x32 : Shape := ⟨2, ![16, 32]⟩
abbrev S16 : Shape := ⟨1, ![16]⟩
abbrev S4x16x4096 : Shape := ⟨3, ![4, 16, 4096]⟩
abbrev S4x4096x16 : Shape := ⟨3, ![4, 4096, 16]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x40 : Shape := ⟨3, ![4, 4096, 40]⟩
abbrev S4096 : Shape := ⟨1, ![4096]⟩
abbrev S1x4096x1 : Shape := ⟨3, ![1, 4096, 1]⟩
abbrev S1x4x4096x40 : Shape := ⟨4, ![1, 4, 4096, 40]⟩
abbrev S2x4x4096x40 : Shape := ⟨4, ![2, 4, 4096, 40]⟩
abbrev S2x4x4096x20 : Shape := ⟨4, ![2, 4, 4096, 20]⟩
abbrev S1x4x4096x20 : Shape := ⟨4, ![1, 4, 4096, 20]⟩
abbrev S4x4096x20 : Shape := ⟨3, ![4, 4096, 20]⟩
abbrev S4x4096x20x1 : Shape := ⟨4, ![4, 4096, 20, 1]⟩
abbrev S4x16x4096x20 : Shape := ⟨4, ![4, 16, 4096, 20]⟩
abbrev S4x32x4096x20 : Shape := ⟨4, ![4, 32, 4096, 20]⟩
abbrev S4x4096x20x16 : Shape := ⟨4, ![4, 4096, 20, 16]⟩
abbrev S1x16x1x1 : Shape := ⟨4, ![1, 16, 1, 1]⟩

abbrev nBuf : Space → Nat
  | .hbm => 115
  | .vmem => 0
  | .smem => 0
  | _ => 0

abbrev bufTy : (tb : Table) → Fin (tcTables nBuf tb) → BufTy
  | .hbm, ⟨0, _⟩ => ⟨S4x16x4096x1, .f32⟩
  | .hbm, ⟨1, _⟩ => ⟨S16x32, .f32⟩
  | .hbm, ⟨2, _⟩ => ⟨S16, .f32⟩
  | .hbm, ⟨3, _⟩ => ⟨S16, .f32⟩
  | .hbm, ⟨4, _⟩ => ⟨S16, .f32⟩
  | .hbm, ⟨5, _⟩ => ⟨S4x16x4096, .f32⟩
  | .hbm, ⟨6, _⟩ => ⟨S4x4096x16, .f32⟩
  | .hbm, ⟨7, _⟩ => ⟨S4x16x4096, .f32⟩
  | .hbm, ⟨8, _⟩ => ⟨S4x4096x4096, .f32⟩
  | .hbm, ⟨9, _⟩ => ⟨S_, .f32⟩
  | .hbm, ⟨10, _⟩ => ⟨S4x4096x4096, .f32⟩
  | .hbm, ⟨11, _⟩ => ⟨S4x4096x4096, .f32⟩
  | .hbm, ⟨12, _⟩ => ⟨S4x4096x16, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S4x4096x4096, .f32⟩
  | .hbm, ⟨17, _⟩ => ⟨S4x4096x4096, .f32⟩
  | .hbm, ⟨18, _⟩ => ⟨S4x1x4096, .f32⟩
  | .hbm, ⟨19, _⟩ => ⟨S4x4096x4096, .f32⟩
  | .hbm, ⟨20, _⟩ => ⟨S4x4096x4096, .f32⟩
  | .hbm, ⟨21, _⟩ => ⟨S4x4096x4096, .f32⟩
  | .hbm, ⟨22, _⟩ => ⟨S4x4096x40, .f32⟩
  | .hbm, ⟨23, _⟩ => ⟨S4x4096x40, .i32⟩
  | .hbm, ⟨24, _⟩ => ⟨S4096, .i32⟩
  | .hbm, ⟨25, _⟩ => ⟨S1x4096x1, .i32⟩
  | .hbm, ⟨26, _⟩ => ⟨S4x4096x40, .i32⟩
  | .hbm, ⟨27, _⟩ => ⟨S1x4x4096x40, .i32⟩
  | .hbm, ⟨28, _⟩ => ⟨S1x4x4096x40, .i32⟩
  | .hbm, ⟨29, _⟩ => ⟨S2x4x4096x40, .i32⟩
  | .hbm, ⟨30, _⟩ => ⟨S2x4x4096x20, .i32⟩
  | .hbm, ⟨31, _⟩ => ⟨S1x4x4096x20, .i32⟩
  | .hbm, ⟨32, _⟩ => ⟨S4x4096x20, .i32⟩
  | .hbm, ⟨33, _⟩ => ⟨S4x16x4096, .f32⟩
  | .hbm, ⟨34, _⟩ => ⟨S_, .i32⟩
  | .hbm, ⟨35, _⟩ => ⟨S4x4096x20, .i32⟩
  | .hbm, ⟨36, _⟩ => ⟨S4x4096x20, .i1⟩
  | .hbm, ⟨37, _⟩ => ⟨S_, .i32⟩
  | .hbm, ⟨38, _⟩ => ⟨S4x4096x20, .i32⟩
  | .hbm, ⟨39, _⟩ => ⟨S4x4096x20, .i32⟩
  | .hbm, ⟨40, _⟩ => ⟨S4x4096x20, .i32⟩
  | .hbm, ⟨41, _⟩ => ⟨S4x4096x20x1, .i32⟩
  | .hbm, ⟨42, _⟩ => ⟨S4x16x4096x20, .f32⟩
  | .hbm, ⟨43, _⟩ => ⟨S1x4x4096x20, .i32⟩
  | .hbm, ⟨44, _⟩ => ⟨S4x4096x20, .i32⟩
  | .hbm, ⟨45, _⟩ => ⟨S4x16x4096, .f32⟩
  | .hbm, ⟨46, _⟩ => ⟨S_, .i32⟩
  | .hbm, ⟨47, _⟩ => ⟨S4x4096x20, .i32⟩
  | .hbm, ⟨48, _⟩ => ⟨S4x4096x20, .i1⟩
  | .hbm, ⟨49, _⟩ => ⟨S_, .i32⟩
  | .hbm, ⟨50, _⟩ => ⟨S4x4096x20, .i32⟩
  | .hbm, ⟨51, _⟩ => ⟨S4x4096x20, .i32⟩
  | .hbm, ⟨52, _⟩ => ⟨S4x4096x20, .i32⟩
  | .hbm, ⟨53, _⟩ => ⟨S4x4096x20x1, .i32⟩
  | .hbm, ⟨54, _⟩ => ⟨S4x16x4096x20, .f32⟩
  | .hbm, ⟨55, _⟩ => ⟨S4x16x4096x20, .f32⟩
  | .hbm, ⟨56, _⟩ => ⟨S4x32x4096x20, .f32⟩
  | .hbm, ⟨57, _⟩ => ⟨S4x4096x20x16, .f32⟩
  | .hbm, ⟨58, _⟩ => ⟨S4x16x4096x20, .f32⟩
  | .hbm, ⟨59, _⟩ => ⟨S1x16x1x1, .f32⟩
  | .hbm, ⟨60, _⟩ => ⟨S4x16x4096x20, .f32⟩
  | .hbm, ⟨61, _⟩ => ⟨S4x16x4096x20, .f32⟩
  | .hbm, ⟨62, _⟩ => ⟨S_, .f32⟩
  | .hbm, ⟨63, _⟩ => ⟨S16, .f32⟩
  | .hbm, ⟨64, _⟩ => ⟨S1x16x1x1, .f32⟩
  | .hbm, ⟨65, _⟩ => ⟨S_, .f32⟩
  | .hbm, ⟨66, _⟩ => ⟨S1x16x1x1, .f32⟩
  | .hbm, ⟨67, _⟩ => ⟨S1x16x1x1, .f32⟩
  | .hbm, ⟨68, _⟩ => ⟨S_, .i32⟩
  | .hbm, ⟨69, _⟩ => ⟨S_, .f32⟩
  | .hbm, ⟨70, _⟩ => ⟨S16, .f32⟩
  | .hbm, ⟨71, _⟩ => ⟨S1x16x1x1, .f32⟩
  | .hbm, ⟨72, _⟩ => ⟨S_, .f32⟩
  | .hbm, ⟨73, _⟩ => ⟨S1x16x1x1, .f32⟩
  | .hbm, ⟨74, _⟩ => ⟨S1x16x1x1, .f32⟩
  | .hbm, ⟨75, _⟩ => ⟨S4x16x4096x20, .f32⟩
  | .hbm, ⟨76, _⟩ => ⟨S4x16x4096x20, .f32⟩
  | .hbm, ⟨77, _⟩ => ⟨S4x16x4096x20, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S16, .f32⟩
  | .hbm, ⟨83, _⟩ => ⟨S1x16x1x1, .f32⟩
  | .hbm, ⟨84, _⟩ => ⟨S1x16x1x1, .f32⟩
  | .hbm, ⟨85, _⟩ => ⟨S1x16x1x1, .f32⟩
  | .hbm, ⟨86, _⟩ => ⟨S_, .f32⟩
  | .hbm, ⟨87, _⟩ => ⟨S_, .i1⟩
  | .hbm, ⟨88, _⟩ => ⟨S_, .f32⟩
  | .hbm, ⟨89, _⟩ => ⟨S_, .f32⟩
  | .hbm, ⟨90, _⟩ => ⟨S1x16x1x1, .f32⟩
  | .hbm, ⟨91, _⟩ => ⟨S1x16x1x1, .f32⟩
  | .hbm, ⟨92, _⟩ => ⟨S4x16x4096x20, .f32⟩
  | .hbm, ⟨93, _⟩ => ⟨S4x16x4096x20, .f32⟩
  | .hbm, ⟨94, _⟩ => ⟨S_, .f32⟩
  | .hbm, ⟨95, _⟩ => ⟨S1x16x1x1, .f32⟩
  | .hbm, ⟨96, _⟩ => ⟨S1x16x1x1, .f32⟩
  | .hbm, ⟨97, _⟩ => ⟨S1x16x1x1, .f32⟩
  | .hbm, ⟨98, _⟩ => ⟨S4x16x4096x20, .f32⟩
  | .hbm, ⟨99, _⟩ => ⟨S4x16x4096x20, .f32⟩
  | .hbm, ⟨100, _⟩ => ⟨S1x16x1x1, .f32⟩
  | .hbm, ⟨101, _⟩ => ⟨S4x16x4096x20, .f32⟩
  | .hbm, ⟨102, _⟩ => ⟨S4x16x4096x20, .f32⟩
  | .hbm, ⟨103, _⟩ => ⟨S1x16x1x1, .f32⟩
  | .hbm, ⟨104, _⟩ => ⟨S4x16x4096x20, .f32⟩
  | .hbm, ⟨105, _⟩ => ⟨S4x16x4096x20, .f32⟩
  | .hbm, ⟨106, _⟩ => ⟨S_, .f32⟩
  | .hbm, ⟨107, _⟩ => ⟨S4x16x4096x20, .f32⟩
  | .hbm, ⟨108, _⟩ => ⟨S4x16x4096x20, .f32⟩
  | .hbm, ⟨109, _⟩ => ⟨S_, .f32⟩
  | .hbm, ⟨110, _⟩ => ⟨S4x16x4096, .f32⟩
  | .hbm, ⟨111, _⟩ => ⟨S4x16x4096x1, .f32⟩
  | .hbm, ⟨112, _⟩ => ⟨S4x16x4096x1, .f32⟩
  | .hbm, ⟨113, _⟩ => ⟨S1x4x4096x20, .i32⟩
  | .hbm, ⟨114, _⟩ => ⟨S4x4096x20, .i32⟩
  | _, _ => ⟨S4x16x4096x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_values : Ref sig .tc := ⟨.hbm, 22, rfl⟩
abbrev main_indices : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c : Ref sig .tc := ⟨.hbm, 34, rfl⟩
abbrev main_v25 : Ref sig .tc := ⟨.hbm, 35, rfl⟩
abbrev main_v26 : Ref sig .tc := ⟨.hbm, 36, rfl⟩
abbrev main_c_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c_2 : Ref sig .tc := ⟨.hbm, 46, rfl⟩
abbrev main_v35 : Ref sig .tc := ⟨.hbm, 47, rfl⟩
abbrev main_v36 : Ref sig .tc := ⟨.hbm, 48, rfl⟩
abbrev main_c_3 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_4 : Ref sig .tc := ⟨.hbm, 62, rfl⟩
abbrev main_v49 : Ref sig .tc := ⟨.hbm, 63, rfl⟩
abbrev main_v50 : Ref sig .tc := ⟨.hbm, 64, rfl⟩
abbrev main_cst_5 : Ref sig .tc := ⟨.hbm, 65, rfl⟩
abbrev main_v51 : Ref sig .tc := ⟨.hbm, 66, rfl⟩
abbrev main_v52 : Ref sig .tc := ⟨.hbm, 67, rfl⟩
abbrev main_c_6 : Ref sig .tc := ⟨.hbm, 68, rfl⟩
abbrev main_call0_cst : Ref sig .tc := ⟨.hbm, 69, rfl⟩
abbrev main_call0_v0 : Ref sig .tc := ⟨.hbm, 70, rfl⟩
abbrev main_call0_v1 : Ref sig .tc := ⟨.hbm, 71, rfl⟩
abbrev main_call0_cst_0 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_call0_v5 : Ref sig .tc := ⟨.hbm, 76, rfl⟩
abbrev main_call0_v6 : Ref sig .tc := ⟨.hbm, 77, rfl⟩
abbrev main_call0_v7 : Ref sig .tc := ⟨.hbm, 78, rfl⟩
abbrev main_call0_cst_1 : Ref sig .tc := ⟨.hbm, 79, rfl⟩
abbrev main_call0_v8 : Ref sig .tc := ⟨.hbm, 80, rfl⟩
abbrev main_call0_cst_2 : Ref sig .tc := ⟨.hbm, 81, rfl⟩
abbrev main_call0_v9 : Ref sig .tc := ⟨.hbm, 82, rfl⟩
abbrev main_call0_v10 : Ref sig .tc := ⟨.hbm, 83, rfl⟩
abbrev main_call0_v11 : Ref sig .tc := ⟨.hbm, 84, rfl⟩
abbrev main_call0_v12 : Ref sig .tc := ⟨.hbm, 85, rfl⟩
abbrev main_call0_cst_3 : Ref sig .tc := ⟨.hbm, 86, rfl⟩
abbrev main_call0_v13 : Ref sig .tc := ⟨.hbm, 87, rfl⟩
abbrev main_call0_cst_4 : Ref sig .tc := ⟨.hbm, 88, rfl⟩
abbrev main_call0_call0_v0 : Ref sig .tc := ⟨.hbm, 89, rfl⟩
abbrev main_call0_call0_v1 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_cst_7 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_call1_cst : Ref sig .tc := ⟨.hbm, 106, rfl⟩
abbrev main_call1_v0 : Ref sig .tc := ⟨.hbm, 107, rfl⟩
abbrev main_v67 : Ref sig .tc := ⟨.hbm, 108, rfl⟩
abbrev main_cst_8 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩

abbrev nD : Nat := 1
abbrev τ : Topo := Topo.v7x

variable {F : FTy → Type} [FloatOps F]
-- ==== Layer3.lean ====
abbrev S4x16x4096x1 : Shape := ⟨4, ![4, 16, 4096, 1]⟩
abbrev S16x32 : Shape := ⟨2, ![16, 32]⟩
abbrev S16 : Shape := ⟨1, ![16]⟩
abbrev S4x16x4096 : Shape := ⟨3, ![4, 16, 4096]⟩
abbrev S4x4096x16 : Shape := ⟨3, ![4, 4096, 16]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x20 : Shape := ⟨3, ![4, 4096, 20]⟩
abbrev S1x512x1 : Shape := ⟨3, ![1, 512, 1]⟩
abbrev S1x512x16 : Shape := ⟨3, ![1, 512, 16]⟩
abbrev S1x16x4096 : Shape := ⟨3, ![1, 16, 4096]⟩
abbrev S1x1x4096 : Shape := ⟨3, ![1, 1, 4096]⟩
abbrev S1x512x20 : Shape := ⟨3, ![1, 512, 20]⟩
abbrev S512x4096 : Shape := ⟨2, ![512, 4096]⟩
abbrev S512x16 : Shape := ⟨2, ![512, 16]⟩
abbrev S16x4096 : Shape := ⟨2, ![16, 4096]⟩
abbrev S512x1 : Shape := ⟨2, ![512, 1]⟩
abbrev S1x4096 : Shape := ⟨2, ![1, 4096]⟩
abbrev S512x20 : Shape := ⟨2, ![512, 20]⟩
abbrev S512x128 : Shape := ⟨2, ![512, 128]⟩
abbrev S512 : Shape := ⟨1, ![512]⟩
abbrev S4096 : Shape := ⟨1, ![4096]⟩
abbrev S1x4096x1 : Shape := ⟨3, ![1, 4096, 1]⟩
abbrev S4x4096x20x1 : Shape := ⟨4, ![4, 4096, 20, 1]⟩
abbrev S4x16x4096x20 : Shape := ⟨4, ![4, 16, 4096, 20]⟩
abbrev S4x32x4096x20 : Shape := ⟨4, ![4, 32, 4096, 20]⟩
abbrev S4x4096x20x16 : Shape := ⟨4, ![4, 4096, 20, 16]⟩
abbrev S1x16x1x1 : Shape := ⟨4, ![1, 16, 1, 1]⟩

abbrev nBuf : Space → Nat
  | .hbm => 95
  | .vmem => 11
  | .smem => 0
  | _ => 0

abbrev bufTy : (tb : Table) → Fin (tcTables nBuf tb) → BufTy
  | .hbm, ⟨0, _⟩ => ⟨S4x16x4096x1, .f32⟩
  | .hbm, ⟨1, _⟩ => ⟨S16x32, .f32⟩
  | .hbm, ⟨2, _⟩ => ⟨S16, .f32⟩
  | .hbm, ⟨3, _⟩ => ⟨S16, .f32⟩
  | .hbm, ⟨4, _⟩ => ⟨S16, .f32⟩
  | .hbm, ⟨5, _⟩ => ⟨S4x16x4096, .f32⟩
  | .hbm, ⟨6, _⟩ => ⟨S4x4096x16, .f32⟩
  | .hbm, ⟨7, _⟩ => ⟨S4x4096x16, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S4x1x4096, .f32⟩
  | .hbm, ⟨12, _⟩ => ⟨S4x16x4096, .f32⟩
  | .hbm, ⟨13, _⟩ => ⟨S4x4096x20, .i32⟩
  | .hbm, ⟨14, _⟩ => ⟨S4096, .i32⟩
  | .hbm, ⟨15, _⟩ => ⟨S1x4096x1, .i32⟩
  | .hbm, ⟨16, _⟩ => ⟨S4x4096x20, .i32⟩
  | .hbm, ⟨17, _⟩ => ⟨S4x16x4096, .f32⟩
  | .hbm, ⟨18, _⟩ => ⟨S_, .i32⟩
  | .hbm, ⟨19, _⟩ => ⟨S4x4096x20, .i32⟩
  | .hbm, ⟨20, _⟩ => ⟨S4x4096x20, .i1⟩
  | .hbm, ⟨21, _⟩ => ⟨S_, .i32⟩
  | .hbm, ⟨22, _⟩ => ⟨S4x4096x20, .i32⟩
  | .hbm, ⟨23, _⟩ => ⟨S4x4096x20, .i32⟩
  | .hbm, ⟨24, _⟩ => ⟨S4x4096x20, .i32⟩
  | .hbm, ⟨25, _⟩ => ⟨S4x4096x20x1, .i32⟩
  | .hbm, ⟨26, _⟩ => ⟨S4x16x4096x20, .f32⟩
  | .hbm, ⟨27, _⟩ => ⟨S4x16x4096, .f32⟩
  | .hbm, ⟨28, _⟩ => ⟨S_, .i32⟩
  | .hbm, ⟨29, _⟩ => ⟨S4x4096x20, .i32⟩
  | .hbm, ⟨30, _⟩ => ⟨S4x4096x20, .i1⟩
  | .hbm, ⟨31, _⟩ => ⟨S_, .i32⟩
  | .hbm, ⟨32, _⟩ => ⟨S4x4096x20, .i32⟩
  | .hbm, ⟨33, _⟩ => ⟨S4x4096x20, .i32⟩
  | .hbm, ⟨34, _⟩ => ⟨S4x4096x20, .i32⟩
  | .hbm, ⟨35, _⟩ => ⟨S4x4096x20x1, .i32⟩
  | .hbm, ⟨36, _⟩ => ⟨S4x16x4096x20, .f32⟩
  | .hbm, ⟨37, _⟩ => ⟨S4x16x4096x20, .f32⟩
  | .hbm, ⟨38, _⟩ => ⟨S4x32x4096x20, .f32⟩
  | .hbm, ⟨39, _⟩ => ⟨S4x4096x20x16, .f32⟩
  | .hbm, ⟨40, _⟩ => ⟨S4x16x4096x20, .f32⟩
  | .hbm, ⟨41, _⟩ => ⟨S1x16x1x1, .f32⟩
  | .hbm, ⟨42, _⟩ => ⟨S4x16x4096x20, .f32⟩
  | .hbm, ⟨43, _⟩ => ⟨S4x16x4096x20, .f32⟩
  | .hbm, ⟨44, _⟩ => ⟨S_, .f32⟩
  | .hbm, ⟨45, _⟩ => ⟨S16, .f32⟩
  | .hbm, ⟨46, _⟩ => ⟨S1x16x1x1, .f32⟩
  | .hbm, ⟨47, _⟩ => ⟨S_, .f32⟩
  | .hbm, ⟨48, _⟩ => ⟨S1x16x1x1, .f32⟩
  | .hbm, ⟨49, _⟩ => ⟨S1x16x1x1, .f32⟩
  | .hbm, ⟨50, _⟩ => ⟨S_, .i32⟩
  | .hbm, ⟨51, _⟩ => ⟨S_, .f32⟩
  | .hbm, ⟨52, _⟩ => ⟨S16, .f32⟩
  | .hbm, ⟨53, _⟩ => ⟨S1x16x1x1, .f32⟩
  | .hbm, ⟨54, _⟩ => ⟨S_, .f32⟩
  | .hbm, ⟨55, _⟩ => ⟨S1x16x1x1, .f32⟩
  | .hbm, ⟨56, _⟩ => ⟨S1x16x1x1, .f32⟩
  | .hbm, ⟨57, _⟩ => ⟨S4x16x4096x20, .f32⟩
  | .hbm, ⟨58, _⟩ => ⟨S4x16x4096x20, .f32⟩
  | .hbm, ⟨59, _⟩ => ⟨S4x16x4096x20, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S16, .f32⟩
  | .hbm, ⟨65, _⟩ => ⟨S1x16x1x1, .f32⟩
  | .hbm, ⟨66, _⟩ => ⟨S1x16x1x1, .f32⟩
  | .hbm, ⟨67, _⟩ => ⟨S1x16x1x1, .f32⟩
  | .hbm, ⟨68, _⟩ => ⟨S_, .f32⟩
  | .hbm, ⟨69, _⟩ => ⟨S_, .i1⟩
  | .hbm, ⟨70, _⟩ => ⟨S_, .f32⟩
  | .hbm, ⟨71, _⟩ => ⟨S_, .f32⟩
  | .hbm, ⟨72, _⟩ => ⟨S1x16x1x1, .f32⟩
  | .hbm, ⟨73, _⟩ => ⟨S1x16x1x1, .f32⟩
  | .hbm, ⟨74, _⟩ => ⟨S4x16x4096x20, .f32⟩
  | .hbm, ⟨75, _⟩ => ⟨S4x16x4096x20, .f32⟩
  | .hbm, ⟨76, _⟩ => ⟨S_, .f32⟩
  | .hbm, ⟨77, _⟩ => ⟨S1x16x1x1, .f32⟩
  | .hbm, ⟨78, _⟩ => ⟨S1x16x1x1, .f32⟩
  | .hbm, ⟨79, _⟩ => ⟨S1x16x1x1, .f32⟩
  | .hbm, ⟨80, _⟩ => ⟨S4x16x4096x20, .f32⟩
  | .hbm, ⟨81, _⟩ => ⟨S4x16x4096x20, .f32⟩
  | .hbm, ⟨82, _⟩ => ⟨S1x16x1x1, .f32⟩
  | .hbm, ⟨83, _⟩ => ⟨S4x16x4096x20, .f32⟩
  | .hbm, ⟨84, _⟩ => ⟨S4x16x4096x20, .f32⟩
  | .hbm, ⟨85, _⟩ => ⟨S1x16x1x1, .f32⟩
  | .hbm, ⟨86, _⟩ => ⟨S4x16x4096x20, .f32⟩
  | .hbm, ⟨87, _⟩ => ⟨S4x16x4096x20, .f32⟩
  | .hbm, ⟨88, _⟩ => ⟨S_, .f32⟩
  | .hbm, ⟨89, _⟩ => ⟨S4x16x4096x20, .f32⟩
  | .hbm, ⟨90, _⟩ => ⟨S4x16x4096x20, .f32⟩
  | .hbm, ⟨91, _⟩ => ⟨S_, .f32⟩
  | .hbm, ⟨92, _⟩ => ⟨S4x16x4096, .f32⟩
  | .hbm, ⟨93, _⟩ => ⟨S4x16x4096x1, .f32⟩
  | .hbm, ⟨94, _⟩ => ⟨S4x16x4096x1, .f32⟩
  | .local _ .vmem, ⟨0, _⟩ => ⟨S1x512x1, .f32⟩
  | .local _ .vmem, ⟨1, _⟩ => ⟨S1x512x1, .f32⟩
  | .local _ .vmem, ⟨2, _⟩ => ⟨S1x512x16, .f32⟩
  | .local _ .vmem, ⟨3, _⟩ => ⟨S1x512x16, .f32⟩
  | .local _ .vmem, ⟨4, _⟩ => ⟨S1x16x4096, .f32⟩
  | .local _ .vmem, ⟨5, _⟩ => ⟨S1x16x4096, .f32⟩
  | .local _ .vmem, ⟨6, _⟩ => ⟨S1x1x4096, .f32⟩
  | .local _ .vmem, ⟨7, _⟩ => ⟨S1x1x4096, .f32⟩
  | .local _ .vmem, ⟨8, _⟩ => ⟨S1x512x20, .i32⟩
  | .local _ .vmem, ⟨9, _⟩ => ⟨S1x512x20, .i32⟩
  | .local _ .vmem, ⟨10, _⟩ => ⟨S512x4096, .f32⟩
  | _, _ => ⟨S4x16x4096x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst : Ref sig .tc := ⟨.hbm, 44, rfl⟩
abbrev main_v29 : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_v32 : Ref sig .tc := ⟨.hbm, 49, rfl⟩
abbrev main_c_4 : Ref sig .tc := ⟨.hbm, 50, rfl⟩
abbrev main_call1_cst : Ref sig .tc := ⟨.hbm, 51, rfl⟩
abbrev main_call1_v0 : Ref sig .tc := ⟨.hbm, 52, rfl⟩
abbrev main_call1_v1 : Ref sig .tc := ⟨.hbm, 53, rfl⟩
abbrev main_call1_cst_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_cst_1 : Ref sig .tc := ⟨.hbm, 61, rfl⟩
abbrev main_call1_v8 : Ref sig .tc := ⟨.hbm, 62, rfl⟩
abbrev main_call1_cst_2 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_v12 : Ref sig .tc := ⟨.hbm, 67, rfl⟩
abbrev main_call1_cst_3 : Ref sig .tc := ⟨.hbm, 68, rfl⟩
abbrev main_call1_v13 : Ref sig .tc := ⟨.hbm, 69, rfl⟩
abbrev main_call1_cst_4 : Ref sig .tc := ⟨.hbm, 70, rfl⟩
abbrev main_call1_call0_v0 : Ref sig .tc := ⟨.hbm, 71, rfl⟩
abbrev main_call1_call0_v1 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_cst_5 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_call2_cst : Ref sig .tc := ⟨.hbm, 88, rfl⟩
abbrev main_call2_v0 : Ref sig .tc := ⟨.hbm, 89, rfl⟩
abbrev main_v47 : Ref sig .tc := ⟨.hbm, 90, rfl⟩
abbrev main_cst_6 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_14 : BitVec 32 := 0#32
  let c60_i32 : BitVec 32 := 60#32
  let v22 : BitVec 32 := Scalar.addi c0_i32_14 c60_i32
  let c1_i32 : BitVec 32 := 1#32
  ⟨c0_i32_14, v22, c1_i32⟩
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x20 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Layer3Ideal.lean ====
variable {F : FTy → Type} [FloatOps F] [Named F]
def κ : String → Option EReal := fun
  | "taken" => some ⊤
  | _ => none
-- ==== Plain3Ideal.lean ====
abbrev S4x16x4096x1 : Shape := ⟨4, ![4, 16, 4096, 1]⟩
abbrev S16x32 : Shape := ⟨2, ![16, 32]⟩
abbrev S16 : Shape := ⟨1, ![16]⟩
abbrev S4x16x4096 : Shape := ⟨3, ![4, 16, 4096]⟩
abbrev S4x4096x16 : Shape := ⟨3, ![4, 4096, 16]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x60 : Shape := ⟨3, ![4, 4096, 60]⟩
abbrev S4096 : Shape := ⟨1, ![4096]⟩
abbrev S1x4096x1 : Shape := ⟨3, ![1, 4096, 1]⟩
abbrev S1x4x4096x60 : Shape := ⟨4, ![1, 4, 4096, 60]⟩
abbrev S2x4x4096x60 : Shape := ⟨4, ![2, 4, 4096, 60]⟩
abbrev S2x4x4096x20 : Shape := ⟨4, ![2, 4, 4096, 20]⟩
abbrev S1x4x4096x20 : Shape := ⟨4, ![1, 4, 4096, 20]⟩
abbrev S4x4096x20 : Shape := ⟨3, ![4, 4096, 20]⟩
abbrev S4x4096x20x1 : Shape := ⟨4, ![4, 4096, 20, 1]⟩
abbrev S4x16x4096x20 : Shape := ⟨4, ![4, 16, 4096, 20]⟩
abbrev S4x32x4096x20 : Shape := ⟨4, ![4, 32, 4096, 20]⟩
abbrev S4x4096x20x16 : Shape := ⟨4, ![4, 4096, 20, 16]⟩
abbrev S1x16x1x1 : Shape := ⟨4, ![1, 16, 1, 1]⟩

abbrev nBuf : Space → Nat
  | .hbm => 115
  | .vmem => 0
  | .smem => 0
  | _ => 0

abbrev bufTy : (tb : Table) → Fin (tcTables nBuf tb) → BufTy
  | .hbm, ⟨0, _⟩ => ⟨S4x16x4096x1, .f32⟩
  | .hbm, ⟨1, _⟩ => ⟨S16x32, .f32⟩
  | .hbm, ⟨2, _⟩ => ⟨S16, .f32⟩
  | .hbm, ⟨3, _⟩ => ⟨S16, .f32⟩
  | .hbm, ⟨4, _⟩ => ⟨S16, .f32⟩
  | .hbm, ⟨5, _⟩ => ⟨S4x16x4096, .f32⟩
  | .hbm, ⟨6, _⟩ => ⟨S4x4096x16, .f32⟩
  | .hbm, ⟨7, _⟩ => ⟨S4x16x4096, .f32⟩
  | .hbm, ⟨8, _⟩ => ⟨S4x4096x4096, .f32⟩
  | .hbm, ⟨9, _⟩ => ⟨S_, .f32⟩
  | .hbm, ⟨10, _⟩ => ⟨S4x4096x4096, .f32⟩
  | .hbm, ⟨11, _⟩ => ⟨S4x4096x4096, .f32⟩
  | .hbm, ⟨12, _⟩ => ⟨S4x4096x16, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S4x4096x4096, .f32⟩
  | .hbm, ⟨17, _⟩ => ⟨S4x4096x4096, .f32⟩
  | .hbm, ⟨18, _⟩ => ⟨S4x1x4096, .f32⟩
  | .hbm, ⟨19, _⟩ => ⟨S4x4096x4096, .f32⟩
  | .hbm, ⟨20, _⟩ => ⟨S4x4096x4096, .f32⟩
  | .hbm, ⟨21, _⟩ => ⟨S4x4096x4096, .f32⟩
  | .hbm, ⟨22, _⟩ => ⟨S4x4096x60, .f32⟩
  | .hbm, ⟨23, _⟩ => ⟨S4x4096x60, .i32⟩
  | .hbm, ⟨24, _⟩ => ⟨S4096, .i32⟩
  | .hbm, ⟨25, _⟩ => ⟨S1x4096x1, .i32⟩
  | .hbm, ⟨26, _⟩ => ⟨S4x4096x60, .i32⟩
  | .hbm, ⟨27, _⟩ => ⟨S1x4x4096x60, .i32⟩
  | .hbm, ⟨28, _⟩ => ⟨S1x4x4096x60, .i32⟩
  | .hbm, ⟨29, _⟩ => ⟨S2x4x4096x60, .i32⟩
  | .hbm, ⟨30, _⟩ => ⟨S2x4x4096x20, .i32⟩
  | .hbm, ⟨31, _⟩ => ⟨S1x4x4096x20, .i32⟩
  | .hbm, ⟨32, _⟩ => ⟨S4x4096x20, .i32⟩
  | .hbm, ⟨33, _⟩ => ⟨S4x16x4096, .f32⟩
  | .hbm, ⟨34, _⟩ => ⟨S_, .i32⟩
  | .hbm, ⟨35, _⟩ => ⟨S4x4096x20, .i32⟩
  | .hbm, ⟨36, _⟩ => ⟨S4x4096x20, .i1⟩
  | .hbm, ⟨37, _⟩ => ⟨S_, .i32⟩
  | .hbm, ⟨38, _⟩ => ⟨S4x4096x20, .i32⟩
  | .hbm, ⟨39, _⟩ => ⟨S4x4096x20, .i32⟩
  | .hbm, ⟨40, _⟩ => ⟨S4x4096x20, .i32⟩
  | .hbm, ⟨41, _⟩ => ⟨S4x4096x20x1, .i32⟩
  | .hbm, ⟨42, _⟩ => ⟨S4x16x4096x20, .f32⟩
  | .hbm, ⟨43, _⟩ => ⟨S1x4x4096x20, .i32⟩
  | .hbm, ⟨44, _⟩ => ⟨S4x4096x20, .i32⟩
  | .hbm, ⟨45, _⟩ => ⟨S4x16x4096, .f32⟩
  | .hbm, ⟨46, _⟩ => ⟨S_, .i32⟩
  | .hbm, ⟨47, _⟩ => ⟨S4x4096x20, .i32⟩
  | .hbm, ⟨48, _⟩ => ⟨S4x4096x20, .i1⟩
  | .hbm, ⟨49, _⟩ => ⟨S_, .i32⟩
  | .hbm, ⟨50, _⟩ => ⟨S4x4096x20, .i32⟩
  | .hbm, ⟨51, _⟩ => ⟨S4x4096x20, .i32⟩
  | .hbm, ⟨52, _⟩ => ⟨S4x4096x20, .i32⟩
  | .hbm, ⟨53, _⟩ => ⟨S4x4096x20x1, .i32⟩
  | .hbm, ⟨54, _⟩ => ⟨S4x16x4096x20, .f32⟩
  | .hbm, ⟨55, _⟩ => ⟨S4x16x4096x20, .f32⟩
  | .hbm, ⟨56, _⟩ => ⟨S4x32x4096x20, .f32⟩
  | .hbm, ⟨57, _⟩ => ⟨S4x4096x20x16, .f32⟩
  | .hbm, ⟨58, _⟩ => ⟨S4x16x4096x20, .f32⟩
  | .hbm, ⟨59, _⟩ => ⟨S1x16x1x1, .f32⟩
  | .hbm, ⟨60, _⟩ => ⟨S4x16x4096x20, .f32⟩
  | .hbm, ⟨61, _⟩ => ⟨S4x16x4096x20, .f32⟩
  | .hbm, ⟨62, _⟩ => ⟨S_, .f32⟩
  | .hbm, ⟨63, _⟩ => ⟨S16, .f32⟩
  | .hbm, ⟨64, _⟩ => ⟨S1x16x1x1, .f32⟩
  | .hbm, ⟨65, _⟩ => ⟨S_, .f32⟩
  | .hbm, ⟨66, _⟩ => ⟨S1x16x1x1, .f32⟩
  | .hbm, ⟨67, _⟩ => ⟨S1x16x1x1, .f32⟩
  | .hbm, ⟨68, _⟩ => ⟨S_, .i32⟩
  | .hbm, ⟨69, _⟩ => ⟨S_, .f32⟩
  | .hbm, ⟨70, _⟩ => ⟨S16, .f32⟩
  | .hbm, ⟨71, _⟩ => ⟨S1x16x1x1, .f32⟩
  | .hbm, ⟨72, _⟩ => ⟨S_, .f32⟩
  | .hbm, ⟨73, _⟩ => ⟨S1x16x1x1, .f32⟩
  | .hbm, ⟨74, _⟩ => ⟨S1x16x1x1, .f32⟩
  | .hbm, ⟨75, _⟩ => ⟨S4x16x4096x20, .f32⟩
  | .hbm, ⟨76, _⟩ => ⟨S4x16x4096x20, .f32⟩
  | .hbm, ⟨77, _⟩ => ⟨S4x16x4096x20, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S16, .f32⟩
  | .hbm, ⟨83, _⟩ => ⟨S1x16x1x1, .f32⟩
  | .hbm, ⟨84, _⟩ => ⟨S1x16x1x1, .f32⟩
  | .hbm, ⟨85, _⟩ => ⟨S1x16x1x1, .f32⟩
  | .hbm, ⟨86, _⟩ => ⟨S_, .f32⟩
  | .hbm, ⟨87, _⟩ => ⟨S_, .i1⟩
  | .hbm, ⟨88, _⟩ => ⟨S_, .f32⟩
  | .hbm, ⟨89, _⟩ => ⟨S_, .f32⟩
  | .hbm, ⟨90, _⟩ => ⟨S1x16x1x1, .f32⟩
  | .hbm, ⟨91, _⟩ => ⟨S1x16x1x1, .f32⟩
  | .hbm, ⟨92, _⟩ => ⟨S4x16x4096x20, .f32⟩
  | .hbm, ⟨93, _⟩ => ⟨S4x16x4096x20, .f32⟩
  | .hbm, ⟨94, _⟩ => ⟨S_, .f32⟩
  | .hbm, ⟨95, _⟩ => ⟨S1x16x1x1, .f32⟩
  | .hbm, ⟨96, _⟩ => ⟨S1x16x1x1, .f32⟩
  | .hbm, ⟨97, _⟩ => ⟨S1x16x1x1, .f32⟩
  | .hbm, ⟨98, _⟩ => ⟨S4x16x4096x20, .f32⟩
  | .hbm, ⟨99, _⟩ => ⟨S4x16x4096x20, .f32⟩
  | .hbm, ⟨100, _⟩ => ⟨S1x16x1x1, .f32⟩
  | .hbm, ⟨101, _⟩ => ⟨S4x16x4096x20, .f32⟩
  | .hbm, ⟨102, _⟩ => ⟨S4x16x4096x20, .f32⟩
  | .hbm, ⟨103, _⟩ => ⟨S1x16x1x1, .f32⟩
  | .hbm, ⟨104, _⟩ => ⟨S4x16x4096x20, .f32⟩
  | .hbm, ⟨105, _⟩ => ⟨S4x16x4096x20, .f32⟩
  | .hbm, ⟨106, _⟩ => ⟨S_, .f32⟩
  | .hbm, ⟨107, _⟩ => ⟨S4x16x4096x20, .f32⟩
  | .hbm, ⟨108, _⟩ => ⟨S4x16x4096x20, .f32⟩
  | .hbm, ⟨109, _⟩ => ⟨S_, .f32⟩
  | .hbm, ⟨110, _⟩ => ⟨S4x16x4096, .f32⟩
  | .hbm, ⟨111, _⟩ => ⟨S4x16x4096x1, .f32⟩
  | .hbm, ⟨112, _⟩ => ⟨S4x16x4096x1, .f32⟩
  | .hbm, ⟨113, _⟩ => ⟨S1x4x4096x20, .i32⟩
  | .hbm, ⟨114, _⟩ => ⟨S4x4096x20, .i32⟩
  | _, _ => ⟨S4x16x4096x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_values : Ref sig .tc := ⟨.hbm, 22, rfl⟩
abbrev main_indices : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c : Ref sig .tc := ⟨.hbm, 34, rfl⟩
abbrev main_v25 : Ref sig .tc := ⟨.hbm, 35, rfl⟩
abbrev main_v26 : Ref sig .tc := ⟨.hbm, 36, rfl⟩
abbrev main_c_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c_2 : Ref sig .tc := ⟨.hbm, 46, rfl⟩
abbrev main_v35 : Ref sig .tc := ⟨.hbm, 47, rfl⟩
abbrev main_v36 : Ref sig .tc := ⟨.hbm, 48, rfl⟩
abbrev main_c_3 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_4 : Ref sig .tc := ⟨.hbm, 62, rfl⟩
abbrev main_v49 : Ref sig .tc := ⟨.hbm, 63, rfl⟩
abbrev main_v50 : Ref sig .tc := ⟨.hbm, 64, rfl⟩
abbrev main_cst_5 : Ref sig .tc := ⟨.hbm, 65, rfl⟩
abbrev main_v51 : Ref sig .tc := ⟨.hbm, 66, rfl⟩
abbrev main_v52 : Ref sig .tc := ⟨.hbm, 67, rfl⟩
abbrev main_c_6 : Ref sig .tc := ⟨.hbm, 68, rfl⟩
abbrev main_call0_cst : Ref sig .tc := ⟨.hbm, 69, rfl⟩
abbrev main_call0_v0 : Ref sig .tc := ⟨.hbm, 70, rfl⟩
abbrev main_call0_v1 : Ref sig .tc := ⟨.hbm, 71, rfl⟩
abbrev main_call0_cst_0 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_call0_v5 : Ref sig .tc := ⟨.hbm, 76, rfl⟩
abbrev main_call0_v6 : Ref sig .tc := ⟨.hbm, 77, rfl⟩
abbrev main_call0_v7 : Ref sig .tc := ⟨.hbm, 78, rfl⟩
abbrev main_call0_cst_1 : Ref sig .tc := ⟨.hbm, 79, rfl⟩
abbrev main_call0_v8 : Ref sig .tc := ⟨.hbm, 80, rfl⟩
abbrev main_call0_cst_2 : Ref sig .tc := ⟨.hbm, 81, rfl⟩
abbrev main_call0_v9 : Ref sig .tc := ⟨.hbm, 82, rfl⟩
abbrev main_call0_v10 : Ref sig .tc := ⟨.hbm, 83, rfl⟩
abbrev main_call0_v11 : Ref sig .tc := ⟨.hbm, 84, rfl⟩
abbrev main_call0_v12 : Ref sig .tc := ⟨.hbm, 85, rfl⟩
abbrev main_call0_cst_3 : Ref sig .tc := ⟨.hbm, 86, rfl⟩
abbrev main_call0_v13 : Ref sig .tc := ⟨.hbm, 87, rfl⟩
abbrev main_call0_cst_4 : Ref sig .tc := ⟨.hbm, 88, rfl⟩
abbrev main_call0_call0_v0 : Ref sig .tc := ⟨.hbm, 89, rfl⟩
abbrev main_call0_call0_v1 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_cst_7 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_call1_cst : Ref sig .tc := ⟨.hbm, 106, rfl⟩
abbrev main_call1_v0 : Ref sig .tc := ⟨.hbm, 107, rfl⟩
abbrev main_v67 : Ref sig .tc := ⟨.hbm, 108, rfl⟩
abbrev main_cst_8 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩

abbrev nD : Nat := 1
abbrev τ : Topo := Topo.v7x

variable {F : FTy → Type} [FloatOps F]
-- ==== Layer4.lean ====
abbrev S4x16x4096x1 : Shape := ⟨4, ![4, 16, 4096, 1]⟩
abbrev S16x32 : Shape := ⟨2, ![16, 32]⟩
abbrev S16 : Shape := ⟨1, ![16]⟩
abbrev S4x16x4096 : Shape := ⟨3, ![4, 16, 4096]⟩
abbrev S4x4096x16 : Shape := ⟨3, ![4, 4096, 16]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x20 : Shape := ⟨3, ![4, 4096, 20]⟩
abbrev S1x512x1 : Shape := ⟨3, ![1, 512, 1]⟩
abbrev S1x512x16 : Shape := ⟨3, ![1, 512, 16]⟩
abbrev S1x16x4096 : Shape := ⟨3, ![1, 16, 4096]⟩
abbrev S1x1x4096 : Shape := ⟨3, ![1, 1, 4096]⟩
abbrev S1x512x20 : Shape := ⟨3, ![1, 512, 20]⟩
abbrev S512x4096 : Shape := ⟨2, ![512, 4096]⟩
abbrev S512x16 : Shape := ⟨2, ![512, 16]⟩
abbrev S16x4096 : Shape := ⟨2, ![16, 4096]⟩
abbrev S512x1 : Shape := ⟨2, ![512, 1]⟩
abbrev S1x4096 : Shape := ⟨2, ![1, 4096]⟩
abbrev S512x20 : Shape := ⟨2, ![512, 20]⟩
abbrev S512x128 : Shape := ⟨2, ![512, 128]⟩
abbrev S512 : Shape := ⟨1, ![512]⟩
abbrev S4096 : Shape := ⟨1, ![4096]⟩
abbrev S1x4096x1 : Shape := ⟨3, ![1, 4096, 1]⟩
abbrev S4x4096x20x1 : Shape := ⟨4, ![4, 4096, 20, 1]⟩
abbrev S4x16x4096x20 : Shape := ⟨4, ![4, 16, 4096, 20]⟩
abbrev S4x32x4096x20 : Shape := ⟨4, ![4, 32, 4096, 20]⟩
abbrev S4x4096x20x16 : Shape := ⟨4, ![4, 4096, 20, 16]⟩
abbrev S1x16x1x1 : Shape := ⟨4, ![1, 16, 1, 1]⟩

abbrev nBuf : Space → Nat
  | .hbm => 95
  | .vmem => 11
  | .smem => 0
  | _ => 0

abbrev bufTy : (tb : Table) → Fin (tcTables nBuf tb) → BufTy
  | .hbm, ⟨0, _⟩ => ⟨S4x16x4096x1, .f32⟩
  | .hbm, ⟨1, _⟩ => ⟨S16x32, .f32⟩
  | .hbm, ⟨2, _⟩ => ⟨S16, .f32⟩
  | .hbm, ⟨3, _⟩ => ⟨S16, .f32⟩
  | .hbm, ⟨4, _⟩ => ⟨S16, .f32⟩
  | .hbm, ⟨5, _⟩ => ⟨S4x16x4096, .f32⟩
  | .hbm, ⟨6, _⟩ => ⟨S4x4096x16, .f32⟩
  | .hbm, ⟨7, _⟩ => ⟨S4x4096x16, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S4x1x4096, .f32⟩
  | .hbm, ⟨12, _⟩ => ⟨S4x16x4096, .f32⟩
  | .hbm, ⟨13, _⟩ => ⟨S4x4096x20, .i32⟩
  | .hbm, ⟨14, _⟩ => ⟨S4096, .i32⟩
  | .hbm, ⟨15, _⟩ => ⟨S1x4096x1, .i32⟩
  | .hbm, ⟨16, _⟩ => ⟨S4x4096x20, .i32⟩
  | .hbm, ⟨17, _⟩ => ⟨S4x16x4096, .f32⟩
  | .hbm, ⟨18, _⟩ => ⟨S_, .i32⟩
  | .hbm, ⟨19, _⟩ => ⟨S4x4096x20, .i32⟩
  | .hbm, ⟨20, _⟩ => ⟨S4x4096x20, .i1⟩
  | .hbm, ⟨21, _⟩ => ⟨S_, .i32⟩
  | .hbm, ⟨22, _⟩ => ⟨S4x4096x20, .i32⟩
  | .hbm, ⟨23, _⟩ => ⟨S4x4096x20, .i32⟩
  | .hbm, ⟨24, _⟩ => ⟨S4x4096x20, .i32⟩
  | .hbm, ⟨25, _⟩ => ⟨S4x4096x20x1, .i32⟩
  | .hbm, ⟨26, _⟩ => ⟨S4x16x4096x20, .f32⟩
  | .hbm, ⟨27, _⟩ => ⟨S4x16x4096, .f32⟩
  | .hbm, ⟨28, _⟩ => ⟨S_, .i32⟩
  | .hbm, ⟨29, _⟩ => ⟨S4x4096x20, .i32⟩
  | .hbm, ⟨30, _⟩ => ⟨S4x4096x20, .i1⟩
  | .hbm, ⟨31, _⟩ => ⟨S_, .i32⟩
  | .hbm, ⟨32, _⟩ => ⟨S4x4096x20, .i32⟩
  | .hbm, ⟨33, _⟩ => ⟨S4x4096x20, .i32⟩
  | .hbm, ⟨34, _⟩ => ⟨S4x4096x20, .i32⟩
  | .hbm, ⟨35, _⟩ => ⟨S4x4096x20x1, .i32⟩
  | .hbm, ⟨36, _⟩ => ⟨S4x16x4096x20, .f32⟩
  | .hbm, ⟨37, _⟩ => ⟨S4x16x4096x20, .f32⟩
  | .hbm, ⟨38, _⟩ => ⟨S4x32x4096x20, .f32⟩
  | .hbm, ⟨39, _⟩ => ⟨S4x4096x20x16, .f32⟩
  | .hbm, ⟨40, _⟩ => ⟨S4x16x4096x20, .f32⟩
  | .hbm, ⟨41, _⟩ => ⟨S1x16x1x1, .f32⟩
  | .hbm, ⟨42, _⟩ => ⟨S4x16x4096x20, .f32⟩
  | .hbm, ⟨43, _⟩ => ⟨S4x16x4096x20, .f32⟩
  | .hbm, ⟨44, _⟩ => ⟨S_, .f32⟩
  | .hbm, ⟨45, _⟩ => ⟨S16, .f32⟩
  | .hbm, ⟨46, _⟩ => ⟨S1x16x1x1, .f32⟩
  | .hbm, ⟨47, _⟩ => ⟨S_, .f32⟩
  | .hbm, ⟨48, _⟩ => ⟨S1x16x1x1, .f32⟩
  | .hbm, ⟨49, _⟩ => ⟨S1x16x1x1, .f32⟩
  | .hbm, ⟨50, _⟩ => ⟨S_, .i32⟩
  | .hbm, ⟨51, _⟩ => ⟨S_, .f32⟩
  | .hbm, ⟨52, _⟩ => ⟨S16, .f32⟩
  | .hbm, ⟨53, _⟩ => ⟨S1x16x1x1, .f32⟩
  | .hbm, ⟨54, _⟩ => ⟨S_, .f32⟩
  | .hbm, ⟨55, _⟩ => ⟨S1x16x1x1, .f32⟩
  | .hbm, ⟨56, _⟩ => ⟨S1x16x1x1, .f32⟩
  | .hbm, ⟨57, _⟩ => ⟨S4x16x4096x20, .f32⟩
  | .hbm, ⟨58, _⟩ => ⟨S4x16x4096x20, .f32⟩
  | .hbm, ⟨59, _⟩ => ⟨S4x16x4096x20, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S16, .f32⟩
  | .hbm, ⟨65, _⟩ => ⟨S1x16x1x1, .f32⟩
  | .hbm, ⟨66, _⟩ => ⟨S1x16x1x1, .f32⟩
  | .hbm, ⟨67, _⟩ => ⟨S1x16x1x1, .f32⟩
  | .hbm, ⟨68, _⟩ => ⟨S_, .f32⟩
  | .hbm, ⟨69, _⟩ => ⟨S_, .i1⟩
  | .hbm, ⟨70, _⟩ => ⟨S_, .f32⟩
  | .hbm, ⟨71, _⟩ => ⟨S_, .f32⟩
  | .hbm, ⟨72, _⟩ => ⟨S1x16x1x1, .f32⟩
  | .hbm, ⟨73, _⟩ => ⟨S1x16x1x1, .f32⟩
  | .hbm, ⟨74, _⟩ => ⟨S4x16x4096x20, .f32⟩
  | .hbm, ⟨75, _⟩ => ⟨S4x16x4096x20, .f32⟩
  | .hbm, ⟨76, _⟩ => ⟨S_, .f32⟩
  | .hbm, ⟨77, _⟩ => ⟨S1x16x1x1, .f32⟩
  | .hbm, ⟨78, _⟩ => ⟨S1x16x1x1, .f32⟩
  | .hbm, ⟨79, _⟩ => ⟨S1x16x1x1, .f32⟩
  | .hbm, ⟨80, _⟩ => ⟨S4x16x4096x20, .f32⟩
  | .hbm, ⟨81, _⟩ => ⟨S4x16x4096x20, .f32⟩
  | .hbm, ⟨82, _⟩ => ⟨S1x16x1x1, .f32⟩
  | .hbm, ⟨83, _⟩ => ⟨S4x16x4096x20, .f32⟩
  | .hbm, ⟨84, _⟩ => ⟨S4x16x4096x20, .f32⟩
  | .hbm, ⟨85, _⟩ => ⟨S1x16x1x1, .f32⟩
  | .hbm, ⟨86, _⟩ => ⟨S4x16x4096x20, .f32⟩
  | .hbm, ⟨87, _⟩ => ⟨S4x16x4096x20, .f32⟩
  | .hbm, ⟨88, _⟩ => ⟨S_, .f32⟩
  | .hbm, ⟨89, _⟩ => ⟨S4x16x4096x20, .f32⟩
  | .hbm, ⟨90, _⟩ => ⟨S4x16x4096x20, .f32⟩
  | .hbm, ⟨91, _⟩ => ⟨S_, .f32⟩
  | .hbm, ⟨92, _⟩ => ⟨S4x16x4096, .f32⟩
  | .hbm, ⟨93, _⟩ => ⟨S4x16x4096x1, .f32⟩
  | .hbm, ⟨94, _⟩ => ⟨S4x16x4096x1, .f32⟩
  | .local _ .vmem, ⟨0, _⟩ => ⟨S1x512x1, .f32⟩
  | .local _ .vmem, ⟨1, _⟩ => ⟨S1x512x1, .f32⟩
  | .local _ .vmem, ⟨2, _⟩ => ⟨S1x512x16, .f32⟩
  | .local _ .vmem, ⟨3, _⟩ => ⟨S1x512x16, .f32⟩
  | .local _ .vmem, ⟨4, _⟩ => ⟨S1x16x4096, .f32⟩
  | .local _ .vmem, ⟨5, _⟩ => ⟨S1x16x4096, .f32⟩
  | .local _ .vmem, ⟨6, _⟩ => ⟨S1x1x4096, .f32⟩
  | .local _ .vmem, ⟨7, _⟩ => ⟨S1x1x4096, .f32⟩
  | .local _ .vmem, ⟨8, _⟩ => ⟨S1x512x20, .i32⟩
  | .local _ .vmem, ⟨9, _⟩ => ⟨S1x512x20, .i32⟩
  | .local _ .vmem, ⟨10, _⟩ => ⟨S512x4096, .f32⟩
  | _, _ => ⟨S4x16x4096x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst : Ref sig .tc := ⟨.hbm, 44, rfl⟩
abbrev main_v29 : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_v32 : Ref sig .tc := ⟨.hbm, 49, rfl⟩
abbrev main_c_4 : Ref sig .tc := ⟨.hbm, 50, rfl⟩
abbrev main_call1_cst : Ref sig .tc := ⟨.hbm, 51, rfl⟩
abbrev main_call1_v0 : Ref sig .tc := ⟨.hbm, 52, rfl⟩
abbrev main_call1_v1 : Ref sig .tc := ⟨.hbm, 53, rfl⟩
abbrev main_call1_cst_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_cst_1 : Ref sig .tc := ⟨.hbm, 61, rfl⟩
abbrev main_call1_v8 : Ref sig .tc := ⟨.hbm, 62, rfl⟩
abbrev main_call1_cst_2 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_v12 : Ref sig .tc := ⟨.hbm, 67, rfl⟩
abbrev main_call1_cst_3 : Ref sig .tc := ⟨.hbm, 68, rfl⟩
abbrev main_call1_v13 : Ref sig .tc := ⟨.hbm, 69, rfl⟩
abbrev main_call1_cst_4 : Ref sig .tc := ⟨.hbm, 70, rfl⟩
abbrev main_call1_call0_v0 : Ref sig .tc := ⟨.hbm, 71, rfl⟩
abbrev main_call1_call0_v1 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_cst_5 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_call2_cst : Ref sig .tc := ⟨.hbm, 88, rfl⟩
abbrev main_call2_v0 : Ref sig .tc := ⟨.hbm, 89, rfl⟩
abbrev main_v47 : Ref sig .tc := ⟨.hbm, 90, rfl⟩
abbrev main_cst_6 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_14 : BitVec 32 := 0#32
  let c80_i32 : BitVec 32 := 80#32
  let v22 : BitVec 32 := Scalar.addi c0_i32_14 c80_i32
  let c1_i32 : BitVec 32 := 1#32
  ⟨c0_i32_14, v22, c1_i32⟩
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x20 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Layer4Ideal.lean ====
variable {F : FTy → Type} [FloatOps F] [Named F]
def κ : String → Option EReal := fun
  | "taken" => some ⊤
  | _ => none
-- ==== Plain4Ideal.lean ====
abbrev S4x16x4096x1 : Shape := ⟨4, ![4, 16, 4096, 1]⟩
abbrev S16x32 : Shape := ⟨2, ![16, 32]⟩
abbrev S16 : Shape := ⟨1, ![16]⟩
abbrev S4x16x4096 : Shape := ⟨3, ![4, 16, 4096]⟩
abbrev S4x4096x16 : Shape := ⟨3, ![4, 4096, 16]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x80 : Shape := ⟨3, ![4, 4096, 80]⟩
abbrev S4096 : Shape := ⟨1, ![4096]⟩
abbrev S1x4096x1 : Shape := ⟨3, ![1, 4096, 1]⟩
abbrev S1x4x4096x80 : Shape := ⟨4, ![1, 4, 4096, 80]⟩
abbrev S2x4x4096x80 : Shape := ⟨4, ![2, 4, 4096, 80]⟩
abbrev S2x4x4096x20 : Shape := ⟨4, ![2, 4, 4096, 20]⟩
abbrev S1x4x4096x20 : Shape := ⟨4, ![1, 4, 4096, 20]⟩
abbrev S4x4096x20 : Shape := ⟨3, ![4, 4096, 20]⟩
abbrev S4x4096x20x1 : Shape := ⟨4, ![4, 4096, 20, 1]⟩
abbrev S4x16x4096x20 : Shape := ⟨4, ![4, 16, 4096, 20]⟩
abbrev S4x32x4096x20 : Shape := ⟨4, ![4, 32, 4096, 20]⟩
abbrev S4x4096x20x16 : Shape := ⟨4, ![4, 4096, 20, 16]⟩
abbrev S1x16x1x1 : Shape := ⟨4, ![1, 16, 1, 1]⟩

abbrev nBuf : Space → Nat
  | .hbm => 115
  | .vmem => 0
  | .smem => 0
  | _ => 0

abbrev bufTy : (tb : Table) → Fin (tcTables nBuf tb) → BufTy
  | .hbm, ⟨0, _⟩ => ⟨S4x16x4096x1, .f32⟩
  | .hbm, ⟨1, _⟩ => ⟨S16x32, .f32⟩
  | .hbm, ⟨2, _⟩ => ⟨S16, .f32⟩
  | .hbm, ⟨3, _⟩ => ⟨S16, .f32⟩
  | .hbm, ⟨4, _⟩ => ⟨S16, .f32⟩
  | .hbm, ⟨5, _⟩ => ⟨S4x16x4096, .f32⟩
  | .hbm, ⟨6, _⟩ => ⟨S4x4096x16, .f32⟩
  | .hbm, ⟨7, _⟩ => ⟨S4x16x4096, .f32⟩
  | .hbm, ⟨8, _⟩ => ⟨S4x4096x4096, .f32⟩
  | .hbm, ⟨9, _⟩ => ⟨S_, .f32⟩
  | .hbm, ⟨10, _⟩ => ⟨S4x4096x4096, .f32⟩
  | .hbm, ⟨11, _⟩ => ⟨S4x4096x4096, .f32⟩
  | .hbm, ⟨12, _⟩ => ⟨S4x4096x16, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S4x4096x4096, .f32⟩
  | .hbm, ⟨17, _⟩ => ⟨S4x4096x4096, .f32⟩
  | .hbm, ⟨18, _⟩ => ⟨S4x1x4096, .f32⟩
  | .hbm, ⟨19, _⟩ => ⟨S4x4096x4096, .f32⟩
  | .hbm, ⟨20, _⟩ => ⟨S4x4096x4096, .f32⟩
  | .hbm, ⟨21, _⟩ => ⟨S4x4096x4096, .f32⟩
  | .hbm, ⟨22, _⟩ => ⟨S4x4096x80, .f32⟩
  | .hbm, ⟨23, _⟩ => ⟨S4x4096x80, .i32⟩
  | .hbm, ⟨24, _⟩ => ⟨S4096, .i32⟩
  | .hbm, ⟨25, _⟩ => ⟨S1x4096x1, .i32⟩
  | .hbm, ⟨26, _⟩ => ⟨S4x4096x80, .i32⟩
  | .hbm, ⟨27, _⟩ => ⟨S1x4x4096x80, .i32⟩
  | .hbm, ⟨28, _⟩ => ⟨S1x4x4096x80, .i32⟩
  | .hbm, ⟨29, _⟩ => ⟨S2x4x4096x80, .i32⟩
  | .hbm, ⟨30, _⟩ => ⟨S2x4x4096x20, .i32⟩
  | .hbm, ⟨31, _⟩ => ⟨S1x4x4096x20, .i32⟩
  | .hbm, ⟨32, _⟩ => ⟨S4x4096x20, .i32⟩
  | .hbm, ⟨33, _⟩ => ⟨S4x16x4096, .f32⟩
  | .hbm, ⟨34, _⟩ => ⟨S_, .i32⟩
  | .hbm, ⟨35, _⟩ => ⟨S4x4096x20, .i32⟩
  | .hbm, ⟨36, _⟩ => ⟨S4x4096x20, .i1⟩
  | .hbm, ⟨37, _⟩ => ⟨S_, .i32⟩
  | .hbm, ⟨38, _⟩ => ⟨S4x4096x20, .i32⟩
  | .hbm, ⟨39, _⟩ => ⟨S4x4096x20, .i32⟩
  | .hbm, ⟨40, _⟩ => ⟨S4x4096x20, .i32⟩
  | .hbm, ⟨41, _⟩ => ⟨S4x4096x20x1, .i32⟩
  | .hbm, ⟨42, _⟩ => ⟨S4x16x4096x20, .f32⟩
  | .hbm, ⟨43, _⟩ => ⟨S1x4x4096x20, .i32⟩
  | .hbm, ⟨44, _⟩ => ⟨S4x4096x20, .i32⟩
  | .hbm, ⟨45, _⟩ => ⟨S4x16x4096, .f32⟩
  | .hbm, ⟨46, _⟩ => ⟨S_, .i32⟩
  | .hbm, ⟨47, _⟩ => ⟨S4x4096x20, .i32⟩
  | .hbm, ⟨48, _⟩ => ⟨S4x4096x20, .i1⟩
  | .hbm, ⟨49, _⟩ => ⟨S_, .i32⟩
  | .hbm, ⟨50, _⟩ => ⟨S4x4096x20, .i32⟩
  | .hbm, ⟨51, _⟩ => ⟨S4x4096x20, .i32⟩
  | .hbm, ⟨52, _⟩ => ⟨S4x4096x20, .i32⟩
  | .hbm, ⟨53, _⟩ => ⟨S4x4096x20x1, .i32⟩
  | .hbm, ⟨54, _⟩ => ⟨S4x16x4096x20, .f32⟩
  | .hbm, ⟨55, _⟩ => ⟨S4x16x4096x20, .f32⟩
  | .hbm, ⟨56, _⟩ => ⟨S4x32x4096x20, .f32⟩
  | .hbm, ⟨57, _⟩ => ⟨S4x4096x20x16, .f32⟩
  | .hbm, ⟨58, _⟩ => ⟨S4x16x4096x20, .f32⟩
  | .hbm, ⟨59, _⟩ => ⟨S1x16x1x1, .f32⟩
  | .hbm, ⟨60, _⟩ => ⟨S4x16x4096x20, .f32⟩
  | .hbm, ⟨61, _⟩ => ⟨S4x16x4096x20, .f32⟩
  | .hbm, ⟨62, _⟩ => ⟨S_, .f32⟩
  | .hbm, ⟨63, _⟩ => ⟨S16, .f32⟩
  | .hbm, ⟨64, _⟩ => ⟨S1x16x1x1, .f32⟩
  | .hbm, ⟨65, _⟩ => ⟨S_, .f32⟩
  | .hbm, ⟨66, _⟩ => ⟨S1x16x1x1, .f32⟩
  | .hbm, ⟨67, _⟩ => ⟨S1x16x1x1, .f32⟩
  | .hbm, ⟨68, _⟩ => ⟨S_, .i32⟩
  | .hbm, ⟨69, _⟩ => ⟨S_, .f32⟩
  | .hbm, ⟨70, _⟩ => ⟨S16, .f32⟩
  | .hbm, ⟨71, _⟩ => ⟨S1x16x1x1, .f32⟩
  | .hbm, ⟨72, _⟩ => ⟨S_, .f32⟩
  | .hbm, ⟨73, _⟩ => ⟨S1x16x1x1, .f32⟩
  | .hbm, ⟨74, _⟩ => ⟨S1x16x1x1, .f32⟩
  | .hbm, ⟨75, _⟩ => ⟨S4x16x4096x20, .f32⟩
  | .hbm, ⟨76, _⟩ => ⟨S4x16x4096x20, .f32⟩
  | .hbm, ⟨77, _⟩ => ⟨S4x16x4096x20, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S16, .f32⟩
  | .hbm, ⟨83, _⟩ => ⟨S1x16x1x1, .f32⟩
  | .hbm, ⟨84, _⟩ => ⟨S1x16x1x1, .f32⟩
  | .hbm, ⟨85, _⟩ => ⟨S1x16x1x1, .f32⟩
  | .hbm, ⟨86, _⟩ => ⟨S_, .f32⟩
  | .hbm, ⟨87, _⟩ => ⟨S_, .i1⟩
  | .hbm, ⟨88, _⟩ => ⟨S_, .f32⟩
  | .hbm, ⟨89, _⟩ => ⟨S_, .f32⟩
  | .hbm, ⟨90, _⟩ => ⟨S1x16x1x1, .f32⟩
  | .hbm, ⟨91, _⟩ => ⟨S1x16x1x1, .f32⟩
  | .hbm, ⟨92, _⟩ => ⟨S4x16x4096x20, .f32⟩
  | .hbm, ⟨93, _⟩ => ⟨S4x16x4096x20, .f32⟩
  | .hbm, ⟨94, _⟩ => ⟨S_, .f32⟩
  | .hbm, ⟨95, _⟩ => ⟨S1x16x1x1, .f32⟩
  | .hbm, ⟨96, _⟩ => ⟨S1x16x1x1, .f32⟩
  | .hbm, ⟨97, _⟩ => ⟨S1x16x1x1, .f32⟩
  | .hbm, ⟨98, _⟩ => ⟨S4x16x4096x20, .f32⟩
  | .hbm, ⟨99, _⟩ => ⟨S4x16x4096x20, .f32⟩
  | .hbm, ⟨100, _⟩ => ⟨S1x16x1x1, .f32⟩
  | .hbm, ⟨101, _⟩ => ⟨S4x16x4096x20, .f32⟩
  | .hbm, ⟨102, _⟩ => ⟨S4x16x4096x20, .f32⟩
  | .hbm, ⟨103, _⟩ => ⟨S1x16x1x1, .f32⟩
  | .hbm, ⟨104, _⟩ => ⟨S4x16x4096x20, .f32⟩
  | .hbm, ⟨105, _⟩ => ⟨S4x16x4096x20, .f32⟩
  | .hbm, ⟨106, _⟩ => ⟨S_, .f32⟩
  | .hbm, ⟨107, _⟩ => ⟨S4x16x4096x20, .f32⟩
  | .hbm, ⟨108, _⟩ => ⟨S4x16x4096x20, .f32⟩
  | .hbm, ⟨109, _⟩ => ⟨S_, .f32⟩
  | .hbm, ⟨110, _⟩ => ⟨S4x16x4096, .f32⟩
  | .hbm, ⟨111, _⟩ => ⟨S4x16x4096x1, .f32⟩
  | .hbm, ⟨112, _⟩ => ⟨S4x16x4096x1, .f32⟩
  | .hbm, ⟨113, _⟩ => ⟨S1x4x4096x20, .i32⟩
  | .hbm, ⟨114, _⟩ => ⟨S4x4096x20, .i32⟩
  | _, _ => ⟨S4x16x4096x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_values : Ref sig .tc := ⟨.hbm, 22, rfl⟩
abbrev main_indices : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c : Ref sig .tc := ⟨.hbm, 34, rfl⟩
abbrev main_v25 : Ref sig .tc := ⟨.hbm, 35, rfl⟩
abbrev main_v26 : Ref sig .tc := ⟨.hbm, 36, rfl⟩
abbrev main_c_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c_2 : Ref sig .tc := ⟨.hbm, 46, rfl⟩
abbrev main_v35 : Ref sig .tc := ⟨.hbm, 47, rfl⟩
abbrev main_v36 : Ref sig .tc := ⟨.hbm, 48, rfl⟩
abbrev main_c_3 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_4 : Ref sig .tc := ⟨.hbm, 62, rfl⟩
abbrev main_v49 : Ref sig .tc := ⟨.hbm, 63, rfl⟩
abbrev main_v50 : Ref sig .tc := ⟨.hbm, 64, rfl⟩
abbrev main_cst_5 : Ref sig .tc := ⟨.hbm, 65, rfl⟩
abbrev main_v51 : Ref sig .tc := ⟨.hbm, 66, rfl⟩
abbrev main_v52 : Ref sig .tc := ⟨.hbm, 67, rfl⟩
abbrev main_c_6 : Ref sig .tc := ⟨.hbm, 68, rfl⟩
abbrev main_call0_cst : Ref sig .tc := ⟨.hbm, 69, rfl⟩
abbrev main_call0_v0 : Ref sig .tc := ⟨.hbm, 70, rfl⟩
abbrev main_call0_v1 : Ref sig .tc := ⟨.hbm, 71, rfl⟩
abbrev main_call0_cst_0 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_call0_v5 : Ref sig .tc := ⟨.hbm, 76, rfl⟩
abbrev main_call0_v6 : Ref sig .tc := ⟨.hbm, 77, rfl⟩
abbrev main_call0_v7 : Ref sig .tc := ⟨.hbm, 78, rfl⟩
abbrev main_call0_cst_1 : Ref sig .tc := ⟨.hbm, 79, rfl⟩
abbrev main_call0_v8 : Ref sig .tc := ⟨.hbm, 80, rfl⟩
abbrev main_call0_cst_2 : Ref sig .tc := ⟨.hbm, 81, rfl⟩
abbrev main_call0_v9 : Ref sig .tc := ⟨.hbm, 82, rfl⟩
abbrev main_call0_v10 : Ref sig .tc := ⟨.hbm, 83, rfl⟩
abbrev main_call0_v11 : Ref sig .tc := ⟨.hbm, 84, rfl⟩
abbrev main_call0_v12 : Ref sig .tc := ⟨.hbm, 85, rfl⟩
abbrev main_call0_cst_3 : Ref sig .tc := ⟨.hbm, 86, rfl⟩
abbrev main_call0_v13 : Ref sig .tc := ⟨.hbm, 87, rfl⟩
abbrev main_call0_cst_4 : Ref sig .tc := ⟨.hbm, 88, rfl⟩
abbrev main_call0_call0_v0 : Ref sig .tc := ⟨.hbm, 89, rfl⟩
abbrev main_call0_call0_v1 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_cst_7 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_call1_cst : Ref sig .tc := ⟨.hbm, 106, rfl⟩
abbrev main_call1_v0 : Ref sig .tc := ⟨.hbm, 107, rfl⟩
abbrev main_v67 : Ref sig .tc := ⟨.hbm, 108, rfl⟩
abbrev main_cst_8 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩

abbrev nD : Nat := 1
abbrev τ : Topo := Topo.v7x

variable {F : FTy → Type} [FloatOps F]
-- ==== Layer5.lean ====
abbrev S4x16x4096x1 : Shape := ⟨4, ![4, 16, 4096, 1]⟩
abbrev S16x32 : Shape := ⟨2, ![16, 32]⟩
abbrev S16 : Shape := ⟨1, ![16]⟩
abbrev S4x16x4096 : Shape := ⟨3, ![4, 16, 4096]⟩
abbrev S4x4096x16 : Shape := ⟨3, ![4, 4096, 16]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x20 : Shape := ⟨3, ![4, 4096, 20]⟩
abbrev S1x512x1 : Shape := ⟨3, ![1, 512, 1]⟩
abbrev S1x512x16 : Shape := ⟨3, ![1, 512, 16]⟩
abbrev S1x16x4096 : Shape := ⟨3, ![1, 16, 4096]⟩
abbrev S1x1x4096 : Shape := ⟨3, ![1, 1, 4096]⟩
abbrev S1x512x20 : Shape := ⟨3, ![1, 512, 20]⟩
abbrev S512x4096 : Shape := ⟨2, ![512, 4096]⟩
abbrev S512x16 : Shape := ⟨2, ![512, 16]⟩
abbrev S16x4096 : Shape := ⟨2, ![16, 4096]⟩
abbrev S512x1 : Shape := ⟨2, ![512, 1]⟩
abbrev S1x4096 : Shape := ⟨2, ![1, 4096]⟩
abbrev S512x20 : Shape := ⟨2, ![512, 20]⟩
abbrev S512x128 : Shape := ⟨2, ![512, 128]⟩
abbrev S512 : Shape := ⟨1, ![512]⟩
abbrev S4096 : Shape := ⟨1, ![4096]⟩
abbrev S1x4096x1 : Shape := ⟨3, ![1, 4096, 1]⟩
abbrev S4x4096x20x1 : Shape := ⟨4, ![4, 4096, 20, 1]⟩
abbrev S4x16x4096x20 : Shape := ⟨4, ![4, 16, 4096, 20]⟩
abbrev S4x32x4096x20 : Shape := ⟨4, ![4, 32, 4096, 20]⟩
abbrev S4x4096x20x16 : Shape := ⟨4, ![4, 4096, 20, 16]⟩
abbrev S1x16x1x1 : Shape := ⟨4, ![1, 16, 1, 1]⟩

abbrev nBuf : Space → Nat
  | .hbm => 95
  | .vmem => 11
  | .smem => 0
  | _ => 0

abbrev bufTy : (tb : Table) → Fin (tcTables nBuf tb) → BufTy
  | .hbm, ⟨0, _⟩ => ⟨S4x16x4096x1, .f32⟩
  | .hbm, ⟨1, _⟩ => ⟨S16x32, .f32⟩
  | .hbm, ⟨2, _⟩ => ⟨S16, .f32⟩
  | .hbm, ⟨3, _⟩ => ⟨S16, .f32⟩
  | .hbm, ⟨4, _⟩ => ⟨S16, .f32⟩
  | .hbm, ⟨5, _⟩ => ⟨S4x16x4096, .f32⟩
  | .hbm, ⟨6, _⟩ => ⟨S4x4096x16, .f32⟩
  | .hbm, ⟨7, _⟩ => ⟨S4x4096x16, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S4x1x4096, .f32⟩
  | .hbm, ⟨12, _⟩ => ⟨S4x16x4096, .f32⟩
  | .hbm, ⟨13, _⟩ => ⟨S4x4096x20, .i32⟩
  | .hbm, ⟨14, _⟩ => ⟨S4096, .i32⟩
  | .hbm, ⟨15, _⟩ => ⟨S1x4096x1, .i32⟩
  | .hbm, ⟨16, _⟩ => ⟨S4x4096x20, .i32⟩
  | .hbm, ⟨17, _⟩ => ⟨S4x16x4096, .f32⟩
  | .hbm, ⟨18, _⟩ => ⟨S_, .i32⟩
  | .hbm, ⟨19, _⟩ => ⟨S4x4096x20, .i32⟩
  | .hbm, ⟨20, _⟩ => ⟨S4x4096x20, .i1⟩
  | .hbm, ⟨21, _⟩ => ⟨S_, .i32⟩
  | .hbm, ⟨22, _⟩ => ⟨S4x4096x20, .i32⟩
  | .hbm, ⟨23, _⟩ => ⟨S4x4096x20, .i32⟩
  | .hbm, ⟨24, _⟩ => ⟨S4x4096x20, .i32⟩
  | .hbm, ⟨25, _⟩ => ⟨S4x4096x20x1, .i32⟩
  | .hbm, ⟨26, _⟩ => ⟨S4x16x4096x20, .f32⟩
  | .hbm, ⟨27, _⟩ => ⟨S4x16x4096, .f32⟩
  | .hbm, ⟨28, _⟩ => ⟨S_, .i32⟩
  | .hbm, ⟨29, _⟩ => ⟨S4x4096x20, .i32⟩
  | .hbm, ⟨30, _⟩ => ⟨S4x4096x20, .i1⟩
  | .hbm, ⟨31, _⟩ => ⟨S_, .i32⟩
  | .hbm, ⟨32, _⟩ => ⟨S4x4096x20, .i32⟩
  | .hbm, ⟨33, _⟩ => ⟨S4x4096x20, .i32⟩
  | .hbm, ⟨34, _⟩ => ⟨S4x4096x20, .i32⟩
  | .hbm, ⟨35, _⟩ => ⟨S4x4096x20x1, .i32⟩
  | .hbm, ⟨36, _⟩ => ⟨S4x16x4096x20, .f32⟩
  | .hbm, ⟨37, _⟩ => ⟨S4x16x4096x20, .f32⟩
  | .hbm, ⟨38, _⟩ => ⟨S4x32x4096x20, .f32⟩
  | .hbm, ⟨39, _⟩ => ⟨S4x4096x20x16, .f32⟩
  | .hbm, ⟨40, _⟩ => ⟨S4x16x4096x20, .f32⟩
  | .hbm, ⟨41, _⟩ => ⟨S1x16x1x1, .f32⟩
  | .hbm, ⟨42, _⟩ => ⟨S4x16x4096x20, .f32⟩
  | .hbm, ⟨43, _⟩ => ⟨S4x16x4096x20, .f32⟩
  | .hbm, ⟨44, _⟩ => ⟨S_, .f32⟩
  | .hbm, ⟨45, _⟩ => ⟨S16, .f32⟩
  | .hbm, ⟨46, _⟩ => ⟨S1x16x1x1, .f32⟩
  | .hbm, ⟨47, _⟩ => ⟨S_, .f32⟩
  | .hbm, ⟨48, _⟩ => ⟨S1x16x1x1, .f32⟩
  | .hbm, ⟨49, _⟩ => ⟨S1x16x1x1, .f32⟩
  | .hbm, ⟨50, _⟩ => ⟨S_, .i32⟩
  | .hbm, ⟨51, _⟩ => ⟨S_, .f32⟩
  | .hbm, ⟨52, _⟩ => ⟨S16, .f32⟩
  | .hbm, ⟨53, _⟩ => ⟨S1x16x1x1, .f32⟩
  | .hbm, ⟨54, _⟩ => ⟨S_, .f32⟩
  | .hbm, ⟨55, _⟩ => ⟨S1x16x1x1, .f32⟩
  | .hbm, ⟨56, _⟩ => ⟨S1x16x1x1, .f32⟩
  | .hbm, ⟨57, _⟩ => ⟨S4x16x4096x20, .f32⟩
  | .hbm, ⟨58, _⟩ => ⟨S4x16x4096x20, .f32⟩
  | .hbm, ⟨59, _⟩ => ⟨S4x16x4096x20, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S16, .f32⟩
  | .hbm, ⟨65, _⟩ => ⟨S1x16x1x1, .f32⟩
  | .hbm, ⟨66, _⟩ => ⟨S1x16x1x1, .f32⟩
  | .hbm, ⟨67, _⟩ => ⟨S1x16x1x1, .f32⟩
  | .hbm, ⟨68, _⟩ => ⟨S_, .f32⟩
  | .hbm, ⟨69, _⟩ => ⟨S_, .i1⟩
  | .hbm, ⟨70, _⟩ => ⟨S_, .f32⟩
  | .hbm, ⟨71, _⟩ => ⟨S_, .f32⟩
  | .hbm, ⟨72, _⟩ => ⟨S1x16x1x1, .f32⟩
  | .hbm, ⟨73, _⟩ => ⟨S1x16x1x1, .f32⟩
  | .hbm, ⟨74, _⟩ => ⟨S4x16x4096x20, .f32⟩
  | .hbm, ⟨75, _⟩ => ⟨S4x16x4096x20, .f32⟩
  | .hbm, ⟨76, _⟩ => ⟨S_, .f32⟩
  | .hbm, ⟨77, _⟩ => ⟨S1x16x1x1, .f32⟩
  | .hbm, ⟨78, _⟩ => ⟨S1x16x1x1, .f32⟩
  | .hbm, ⟨79, _⟩ => ⟨S1x16x1x1, .f32⟩
  | .hbm, ⟨80, _⟩ => ⟨S4x16x4096x20, .f32⟩
  | .hbm, ⟨81, _⟩ => ⟨S4x16x4096x20, .f32⟩
  | .hbm, ⟨82, _⟩ => ⟨S1x16x1x1, .f32⟩
  | .hbm, ⟨83, _⟩ => ⟨S4x16x4096x20, .f32⟩
  | .hbm, ⟨84, _⟩ => ⟨S4x16x4096x20, .f32⟩
  | .hbm, ⟨85, _⟩ => ⟨S1x16x1x1, .f32⟩
  | .hbm, ⟨86, _⟩ => ⟨S4x16x4096x20, .f32⟩
  | .hbm, ⟨87, _⟩ => ⟨S4x16x4096x20, .f32⟩
  | .hbm, ⟨88, _⟩ => ⟨S_, .f32⟩
  | .hbm, ⟨89, _⟩ => ⟨S4x16x4096x20, .f32⟩
  | .hbm, ⟨90, _⟩ => ⟨S4x16x4096x20, .f32⟩
  | .hbm, ⟨91, _⟩ => ⟨S_, .f32⟩
  | .hbm, ⟨92, _⟩ => ⟨S4x16x4096, .f32⟩
  | .hbm, ⟨93, _⟩ => ⟨S4x16x4096x1, .f32⟩
  | .hbm, ⟨94, _⟩ => ⟨S4x16x4096x1, .f32⟩
  | .local _ .vmem, ⟨0, _⟩ => ⟨S1x512x1, .f32⟩
  | .local _ .vmem, ⟨1, _⟩ => ⟨S1x512x1, .f32⟩
  | .local _ .vmem, ⟨2, _⟩ => ⟨S1x512x16, .f32⟩
  | .local _ .vmem, ⟨3, _⟩ => ⟨S1x512x16, .f32⟩
  | .local _ .vmem, ⟨4, _⟩ => ⟨S1x16x4096, .f32⟩
  | .local _ .vmem, ⟨5, _⟩ => ⟨S1x16x4096, .f32⟩
  | .local _ .vmem, ⟨6, _⟩ => ⟨S1x1x4096, .f32⟩
  | .local _ .vmem, ⟨7, _⟩ => ⟨S1x1x4096, .f32⟩
  | .local _ .vmem, ⟨8, _⟩ => ⟨S1x512x20, .i32⟩
  | .local _ .vmem, ⟨9, _⟩ => ⟨S1x512x20, .i32⟩
  | .local _ .vmem, ⟨10, _⟩ => ⟨S512x4096, .f32⟩
  | _, _ => ⟨S4x16x4096x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst : Ref sig .tc := ⟨.hbm, 44, rfl⟩
abbrev main_v29 : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_v32 : Ref sig .tc := ⟨.hbm, 49, rfl⟩
abbrev main_c_4 : Ref sig .tc := ⟨.hbm, 50, rfl⟩
abbrev main_call1_cst : Ref sig .tc := ⟨.hbm, 51, rfl⟩
abbrev main_call1_v0 : Ref sig .tc := ⟨.hbm, 52, rfl⟩
abbrev main_call1_v1 : Ref sig .tc := ⟨.hbm, 53, rfl⟩
abbrev main_call1_cst_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_cst_1 : Ref sig .tc := ⟨.hbm, 61, rfl⟩
abbrev main_call1_v8 : Ref sig .tc := ⟨.hbm, 62, rfl⟩
abbrev main_call1_cst_2 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_v12 : Ref sig .tc := ⟨.hbm, 67, rfl⟩
abbrev main_call1_cst_3 : Ref sig .tc := ⟨.hbm, 68, rfl⟩
abbrev main_call1_v13 : Ref sig .tc := ⟨.hbm, 69, rfl⟩
abbrev main_call1_cst_4 : Ref sig .tc := ⟨.hbm, 70, rfl⟩
abbrev main_call1_call0_v0 : Ref sig .tc := ⟨.hbm, 71, rfl⟩
abbrev main_call1_call0_v1 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_cst_5 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_call2_cst : Ref sig .tc := ⟨.hbm, 88, rfl⟩
abbrev main_call2_v0 : Ref sig .tc := ⟨.hbm, 89, rfl⟩
abbrev main_v47 : Ref sig .tc := ⟨.hbm, 90, rfl⟩
abbrev main_cst_6 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_14 : BitVec 32 := 0#32
  let c100_i32 : BitVec 32 := 100#32
  let v22 : BitVec 32 := Scalar.addi c0_i32_14 c100_i32
  let c1_i32 : BitVec 32 := 1#32
  ⟨c0_i32_14, v22, c1_i32⟩
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x20 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Layer5Ideal.lean ====
variable {F : FTy → Type} [FloatOps F] [Named F]
def κ : String → Option EReal := fun
  | "taken" => some ⊤
  | _ => none
-- ==== Plain5Ideal.lean ====
abbrev S4x16x4096x1 : Shape := ⟨4, ![4, 16, 4096, 1]⟩
abbrev S16x32 : Shape := ⟨2, ![16, 32]⟩
abbrev S16 : Shape := ⟨1, ![16]⟩
abbrev S4x16x4096 : Shape := ⟨3, ![4, 16, 4096]⟩
abbrev S4x4096x16 : Shape := ⟨3, ![4, 4096, 16]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x100 : Shape := ⟨3, ![4, 4096, 100]⟩
abbrev S4096 : Shape := ⟨1, ![4096]⟩
abbrev S1x4096x1 : Shape := ⟨3, ![1, 4096, 1]⟩
abbrev S1x4x4096x100 : Shape := ⟨4, ![1, 4, 4096, 100]⟩
abbrev S2x4x4096x100 : Shape := ⟨4, ![2, 4, 4096, 100]⟩
abbrev S2x4x4096x20 : Shape := ⟨4, ![2, 4, 4096, 20]⟩
abbrev S1x4x4096x20 : Shape := ⟨4, ![1, 4, 4096, 20]⟩
abbrev S4x4096x20 : Shape := ⟨3, ![4, 4096, 20]⟩
abbrev S4x4096x20x1 : Shape := ⟨4, ![4, 4096, 20, 1]⟩
abbrev S4x16x4096x20 : Shape := ⟨4, ![4, 16, 4096, 20]⟩
abbrev S4x32x4096x20 : Shape := ⟨4, ![4, 32, 4096, 20]⟩
abbrev S4x4096x20x16 : Shape := ⟨4, ![4, 4096, 20, 16]⟩
abbrev S1x16x1x1 : Shape := ⟨4, ![1, 16, 1, 1]⟩

abbrev nBuf : Space → Nat
  | .hbm => 115
  | .vmem => 0
  | .smem => 0
  | _ => 0

abbrev bufTy : (tb : Table) → Fin (tcTables nBuf tb) → BufTy
  | .hbm, ⟨0, _⟩ => ⟨S4x16x4096x1, .f32⟩
  | .hbm, ⟨1, _⟩ => ⟨S16x32, .f32⟩
  | .hbm, ⟨2, _⟩ => ⟨S16, .f32⟩
  | .hbm, ⟨3, _⟩ => ⟨S16, .f32⟩
  | .hbm, ⟨4, _⟩ => ⟨S16, .f32⟩
  | .hbm, ⟨5, _⟩ => ⟨S4x16x4096, .f32⟩
  | .hbm, ⟨6, _⟩ => ⟨S4x4096x16, .f32⟩
  | .hbm, ⟨7, _⟩ => ⟨S4x16x4096, .f32⟩
  | .hbm, ⟨8, _⟩ => ⟨S4x4096x4096, .f32⟩
  | .hbm, ⟨9, _⟩ => ⟨S_, .f32⟩
  | .hbm, ⟨10, _⟩ => ⟨S4x4096x4096, .f32⟩
  | .hbm, ⟨11, _⟩ => ⟨S4x4096x4096, .f32⟩
  | .hbm, ⟨12, _⟩ => ⟨S4x4096x16, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S4x4096x4096, .f32⟩
  | .hbm, ⟨17, _⟩ => ⟨S4x4096x4096, .f32⟩
  | .hbm, ⟨18, _⟩ => ⟨S4x1x4096, .f32⟩
  | .hbm, ⟨19, _⟩ => ⟨S4x4096x4096, .f32⟩
  | .hbm, ⟨20, _⟩ => ⟨S4x4096x4096, .f32⟩
  | .hbm, ⟨21, _⟩ => ⟨S4x4096x4096, .f32⟩
  | .hbm, ⟨22, _⟩ => ⟨S4x4096x100, .f32⟩
  | .hbm, ⟨23, _⟩ => ⟨S4x4096x100, .i32⟩
  | .hbm, ⟨24, _⟩ => ⟨S4096, .i32⟩
  | .hbm, ⟨25, _⟩ => ⟨S1x4096x1, .i32⟩
  | .hbm, ⟨26, _⟩ => ⟨S4x4096x100, .i32⟩
  | .hbm, ⟨27, _⟩ => ⟨S1x4x4096x100, .i32⟩
  | .hbm, ⟨28, _⟩ => ⟨S1x4x4096x100, .i32⟩
  | .hbm, ⟨29, _⟩ => ⟨S2x4x4096x100, .i32⟩
  | .hbm, ⟨30, _⟩ => ⟨S2x4x4096x20, .i32⟩
  | .hbm, ⟨31, _⟩ => ⟨S1x4x4096x20, .i32⟩
  | .hbm, ⟨32, _⟩ => ⟨S4x4096x20, .i32⟩
  | .hbm, ⟨33, _⟩ => ⟨S4x16x4096, .f32⟩
  | .hbm, ⟨34, _⟩ => ⟨S_, .i32⟩
  | .hbm, ⟨35, _⟩ => ⟨S4x4096x20, .i32⟩
  | .hbm, ⟨36, _⟩ => ⟨S4x4096x20, .i1⟩
  | .hbm, ⟨37, _⟩ => ⟨S_, .i32⟩
  | .hbm, ⟨38, _⟩ => ⟨S4x4096x20, .i32⟩
  | .hbm, ⟨39, _⟩ => ⟨S4x4096x20, .i32⟩
  | .hbm, ⟨40, _⟩ => ⟨S4x4096x20, .i32⟩
  | .hbm, ⟨41, _⟩ => ⟨S4x4096x20x1, .i32⟩
  | .hbm, ⟨42, _⟩ => ⟨S4x16x4096x20, .f32⟩
  | .hbm, ⟨43, _⟩ => ⟨S1x4x4096x20, .i32⟩
  | .hbm, ⟨44, _⟩ => ⟨S4x4096x20, .i32⟩
  | .hbm, ⟨45, _⟩ => ⟨S4x16x4096, .f32⟩
  | .hbm, ⟨46, _⟩ => ⟨S_, .i32⟩
  | .hbm, ⟨47, _⟩ => ⟨S4x4096x20, .i32⟩
  | .hbm, ⟨48, _⟩ => ⟨S4x4096x20, .i1⟩
  | .hbm, ⟨49, _⟩ => ⟨S_, .i32⟩
  | .hbm, ⟨50, _⟩ => ⟨S4x4096x20, .i32⟩
  | .hbm, ⟨51, _⟩ => ⟨S4x4096x20, .i32⟩
  | .hbm, ⟨52, _⟩ => ⟨S4x4096x20, .i32⟩
  | .hbm, ⟨53, _⟩ => ⟨S4x4096x20x1, .i32⟩
  | .hbm, ⟨54, _⟩ => ⟨S4x16x4096x20, .f32⟩
  | .hbm, ⟨55, _⟩ => ⟨S4x16x4096x20, .f32⟩
  | .hbm, ⟨56, _⟩ => ⟨S4x32x4096x20, .f32⟩
  | .hbm, ⟨57, _⟩ => ⟨S4x4096x20x16, .f32⟩
  | .hbm, ⟨58, _⟩ => ⟨S4x16x4096x20, .f32⟩
  | .hbm, ⟨59, _⟩ => ⟨S1x16x1x1, .f32⟩
  | .hbm, ⟨60, _⟩ => ⟨S4x16x4096x20, .f32⟩
  | .hbm, ⟨61, _⟩ => ⟨S4x16x4096x20, .f32⟩
  | .hbm, ⟨62, _⟩ => ⟨S_, .f32⟩
  | .hbm, ⟨63, _⟩ => ⟨S16, .f32⟩
  | .hbm, ⟨64, _⟩ => ⟨S1x16x1x1, .f32⟩
  | .hbm, ⟨65, _⟩ => ⟨S_, .f32⟩
  | .hbm, ⟨66, _⟩ => ⟨S1x16x1x1, .f32⟩
  | .hbm, ⟨67, _⟩ => ⟨S1x16x1x1, .f32⟩
  | .hbm, ⟨68, _⟩ => ⟨S_, .i32⟩
  | .hbm, ⟨69, _⟩ => ⟨S_, .f32⟩
  | .hbm, ⟨70, _⟩ => ⟨S16, .f32⟩
  | .hbm, ⟨71, _⟩ => ⟨S1x16x1x1, .f32⟩
  | .hbm, ⟨72, _⟩ => ⟨S_, .f32⟩
  | .hbm, ⟨73, _⟩ => ⟨S1x16x1x1, .f32⟩
  | .hbm, ⟨74, _⟩ => ⟨S1x16x1x1, .f32⟩
  | .hbm, ⟨75, _⟩ => ⟨S4x16x4096x20, .f32⟩
  | .hbm, ⟨76, _⟩ => ⟨S4x16x4096x20, .f32⟩
  | .hbm, ⟨77, _⟩ => ⟨S4x16x4096x20, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S16, .f32⟩
  | .hbm, ⟨83, _⟩ => ⟨S1x16x1x1, .f32⟩
  | .hbm, ⟨84, _⟩ => ⟨S1x16x1x1, .f32⟩
  | .hbm, ⟨85, _⟩ => ⟨S1x16x1x1, .f32⟩
  | .hbm, ⟨86, _⟩ => ⟨S_, .f32⟩
  | .hbm, ⟨87, _⟩ => ⟨S_, .i1⟩
  | .hbm, ⟨88, _⟩ => ⟨S_, .f32⟩
  | .hbm, ⟨89, _⟩ => ⟨S_, .f32⟩
  | .hbm, ⟨90, _⟩ => ⟨S1x16x1x1, .f32⟩
  | .hbm, ⟨91, _⟩ => ⟨S1x16x1x1, .f32⟩
  | .hbm, ⟨92, _⟩ => ⟨S4x16x4096x20, .f32⟩
  | .hbm, ⟨93, _⟩ => ⟨S4x16x4096x20, .f32⟩
  | .hbm, ⟨94, _⟩ => ⟨S_, .f32⟩
  | .hbm, ⟨95, _⟩ => ⟨S1x16x1x1, .f32⟩
  | .hbm, ⟨96, _⟩ => ⟨S1x16x1x1, .f32⟩
  | .hbm, ⟨97, _⟩ => ⟨S1x16x1x1, .f32⟩
  | .hbm, ⟨98, _⟩ => ⟨S4x16x4096x20, .f32⟩
  | .hbm, ⟨99, _⟩ => ⟨S4x16x4096x20, .f32⟩
  | .hbm, ⟨100, _⟩ => ⟨S1x16x1x1, .f32⟩
  | .hbm, ⟨101, _⟩ => ⟨S4x16x4096x20, .f32⟩
  | .hbm, ⟨102, _⟩ => ⟨S4x16x4096x20, .f32⟩
  | .hbm, ⟨103, _⟩ => ⟨S1x16x1x1, .f32⟩
  | .hbm, ⟨104, _⟩ => ⟨S4x16x4096x20, .f32⟩
  | .hbm, ⟨105, _⟩ => ⟨S4x16x4096x20, .f32⟩
  | .hbm, ⟨106, _⟩ => ⟨S_, .f32⟩
  | .hbm, ⟨107, _⟩ => ⟨S4x16x4096x20, .f32⟩
  | .hbm, ⟨108, _⟩ => ⟨S4x16x4096x20, .f32⟩
  | .hbm, ⟨109, _⟩ => ⟨S_, .f32⟩
  | .hbm, ⟨110, _⟩ => ⟨S4x16x4096, .f32⟩
  | .hbm, ⟨111, _⟩ => ⟨S4x16x4096x1, .f32⟩
  | .hbm, ⟨112, _⟩ => ⟨S4x16x4096x1, .f32⟩
  | .hbm, ⟨113, _⟩ => ⟨S1x4x4096x20, .i32⟩
  | .hbm, ⟨114, _⟩ => ⟨S4x4096x20, .i32⟩
  | _, _ => ⟨S4x16x4096x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_values : Ref sig .tc := ⟨.hbm, 22, rfl⟩
abbrev main_indices : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c : Ref sig .tc := ⟨.hbm, 34, rfl⟩
abbrev main_v25 : Ref sig .tc := ⟨.hbm, 35, rfl⟩
abbrev main_v26 : Ref sig .tc := ⟨.hbm, 36, rfl⟩
abbrev main_c_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c_2 : Ref sig .tc := ⟨.hbm, 46, rfl⟩
abbrev main_v35 : Ref sig .tc := ⟨.hbm, 47, rfl⟩
abbrev main_v36 : Ref sig .tc := ⟨.hbm, 48, rfl⟩
abbrev main_c_3 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_4 : Ref sig .tc := ⟨.hbm, 62, rfl⟩
abbrev main_v49 : Ref sig .tc := ⟨.hbm, 63, rfl⟩
abbrev main_v50 : Ref sig .tc := ⟨.hbm, 64, rfl⟩
abbrev main_cst_5 : Ref sig .tc := ⟨.hbm, 65, rfl⟩
abbrev main_v51 : Ref sig .tc := ⟨.hbm, 66, rfl⟩
abbrev main_v52 : Ref sig .tc := ⟨.hbm, 67, rfl⟩
abbrev main_c_6 : Ref sig .tc := ⟨.hbm, 68, rfl⟩
abbrev main_call0_cst : Ref sig .tc := ⟨.hbm, 69, rfl⟩
abbrev main_call0_v0 : Ref sig .tc := ⟨.hbm, 70, rfl⟩
abbrev main_call0_v1 : Ref sig .tc := ⟨.hbm, 71, rfl⟩
abbrev main_call0_cst_0 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_call0_v5 : Ref sig .tc := ⟨.hbm, 76, rfl⟩
abbrev main_call0_v6 : Ref sig .tc := ⟨.hbm, 77, rfl⟩
abbrev main_call0_v7 : Ref sig .tc := ⟨.hbm, 78, rfl⟩
abbrev main_call0_cst_1 : Ref sig .tc := ⟨.hbm, 79, rfl⟩
abbrev main_call0_v8 : Ref sig .tc := ⟨.hbm, 80, rfl⟩
abbrev main_call0_cst_2 : Ref sig .tc := ⟨.hbm, 81, rfl⟩
abbrev main_call0_v9 : Ref sig .tc := ⟨.hbm, 82, rfl⟩
abbrev main_call0_v10 : Ref sig .tc := ⟨.hbm, 83, rfl⟩
abbrev main_call0_v11 : Ref sig .tc := ⟨.hbm, 84, rfl⟩
abbrev main_call0_v12 : Ref sig .tc := ⟨.hbm, 85, rfl⟩
abbrev main_call0_cst_3 : Ref sig .tc := ⟨.hbm, 86, rfl⟩
abbrev main_call0_v13 : Ref sig .tc := ⟨.hbm, 87, rfl⟩
abbrev main_call0_cst_4 : Ref sig .tc := ⟨.hbm, 88, rfl⟩
abbrev main_call0_call0_v0 : Ref sig .tc := ⟨.hbm, 89, rfl⟩
abbrev main_call0_call0_v1 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_cst_7 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_call1_cst : Ref sig .tc := ⟨.hbm, 106, rfl⟩
abbrev main_call1_v0 : Ref sig .tc := ⟨.hbm, 107, rfl⟩
abbrev main_v67 : Ref sig .tc := ⟨.hbm, 108, rfl⟩
abbrev main_cst_8 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩

abbrev nD : Nat := 1
abbrev τ : Topo := Topo.v7x

variable {F : FTy → Type} [FloatOps F]
-- ==== Layer6.lean ====
abbrev S4x16x4096x1 : Shape := ⟨4, ![4, 16, 4096, 1]⟩
abbrev S16x32 : Shape := ⟨2, ![16, 32]⟩
abbrev S16 : Shape := ⟨1, ![16]⟩
abbrev S4x16x4096 : Shape := ⟨3, ![4, 16, 4096]⟩
abbrev S4x4096x16 : Shape := ⟨3, ![4, 4096, 16]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x20 : Shape := ⟨3, ![4, 4096, 20]⟩
abbrev S1x512x1 : Shape := ⟨3, ![1, 512, 1]⟩
abbrev S1x512x16 : Shape := ⟨3, ![1, 512, 16]⟩
abbrev S1x16x4096 : Shape := ⟨3, ![1, 16, 4096]⟩
abbrev S1x1x4096 : Shape := ⟨3, ![1, 1, 4096]⟩
abbrev S1x512x20 : Shape := ⟨3, ![1, 512, 20]⟩
abbrev S512x4096 : Shape := ⟨2, ![512, 4096]⟩
abbrev S512x16 : Shape := ⟨2, ![512, 16]⟩
abbrev S16x4096 : Shape := ⟨2, ![16, 4096]⟩
abbrev S512x1 : Shape := ⟨2, ![512, 1]⟩
abbrev S1x4096 : Shape := ⟨2, ![1, 4096]⟩
abbrev S512x20 : Shape := ⟨2, ![512, 20]⟩
abbrev S512x128 : Shape := ⟨2, ![512, 128]⟩
abbrev S512 : Shape := ⟨1, ![512]⟩
abbrev S4096 : Shape := ⟨1, ![4096]⟩
abbrev S1x4096x1 : Shape := ⟨3, ![1, 4096, 1]⟩
abbrev S4x4096x20x1 : Shape := ⟨4, ![4, 4096, 20, 1]⟩
abbrev S4x16x4096x20 : Shape := ⟨4, ![4, 16, 4096, 20]⟩
abbrev S4x32x4096x20 : Shape := ⟨4, ![4, 32, 4096, 20]⟩
abbrev S4x4096x20x16 : Shape := ⟨4, ![4, 4096, 20, 16]⟩
abbrev S1x16x1x1 : Shape := ⟨4, ![1, 16, 1, 1]⟩

abbrev nBuf : Space → Nat
  | .hbm => 97
  | .vmem => 11
  | .smem => 0
  | _ => 0

abbrev bufTy : (tb : Table) → Fin (tcTables nBuf tb) → BufTy
  | .hbm, ⟨0, _⟩ => ⟨S4x16x4096x1, .f32⟩
  | .hbm, ⟨1, _⟩ => ⟨S16x32, .f32⟩
  | .hbm, ⟨2, _⟩ => ⟨S16, .f32⟩
  | .hbm, ⟨3, _⟩ => ⟨S16, .f32⟩
  | .hbm, ⟨4, _⟩ => ⟨S16, .f32⟩
  | .hbm, ⟨5, _⟩ => ⟨S4x16x4096, .f32⟩
  | .hbm, ⟨6, _⟩ => ⟨S4x4096x16, .f32⟩
  | .hbm, ⟨7, _⟩ => ⟨S4x4096x16, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S4x1x4096, .f32⟩
  | .hbm, ⟨12, _⟩ => ⟨S4x16x4096, .f32⟩
  | .hbm, ⟨13, _⟩ => ⟨S4x4096x20, .i32⟩
  | .hbm, ⟨14, _⟩ => ⟨S4096, .i32⟩
  | .hbm, ⟨15, _⟩ => ⟨S1x4096x1, .i32⟩
  | .hbm, ⟨16, _⟩ => ⟨S4x4096x20, .i32⟩
  | .hbm, ⟨17, _⟩ => ⟨S4x16x4096, .f32⟩
  | .hbm, ⟨18, _⟩ => ⟨S_, .i32⟩
  | .hbm, ⟨19, _⟩ => ⟨S4x4096x20, .i32⟩
  | .hbm, ⟨20, _⟩ => ⟨S4x4096x20, .i1⟩
  | .hbm, ⟨21, _⟩ => ⟨S_, .i32⟩
  | .hbm, ⟨22, _⟩ => ⟨S4x4096x20, .i32⟩
  | .hbm, ⟨23, _⟩ => ⟨S4x4096x20, .i32⟩
  | .hbm, ⟨24, _⟩ => ⟨S4x4096x20, .i32⟩
  | .hbm, ⟨25, _⟩ => ⟨S4x4096x20x1, .i32⟩
  | .hbm, ⟨26, _⟩ => ⟨S4x16x4096x20, .f32⟩
  | .hbm, ⟨27, _⟩ => ⟨S4x16x4096, .f32⟩
  | .hbm, ⟨28, _⟩ => ⟨S_, .i32⟩
  | .hbm, ⟨29, _⟩ => ⟨S4x4096x20, .i32⟩
  | .hbm, ⟨30, _⟩ => ⟨S4x4096x20, .i1⟩
  | .hbm, ⟨31, _⟩ => ⟨S_, .i32⟩
  | .hbm, ⟨32, _⟩ => ⟨S4x4096x20, .i32⟩
  | .hbm, ⟨33, _⟩ => ⟨S4x4096x20, .i32⟩
  | .hbm, ⟨34, _⟩ => ⟨S4x4096x20, .i32⟩
  | .hbm, ⟨35, _⟩ => ⟨S4x4096x20x1, .i32⟩
  | .hbm, ⟨36, _⟩ => ⟨S4x16x4096x20, .f32⟩
  | .hbm, ⟨37, _⟩ => ⟨S4x16x4096x20, .f32⟩
  | .hbm, ⟨38, _⟩ => ⟨S4x32x4096x20, .f32⟩
  | .hbm, ⟨39, _⟩ => ⟨S4x4096x20x16, .f32⟩
  | .hbm, ⟨40, _⟩ => ⟨S4x16x4096x20, .f32⟩
  | .hbm, ⟨41, _⟩ => ⟨S1x16x1x1, .f32⟩
  | .hbm, ⟨42, _⟩ => ⟨S4x16x4096x20, .f32⟩
  | .hbm, ⟨43, _⟩ => ⟨S4x16x4096x20, .f32⟩
  | .hbm, ⟨44, _⟩ => ⟨S_, .f32⟩
  | .hbm, ⟨45, _⟩ => ⟨S16, .f32⟩
  | .hbm, ⟨46, _⟩ => ⟨S1x16x1x1, .f32⟩
  | .hbm, ⟨47, _⟩ => ⟨S_, .f32⟩
  | .hbm, ⟨48, _⟩ => ⟨S1x16x1x1, .f32⟩
  | .hbm, ⟨49, _⟩ => ⟨S1x16x1x1, .f32⟩
  | .hbm, ⟨50, _⟩ => ⟨S_, .i32⟩
  | .hbm, ⟨51, _⟩ => ⟨S_, .f32⟩
  | .hbm, ⟨52, _⟩ => ⟨S16, .f32⟩
  | .hbm, ⟨53, _⟩ => ⟨S1x16x1x1, .f32⟩
  | .hbm, ⟨54, _⟩ => ⟨S_, .f32⟩
  | .hbm, ⟨55, _⟩ => ⟨S1x16x1x1, .f32⟩
  | .hbm, ⟨56, _⟩ => ⟨S1x16x1x1, .f32⟩
  | .hbm, ⟨57, _⟩ => ⟨S4x16x4096x20, .f32⟩
  | .hbm, ⟨58, _⟩ => ⟨S4x16x4096x20, .f32⟩
  | .hbm, ⟨59, _⟩ => ⟨S4x16x4096x20, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S16, .f32⟩
  | .hbm, ⟨65, _⟩ => ⟨S1x16x1x1, .f32⟩
  | .hbm, ⟨66, _⟩ => ⟨S1x16x1x1, .f32⟩
  | .hbm, ⟨67, _⟩ => ⟨S1x16x1x1, .f32⟩
  | .hbm, ⟨68, _⟩ => ⟨S_, .f32⟩
  | .hbm, ⟨69, _⟩ => ⟨S_, .i1⟩
  | .hbm, ⟨70, _⟩ => ⟨S_, .f32⟩
  | .hbm, ⟨71, _⟩ => ⟨S_, .f32⟩
  | .hbm, ⟨72, _⟩ => ⟨S1x16x1x1, .f32⟩
  | .hbm, ⟨73, _⟩ => ⟨S1x16x1x1, .f32⟩
  | .hbm, ⟨74, _⟩ => ⟨S4x16x4096x20, .f32⟩
  | .hbm, ⟨75, _⟩ => ⟨S4x16x4096x20, .f32⟩
  | .hbm, ⟨76, _⟩ => ⟨S_, .f32⟩
  | .hbm, ⟨77, _⟩ => ⟨S1x16x1x1, .f32⟩
  | .hbm, ⟨78, _⟩ => ⟨S1x16x1x1, .f32⟩
  | .hbm, ⟨79, _⟩ => ⟨S1x16x1x1, .f32⟩
  | .hbm, ⟨80, _⟩ => ⟨S4x16x4096x20, .f32⟩
  | .hbm, ⟨81, _⟩ => ⟨S4x16x4096x20, .f32⟩
  | .hbm, ⟨82, _⟩ => ⟨S1x16x1x1, .f32⟩
  | .hbm, ⟨83, _⟩ => ⟨S4x16x4096x20, .f32⟩
  | .hbm, ⟨84, _⟩ => ⟨S4x16x4096x20, .f32⟩
  | .hbm, ⟨85, _⟩ => ⟨S1x16x1x1, .f32⟩
  | .hbm, ⟨86, _⟩ => ⟨S4x16x4096x20, .f32⟩
  | .hbm, ⟨87, _⟩ => ⟨S4x16x4096x20, .f32⟩
  | .hbm, ⟨88, _⟩ => ⟨S_, .f32⟩
  | .hbm, ⟨89, _⟩ => ⟨S4x16x4096x20, .f32⟩
  | .hbm, ⟨90, _⟩ => ⟨S4x16x4096x20, .f32⟩
  | .hbm, ⟨91, _⟩ => ⟨S_, .f32⟩
  | .hbm, ⟨92, _⟩ => ⟨S4x16x4096, .f32⟩
  | .hbm, ⟨93, _⟩ => ⟨S4x16x4096x1, .f32⟩
  | .hbm, ⟨94, _⟩ => ⟨S4x16x4096x1, .f32⟩
  | .hbm, ⟨95, _⟩ => ⟨S4x16x4096, .f32⟩
  | .hbm, ⟨96, _⟩ => ⟨S4x4096x16, .f32⟩
  | .local _ .vmem, ⟨0, _⟩ => ⟨S1x512x1, .f32⟩
  | .local _ .vmem, ⟨1, _⟩ => ⟨S1x512x1, .f32⟩
  | .local _ .vmem, ⟨2, _⟩ => ⟨S1x512x16, .f32⟩
  | .local _ .vmem, ⟨3, _⟩ => ⟨S1x512x16, .f32⟩
  | .local _ .vmem, ⟨4, _⟩ => ⟨S1x16x4096, .f32⟩
  | .local _ .vmem, ⟨5, _⟩ => ⟨S1x16x4096, .f32⟩
  | .local _ .vmem, ⟨6, _⟩ => ⟨S1x1x4096, .f32⟩
  | .local _ .vmem, ⟨7, _⟩ => ⟨S1x1x4096, .f32⟩
  | .local _ .vmem, ⟨8, _⟩ => ⟨S1x512x20, .i32⟩
  | .local _ .vmem, ⟨9, _⟩ => ⟨S1x512x20, .i32⟩
  | .local _ .vmem, ⟨10, _⟩ => ⟨S512x4096, .f32⟩
  | _, _ => ⟨S4x16x4096x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst : Ref sig .tc := ⟨.hbm, 44, rfl⟩
abbrev main_v29 : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_v32 : Ref sig .tc := ⟨.hbm, 49, rfl⟩
abbrev main_c_4 : Ref sig .tc := ⟨.hbm, 50, rfl⟩
abbrev main_call1_cst : Ref sig .tc := ⟨.hbm, 51, rfl⟩
abbrev main_call1_v0 : Ref sig .tc := ⟨.hbm, 52, rfl⟩
abbrev main_call1_v1 : Ref sig .tc := ⟨.hbm, 53, rfl⟩
abbrev main_call1_cst_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_cst_1 : Ref sig .tc := ⟨.hbm, 61, rfl⟩
abbrev main_call1_v8 : Ref sig .tc := ⟨.hbm, 62, rfl⟩
abbrev main_call1_cst_2 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_v12 : Ref sig .tc := ⟨.hbm, 67, rfl⟩
abbrev main_call1_cst_3 : Ref sig .tc := ⟨.hbm, 68, rfl⟩
abbrev main_call1_v13 : Ref sig .tc := ⟨.hbm, 69, rfl⟩
abbrev main_call1_cst_4 : Ref sig .tc := ⟨.hbm, 70, rfl⟩
abbrev main_call1_call0_v0 : Ref sig .tc := ⟨.hbm, 71, rfl⟩
abbrev main_call1_call0_v1 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_cst_5 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_call2_cst : Ref sig .tc := ⟨.hbm, 88, rfl⟩
abbrev main_call2_v0 : Ref sig .tc := ⟨.hbm, 89, rfl⟩
abbrev main_v47 : Ref sig .tc := ⟨.hbm, 90, rfl⟩
abbrev main_cst_6 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_14 : BitVec 32 := 0#32
  let c120_i32 : BitVec 32 := 120#32
  let v22 : BitVec 32 := Scalar.addi c0_i32_14 c120_i32
  let c1_i32 : BitVec 32 := 1#32
  ⟨c0_i32_14, v22, c1_i32⟩
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x20 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Layer6Ideal.lean ====
variable {F : FTy → Type} [FloatOps F] [Named F]
def κ : String → Option EReal := fun
  | "taken" => some ⊤
  | _ => none
-- ==== Plain6Ideal.lean ====
abbrev S4x16x4096x1 : Shape := ⟨4, ![4, 16, 4096, 1]⟩
abbrev S16x32 : Shape := ⟨2, ![16, 32]⟩
abbrev S16 : Shape := ⟨1, ![16]⟩
abbrev S4x16x4096 : Shape := ⟨3, ![4, 16, 4096]⟩
abbrev S4x4096x16 : Shape := ⟨3, ![4, 4096, 16]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x120 : Shape := ⟨3, ![4, 4096, 120]⟩
abbrev S4096 : Shape := ⟨1, ![4096]⟩
abbrev S1x4096x1 : Shape := ⟨3, ![1, 4096, 1]⟩
abbrev S1x4x4096x120 : Shape := ⟨4, ![1, 4, 4096, 120]⟩
abbrev S2x4x4096x120 : Shape := ⟨4, ![2, 4, 4096, 120]⟩
abbrev S2x4x4096x20 : Shape := ⟨4, ![2, 4, 4096, 20]⟩
abbrev S1x4x4096x20 : Shape := ⟨4, ![1, 4, 4096, 20]⟩
abbrev S4x4096x20 : Shape := ⟨3, ![4, 4096, 20]⟩
abbrev S4x4096x20x1 : Shape := ⟨4, ![4, 4096, 20, 1]⟩
abbrev S4x16x4096x20 : Shape := ⟨4, ![4, 16, 4096, 20]⟩
abbrev S4x32x4096x20 : Shape := ⟨4, ![4, 32, 4096, 20]⟩
abbrev S4x4096x20x16 : Shape := ⟨4, ![4, 4096, 20, 16]⟩
abbrev S1x16x1x1 : Shape := ⟨4, ![1, 16, 1, 1]⟩

abbrev nBuf : Space → Nat
  | .hbm => 117
  | .vmem => 0
  | .smem => 0
  | _ => 0

abbrev bufTy : (tb : Table) → Fin (tcTables nBuf tb) → BufTy
  | .hbm, ⟨0, _⟩ => ⟨S4x16x4096x1, .f32⟩
  | .hbm, ⟨1, _⟩ => ⟨S16x32, .f32⟩
  | .hbm, ⟨2, _⟩ => ⟨S16, .f32⟩
  | .hbm, ⟨3, _⟩ => ⟨S16, .f32⟩
  | .hbm, ⟨4, _⟩ => ⟨S16, .f32⟩
  | .hbm, ⟨5, _⟩ => ⟨S4x16x4096, .f32⟩
  | .hbm, ⟨6, _⟩ => ⟨S4x4096x16, .f32⟩
  | .hbm, ⟨7, _⟩ => ⟨S4x16x4096, .f32⟩
  | .hbm, ⟨8, _⟩ => ⟨S4x4096x4096, .f32⟩
  | .hbm, ⟨9, _⟩ => ⟨S_, .f32⟩
  | .hbm, ⟨10, _⟩ => ⟨S4x4096x4096, .f32⟩
  | .hbm, ⟨11, _⟩ => ⟨S4x4096x4096, .f32⟩
  | .hbm, ⟨12, _⟩ => ⟨S4x4096x16, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S4x4096x4096, .f32⟩
  | .hbm, ⟨17, _⟩ => ⟨S4x4096x4096, .f32⟩
  | .hbm, ⟨18, _⟩ => ⟨S4x1x4096, .f32⟩
  | .hbm, ⟨19, _⟩ => ⟨S4x4096x4096, .f32⟩
  | .hbm, ⟨20, _⟩ => ⟨S4x4096x4096, .f32⟩
  | .hbm, ⟨21, _⟩ => ⟨S4x4096x4096, .f32⟩
  | .hbm, ⟨22, _⟩ => ⟨S4x4096x120, .f32⟩
  | .hbm, ⟨23, _⟩ => ⟨S4x4096x120, .i32⟩
  | .hbm, ⟨24, _⟩ => ⟨S4096, .i32⟩
  | .hbm, ⟨25, _⟩ => ⟨S1x4096x1, .i32⟩
  | .hbm, ⟨26, _⟩ => ⟨S4x4096x120, .i32⟩
  | .hbm, ⟨27, _⟩ => ⟨S1x4x4096x120, .i32⟩
  | .hbm, ⟨28, _⟩ => ⟨S1x4x4096x120, .i32⟩
  | .hbm, ⟨29, _⟩ => ⟨S2x4x4096x120, .i32⟩
  | .hbm, ⟨30, _⟩ => ⟨S2x4x4096x20, .i32⟩
  | .hbm, ⟨31, _⟩ => ⟨S1x4x4096x20, .i32⟩
  | .hbm, ⟨32, _⟩ => ⟨S4x4096x20, .i32⟩
  | .hbm, ⟨33, _⟩ => ⟨S4x16x4096, .f32⟩
  | .hbm, ⟨34, _⟩ => ⟨S_, .i32⟩
  | .hbm, ⟨35, _⟩ => ⟨S4x4096x20, .i32⟩
  | .hbm, ⟨36, _⟩ => ⟨S4x4096x20, .i1⟩
  | .hbm, ⟨37, _⟩ => ⟨S_, .i32⟩
  | .hbm, ⟨38, _⟩ => ⟨S4x4096x20, .i32⟩
  | .hbm, ⟨39, _⟩ => ⟨S4x4096x20, .i32⟩
  | .hbm, ⟨40, _⟩ => ⟨S4x4096x20, .i32⟩
  | .hbm, ⟨41, _⟩ => ⟨S4x4096x20x1, .i32⟩
  | .hbm, ⟨42, _⟩ => ⟨S4x16x4096x20, .f32⟩
  | .hbm, ⟨43, _⟩ => ⟨S1x4x4096x20, .i32⟩
  | .hbm, ⟨44, _⟩ => ⟨S4x4096x20, .i32⟩
  | .hbm, ⟨45, _⟩ => ⟨S4x16x4096, .f32⟩
  | .hbm, ⟨46, _⟩ => ⟨S_, .i32⟩
  | .hbm, ⟨47, _⟩ => ⟨S4x4096x20, .i32⟩
  | .hbm, ⟨48, _⟩ => ⟨S4x4096x20, .i1⟩
  | .hbm, ⟨49, _⟩ => ⟨S_, .i32⟩
  | .hbm, ⟨50, _⟩ => ⟨S4x4096x20, .i32⟩
  | .hbm, ⟨51, _⟩ => ⟨S4x4096x20, .i32⟩
  | .hbm, ⟨52, _⟩ => ⟨S4x4096x20, .i32⟩
  | .hbm, ⟨53, _⟩ => ⟨S4x4096x20x1, .i32⟩
  | .hbm, ⟨54, _⟩ => ⟨S4x16x4096x20, .f32⟩
  | .hbm, ⟨55, _⟩ => ⟨S4x16x4096x20, .f32⟩
  | .hbm, ⟨56, _⟩ => ⟨S4x32x4096x20, .f32⟩
  | .hbm, ⟨57, _⟩ => ⟨S4x4096x20x16, .f32⟩
  | .hbm, ⟨58, _⟩ => ⟨S4x16x4096x20, .f32⟩
  | .hbm, ⟨59, _⟩ => ⟨S1x16x1x1, .f32⟩
  | .hbm, ⟨60, _⟩ => ⟨S4x16x4096x20, .f32⟩
  | .hbm, ⟨61, _⟩ => ⟨S4x16x4096x20, .f32⟩
  | .hbm, ⟨62, _⟩ => ⟨S_, .f32⟩
  | .hbm, ⟨63, _⟩ => ⟨S16, .f32⟩
  | .hbm, ⟨64, _⟩ => ⟨S1x16x1x1, .f32⟩
  | .hbm, ⟨65, _⟩ => ⟨S_, .f32⟩
  | .hbm, ⟨66, _⟩ => ⟨S1x16x1x1, .f32⟩
  | .hbm, ⟨67, _⟩ => ⟨S1x16x1x1, .f32⟩
  | .hbm, ⟨68, _⟩ => ⟨S_, .i32⟩
  | .hbm, ⟨69, _⟩ => ⟨S_, .f32⟩
  | .hbm, ⟨70, _⟩ => ⟨S16, .f32⟩
  | .hbm, ⟨71, _⟩ => ⟨S1x16x1x1, .f32⟩
  | .hbm, ⟨72, _⟩ => ⟨S_, .f32⟩
  | .hbm, ⟨73, _⟩ => ⟨S1x16x1x1, .f32⟩
  | .hbm, ⟨74, _⟩ => ⟨S1x16x1x1, .f32⟩
  | .hbm, ⟨75, _⟩ => ⟨S4x16x4096x20, .f32⟩
  | .hbm, ⟨76, _⟩ => ⟨S4x16x4096x20, .f32⟩
  | .hbm, ⟨77, _⟩ => ⟨S4x16x4096x20, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S16, .f32⟩
  | .hbm, ⟨83, _⟩ => ⟨S1x16x1x1, .f32⟩
  | .hbm, ⟨84, _⟩ => ⟨S1x16x1x1, .f32⟩
  | .hbm, ⟨85, _⟩ => ⟨S1x16x1x1, .f32⟩
  | .hbm, ⟨86, _⟩ => ⟨S_, .f32⟩
  | .hbm, ⟨87, _⟩ => ⟨S_, .i1⟩
  | .hbm, ⟨88, _⟩ => ⟨S_, .f32⟩
  | .hbm, ⟨89, _⟩ => ⟨S_, .f32⟩
  | .hbm, ⟨90, _⟩ => ⟨S1x16x1x1, .f32⟩
  | .hbm, ⟨91, _⟩ => ⟨S1x16x1x1, .f32⟩
  | .hbm, ⟨92, _⟩ => ⟨S4x16x4096x20, .f32⟩
  | .hbm, ⟨93, _⟩ => ⟨S4x16x4096x20, .f32⟩
  | .hbm, ⟨94, _⟩ => ⟨S_, .f32⟩
  | .hbm, ⟨95, _⟩ => ⟨S1x16x1x1, .f32⟩
  | .hbm, ⟨96, _⟩ => ⟨S1x16x1x1, .f32⟩
  | .hbm, ⟨97, _⟩ => ⟨S1x16x1x1, .f32⟩
  | .hbm, ⟨98, _⟩ => ⟨S4x16x4096x20, .f32⟩
  | .hbm, ⟨99, _⟩ => ⟨S4x16x4096x20, .f32⟩
  | .hbm, ⟨100, _⟩ => ⟨S1x16x1x1, .f32⟩
  | .hbm, ⟨101, _⟩ => ⟨S4x16x4096x20, .f32⟩
  | .hbm, ⟨102, _⟩ => ⟨S4x16x4096x20, .f32⟩
  | .hbm, ⟨103, _⟩ => ⟨S1x16x1x1, .f32⟩
  | .hbm, ⟨104, _⟩ => ⟨S4x16x4096x20, .f32⟩
  | .hbm, ⟨105, _⟩ => ⟨S4x16x4096x20, .f32⟩
  | .hbm, ⟨106, _⟩ => ⟨S_, .f32⟩
  | .hbm, ⟨107, _⟩ => ⟨S4x16x4096x20, .f32⟩
  | .hbm, ⟨108, _⟩ => ⟨S4x16x4096x20, .f32⟩
  | .hbm, ⟨109, _⟩ => ⟨S_, .f32⟩
  | .hbm, ⟨110, _⟩ => ⟨S4x16x4096, .f32⟩
  | .hbm, ⟨111, _⟩ => ⟨S4x16x4096x1, .f32⟩
  | .hbm, ⟨112, _⟩ => ⟨S4x16x4096x1, .f32⟩
  | .hbm, ⟨113, _⟩ => ⟨S4x16x4096, .f32⟩
  | .hbm, ⟨114, _⟩ => ⟨S4x4096x16, .f32⟩
  | .hbm, ⟨115, _⟩ => ⟨S1x4x4096x20, .i32⟩
  | .hbm, ⟨116, _⟩ => ⟨S4x4096x20, .i32⟩
  | _, _ => ⟨S4x16x4096x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_values : Ref sig .tc := ⟨.hbm, 22, rfl⟩
abbrev main_indices : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c : Ref sig .tc := ⟨.hbm, 34, rfl⟩
abbrev main_v25 : Ref sig .tc := ⟨.hbm, 35, rfl⟩
abbrev main_v26 : Ref sig .tc := ⟨.hbm, 36, rfl⟩
abbrev main_c_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c_2 : Ref sig .tc := ⟨.hbm, 46, rfl⟩
abbrev main_v35 : Ref sig .tc := ⟨.hbm, 47, rfl⟩
abbrev main_v36 : Ref sig .tc := ⟨.hbm, 48, rfl⟩
abbrev main_c_3 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_4 : Ref sig .tc := ⟨.hbm, 62, rfl⟩
abbrev main_v49 : Ref sig .tc := ⟨.hbm, 63, rfl⟩
abbrev main_v50 : Ref sig .tc := ⟨.hbm, 64, rfl⟩
abbrev main_cst_5 : Ref sig .tc := ⟨.hbm, 65, rfl⟩
abbrev main_v51 : Ref sig .tc := ⟨.hbm, 66, rfl⟩
abbrev main_v52 : Ref sig .tc := ⟨.hbm, 67, rfl⟩
abbrev main_c_6 : Ref sig .tc := ⟨.hbm, 68, rfl⟩
abbrev main_call0_cst : Ref sig .tc := ⟨.hbm, 69, rfl⟩
abbrev main_call0_v0 : Ref sig .tc := ⟨.hbm, 70, rfl⟩
abbrev main_call0_v1 : Ref sig .tc := ⟨.hbm, 71, rfl⟩
abbrev main_call0_cst_0 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_call0_v5 : Ref sig .tc := ⟨.hbm, 76, rfl⟩
abbrev main_call0_v6 : Ref sig .tc := ⟨.hbm, 77, rfl⟩
abbrev main_call0_v7 : Ref sig .tc := ⟨.hbm, 78, rfl⟩
abbrev main_call0_cst_1 : Ref sig .tc := ⟨.hbm, 79, rfl⟩
abbrev main_call0_v8 : Ref sig .tc := ⟨.hbm, 80, rfl⟩
abbrev main_call0_cst_2 : Ref sig .tc := ⟨.hbm, 81, rfl⟩
abbrev main_call0_v9 : Ref sig .tc := ⟨.hbm, 82, rfl⟩
abbrev main_call0_v10 : Ref sig .tc := ⟨.hbm, 83, rfl⟩
abbrev main_call0_v11 : Ref sig .tc := ⟨.hbm, 84, rfl⟩
abbrev main_call0_v12 : Ref sig .tc := ⟨.hbm, 85, rfl⟩
abbrev main_call0_cst_3 : Ref sig .tc := ⟨.hbm, 86, rfl⟩
abbrev main_call0_v13 : Ref sig .tc := ⟨.hbm, 87, rfl⟩
abbrev main_call0_cst_4 : Ref sig .tc := ⟨.hbm, 88, rfl⟩
abbrev main_call0_call0_v0 : Ref sig .tc := ⟨.hbm, 89, rfl⟩
abbrev main_call0_call0_v1 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_cst_7 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_call1_cst : Ref sig .tc := ⟨.hbm, 106, rfl⟩
abbrev main_call1_v0 : Ref sig .tc := ⟨.hbm, 107, rfl⟩
abbrev main_v67 : Ref sig .tc := ⟨.hbm, 108, rfl⟩
abbrev main_cst_8 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩

abbrev nD : Nat := 1
abbrev τ : Topo := Topo.v7x

variable {F : FTy → Type} [FloatOps F]
-- ==== Proof.Select.lean ====
/- The mathematics of "the k smallest, in order": positions sorted by value and then by position, and what one round of
   "take the lowest position of a least value, then put it out of the way" finds. Nothing here mentions a program. -/
module

public import Idealize.ShloMosaic.Lib.SortFacts
public import Idealize.ShloMosaic.Lib.SortPrefix
public import Mathlib.Data.EReal.Basic

@[expose] public section

noncomputable section

namespace Cert.Select

open Idealize.ShloMosaic

variable {n : ℕ}

/-- Position `a` comes before position `b`: its value is smaller, or the values are equal and `a` is the lower position. -/
def Before (d : Fin n → EReal) (a b : Fin n) : Prop := d a < d b ∨ (d a = d b ∧ a < b)

/-- Position `a` comes before every other position. -/
def Least (d : Fin n → EReal) (a : Fin n) : Prop := ∀ b, b ≠ a → Before d a b

/-- At most one position comes before every other. -/
theorem Least.unique {d : Fin n → EReal} {a b : Fin n} (ha : Least d a) (hb : Least d b) : a = b := by
  by_contra h
  rcases ha b (fun e => h e.symm) with h1 | ⟨h1, h1'⟩ <;> rcases hb a h with h2 | ⟨h2, h2'⟩
  · exact absurd h1 (not_lt.mpr h2.le)
  · exact absurd h1 (by rw [h2]; exact lt_irrefl _)
  · exact absurd h2 (by rw [h1]; exact lt_irrefl _)
  · exact absurd h1' (not_lt.mpr h2'.le)

/-- The positions sorted stably by increasing value. -/
def order (d : Fin n → EReal) : List (Fin n) := sortPositions n fun a b => decide (d a < d b)

theorem length_order (d : Fin n → EReal) : (order d).length = n := length_sortPositions n _

/-- The position at place `r` of that order. -/
def pick (d : Fin n → EReal) (r : Fin n) : Fin n := (order d).get (r.cast (length_order d).symm)

/-- Inserting a position below all the list's into a list sorted by value and then position leaves it so sorted. -/
theorem pairwise_insertBefore (d : Fin n → EReal) (a : Fin n) (l : List (Fin n)) (ha : ∀ b ∈ l, a < b)
    (hl : l.Pairwise (Before d)) : (insertBefore (fun x y => decide (d x < d y)) a l).Pairwise (Before d) := by
  induction l with
  | nil => simp [insertBefore]
  | cons b l ih =>
    obtain ⟨hb, hl'⟩ := List.pairwise_cons.mp hl
    unfold insertBefore
    split
    · next h =>
      have hba : d b < d a := by simpa using h
      refine List.pairwise_cons.mpr ⟨fun x hx => ?_, ih (fun x hx => ha x (List.mem_cons_of_mem _ hx)) hl'⟩
      rcases List.mem_cons.mp ((perm_insertBefore _ a l).mem_iff.mp hx) with rfl | hx'
      · exact Or.inl hba
      · exact hb x hx'
    · next h =>
      have hab : d a ≤ d b := by simpa using h
      refine List.pairwise_cons.mpr ⟨fun x hx => ?_, hl⟩
      have hle : d a ≤ d x := by
        rcases List.mem_cons.mp hx with rfl | hx'
        · exact hab
        · rcases hb x hx' with h1 | ⟨h1, -⟩
          · exact hab.trans h1.le
          · exact hab.trans h1.le
      rcases hle.lt_or_eq with h1 | h1
      · exact Or.inl h1
      · exact Or.inr ⟨h1, ha x hx⟩

/-- The stable sort by value puts every position before the later ones. -/
theorem pairwise_stableSort_before (d : Fin n → EReal) (l : List (Fin n)) (hl : l.Pairwise (· < ·)) :
    (stableSort (fun x y => decide (d x < d y)) l).Pairwise (Before d) := by
  induction l with
  | nil => simp [stableSort]
  | cons a l ih =>
    obtain ⟨ha, hl'⟩ := List.pairwise_cons.mp hl
    unfold stableSort
    exact pairwise_insertBefore d a _ (fun b hb => ha b ((perm_stableSort _ l).mem_iff.mp hb)) (ih hl')

theorem pairwise_order (d : Fin n → EReal) : (order d).Pairwise (Before d) :=
  pairwise_stableSort_before d _ (List.pairwise_lt_finRange n)

theorem perm_order (d : Fin n → EReal) : (order d).Perm (List.finRange n) := perm_sortPositions n _

/-- An earlier place holds a position that comes before. -/
theorem pick_before (d : Fin n → EReal) {r s : Fin n} (h : r < s) : Before d (pick d r) (pick d s) :=
  List.pairwise_iff_get.mp (pairwise_order d) (r.cast _) (s.cast _) h

/-- Every position stands at some place. -/
theorem exists_pick (d : Fin n → EReal) (x : Fin n) : ∃ r, pick d r = x := by
  have hx : x ∈ order d := (perm_order d).mem_iff.mpr (List.mem_finRange x)
  obtain ⟨r, hr⟩ := List.mem_iff_get.mp hx
  exact ⟨r.cast (length_order d), hr⟩

theorem Before.ne {d : Fin n → EReal} {a b : Fin n} (h : Before d a b) : a ≠ b := by
  rintro rfl
  rcases h with h | ⟨-, h⟩ <;> exact lt_irrefl _ h

theorem pick_injective (d : Fin n → EReal) : Function.Injective (pick d) := by
  intro r s h
  rcases lt_trichotomy r s with h1 | h1 | h1
  · exact absurd h (pick_before d h1).ne
  · exact h1
  · exact absurd h.symm (pick_before d h1).ne

/-- The values with the positions at the first `r` places put out of the way. -/
def masked (d : Fin n → EReal) (r : ℕ) (x : Fin n) : EReal := open Classical in if ∃ s : Fin n, s.val < r ∧ pick d s = x then ⊤ else d x

theorem masked_zero (d : Fin n → EReal) : masked d 0 = d := by
  funext x; unfold masked; rw [if_neg]; rintro ⟨s, hs, -⟩; omega

/-- Putting one more place out of the way. -/
theorem masked_succ (d : Fin n → EReal) (r : Fin n) (x : Fin n) :
    masked d (r.val + 1) x = open Classical in if x = pick d r then ⊤ else masked d r.val x := by
  unfold masked
  by_cases hx : x = pick d r
  · rw [if_pos hx, if_pos ⟨r, Nat.lt_succ_self _, hx.symm⟩]
  · rw [if_neg hx]
    refine if_congr ⟨?_, ?_⟩ rfl rfl
    · rintro ⟨s, hs, e⟩
      refine ⟨s, ?_, e⟩
      rcases Nat.lt_succ_iff_lt_or_eq.mp hs with h | h
      · exact h
      · exact absurd (by rw [← e]; congr 1; exact Fin.ext h) hx
    · rintro ⟨s, hs, e⟩
      exact ⟨s, by omega, e⟩

/-- ONE ROUND: with every value below `⊤`, the position that comes first once the first `r` places are out of the way is the one at
    place `r`. -/
theorem least_masked (d : Fin n → EReal) (hd : ∀ x, d x < ⊤) (r : Fin n) : Least (masked d r.val) (pick d r) := by
  intro b hb
  have h0 : masked d r.val (pick d r) = d (pick d r) := by
    unfold masked; rw [if_neg]
    rintro ⟨s, hs, e⟩
    have := pick_injective d e
    omega
  obtain ⟨s, rfl⟩ := exists_pick d b
  unfold Before
  rw [h0]
  by_cases hs : s.val < r.val
  · refine Or.inl ?_
    unfold masked; rw [if_pos ⟨s, hs, rfl⟩]; exact hd _
  · have h1 : masked d r.val (pick d s) = d (pick d s) := by
      unfold masked; rw [if_neg]
      rintro ⟨s', hs', e⟩
      have := pick_injective d e
      omega
    rw [h1]
    have hrs : r < s := by
      rcases lt_trichotomy r s with h | h | h
      · exact h
      · exact absurd (by rw [h]) hb
      · exact absurd h hs
    exact pick_before d hrs

end Cert.Select

end
-- ==== Proof.TopK.lean ====
/- What the host's top-k of negated values says over the extended reals: the positions in the order of `Select.pick`. -/
module

public import proofs.«01_k».proof.Proof.Select
public import Idealize.ShloMosaic.Lib.Pointwise
public import Idealize.ShloMosaic.PureOps.Ideal.Laws

@[expose] public section

noncomputable section

namespace Cert.TopK

open Idealize.ShloMosaic Cert.Select

/-- "Greater first" on the negations is "smaller first" on the values. -/
theorem gt_neg (a b : EReal) : (FloatOps.cmpfTotal (F := Ideal) (φ := .f32) .gt (-a) (-b) == 1#1) = decide (a < b) := by
  rw [Ideal.cmpfTotal_def]
  simp only [CmpDirection.ordered, Ideal.cmp]
  by_cases h : a < b
  · simp [h]
  · simp [h]

/-- The top-k of the negated values along the last of three axes: place `q` of a row holds the row's position `pick q`. -/
theorem topK_apply {A B n k : ℕ} (x : (⟨3, ![A, B, n]⟩ : Shape).Idx → Ideal .f32) (d : Fin A → Fin B → Fin n → EReal)
    (hx : ∀ a b i, x (ix3 a b i) = -(d a b i))
    (h : (⟨3, ![A, B, n]⟩ : Shape).Slices (fun _ => 0) (⟨3, ![A, B, k]⟩ : Shape)) (a : Fin A) (b : Fin B) (q : Fin k) (hk : k ≤ n) :
    (Host.topK (⟨3, ![A, B, k]⟩ : Shape) 2 (FloatOps.cmpfTotal (F := Ideal) (φ := .f32) .gt) x h).2 (ix3 a b q)
      = BitVec.ofNat 32 (pick (d a b) ⟨q.val, q.isLt.trans_le hk⟩).val := by
  have hd : 2 < (⟨3, ![A, B, n]⟩ : Shape).rank := (by decide : 2 < 3)
  have e : ∀ (i c : Fin n), (ix3 a b i).along (⟨2, hd⟩ : Fin (⟨3, ![A, B, n]⟩ : Shape).rank) c = ix3 a b c := by
    intro i c; funext s
    match s with
    | ⟨0, _⟩ => rfl
    | ⟨1, _⟩ => rfl
    | ⟨2, _⟩ => rfl
  unfold Host.topK Host.sort2
  simp only [dif_pos hd]
  change (BitVec.ofNat 32 _ : BitVec 32) = BitVec.ofNat 32 _
  congr 1
  have eJ : (fun s => ⟨(fun _ => 0) s + (ix3 a b q (s.cast h.1.symm)).val,
      Nat.lt_of_lt_of_le (Nat.add_lt_add_left (ix3 a b q _).isLt _) (h.2 s)⟩ : (⟨3, ![A, B, n]⟩ : Shape).Idx)
      = ix3 a b ⟨q.val, q.isLt.trans_le hk⟩ := by
    funext s
    match s with
    | ⟨0, _⟩ => exact Fin.ext (Nat.zero_add _)
    | ⟨1, _⟩ => exact Fin.ext (Nat.zero_add _)
    | ⟨2, _⟩ => exact Fin.ext (Nat.zero_add _)
  have eb : ∀ c c' : Fin n, (FloatOps.cmpfTotal (F := Ideal) (φ := .f32) .gt (x (ix3 a b c)) (x (ix3 a b c')) == 1#1)
      = decide (d a b c < d a b c') := fun c c' => by rw [hx, hx]; exact gt_neg _ _
  refine (congrArg (fun J : (⟨3, ![A, B, n]⟩ : Shape).Idx => ((J.along ⟨2, hd⟩ (sortedFrom (fun c c' =>
    FloatOps.cmpfTotal (F := Ideal) (φ := .f32) .gt (x (J.along ⟨2, hd⟩ c)) (x (J.along ⟨2, hd⟩ c')) == 1#1)
      (J ⟨2, hd⟩)) ⟨2, hd⟩).val)) eJ).trans ?_
  have key : ∀ before : Fin n → Fin n → Bool, before = (fun c c' => decide (d a b c < d a b c')) →
      (((ix3 a b (⟨q.val, q.isLt.trans_le hk⟩ : Fin n)).along (⟨2, hd⟩ : Fin (⟨3, ![A, B, n]⟩ : Shape).rank)
        (sortedFrom (n := n) before ⟨q.val, q.isLt.trans_le hk⟩)) ⟨2, hd⟩).val = (pick (d a b) ⟨q.val, q.isLt.trans_le hk⟩).val := by
    rintro _ rfl
    rw [e]
    rfl
  refine key _ (funext fun c => funext fun c' => ?_)
  refine Eq.trans ?_ (eb c c')
  exact congrArg₂ (fun u v => FloatOps.cmpfTotal (F := Ideal) (φ := .f32) .gt (x u) (x v) == 1#1) (e _ c) (e _ c')

end Cert.TopK

end
-- ==== Proof.Argmin.lean ====
/- One selection round over a block of rows cut into 32 chunks of 128 columns: the pairwise tree of minima, the lane
   minimum, the lowest column that attains it. -/
module

public import proofs.«01_k».proof.Proof.Select
public import Idealize.ShloMosaic.Lib.Pointwise
public import Idealize.ShloMosaic.PureOps.Ideal.Laws
public import Idealize.ShloMosaic.Lib.SortNet.Extract

@[expose] public section

noncomputable section

namespace Cert.Argmin

open Idealize.ShloMosaic Cert.Select

/-- Combining `2 ^ k` values pairwise, neighbours first, until one is left. -/
def tree {α : Type} (f : α → α → α) : (k : ℕ) → (Fin (2 ^ k) → α) → α
  | 0, c => c 0
  | k + 1, c => tree f k fun i => f (c ⟨2 * i.val, by have := i.isLt; omega⟩) (c ⟨2 * i.val + 1, by have := i.isLt; omega⟩)

/-- The operation keeps one of its operands, one of least key. -/
structure Keeps {α β : Type} [LinearOrder β] (f : α → α → α) (key : α → β) : Prop where
  left : ∀ a b, key (f a b) ≤ key a
  right : ∀ a b, key (f a b) ≤ key b
  one : ∀ a b, f a b = a ∨ f a b = b

/-- The pairwise tree returns one of its leaves. -/
theorem tree_mem {α β : Type} [LinearOrder β] {f : α → α → α} {key : α → β} (hf : Keeps f key) :
    ∀ (k : ℕ) (c : Fin (2 ^ k) → α), ∃ i, tree f k c = c i
  | 0, c => ⟨0, rfl⟩
  | k + 1, c => by
    obtain ⟨i, hi⟩ := tree_mem hf k fun i : Fin (2 ^ k) =>
      f (c ⟨2 * i.val, by have := i.isLt; omega⟩) (c ⟨2 * i.val + 1, by have := i.isLt; omega⟩)
    rcases hf.one (c ⟨2 * i.val, by have := i.isLt; omega⟩) (c ⟨2 * i.val + 1, by have := i.isLt; omega⟩) with h | h
    · exact ⟨_, hi.trans h⟩
    · exact ⟨_, hi.trans h⟩

/-- The pairwise tree's key is at most every leaf's. -/
theorem tree_le {α β : Type} [LinearOrder β] {f : α → α → α} {key : α → β} (hf : Keeps f key) :
    ∀ (k : ℕ) (c : Fin (2 ^ k) → α) (i : Fin (2 ^ k)), key (tree f k c) ≤ key (c i)
  | 0, c, i => by
    have : i = 0 := Fin.ext (by have := i.isLt; simp at this; simpa using this)
    subst this; exact le_rfl
  | k + 1, c, i => by
    have hi := i.isLt
    have h := tree_le hf k (fun i : Fin (2 ^ k) =>
      f (c ⟨2 * i.val, by have := i.isLt; omega⟩) (c ⟨2 * i.val + 1, by have := i.isLt; omega⟩)) ⟨i.val / 2, by omega⟩
    refine h.trans ?_
    rcases Nat.mod_two_eq_zero_or_one i.val with e | e
    · refine (hf.left _ _).trans (le_of_eq (congrArg (fun a => key (c a)) (Fin.ext ?_)))
      change 2 * (i.val / 2) = i.val; omega
    · refine (hf.right _ _).trans (le_of_eq (congrArg (fun a => key (c a)) (Fin.ext ?_)))
      change 2 * (i.val / 2) + 1 = i.val; omega

/-- A tree of vectors read at an index is the tree of what the vectors hold there. -/
theorem tree_apply {α ι : Type} {g : (ι → α) → (ι → α) → ι → α} {f : α → α → α} (hg : ∀ x y j, g x y j = f (x j) (y j)) (j : ι) :
    ∀ (k : ℕ) (c : Fin (2 ^ k) → ι → α), tree g k c j = tree f k fun i => c i j
  | 0, _ => rfl
  | k + 1, c => by
    refine (tree_apply hg j k _).trans ?_
    simp only [tree, hg]

/-- A fold keeps its start or one of the values folded, with a key at most all of theirs. -/
theorem fold_keeps {α β ι : Type} [LinearOrder β] {f : α → α → α} [Std.Commutative f] [Std.Associative f] {key : α → β}
    (hf : Keeps f key) (b : α) (g : ι → α) (s : Finset ι) :
    (s.fold f b g = b ∨ ∃ i ∈ s, s.fold f b g = g i) ∧ ∀ i ∈ s, key (s.fold f b g) ≤ key (g i) := by
  induction s using Finset.cons_induction with
  | empty => exact ⟨.inl Finset.fold_empty, fun i hi => absurd hi (Finset.notMem_empty i)⟩
  | cons a s ha ih =>
    rw [Finset.fold_cons]
    refine ⟨?_, fun i hi => ?_⟩
    · rcases hf.one (g a) (s.fold f b g) with h | h
      · exact .inr ⟨a, Finset.mem_cons_self a s, h⟩
      · rcases ih.1 with e | ⟨i, hi, e⟩
        · exact .inl (h.trans e)
        · exact .inr ⟨i, Finset.mem_cons_of_mem hi, h.trans e⟩
    · rcases Finset.mem_cons.1 hi with rfl | hi
      · exact hf.left _ _
      · exact (hf.right _ _).trans (ih.2 i hi)

/-- The lattice minimum keeps one of its operands. -/
theorem keeps_min : Keeps (min : EReal → EReal → EReal) id :=
  ⟨fun a b => min_le_left a b, fun a b => min_le_right a b, fun a b => min_choice a b⟩

/-- The signed minimum of words keeps one of its operands, the one of least signed value. -/
theorem keeps_minsi : Keeps (IntOp.minsi : BitVec 32 → BitVec 32 → BitVec 32) BitVec.toInt := by
  refine ⟨fun a b => ?_, fun a b => ?_, fun a b => ?_⟩
  · rw [SortNet.toInt_minsi]; exact min_le_left _ _
  · rw [SortNet.toInt_minsi]; exact min_le_right _ _
  · rcases min_choice a.toInt b.toInt with h | h
    · exact .inl (BitVec.eq_of_toInt_eq ((SortNet.toInt_minsi a b).trans h))
    · exact .inr (BitVec.eq_of_toInt_eq ((SortNet.toInt_minsi a b).trans h))

abbrev Buf : Shape := ⟨2, ![512, 4096]⟩
abbrev Chunk : Shape := ⟨2, ![512, 128]⟩
abbrev Col : Shape := ⟨2, ![512, 1]⟩
abbrev Row : Shape := ⟨1, ![512]⟩

/-- Column `l` of chunk `i`. -/
def at_ (i : Fin (2 ^ 5)) (l : Fin 128) : Fin 4096 := ⟨128 * i.val + l.val, by have := i.isLt; have := l.isLt; omega⟩

theorem slices (i : Fin (2 ^ 5)) : Buf.Slices ![0, 128 * i.val] Chunk :=
  ⟨rfl, fun a => match a with
    | ⟨0, _⟩ => by change 0 + 512 ≤ 512; omega
    | ⟨1, _⟩ => by have := i.isLt; change 128 * i.val + 128 ≤ 4096; omega⟩

theorem broadcasts : Col.Broadcasts Chunk := by decide
theorem reduces : Chunk.Reduces [1] Row := by decide
theorem casts : Row.ShapeCasts Col := by decide

/-- The row minimum of the 32 chunks. -/
def rowMin (C : Fin (2 ^ 5) → FVec Ideal Chunk .f32) : FVec Ideal Col .f32 :=
  shapeCast Col (multiReduction .minimumf [1] Row (tree minimumf 5 C) 0x7F800000#32 reduces (.inl rfl) rfl) casts

/-- In chunk `i`: the columns that attain the row minimum, 4096 elsewhere. -/
def cand (col : IVec Buf 32) (C : Fin (2 ^ 5) → FVec Ideal Chunk .f32) (i : Fin (2 ^ 5)) : IVec Chunk 32 :=
  select (cmpf .oeq (C i) (broadcastTo Chunk (rowMin C) broadcasts)) (extractStridedSlice Chunk ![0, 128 * i.val] col (slices i))
    (broadcast Chunk 4096#32)

/-- The lowest column that attains the row minimum. -/
def argmin (col : IVec Buf 32) (C : Fin (2 ^ 5) → FVec Ideal Chunk .f32) : IVec Col 32 :=
  shapeCast Col (multiReductionI .minsi [1] Row (tree minsi 5 (cand col C)) 2147483647#32 reduces rfl) casts

/-- The source index of a lane reduction: row `r`, lane `l`. -/
theorem lift_eq (r : Fin 512) (l : Fin 128) : reduces.lift (ix1 r) l = ix2 r l := by
  funext a
  match a with
  | ⟨0, _⟩ => rfl
  | ⟨1, _⟩ => rfl

/-- A lane minimum of extended reals, read at row `r`. -/
theorem laneMin_apply (T : FVec Ideal Chunk .f32) (r : Fin 512) :
    shapeCast Col (multiReduction .minimumf [1] Row T 0x7F800000#32 reduces (.inl rfl) rfl) casts (ix2 r 0)
      = (Finset.univ : Finset (Fin 128)).fold min ⊤ fun l => T (ix2 r l) := by
  have e : shapeCast Col (multiReduction .minimumf [1] Row T 0x7F800000#32 reduces (.inl rfl) rfl) casts (ix2 r 0)
      = multiReduction .minimumf [1] Row T 0x7F800000#32 reduces (.inl rfl) rfl (ix1 r) := by pointwise
  have e0 : FloatOps.ofBits (F := Ideal) .f32 0x7F800000#32 = (⊤ : EReal) := by
    change Ideal.ofBits .f32 0x7F800000#32 = ⊤
    simp [Ideal.ofBits, Ideal.ieee]
  refine e.trans ((multiReduction_minimumf_eq_fold T 0x7F800000#32 reduces (.inl rfl) rfl (ix1 r)).trans ?_)
  refine (reduces.fold_filter_drop_single min (FloatOps.ofBits (F := Ideal) .f32 0x7F800000#32) T (ix1 r)).trans ?_
  rw [e0]
  exact congrArg (fun g => (Finset.univ : Finset (Fin 128)).fold min ⊤ g) (funext fun l => congrArg T (lift_eq r l))

/-- A lane minimum of words, read at row `r`. -/
theorem laneMinI_apply (T : IVec Chunk 32) (r : Fin 512) :
    shapeCast Col (multiReductionI .minsi [1] Row T 2147483647#32 reduces rfl) casts (ix2 r 0)
      = (Finset.univ : Finset (Fin 128)).fold IntOp.minsi 2147483647#32 fun l => T (ix2 r l) := by
  have e : shapeCast Col (multiReductionI .minsi [1] Row T 2147483647#32 reduces rfl) casts (ix2 r 0)
      = multiReductionI .minsi [1] Row T 2147483647#32 reduces rfl (ix1 r) := by pointwise
  refine e.trans ((multiReductionI_eq_fold .minsi T 2147483647#32 reduces rfl (ix1 r)).trans ?_)
  refine (reduces.fold_filter_drop_single IntOp.minsi 2147483647#32 T (ix1 r)).trans ?_
  exact congrArg (fun g => (Finset.univ : Finset (Fin 128)).fold IntOp.minsi 2147483647#32 g)
    (funext fun l => congrArg T (lift_eq r l))

/-- The row minimum of row `r`, lane by lane. -/
theorem rowMin_apply (C : Fin (2 ^ 5) → FVec Ideal Chunk .f32) (r : Fin 512) :
    rowMin C (ix2 r 0) = (Finset.univ : Finset (Fin 128)).fold min ⊤ fun l => tree min 5 fun i => C i (ix2 r l) :=
  (laneMin_apply _ r).trans (congrArg (fun g => (Finset.univ : Finset (Fin 128)).fold min ⊤ g)
    (funext fun _ => tree_apply (fun _ _ _ => rfl) _ 5 C))

/-- The round's pick in row `r`, lane by lane. -/
theorem argmin_apply (col : IVec Buf 32) (C : Fin (2 ^ 5) → FVec Ideal Chunk .f32) (r : Fin 512) :
    argmin col C (ix2 r 0) = (Finset.univ : Finset (Fin 128)).fold IntOp.minsi 2147483647#32 fun l =>
      tree IntOp.minsi 5 fun i => cand col C i (ix2 r l) :=
  (laneMinI_apply _ r).trans (congrArg (fun g => (Finset.univ : Finset (Fin 128)).fold IntOp.minsi 2147483647#32 g)
    (funext fun _ => tree_apply (fun _ _ _ => rfl) _ 5 (cand col C)))

/-- A candidate of chunk `i` at row `r`, lane `l`. -/
theorem cand_apply (col : IVec Buf 32) (C : Fin (2 ^ 5) → FVec Ideal Chunk .f32) (i : Fin (2 ^ 5)) (r : Fin 512) (l : Fin 128) :
    cand col C i (ix2 r l) = if C i (ix2 r l) = rowMin C (ix2 r 0) then col (ix2 r (at_ i l)) else 4096#32 := by
  have e1 : broadcastTo Chunk (rowMin C) broadcasts (ix2 r l) = rowMin C (ix2 r 0) := by pointwise
  have e2 : extractStridedSlice Chunk ![0, 128 * i.val] col (slices i) (ix2 r l) = col (ix2 r (at_ i l)) := by
    refine congrArg col (funext fun a => ?_)
    match a with
    | ⟨0, _⟩ => exact Fin.ext (Nat.zero_add _)
    | ⟨1, _⟩ => rfl
  change (if Ideal.cmp .oeq (C i (ix2 r l)) (broadcastTo Chunk (rowMin C) broadcasts (ix2 r l)) = 1#1 then
    extractStridedSlice Chunk ![0, 128 * i.val] col (slices i) (ix2 r l) else 4096#32) = _
  rw [e1, e2]
  by_cases h : C i (ix2 r l) = rowMin C (ix2 r 0)
  · simp [Ideal.cmp, h]
  · simp [Ideal.cmp, h]

/-- Every column is a lane of a chunk. -/
theorem exists_at (x : Fin 4096) : ∃ i l, x = at_ i l := by
  have := x.isLt
  exact ⟨⟨x.val / 128, by omega⟩, ⟨x.val % 128, by omega⟩, Fin.ext (by change x.val = 128 * (x.val / 128) + x.val % 128; omega)⟩

/-- The row minimum is attained, and is a lower bound. -/
theorem rowMin_spec (C : Fin (2 ^ 5) → FVec Ideal Chunk .f32) (r : Fin 512) (M : Fin 4096 → EReal)
    (hM : ∀ i l, C i (ix2 r l) = M (at_ i l)) :
    (∃ x, rowMin C (ix2 r 0) = M x) ∧ ∀ x, rowMin C (ix2 r 0) ≤ M x := by
  rw [rowMin_apply]
  obtain ⟨h1, h2⟩ := fold_keeps keeps_min (⊤ : EReal) (fun l : Fin 128 => tree min 5 fun i => C i (ix2 r l)) Finset.univ
  have lb : ∀ x, (Finset.univ : Finset (Fin 128)).fold min ⊤ (fun l => tree min 5 fun i => C i (ix2 r l)) ≤ M x := by
    intro x
    obtain ⟨i, l, rfl⟩ := exists_at x
    exact (h2 l (Finset.mem_univ l)).trans ((tree_le keeps_min 5 (fun i => C i (ix2 r l)) i).trans (le_of_eq (hM i l)))
  refine ⟨?_, lb⟩
  rcases h1 with e | ⟨l, -, e⟩
  · refine ⟨0, ?_⟩
    have := lb 0
    rw [e] at this ⊢
    exact (top_le_iff.1 this).symm
  · obtain ⟨i, hi⟩ := tree_mem keeps_min 5 fun i => C i (ix2 r l)
    exact ⟨at_ i l, e.trans (hi.trans (hM i l))⟩

/-- The round picks the least column: where row `r` of the chunks is `M`, whose least place (ties to the lower column) is `a`. -/
theorem argmin_eq (col : IVec Buf 32) (hcol : ∀ r x, col (ix2 r x) = BitVec.ofNat 32 x.val) (C : Fin (2 ^ 5) → FVec Ideal Chunk .f32)
    (r : Fin 512) (M : Fin 4096 → EReal) (hM : ∀ i l, C i (ix2 r l) = M (at_ i l)) (a : Fin 4096) (ha : Least M a) :
    argmin col C (ix2 r 0) = BitVec.ofNat 32 a.val := by
  obtain ⟨⟨x0, hx0⟩, lb⟩ := rowMin_spec C r M hM
  have hm : rowMin C (ix2 r 0) = M a := by
    refine le_antisymm (lb a) ?_
    rw [hx0]
    by_cases h : x0 = a
    · rw [h]
    · rcases ha x0 h with h | h
      · exact h.le
      · exact h.1.le
  have hc : ∀ i l, cand col C i (ix2 r l) = if M (at_ i l) = M a then BitVec.ofNat 32 (at_ i l).val else 4096#32 := by
    intro i l; rw [cand_apply, hM, hm, hcol]
  rw [argmin_apply]
  obtain ⟨h1, h2⟩ := fold_keeps keeps_minsi 2147483647#32
    (fun l : Fin 128 => tree IntOp.minsi 5 fun i => cand col C i (ix2 r l)) Finset.univ
  generalize (Finset.univ : Finset (Fin 128)).fold IntOp.minsi 2147483647#32
    (fun l => tree IntOp.minsi 5 fun i => cand col C i (ix2 r l)) = w at h1 h2 ⊢
  have wi : ∀ x : Fin 4096, (BitVec.ofNat 32 x.val).toInt = x.val := by
    intro x; have := x.isLt; rw [BitVec.toInt_eq_toNat_cond, BitVec.toNat_ofNat, Nat.mod_eq_of_lt (by omega), if_pos (by omega)]
  have le_a : w.toInt ≤ a.val := by
    obtain ⟨i, l, hil⟩ := exists_at a
    refine (h2 l (Finset.mem_univ l)).trans ((tree_le keeps_minsi 5 (fun i => cand col C i (ix2 r l)) i).trans (le_of_eq ?_))
    rw [hc, ← hil, if_pos rfl, wi]
  have a_lt := a.isLt
  rcases h1 with e | ⟨l, -, e⟩
  · exfalso; rw [e] at le_a
    have : (2147483647#32 : BitVec 32).toInt = 2147483647 := by decide
    omega
  · obtain ⟨i, hi⟩ := tree_mem keeps_minsi 5 fun i => cand col C i (ix2 r l)
    have ew : w = if M (at_ i l) = M a then BitVec.ofNat 32 (at_ i l).val else 4096#32 := e.trans (hi.trans (hc i l))
    by_cases h : M (at_ i l) = M a
    · rw [if_pos h] at ew
      have hx : (at_ i l) = a := by
        by_contra hne
        rcases ha _ hne with h' | h'
        · exact absurd h h'.ne'
        · have h3 : a.val < (at_ i l).val := h'.2
          rw [ew, wi] at le_a
          omega
      rw [ew, hx]
    · exfalso
      rw [if_neg h] at ew
      rw [ew] at le_a
      have : (4096#32 : BitVec 32).toInt = 4096 := by decide
      omega

end Cert.Argmin

end
-- ==== Proof.Trip.lean ====
/- One trip of a selection loop, as one definition for every kernel: mask the column taken last, store the masked
   chunks back, pick the least column, add it into its place of the result. -/
module

public import proofs.«01_k».proof.Proof.Argmin
public import Idealize.ShloMosaic.Lib.Pipeline.ValueKit
public import Idealize.ShloMosaic.Lib.WritesUnit

@[expose] public section

noncomputable section

namespace Cert.Trip

open Idealize.ShloMosaic Cert.Select Cert.Argmin

abbrev Res : Shape := ⟨2, ![512, 20]⟩

theorem inb (i : Fin (2 ^ 5)) : ∀ a, (![0, 128 * i.val] : Fin 2 → ℕ) a + (![512, 128] : Fin 2 → ℕ) a ≤ Buf.size a :=
  fun a => match a with
    | ⟨0, _⟩ => by change 0 + 512 ≤ 512; omega
    | ⟨1, _⟩ => by have := i.isLt; change 128 * i.val + 128 ≤ 4096; omega

variable {sig : RefSig} (mem : Memref sig .tc .vmem Buf .f32) (big : Ideal .f32)

/-- Chunk `i` of the buffer. -/
def ld (f : BufTy.Contents (Elt Ideal) mem.view.ty) (i : Fin (2 ^ 5)) : Vec Ideal Chunk .f32 :=
  View.readAt (Elt Ideal) mem.view (Rect.unit (s := Buf) ![0, 128 * i.val] ![512, 128] (inb i)).toLoadRect f

/-- Chunk `i` of the buffer with the column taken last masked out. -/
def mask (col : IVec Buf 32) (am : IVec Col 32) (f : BufTy.Contents (Elt Ideal) mem.view.ty) (i : Fin (2 ^ 5)) : FVec Ideal Chunk .f32 :=
  select (cmpi .eq (extractStridedSlice Chunk ![0, 128 * i.val] col (slices i)) (broadcastTo Chunk am broadcasts))
    (broadcast Chunk big) (ld mem f i)

theorem castsChunk : Chunk.ShapeCasts Chunk := by decide
theorem castsCol : Col.ShapeCasts Col := by decide
theorem broadcastsRes : Col.Broadcasts Res := by decide

/-- The store of the masked chunk `i`. -/
def put (col : IVec Buf 32) (am : IVec Col 32) (f : BufTy.Contents (Elt Ideal) mem.view.ty) (i : Fin (2 ^ 5)) :
    View.Piece (Elt Ideal) Buf .f32 :=
  ⟨Rect.unit ![0, 128 * i.val] ![512, 128] (inb i), shapeCast Chunk (mask mem big col am f i) castsChunk⟩

/-- The stores of chunks `0 … n - 1`, last first. -/
def puts (col : IVec Buf 32) (am : IVec Col 32) (f : BufTy.Contents (Elt Ideal) mem.view.ty) : (n : ℕ) → n ≤ 2 ^ 5 →
    List (View.Piece (Elt Ideal) Buf .f32)
  | 0, _ => []
  | n + 1, h => put mem big col am f ⟨n, h⟩ :: puts col am f n (Nat.le_of_succ_le h)

/-- The result with the pick added into place `w`, where `b` holds. -/
def accStep (acc : IVec Res 32) (am : IVec Col 32) (b : BitVec 1) (w : BitVec 32) (hi : Res.Iotas .tc 32 [1]) : IVec Res 32 :=
  addi acc (select (andi (broadcast Res b) (cmpi .eq (iota .tc Res 32 [1] hi) (broadcast Res w)))
    (broadcastTo Res (shapeCast Col am castsCol) broadcastsRes) (broadcast Res 0#32))

/-- A masked chunk at row `r`, lane `l`. -/
theorem mask_apply (hbig : big = (⊤ : EReal)) (col : IVec Buf 32) (hcol : ∀ r x, col (ix2 r x) = BitVec.ofNat 32 x.val) (am : IVec Col 32)
    (f : BufTy.Contents (Elt Ideal) mem.view.ty) (i : Fin (2 ^ 5)) (r : Fin 512) (l : Fin 128) :
    mask mem big col am f i (ix2 r l) = if BitVec.ofNat 32 (at_ i l).val = am (ix2 r 0) then (⊤ : EReal)
      else mem.view.read (Elt Ideal) f (ix2 r (at_ i l)) := by
  have e1 : broadcastTo Chunk am broadcasts (ix2 r l) = am (ix2 r 0) := by pointwise
  have e2 : extractStridedSlice Chunk ![0, 128 * i.val] col (slices i) (ix2 r l) = BitVec.ofNat 32 (at_ i l).val := by
    refine (congrArg col (funext fun a => ?_)).trans (hcol r (at_ i l))
    match a with
    | ⟨0, _⟩ => exact Fin.ext (Nat.zero_add _)
    | ⟨1, _⟩ => rfl
  have e3 : ld mem f i (ix2 r l) = mem.view.read (Elt Ideal) f (ix2 r (at_ i l)) := by
    refine congrArg (mem.view.read (Elt Ideal) f) (funext fun a => ?_)
    match a with
    | ⟨0, _⟩ => exact Fin.ext (by change 0 + 1 * r.val = r.val; omega)
    | ⟨1, _⟩ => exact Fin.ext (by change 128 * i.val + 1 * l.val = 128 * i.val + l.val; omega)
  change Scalar.select (IntOp.cmpi .eq (extractStridedSlice Chunk ![0, 128 * i.val] col (slices i) (ix2 r l))
    (broadcastTo Chunk am broadcasts (ix2 r l))) big (ld mem f i (ix2 r l)) = _
  rw [e1, e2, e3, hbig]
  by_cases h : BitVec.ofNat 32 (at_ i l).val = am (ix2 r 0)
  · rw [if_pos h, h]; simp [IntOp.cmpi, Scalar.select]
  · have h' : (BitVec.ofNat 32 (at_ i l).val == am (ix2 r 0)) = false := beq_eq_false_iff_ne.2 h
    rw [if_neg h]; simp only [IntOp.cmpi, Scalar.select, h']; rfl

/-- After the stores of the first `n` chunks a column of theirs holds its masked value. -/
theorem read_puts_aux (hbig : big = (⊤ : EReal)) (col : IVec Buf 32) (am : IVec Col 32) (f f' : BufTy.Contents (Elt Ideal) mem.view.ty) (r : Fin 512)
    (i : Fin (2 ^ 5)) (l : Fin 128) : ∀ (n : ℕ) (h : n ≤ 2 ^ 5), i.val < n →
      mem.view.read (Elt Ideal) (mem.view.writes (Elt Ideal) f' (puts mem big col am f n h)) (ix2 r (at_ i l)) = mask mem big col am f i (ix2 r l)
  | 0, _, hi => absurd hi (Nat.not_lt_zero _)
  | n + 1, h, hi => by
    unfold puts put
    by_cases e : i.val = n
    · have ei : i = ⟨n, h⟩ := Fin.ext e
      subst ei
      refine (View.read_writes_cons_unit_of_mem mem.view f' (inb ⟨n, h⟩) _ _ (ix2 r (at_ ⟨n, h⟩ l)) (ix2 r l) rfl ?_).trans ?_
      · intro a
        match a with
        | ⟨0, _⟩ => exact (Nat.zero_add _).symm
        | ⟨1, _⟩ => rfl
      · pointwise
    · refine (View.read_writes_cons_unit_of_not_mem mem.view f' (inb ⟨n, h⟩) _ _ (ix2 r (at_ i l)) rfl (1 : Fin 2) (.inl ?_)).trans
        (read_puts_aux hbig col am f f' r i l n (Nat.le_of_succ_le h) (by omega))
      have := l.isLt
      change 128 * i.val + l.val < 128 * n
      omega

/-- After a trip's stores the buffer holds what it held, the column taken last masked out. -/
theorem read_puts (hbig : big = (⊤ : EReal)) (col : IVec Buf 32) (hcol : ∀ r x, col (ix2 r x) = BitVec.ofNat 32 x.val) (am : IVec Col 32)
    (f f' : BufTy.Contents (Elt Ideal) mem.view.ty) (r : Fin 512) (x : Fin 4096) :
    mem.view.read (Elt Ideal) (mem.view.writes (Elt Ideal) f' (puts mem big col am f (2 ^ 5) le_rfl)) (ix2 r x)
      = if BitVec.ofNat 32 x.val = am (ix2 r 0) then (⊤ : EReal) else mem.view.read (Elt Ideal) f (ix2 r x) := by
  obtain ⟨i, l, rfl⟩ := exists_at x
  exact (read_puts_aux mem big hbig col am f f' r i l (2 ^ 5) le_rfl i.isLt).trans (mask_apply mem big hbig col hcol am f i r l)

/-- The result at row `r`, place `q` after the addition. -/
theorem accStep_apply (acc : IVec Res 32) (am : IVec Col 32) (b : BitVec 1) (w : BitVec 32) (hi : Res.Iotas .tc 32 [1])
    (r : Fin 512) (q : Fin 20) : accStep acc am b w hi (ix2 r q)
      = acc (ix2 r q) + if b = 1#1 ∧ w = BitVec.ofNat 32 q.val then am (ix2 r 0) else 0#32 := by
  have e1 : broadcastTo Res (shapeCast Col am castsCol) broadcastsRes (ix2 r q) = am (ix2 r 0) := by pointwise
  have e2 : iota .tc Res 32 [1] hi (ix2 r q) = BitVec.ofNat 32 q.val := by
    change BitVec.ofNat 32 (0 * 20 + q.val) = _
    rw [Nat.zero_mul, Nat.zero_add]
  change acc (ix2 r q) + Scalar.select (b &&& IntOp.cmpi .eq (iota .tc Res 32 [1] hi (ix2 r q)) w)
    (broadcastTo Res (shapeCast Col am castsCol) broadcastsRes (ix2 r q)) 0#32 = _
  rw [e1, e2]
  congr 1
  rcases BitVec.eq_zero_or_eq_one b with rfl | rfl
  · simp [Scalar.select]
  · by_cases h : w = BitVec.ofNat 32 q.val
    · simp [Scalar.select, IntOp.cmpi, h]
    · have h' : (BitVec.ofNat 32 q.val == w) = false := beq_eq_false_iff_ne.2 (Ne.symm h)
      rw [if_neg (fun e => h e.2)]; simp only [Scalar.select, IntOp.cmpi, h']; rfl

/-- The position at place `j` of a row's order, as a word. -/
def pickW (d : Fin 4096 → EReal) (j : ℕ) : BitVec 32 := if h : j < 4096 then BitVec.ofNat 32 (pick d ⟨j, h⟩).val else 0#32

theorem ofNat_inj (x y : Fin 4096) : BitVec.ofNat 32 x.val = BitVec.ofNat 32 y.val ↔ x = y := by
  refine ⟨fun h => Fin.ext ?_, fun h => by rw [h]⟩
  have := congrArg BitVec.toNat h
  simpa only [BitVec.toNat_ofNat, Nat.mod_eq_of_lt (show x.val < 2 ^ 32 by have := x.isLt; omega),
    Nat.mod_eq_of_lt (show y.val < 2 ^ 32 by have := y.isLt; omega)] using this

/-- THE LOOP. Trip by trip the buffer's rows lose their least column, the picks are the places of the row's order in turn,
    and place `q` of the result is the pick of trip `dil * q`. -/
theorem loop (hbig : big = (⊤ : EReal)) (col : IVec Buf 32) (hcol : ∀ r x, col (ix2 r x) = BitVec.ofNat 32 x.val) (hi : Res.Iotas .tc 32 [1])
    (dil N : ℕ) (hN : N ≤ 4096) (b : ℕ → BitVec 1) (w : ℕ → BitVec 32)
    (hbw : ∀ k < N, ∀ q : Fin 20, (b k = 1#1 ∧ w k = BitVec.ofNat 32 q.val) ↔ k = dil * q.val)
    (G : BufTy.Contents (Elt Ideal) mem.view.ty) (st : ℕ → (IVec Res 32 × IVec Col 32) × List (View.Piece (Elt Ideal) Buf .f32))
    (h0 : st 0 = ((broadcast Res 0#32, broadcast Col 4294967295#32), []))
    (hacc : ∀ k < N, (st (k + 1)).1.1 = accStep (st k).1.1 (st (k + 1)).1.2 (b k) (w k) hi)
    (ham : ∀ k < N, (st (k + 1)).1.2 = argmin col (mask mem big col (st k).1.2 (mem.view.writes (Elt Ideal) G (st k).2)))
    (hmem : ∀ k < N, (st (k + 1)).2 = puts mem big col (st k).1.2 (mem.view.writes (Elt Ideal) G (st k).2) (2 ^ 5) le_rfl ++ (st k).2)
    (d : Fin 512 → Fin 4096 → EReal) (hd : ∀ r x, d r x < ⊤) (hG : ∀ r x, mem.view.read (Elt Ideal) G (ix2 r x) = d r x) :
    ∀ k ≤ N, (∀ r x, (if BitVec.ofNat 32 x.val = (st k).1.2 (ix2 r 0) then (⊤ : EReal)
        else mem.view.read (Elt Ideal) (mem.view.writes (Elt Ideal) G (st k).2) (ix2 r x)) = masked (d r) k x)
      ∧ ∀ r (q : Fin 20), (st k).1.1 (ix2 r q) = if dil * q.val < k then pickW (d r) (dil * q.val) else 0#32 := by
  intro k
  induction k with
  | zero =>
    intro _
    rw [h0]
    refine ⟨fun r x => ?_, fun r q => ?_⟩
    · rw [masked_zero, View.writes_nil, hG]
      refine if_neg fun h => ?_
      have h1 : BitVec.ofNat 32 x.val = 4294967295#32 := h
      have h2 : x.val % 2 ^ 32 = 4294967295 % 2 ^ 32 := by
        simpa only [BitVec.toNat_ofNat] using congrArg BitVec.toNat h1
      have := x.isLt
      omega
    · rw [if_neg (Nat.not_lt_zero _)]; rfl
  | succ k ih =>
    intro hk
    obtain ⟨ih1, ih2⟩ := ih (Nat.le_of_succ_le hk)
    have hk' : k < 4096 := by omega
    have hk1 := Nat.lt_of_succ_le hk
    have ha : ∀ r, (st (k + 1)).1.2 (ix2 r 0) = BitVec.ofNat 32 (pick (d r) ⟨k, hk'⟩).val := fun r =>
      (congrFun (ham k hk1) _).trans (argmin_eq col hcol _ r (masked (d r) k)
        (fun i l => (mask_apply mem big hbig col hcol _ _ i r l).trans (ih1 r (at_ i l))) _ (least_masked (d r) (hd r) ⟨k, hk'⟩))
    have hp : ∀ r x, mem.view.read (Elt Ideal) (mem.view.writes (Elt Ideal) G (st (k + 1)).2) (ix2 r x) = masked (d r) k x := by
      intro r x
      rw [hmem k hk1, View.writes_append]
      exact (read_puts mem big hbig col hcol _ _ _ r x).trans (ih1 r x)
    refine ⟨fun r x => ?_, fun r q => ?_⟩
    · rw [hp, ha]
      refine Eq.trans ?_ (masked_succ (d r) ⟨k, hk'⟩ x).symm
      by_cases h : x = pick (d r) ⟨k, hk'⟩
      · rw [if_pos h, if_pos (by rw [h])]
      · rw [if_neg h, if_neg (fun e => h ((ofNat_inj _ _).1 e))]
    · rw [hacc k hk1, accStep_apply, ha, ih2]
      by_cases e : k = dil * q.val
      · rw [if_pos ((hbw k (by omega) q).2 e), if_neg (by omega), if_pos (by omega), ← e, pickW, dif_pos hk']
        simp
      · rw [if_neg (fun h => e ((hbw k (by omega) q).1 h))]
        by_cases h : dil * q.val < k
        · rw [if_pos h, if_pos (by omega)]; simp
        · rw [if_neg h, if_neg (by omega)]; simp

/-- One trip: the stores of the masked chunks, the pick, and the result with the pick added. -/
def trip (col : IVec Buf 32) (hi : Res.Iotas .tc 32 [1]) (b : BitVec 1) (w : BitVec 32) (acc : IVec Res 32 × IVec Col 32)
    (f : BufTy.Contents (Elt Ideal) mem.view.ty) : (IVec Res 32 × IVec Col 32) × List (View.Piece (Elt Ideal) Buf .f32) :=
  ((accStep acc.1 (argmin col (mask mem big col acc.2 f)) b w hi, argmin col (mask mem big col acc.2 f)), puts mem big col acc.2 f (2 ^ 5) le_rfl)

/-- The loop's result, from the trips alone: place `q` of row `r` is the position at place `dil * q` of the row's order. -/
theorem run (hbig : big = (⊤ : EReal)) (col : IVec Buf 32) (hcol : ∀ r x, col (ix2 r x) = BitVec.ofNat 32 x.val) (hi : Res.Iotas .tc 32 [1])
    (dil N : ℕ) (hN : N ≤ 4096) (hdil : dil * 20 ≤ N) (hdil0 : 0 < dil) (b : Fin N → BitVec 1) (w : Fin N → BitVec 32)
    (hbw : ∀ (k : Fin N) (q : Fin 20), (b k = 1#1 ∧ w k = BitVec.ofNat 32 q.val) ↔ k.val = dil * q.val)
    (G : BufTy.Contents (Elt Ideal) mem.view.ty) (st : ℕ → (IVec Res 32 × IVec Col 32) × List (View.Piece (Elt Ideal) Buf .f32))
    (h0 : st 0 = ((broadcast Res 0#32, broadcast Col 4294967295#32), []))
    (hst : ∀ k : Fin N, st (k.val + 1) =
      ((trip mem big col hi (b k) (w k) (st k.val).1 (mem.view.writes (Elt Ideal) G (st k.val).2)).1,
        (trip mem big col hi (b k) (w k) (st k.val).1 (mem.view.writes (Elt Ideal) G (st k.val).2)).2 ++ (st k.val).2))
    (d : Fin 512 → Fin 4096 → EReal) (hd : ∀ r x, d r x < ⊤) (hG : ∀ r x, mem.view.read (Elt Ideal) G (ix2 r x) = d r x)
    (r : Fin 512) (q : Fin 20) : (st N).1.1 (ix2 r q) = pickW (d r) (dil * q.val) := by
  have h := (loop mem big hbig col hcol hi dil N hN (fun k => if h : k < N then b ⟨k, h⟩ else 0#1) (fun k => if h : k < N then w ⟨k, h⟩ else 0#32)
    (fun k hk q => by rw [dif_pos hk, dif_pos hk]; exact hbw ⟨k, hk⟩ q) G st h0
    (fun k hk => by rw [dif_pos hk, dif_pos hk, hst ⟨k, hk⟩]; dsimp only [trip])
    (fun k hk => by rw [hst ⟨k, hk⟩]; dsimp only [trip])
    (fun k hk => by rw [hst ⟨k, hk⟩]; dsimp only [trip]) d hd hG N le_rfl).2 r q
  refine h.trans (if_pos ?_)
  exact lt_of_lt_of_le (Nat.mul_lt_mul_of_pos_left q.isLt hdil0) hdil

end Cert.Trip

end
-- ==== Proof.Graph.lean ====
/- The neighbour graph the reference computes, in plain sums: the squared distances, the order of each row, the kept places. -/
module

public import proofs.«01_k».proof.Proof.TopK
public import proofs.«01_k».proof.Proof.Trip

@[expose] public section

set_option maxRecDepth 16384

noncomputable section

namespace Cert.Graph

open Idealize.ShloMosaic Cert.Select

/-- A shape of three axes. -/
abbrev T3 (a b c : ℕ) : Shape := ⟨3, ![a, b, c]⟩

/-- A shape of four axes. -/
abbrev T4 (a b c d : ℕ) : Shape := ⟨4, ![a, b, c, d]⟩

/-- The factor of the mixed term, as the programs write it: minus two. -/
def mix : EReal := Ideal.ofBits .f32 0xC0000000#32

theorem mix_eq : mix = (((-2 : ℝ)) : EReal) := by
  simp [mix, Ideal.ofBits, Ideal.ieee, -EReal.coe_mul, -EReal.coe_neg]; norm_num

/-- The inner product of two points. -/
def innerP {C : ℕ} (u v : Fin C → EReal) : EReal := ∑ k : Fin C, u k * v k

/-- The squared distance of points `n` and `x` of cloud `b`, in the order in which the terms are added. -/
def sqDist {C : ℕ} (f : Fin 4 → Fin 4096 → Fin C → EReal) (b : Fin 4) (n x : Fin 4096) : EReal :=
  innerP (f b n) (f b n) + mix * innerP (f b n) (f b x) + innerP (f b x) (f b x)

/-- The inner product of two points with real coordinates is real. -/
theorem innerP_real {C : ℕ} (u v : Fin C → ℝ) : innerP (fun k => (u k : EReal)) (fun k => (v k : EReal)) = ((∑ k, u k * v k : ℝ) : EReal) := by
  unfold innerP
  refine (Finset.sum_congr rfl fun k _ => (EReal.coe_mul (u k) (v k)).symm).trans ?_
  exact (map_sum (⟨⟨Real.toEReal, EReal.coe_zero⟩, EReal.coe_add⟩ : ℝ →+ EReal) _ _).symm

/-- Distances of points with finite coordinates are finite. -/
theorem sqDist_lt_top {C : ℕ} (f : Fin 4 → Fin 4096 → Fin C → EReal) (hf : ∀ b n k, f b n k ≠ ⊥ ∧ f b n k ≠ ⊤) (b : Fin 4) (n x : Fin 4096) :
    sqDist f b n x < ⊤ := by
  have e : ∀ n, f b n = fun k => ((f b n k).toReal : EReal) := fun n => funext fun k => (EReal.coe_toReal (hf b n k).2 (hf b n k).1).symm
  unfold sqDist
  rw [e n, e x, innerP_real, innerP_real, innerP_real, mix_eq, ← EReal.coe_mul, ← EReal.coe_add, ← EReal.coe_add]
  exact EReal.coe_lt_top _

/-- The sums of squares and the distances as the reference writes them, read at an entry. -/
theorem adj_apply {C : ℕ} (x : FVec Ideal (T3 4 4096 C) .f32)
    (wf : DotDims.WF (T3 4 4096 C) (T3 4 C 4096) (T3 4 4096 4096) [2] [1] [1] [2] [0] [0])
    (ht : (T3 4 4096 C).Transposes [0, 2, 1] (T3 4 C 4096)) (hr : (T3 4 4096 C).ReducesTo [2] ⟨2, ![4, 4096]⟩) (hu : 0 < (⟨0, ![]⟩ : Shape).numel)
    (h1 : (⟨2, ![4, 4096]⟩ : Shape).BroadcastsInDim (T3 4 4096 1) (![0, 1] : Fin 2 → Fin 3))
    (h2 : (T3 4 4096 1).BroadcastsInDim (T3 4 4096 4096) (![0, 1, 2] : Fin 3 → Fin 3))
    (h0 : (⟨0, ![]⟩ : Shape).BroadcastsInDim (T3 4 4096 4096) (![] : Fin 0 → Fin 3))
    (h3 : (T3 4 4096 1).Transposes [0, 2, 1] (T3 4 1 4096))
    (h4 : (T3 4 1 4096).BroadcastsInDim (T3 4 4096 4096) (![0, 1, 2] : Fin 3 → Fin 3)) (b : Fin 4) (n y : Fin 4096) :
    Host.negf (addf (addf (broadcastInDim (T3 4 4096 4096) ![0, 1, 2] h2 (broadcastInDim (T3 4 4096 1) ![0, 1] h1
        (Host.reduceAdd (mulf x x) (constant ⟨0, ![]⟩ .f32 0x00000000#32) hr hu)))
      (mulf (broadcastInDim (T3 4 4096 4096) ![] h0 (constant ⟨0, ![]⟩ .f32 0xC0000000#32))
        (Host.dotGeneral (⟨[2], [1], [1], [2], [0], [0], wf⟩ : DotDims (T3 4 4096 C) (T3 4 C 4096) (T3 4 4096 4096)) none x (transpose (T3 4 C 4096) [0, 2, 1] x ht))))
      (broadcastInDim (T3 4 4096 4096) ![0, 1, 2] h4 (transpose (T3 4 1 4096) [0, 2, 1] (broadcastInDim (T3 4 4096 1) ![0, 1] h1
        (Host.reduceAdd (mulf x x) (constant ⟨0, ![]⟩ .f32 0x00000000#32) hr hu)) h3))) (ix3 b n y)
      = -(sqDist (fun b n k => x (ix3 b n k)) b n y) := by
  unfold sqDist innerP mix
  pointwise
  refine congrArg (fun t => -(_ + _ * t + _)) ((Ideal.matmul_apply₁_of (sl := T3 4 4096 C) (sr := T3 4 C 4096) (so := T3 4 4096 4096) (K := C) _ rfl rfl _ _ _ (ix3 b n y) (fun k => ix3 b n k) (fun k => ix3 b k y)
    (fun k => by funext s; match s with | ⟨0, _⟩ => rfl | ⟨1, _⟩ => rfl | ⟨2, _⟩ => rfl)
    (fun k => by funext s; match s with | ⟨0, _⟩ => rfl | ⟨1, _⟩ => rfl | ⟨2, _⟩ => rfl)).trans ?_)
  refine (zero_add _).trans (Finset.sum_congr rfl fun k _ => congrArg (x (ix3 b n k) * ·) (congrArg x ?_))
  funext s; match s with | ⟨0, _⟩ => rfl | ⟨1, _⟩ => rfl | ⟨2, _⟩ => rfl

/-- The edge list's first half, read at an entry. -/
theorem cat_apply {k : ℕ} (i c : IVec (T3 4 4096 k) 32) (h1 : (T3 4 4096 k).BroadcastsInDim (T4 1 4 4096 k) (![1, 2, 3] : Fin 3 → Fin 4))
    (hc : Shape.Concatenates [T4 1 4 4096 k, T4 1 4 4096 k] (T4 2 4 4096 k) 0) (b : Fin 4) (n : Fin 4096) (y : Fin k) :
    concatenate (T4 2 4 4096 k) 0
      [⟨T4 1 4 4096 k, broadcastInDim (T4 1 4 4096 k) ![1, 2, 3] h1 i⟩, ⟨T4 1 4 4096 k, broadcastInDim (T4 1 4 4096 k) ![1, 2, 3] h1 c⟩] hc (ix4 0 b n y)
      = i (ix3 b n y) := by
  refine (concatenate_pair_apply (t := T4 2 4 4096 k) 0 _ _ hc _).trans ?_
  refine (dif_pos Nat.zero_lt_one).trans ?_
  refine congrArg i ?_
  funext s
  match s with
  | ⟨0, _⟩ => rfl
  | ⟨1, _⟩ => rfl
  | ⟨2, _⟩ =>
    apply Fin.ext
    by_cases hk : k = 1
    · subst hk; have := y.isLt; show (_ : ℕ) = y.val; simp
    · simp [hk]; rfl

/-- The reference's tail without a dilation: the list of neighbours is the first half of the edge list. -/
theorem tail_apply (i c : IVec (T3 4 4096 20) 32) (h1 : (T3 4 4096 20).BroadcastsInDim (T4 1 4 4096 20) (![1, 2, 3] : Fin 3 → Fin 4))
    (hc : Shape.Concatenates [T4 1 4 4096 20, T4 1 4 4096 20] (T4 2 4 4096 20) 0)
    (h2 : (T4 2 4 4096 20).Slices ![0, 0, 0, 0] (T4 1 4 4096 20)) (h3 : (T4 1 4 4096 20).ShapeCasts (T3 4 4096 20)) (b : Fin 4) (n : Fin 4096) (q : Fin 20) :
    shapeCast (T3 4 4096 20) (extractStridedSlice (T4 1 4 4096 20) ![0, 0, 0, 0] (concatenate (T4 2 4 4096 20) 0
      [⟨T4 1 4 4096 20, broadcastInDim (T4 1 4 4096 20) ![1, 2, 3] h1 i⟩, ⟨T4 1 4 4096 20, broadcastInDim (T4 1 4 4096 20) ![1, 2, 3] h1 c⟩] hc) h2) h3 (ix3 b n q)
      = i (ix3 b n q) := by
  rw [← cat_apply i c h1 hc b n q]
  generalize concatenate (T4 2 4 4096 20) 0 _ _ = z
  pointwise

/-- The reference's tail with a dilation: every `dil`-th neighbour of the list is kept. -/
theorem tail_dil_apply {k dil : ℕ} (i c : IVec (T3 4 4096 k) 32) (h1 : (T3 4 4096 k).BroadcastsInDim (T4 1 4 4096 k) (![1, 2, 3] : Fin 3 → Fin 4))
    (hc : Shape.Concatenates [T4 1 4 4096 k, T4 1 4 4096 k] (T4 2 4 4096 k) 0)
    (hs : (T4 2 4 4096 k).SlicesBy (![0, 0, 0, 0] : Fin 4 → Nat) ![1, 1, 1, dil] (T4 2 4 4096 20))
    (h2 : (T4 2 4 4096 20).Slices ![0, 0, 0, 0] (T4 1 4 4096 20)) (h3 : (T4 1 4 4096 20).ShapeCasts (T3 4 4096 20)) (b : Fin 4) (n : Fin 4096) (q : Fin 20)
    (hq : dil * q.val < k) :
    shapeCast (T3 4 4096 20) (extractStridedSlice (T4 1 4 4096 20) ![0, 0, 0, 0] (Host.slice (T4 2 4 4096 20) ![0, 0, 0, 0] ![1, 1, 1, dil] (concatenate (T4 2 4 4096 k) 0
      [⟨T4 1 4 4096 k, broadcastInDim (T4 1 4 4096 k) ![1, 2, 3] h1 i⟩, ⟨T4 1 4 4096 k, broadcastInDim (T4 1 4 4096 k) ![1, 2, 3] h1 c⟩] hc) hs) h2) h3 (ix3 b n q)
      = i (ix3 b n ⟨dil * q.val, hq⟩) := by
  rw [← cat_apply i c h1 hc b n ⟨dil * q.val, hq⟩]
  generalize concatenate (T4 2 4 4096 k) 0 _ _ = z
  generalize hw : Host.slice (T4 2 4 4096 20) ![0, 0, 0, 0] ![1, 1, 1, dil] z hs = w
  have e : w (ix4 0 b n q) = z (ix4 0 b n ⟨dil * q.val, hq⟩) := by
    subst hw
    refine congrArg z ?_
    funext s
    match s with
    | ⟨0, _⟩ => rfl
    | ⟨1, _⟩ => exact Fin.ext (by simp)
    | ⟨2, _⟩ => exact Fin.ext (by simp)
    | ⟨3, _⟩ => exact Fin.ext (by simp)
  rw [← e]
  pointwise

/-- The list of neighbours the reference takes by top-k of the negated distances. -/
theorem pick_apply {k : ℕ} (adj : FVec Ideal (T3 4 4096 4096) .f32) (d : Fin 4 → Fin 4096 → Fin 4096 → EReal)
    (hadj : ∀ b n y, adj (ix3 b n y) = -(d b n y)) (h : (T3 4 4096 4096).Slices (fun _ => 0) (T3 4 4096 k)) (hk : k ≤ 4096)
    (b : Fin 4) (n : Fin 4096) (q : Fin k) :
    (Host.topK (T3 4 4096 k) 2 (FloatOps.cmpfTotal (F := Ideal) (φ := .f32) .gt) adj h).2 (ix3 b n q) = Trip.pickW (d b n) q.val :=
  (TopK.topK_apply adj d hadj h b n q hk).trans (by unfold Trip.pickW; rw [dif_pos (q.isLt.trans_le hk)])

/-- An array below infinity in absolute value has finite elements. -/
theorem finite_of {s : Shape} (h : (⟨0, ![]⟩ : Shape).BroadcastsInDim s (![] : Fin 0 → Fin s.rank)) (x : FVec Ideal s .f32)
    (hx : cmpf .olt (Host.absf x) (broadcastInDim s ![] h (constant ⟨0, ![]⟩ .f32 0x7F800000#32)) = fun _ => 1#1) (j : s.Idx) :
    x j ≠ ⊥ ∧ x j ≠ ⊤ := by
  have e : Ideal.cmp .olt (max (x j) (-(x j))) (Ideal.ofBits .f32 0x7F800000#32) = 1#1 := congrFun hx j
  have hinf : Ideal.ofBits .f32 0x7F800000#32 = (⊤ : EReal) := by simp [Ideal.ofBits, Ideal.ieee]
  rw [hinf] at e
  have hlt : max (x j) (-(x j)) < ⊤ := by
    by_contra hn
    simp [Ideal.cmp, hn] at e
  refine ⟨fun hb => ?_, fun ht => ?_⟩
  · rw [hb] at hlt; simp at hlt
  · rw [ht] at hlt; simp at hlt

/-- Features as points: channel `k` of point `n` of cloud `b`. -/
def feat {C : ℕ} (x : FVec Ideal ⟨4, ![4, C, 4096, 1]⟩ .f32) (b : Fin 4) (n : Fin 4096) (k : Fin C) : EReal := x (ix4 b k n 0)

/-- Finite features are at finite distances. -/
theorem feat_lt_top {C : ℕ} (h : (⟨0, ![]⟩ : Shape).BroadcastsInDim ⟨4, ![4, C, 4096, 1]⟩ (![] : Fin 0 → Fin 4)) (x : FVec Ideal ⟨4, ![4, C, 4096, 1]⟩ .f32)
    (hx : cmpf .olt (Host.absf x) (broadcastInDim ⟨4, ![4, C, 4096, 1]⟩ ![] h (constant ⟨0, ![]⟩ .f32 0x7F800000#32)) = fun _ => 1#1) (b : Fin 4) (n y : Fin 4096) :
    sqDist (feat x) b n y < ⊤ :=
  sqDist_lt_top _ (fun b n k => finite_of h x hx (ix4 b k n 0)) b n y

/-- The first three of four channels as points. -/
def head (x : FVec Ideal ⟨4, ![4, 4, 4096, 1]⟩ .f32) (b : Fin 4) (n : Fin 4096) (k : Fin 3) : EReal := x (ix4 b (k.castLE (by decide)) n 0)

@[inherit_doc feat_lt_top] theorem head_lt_top (h : (⟨0, ![]⟩ : Shape).BroadcastsInDim ⟨4, ![4, 4, 4096, 1]⟩ (![] : Fin 0 → Fin 4)) (x : FVec Ideal ⟨4, ![4, 4, 4096, 1]⟩ .f32)
    (hx : cmpf .olt (Host.absf x) (broadcastInDim ⟨4, ![4, 4, 4096, 1]⟩ ![] h (constant ⟨0, ![]⟩ .f32 0x7F800000#32)) = fun _ => 1#1) (b : Fin 4) (n y : Fin 4096) :
    sqDist (head x) b n y < ⊤ :=
  sqDist_lt_top _ (fun b n k => finite_of h x hx (ix4 b (k.castLE (by decide)) n 0)) b n y

/-- Three channels padded by five zeros. -/
def pad (f : Fin 4 → Fin 4096 → Fin 3 → EReal) (b : Fin 4) (n : Fin 4096) (k : Fin 8) : EReal := if h : k.val < 3 then f b n ⟨k.val, h⟩ else 0

/-- Channels of zeros change no distance. -/
theorem sqDist_pad (f : Fin 4 → Fin 4096 → Fin 3 → EReal) : sqDist (pad f) = sqDist f := by
  have e : ∀ b n y, innerP (pad f b n) (pad f b y) = innerP (f b n) (f b y) := fun b n y => by
    unfold innerP
    rw [Fin.sum_univ_eight, Fin.sum_univ_three]
    have z : (0 : EReal) * 0 = 0 := mul_zero 0
    show f b n 0 * f b y 0 + f b n 1 * f b y 1 + f b n 2 * f b y 2 + 0 * 0 + 0 * 0 + 0 * 0 + 0 * 0 + 0 * 0 = _
    simp only [z, add_zero]
  funext b n y
  unfold sqDist
  rw [e, e, e]

/-- Two results with the same places are one. -/
theorem ext {u v : IVec (T3 4 4096 20) 32} (h : ∀ b n q, u (ix3 b n q) = v (ix3 b n q)) : u = v :=
  funext fun j => by rw [eq_ix3 j]; exact h _ _ _

end Cert.Graph
-- ==== Proof.Tile.lean ====
/- One tile of a selection kernel, in plain sums: the distances it stores, and the block it writes. -/
module

public import proofs.«01_k».proof.Proof.Graph
public import Idealize.ShloMosaic.Lib.VecWindow

@[expose] public section

set_option maxRecDepth 16384

noncomputable section

namespace Cert.Tile

open Idealize.ShloMosaic Cert.Graph

/-- The distances of a tile: of its row `r` to every point, from the tile's own squared norms and points (`x0`, `x1`)
    and those of the whole cloud (`x3`, `x2`). -/
def tile {C : ℕ} (x0 : (T3 1 512 1).Idx → EReal) (x1 : (T3 1 512 C).Idx → EReal) (x2 : (T3 1 C 4096).Idx → EReal)
    (x3 : (T3 1 1 4096).Idx → EReal) (r : Fin 512) (y : Fin 4096) : EReal :=
  x0 (ix3 0 r 0) + mix * ∑ k : Fin C, x1 (ix3 0 r k) * x2 (ix3 0 k y) + x3 (ix3 0 0 y)

/-- The result put under a leading axis of one. -/
theorem cast_apply (x : IVec Trip.Res 32) (h : Trip.Res.ShapeCasts (T3 1 512 20)) (r : Fin 512) (q : Fin 20) :
    shapeCast (T3 1 512 20) x h (ix3 0 r q) = x (ix2 r q) := by pointwise

/-- The positions along a row. -/
theorem iota_apply (h : (⟨2, ![512, 4096]⟩ : Shape).Iotas .tc 32 [1]) (r : Fin 512) (x : Fin 4096) :
    iota .tc ⟨2, ![512, 4096]⟩ 32 [1] h (ix2 r x) = BitVec.ofNat 32 x.val := by
  change BitVec.ofNat 32 (0 * 4096 + x.val) = _
  rw [Nat.zero_mul, Nat.zero_add]

/-- What a grid point writes: row `r` of its tile holds the kept places of the order of the row's distances. The distances
    are stored first (`pay`), the loop (`st`) selects from them, and its result is stored into the output block. -/
theorem block {C : ℕ} {sig : RefSig} (arg2 : Memref sig .tc .vmem (T3 1 512 1) .f32) (harg2 : arg2.IsWhole) (arg3 : Memref sig .tc .vmem (T3 1 512 C) .f32)
    (harg3 : arg3.IsWhole) (arg4 : Memref sig .tc .vmem (T3 1 C 4096) .f32) (harg4 : arg4.IsWhole) (arg5 : Memref sig .tc .vmem (T3 1 1 4096) .f32)
    (harg5 : arg5.IsWhole) (arg7 : Memref sig .tc .vmem Argmin.Buf .f32) (o : View sig .tc .vmem (T3 1 512 20) .i32) (big : Ideal .f32) (hbig : big = (⊤ : EReal))
    (col : IVec Argmin.Buf 32) (hcol : ∀ r y, col (ix2 r y) = BitVec.ofNat 32 y.val) (hi : Trip.Res.Iotas .tc 32 [1]) (dil N : ℕ) (hN : N ≤ 4096) (hdil : dil * 20 ≤ N) (hdil0 : 0 < dil)
    (b : Fin N → BitVec 1) (w : Fin N → BitVec 32) (hbw : ∀ (k : Fin N) (q : Fin 20), (b k = 1#1 ∧ w k = BitVec.ofNat 32 q.val) ↔ k.val = dil * q.val)
    (pay : Vec Ideal (T3 1 512 C) .f32 → Vec Ideal (T3 1 C 4096) .f32 → Vec Ideal (T3 1 512 1) .f32 → Vec Ideal (T3 1 1 4096) .f32 → FVec Ideal Argmin.Buf .f32)
    (hpay : ∀ v0 v2 v4 v6 r y, pay v0 v2 v4 v6 (ix2 r y) = tile v4 v0 v2 v6 r y)
    (x0 : Vec Ideal (T3 1 512 1) .f32) (x1 : Vec Ideal (T3 1 512 C) .f32) (x2 : Vec Ideal (T3 1 C 4096) .f32) (x3 : Vec Ideal (T3 1 1 4096) .f32)
    (i2 : ∀ a, (![0, 0, 0] : Fin 3 → ℕ) a + (T3 1 512 1).size a ≤ (T3 1 512 1).size a) (i3 : ∀ a, (![0, 0, 0] : Fin 3 → ℕ) a + (T3 1 512 C).size a ≤ (T3 1 512 C).size a)
    (i4 : ∀ a, (![0, 0, 0] : Fin 3 → ℕ) a + (T3 1 C 4096).size a ≤ (T3 1 C 4096).size a) (i5 : ∀ a, (![0, 0, 0] : Fin 3 → ℕ) a + (T3 1 1 4096).size a ≤ (T3 1 1 4096).size a)
    (i7 : ∀ a, (![0, 0] : Fin 2 → ℕ) a + Argmin.Buf.size a ≤ Argmin.Buf.size a) (io : ∀ a, (![0, 0, 0] : Fin 3 → ℕ) a + (T3 1 512 20).size a ≤ (T3 1 512 20).size a)
    (hc : Trip.Res.ShapeCasts (T3 1 512 20)) (G : BufTy.Contents (Elt Ideal) arg7.view.ty)
    (hG : G = arg7.view.writes (Elt Ideal) arg7.view.junk [⟨Rect.unit ![0, 0] Argmin.Buf.size i7,
      pay (View.readAt (Elt Ideal) arg3.view (Rect.unit ![0, 0, 0] (T3 1 512 C).size i3).toLoadRect (harg3.unread x1))
        (View.readAt (Elt Ideal) arg4.view (Rect.unit ![0, 0, 0] (T3 1 C 4096).size i4).toLoadRect (harg4.unread x2))
        (View.readAt (Elt Ideal) arg2.view (Rect.unit ![0, 0, 0] (T3 1 512 1).size i2).toLoadRect (harg2.unread x0))
        (View.readAt (Elt Ideal) arg5.view (Rect.unit ![0, 0, 0] (T3 1 1 4096).size i5).toLoadRect (harg5.unread x3))⟩])
    (st : ℕ → (IVec Trip.Res 32 × IVec Argmin.Col 32) × List (View.Piece (Elt Ideal) Argmin.Buf .f32))
    (h0 : st 0 = ((broadcast Trip.Res 0#32, broadcast Argmin.Col 4294967295#32), []))
    (hst : ∀ k : Fin N, st (k.val + 1) =
      ((Trip.trip arg7 big col hi (b k) (w k) (st k.val).1 (arg7.view.writes (Elt Ideal) G (st k.val).2)).1,
        (Trip.trip arg7 big col hi (b k) (w k) (st k.val).1 (arg7.view.writes (Elt Ideal) G (st k.val).2)).2 ++ (st k.val).2))
    (hx : ∀ r y, tile x0 x1 x2 x3 r y < ⊤) (r : Fin 512) (q : Fin 20) :
    o.read (Elt Ideal) (o.writes (Elt Ideal) o.junk [⟨Rect.unit ![0, 0, 0] (T3 1 512 20).size io, shapeCast (T3 1 512 20) (st N).1.1 hc⟩]) (ix3 0 r q)
      = Trip.pickW (tile x0 x1 x2 x3 r) (dil * q.val) := by
  refine (congrFun (View.read_writes_full o _ io _ []) (ix3 0 r q)).trans ((cast_apply _ hc r q).trans ?_)
  refine Trip.run arg7 big hbig col hcol hi dil N hN hdil hdil0 b w hbw G st h0 hst (tile x0 x1 x2 x3) hx (fun r y => ?_) r q
  rw [hG]
  refine (congrFun (View.read_writes_full arg7.view _ i7 _ []) (ix2 r y)).trans ((hpay _ _ _ _ r y).trans ?_)
  rw [(View.readAt_full ..).trans (harg2.read_unread x0), (View.readAt_full ..).trans (harg3.read_unread x1),
    (View.readAt_full ..).trans (harg4.read_unread x2), (View.readAt_full ..).trans (harg5.read_unread x3)]

section Norms
variable {C : ℕ} (x : FVec Ideal (T3 4 4096 C) .f32) (hr : (T3 4 4096 C).ReducesTo [2] ⟨2, ![4, 4096]⟩) (hu : 0 < (⟨0, ![]⟩ : Shape).numel)
  (h1 : (⟨2, ![4, 4096]⟩ : Shape).BroadcastsInDim (T3 4 4096 1) (![0, 1] : Fin 2 → Fin 3)) (h3 : (T3 4 4096 1).Transposes [0, 2, 1] (T3 4 1 4096))
  (ht : (T3 4 4096 C).Transposes [0, 2, 1] (T3 4 C 4096)) (b : Fin 4) (n : Fin 4096)

/-- The squared norms, as the host computes them. -/
theorem norm_apply : broadcastInDim (T3 4 4096 1) ![0, 1] h1 (Host.reduceAdd (mulf x x) (constant ⟨0, ![]⟩ .f32 0x00000000#32) hr hu) (ix3 b n 0)
    = innerP (fun k => x (ix3 b n k)) (fun k => x (ix3 b n k)) := by
  unfold innerP
  pointwise

/-- The squared norms laid out along a row. -/
theorem norm_row_apply : transpose (T3 4 1 4096) [0, 2, 1] (broadcastInDim (T3 4 4096 1) ![0, 1] h1
    (Host.reduceAdd (mulf x x) (constant ⟨0, ![]⟩ .f32 0x00000000#32) hr hu)) h3 (ix3 b 0 n)
    = innerP (fun k => x (ix3 b n k)) (fun k => x (ix3 b n k)) := by
  unfold innerP
  pointwise

/-- The points laid out by channel. -/
theorem swap_apply (k : Fin C) : transpose (T3 4 C 4096) [0, 2, 1] x ht (ix3 b k n) = x (ix3 b n k) := by
  refine congrArg x ?_
  funext s; match s with | ⟨0, _⟩ => rfl | ⟨1, _⟩ => rfl | ⟨2, _⟩ => rfl

end Norms

/-- Row `r` of the tile at grid point `t` is row `512 (t mod 8) + r` of cloud `t / 8`. -/
def cloud (t : Fin 32) : Fin 4 := ⟨t.val / 8, by omega⟩

@[inherit_doc cloud] def row (t : Fin 32) (r : Fin 512) : Fin 4096 := ⟨t.val % 8 * 512 + r.val, by omega⟩

/-- The grid point and the row of the tile that a row of the result comes from. -/
theorem exists_tile (b : Fin 4) (n : Fin 4096) : ∃ (t : Fin 32) (r : Fin 512), cloud t = b ∧ row t r = n :=
  ⟨⟨b.val * 8 + n.val / 512, by omega⟩, ⟨n.val % 512, by omega⟩, Fin.ext (by simp only [cloud]; omega), Fin.ext (by simp only [row]; omega)⟩

/-- The index of an array at which an element of a block sits, from the block's own. -/
theorem emb_eq {sig : RefSig} {G : Pipeline.Grid} (w : Pipeline.Window sig G) (t : Fin G.N) (y : (w.xblock (G.coords t)).Idx) (j : w.shape.Idx)
    (hk : w.kind = .blocked) {i : Fin w.shape.rank → ℕ} (hi : w.index t = i) (h : ∀ a, i a * w.size a + (y a).val = (j a).val) : (w.rect t).emb y = j :=
  funext fun a => Fin.ext ((w.rect_emb_val t y a hk).trans (by rw [hi]; exact h a))

/-- A statement about three axes, axis by axis. -/
theorem axes {P : Fin 3 → Prop} (h0 : P 0) (h1 : P 1) (h2 : P 2) : ∀ a, P a
  | ⟨0, _⟩ => h0
  | ⟨1, _⟩ => h1
  | ⟨2, _⟩ => h2

/-- On an axis that is one block, an element keeps its place. -/
theorem keep (n k : ℕ) : 0 * n + k = k := by omega

section Result
variable {C : ℕ} (x : FVec Ideal (T3 4 4096 C) .f32) (hr : (T3 4 4096 C).ReducesTo [2] ⟨2, ![4, 4096]⟩) (hu : 0 < (⟨0, ![]⟩ : Shape).numel)
  (h1 : (⟨2, ![4, 4096]⟩ : Shape).BroadcastsInDim (T3 4 4096 1) (![0, 1] : Fin 2 → Fin 3)) (h3 : (T3 4 4096 1).Transposes [0, 2, 1] (T3 4 1 4096))
  (ht : (T3 4 4096 C).Transposes [0, 2, 1] (T3 4 C 4096))

/-- The kernel's result, from its grid points: row `n` of cloud `b` holds the kept places of the order of the row's distances. -/
theorem result (dil : ℕ) (arr : IVec (T3 4 4096 20) 32) (out : Fin 32 → IVec (T3 1 512 20) 32)
    (x0 : Fin 32 → Vec Ideal (T3 1 512 1) .f32) (x1 : Fin 32 → Vec Ideal (T3 1 512 C) .f32) (x2 : Fin 32 → Vec Ideal (T3 1 C 4096) .f32) (x3 : Fin 32 → Vec Ideal (T3 1 1 4096) .f32)
    (harr : ∀ t r q, arr (ix3 (cloud t) (row t r) q) = out t (ix3 0 r q))
    (hout : ∀ t, (∀ r y, tile (x0 t) (x1 t) (x2 t) (x3 t) r y < ⊤) → ∀ r (q : Fin 20), out t (ix3 0 r q) = Trip.pickW (tile (x0 t) (x1 t) (x2 t) (x3 t) r) (dil * q.val))
    (e0 : ∀ t r, x0 t (ix3 0 r 0) = broadcastInDim (T3 4 4096 1) ![0, 1] h1 (Host.reduceAdd (mulf x x) (constant ⟨0, ![]⟩ .f32 0x00000000#32) hr hu) (ix3 (cloud t) (row t r) 0))
    (e1 : ∀ t r k, x1 t (ix3 0 r k) = x (ix3 (cloud t) (row t r) k))
    (e2 : ∀ t k y, x2 t (ix3 0 k y) = transpose (T3 4 C 4096) [0, 2, 1] x ht (ix3 (cloud t) k y))
    (e3 : ∀ t y, x3 t (ix3 0 0 y) = transpose (T3 4 1 4096) [0, 2, 1] (broadcastInDim (T3 4 4096 1) ![0, 1] h1
      (Host.reduceAdd (mulf x x) (constant ⟨0, ![]⟩ .f32 0x00000000#32) hr hu)) h3 (ix3 (cloud t) 0 y))
    (hfin : ∀ b n y, sqDist (fun b n k => x (ix3 b n k)) b n y < ⊤) (b : Fin 4) (n : Fin 4096) (q : Fin 20) :
    arr (ix3 b n q) = Trip.pickW (sqDist (fun b n k => x (ix3 b n k)) b n) (dil * q.val) := by
  obtain ⟨t, r, rfl, rfl⟩ := exists_tile b n
  have e : ∀ r y, tile (x0 t) (x1 t) (x2 t) (x3 t) r y = sqDist (fun b n k => x (ix3 b n k)) (cloud t) (row t r) y := fun r y => by
    unfold tile sqDist
    have e2' : ∀ k, x2 t (ix3 0 k y) = x (ix3 (cloud t) y k) := fun k => (e2 t k y).trans (swap_apply x ht _ _ _)
    rw [e0, e3, norm_apply, norm_row_apply]
    simp only [e1, e2']
    rfl
  rw [harr, hout t (fun r y => by rw [e]; exact hfin _ _ _) r q, funext (e r)]

end Result

end Cert.Tile

end
-- ==== Proof.Conv.lean ====
/- The edge convolution of a layer, as both programs write it: the features of a point and of its neighbours,
   the product with the weights, the batch normalisation, the rectifier and the maximum over the neighbours. -/
module

public import proofs.«01_k».proof.Proof.Graph

@[expose] public section

set_option maxRecDepth 16384

noncomputable section

namespace Cert.Conv

open Idealize.ShloMosaic
open Cert.Graph (T3 T4)

/-- A number. -/
abbrev T0 : Shape := ⟨0, ![]⟩

/-- A number per output channel, alone and along the axes of the edges. -/
abbrev O1 : Shape := ⟨1, ![16]⟩

@[inherit_doc O1] abbrev O4 : Shape := T4 1 16 1 1

/-- The edges' values: per cloud, output channel, point and neighbour. -/
abbrev E4 : Shape := T4 4 16 4096 20

/-- A table of neighbours as the places that a gather reads: a negative place counts from the end. -/
def places (i : IVec (T3 4 4096 20) 32) : IVec (T4 4 4096 20 1) 32 :=
  broadcastInDim (T4 4 4096 20 1) (![0, 1, 2] : Fin 3 → Fin 4) (by decide)
    (select (cmpi .slt i (broadcastInDim (T3 4 4096 20) (![] : Fin 0 → Fin 3) (by decide) (constantI T0 32 0#32)))
      (addi i (broadcastInDim (T3 4 4096 20) (![] : Fin 0 → Fin 3) (by decide) (constantI T0 32 4096#32))) i)

/-- The points' features at the places of a table. -/
def pick {C : ℕ} (wf : GatherDims.WF (T3 4 C 4096) (T4 4 4096 20 1) (T4 4 C 4096 20) [1] [2] [0] [2] [0] 3 ![1, C, 1])
    (x : FVec Ideal (T3 4 C 4096) .f32) (i : IVec (T3 4 4096 20) 32) : FVec Ideal (T4 4 C 4096 20) .f32 :=
  Host.gather (⟨[1], [2], [0], [0], [2], 3, ![1, C, 1], wf⟩ : GatherDims (T3 4 C 4096) (T4 4 4096 20 1) (T4 4 C 4096 20)) x (places i)

/-- The edges' features: a point's own, then its neighbour's less its own. -/
def edges {C D : ℕ} (wf : GatherDims.WF (T3 4 C 4096) (T4 4 4096 20 1) (T4 4 C 4096 20) [1] [2] [0] [2] [0] 3 ![1, C, 1])
    (hc : Shape.Concatenates [T4 4 C 4096 20, T4 4 C 4096 20] (T4 4 D 4096 20) 1)
    (x : FVec Ideal (T3 4 C 4096) .f32) (center near : IVec (T3 4 4096 20) 32) : FVec Ideal (T4 4 D 4096 20) .f32 :=
  concatenate (T4 4 D 4096 20) 1 [⟨T4 4 C 4096 20, pick wf x center⟩, ⟨T4 4 C 4096 20, subf (pick wf x near) (pick wf x center)⟩] hc

/-- A number per output channel, at every edge. -/
def spread (v : FVec Ideal O4 .f32) : FVec Ideal E4 .f32 := broadcastInDim E4 (![0, 1, 2, 3] : Fin 4 → Fin 4) (by decide) v

/-- A number per output channel, as a tensor of four axes. -/
def stand (v : FVec Ideal O1 .f32) : FVec Ideal O4 .f32 := broadcastInDim O4 (![1] : Fin 1 → Fin 4) (by decide) v

/-- One number for every output channel. -/
def same (v : FVec Ideal T0 .f32) : FVec Ideal O4 .f32 := broadcastInDim O4 (![] : Fin 0 → Fin 4) (by decide) v

/-- The sum over all edges of all clouds, per output channel. -/
def total (y : FVec Ideal E4 .f32) : FVec Ideal O4 .f32 :=
  stand (Host.reduceAdd y (constant T0 .f32 0x00000000#32) (by decide : E4.ReducesTo [0, 2, 3] O1) (by decide))

/-- The mean over all edges. -/
def mean (y : FVec Ideal E4 .f32) : FVec Ideal O4 .f32 := Host.divf (total y) (same (constant T0 .f32 0x48A00000#32))

/-- The number of edges, less the correction that the variance subtracts. -/
def count : FVec Ideal T0 .f32 := subf (constant T0 .f32 0x48A00000#32) (sitofp .f32 (constantI T0 32 0#32))

/-- The variance over all edges. -/
def var (y : FVec Ideal E4 .f32) : FVec Ideal O4 .f32 :=
  select (broadcastInDim O4 (![] : Fin 0 → Fin 4) (by decide) (cmpf .ogt count (constant T0 .f32 0x00000000#32)))
    (Host.divf (total (mulf (subf y (spread (mean y))) (subf y (spread (mean y))))) (same count)) (same (constant T0 .f32 0x7FC00000#32))

/-- The normalisation, the rectifier and the maximum over a point's neighbours. -/
def norm (y : FVec Ideal E4 .f32) (gamma beta : FVec Ideal O1 .f32) : FVec Ideal (T4 4 16 4096 1) .f32 :=
  broadcastInDim (T4 4 16 4096 1) (![0, 1, 2] : Fin 3 → Fin 4) (by decide)
    (Host.reduce FloatOps.maximumf
      (maximumf (addf (mulf (Host.divf (subf y (spread (mean y))) (spread (Host.sqrt (addf (var y) (same (constant T0 .f32 0x3727C5AC#32))))))
        (spread (stand gamma))) (spread (stand beta))) (broadcastInDim E4 (![] : Fin 0 → Fin 4) (by decide) (constant T0 .f32 0x00000000#32)))
      (constant T0 .f32 0xFF800000#32) (by decide : E4.ReducesTo [3] (T3 4 16 4096)) (by decide))

/-- The product with the weights, and the offset. -/
def linear {D : ℕ} (wf : DotDims.WF (T4 4 D 4096 20) ⟨2, ![16, D]⟩ (T4 4 4096 20 16) [1] [1] [0, 2, 3] [0] [] [])
    (e : FVec Ideal (T4 4 D 4096 20) .f32) (W : FVec Ideal ⟨2, ![16, D]⟩ .f32) (b : FVec Ideal O1 .f32) : FVec Ideal E4 .f32 :=
  addf (transpose E4 [0, 3, 1, 2] (Host.dotGeneral (⟨[1], [1], [0, 2, 3], [0], [], [], wf⟩ : DotDims (T4 4 D 4096 20) ⟨2, ![16, D]⟩ (T4 4 4096 20 16)) none e W) (by decide))
    (spread (stand b))

/-- Every point's own place, for each of its neighbours. -/
def center : IVec (T3 4 4096 20) 32 :=
  broadcastInDim (T3 4 4096 20) (![0, 1, 2] : Fin 3 → Fin 3) (by decide) (broadcastInDim (T3 1 4096 1) (![1] : Fin 1 → Fin 3) (by decide) (iotaInDim ⟨1, ![4096]⟩ 32 0))

/-- The second table of a stack of two: its entries. -/
theorem cat_apply {k : ℕ} (i c : IVec (T3 4 4096 k) 32) (h1 : (T3 4 4096 k).BroadcastsInDim (T4 1 4 4096 k) (![1, 2, 3] : Fin 3 → Fin 4))
    (hc : Shape.Concatenates [T4 1 4 4096 k, T4 1 4 4096 k] (T4 2 4 4096 k) 0) (b : Fin 4) (n : Fin 4096) (y : Fin k) :
    concatenate (T4 2 4 4096 k) 0
      [⟨T4 1 4 4096 k, broadcastInDim (T4 1 4 4096 k) ![1, 2, 3] h1 i⟩, ⟨T4 1 4 4096 k, broadcastInDim (T4 1 4 4096 k) ![1, 2, 3] h1 c⟩] hc (ix4 1 b n y)
      = c (ix3 b n y) := by
  refine (concatenate_pair_apply (t := T4 2 4 4096 k) 0 _ _ hc _).trans ?_
  refine (dif_neg (lt_irrefl 1)).trans ?_
  refine congrArg c ?_
  funext s
  match s with
  | ⟨0, _⟩ => rfl
  | ⟨1, _⟩ => rfl
  | ⟨2, _⟩ =>
    apply Fin.ext
    by_cases hk : k = 1
    · subst hk; have := y.isLt; show (_ : ℕ) = y.val; simp
    · simp [hk]; rfl

/-- Every point's own place, as a table of any width. -/
theorem own_apply {k : ℕ} (h1 : (⟨1, ![4096]⟩ : Shape).BroadcastsInDim (T3 1 4096 1) (![1] : Fin 1 → Fin 3))
    (h2 : (T3 1 4096 1).BroadcastsInDim (T3 4 4096 k) (![0, 1, 2] : Fin 3 → Fin 3)) (b : Fin 4) (n : Fin 4096) (y : Fin k) :
    broadcastInDim (T3 4 4096 k) (![0, 1, 2] : Fin 3 → Fin 3) h2 (broadcastInDim (T3 1 4096 1) (![1] : Fin 1 → Fin 3) h1 (iotaInDim ⟨1, ![4096]⟩ 32 0)) (ix3 b n y)
      = BitVec.ofNat 32 n.val := by
  pointwise

theorem center_apply (b : Fin 4) (n : Fin 4096) (q : Fin 20) : center (ix3 b n q) = BitVec.ofNat 32 n.val := own_apply _ _ b n q

/-- The edge list's second row holds the points themselves. -/
theorem self_eq (i c : IVec (T3 4 4096 20) 32) (h1 : (T3 4 4096 20).BroadcastsInDim (T4 1 4 4096 20) (![1, 2, 3] : Fin 3 → Fin 4))
    (hc : Shape.Concatenates [T4 1 4 4096 20, T4 1 4 4096 20] (T4 2 4 4096 20) 0) (hn : ∀ b n y, c (ix3 b n y) = BitVec.ofNat 32 n.val)
    (h2 : (T4 2 4 4096 20).Slices ![1, 0, 0, 0] (T4 1 4 4096 20)) (h3 : (T4 1 4 4096 20).ShapeCasts (T3 4 4096 20)) :
    shapeCast (T3 4 4096 20) (extractStridedSlice (T4 1 4 4096 20) ![1, 0, 0, 0] (concatenate (T4 2 4 4096 20) 0
      [⟨T4 1 4 4096 20, broadcastInDim (T4 1 4 4096 20) ![1, 2, 3] h1 i⟩, ⟨T4 1 4 4096 20, broadcastInDim (T4 1 4 4096 20) ![1, 2, 3] h1 c⟩] hc) h2) h3
      = center := by
  refine Cert.Graph.ext fun b n q => ?_
  rw [center_apply, ← hn b n q, ← cat_apply i c h1 hc b n q]
  generalize concatenate (T4 2 4 4096 20) 0 _ _ = z
  pointwise

@[inherit_doc self_eq] theorem self_dil_eq {k dil : ℕ} (i c : IVec (T3 4 4096 k) 32) (h1 : (T3 4 4096 k).BroadcastsInDim (T4 1 4 4096 k) (![1, 2, 3] : Fin 3 → Fin 4))
    (hc : Shape.Concatenates [T4 1 4 4096 k, T4 1 4 4096 k] (T4 2 4 4096 k) 0) (hn : ∀ b n y, c (ix3 b n y) = BitVec.ofNat 32 n.val)
    (hs : (T4 2 4 4096 k).SlicesBy (![0, 0, 0, 0] : Fin 4 → Nat) ![1, 1, 1, dil] (T4 2 4 4096 20))
    (h2 : (T4 2 4 4096 20).Slices ![1, 0, 0, 0] (T4 1 4 4096 20)) (h3 : (T4 1 4 4096 20).ShapeCasts (T3 4 4096 20)) (hq : ∀ q : Fin 20, dil * q.val < k) :
    shapeCast (T3 4 4096 20) (extractStridedSlice (T4 1 4 4096 20) ![1, 0, 0, 0] (Host.slice (T4 2 4 4096 20) ![0, 0, 0, 0] ![1, 1, 1, dil] (concatenate (T4 2 4 4096 k) 0
      [⟨T4 1 4 4096 k, broadcastInDim (T4 1 4 4096 k) ![1, 2, 3] h1 i⟩, ⟨T4 1 4 4096 k, broadcastInDim (T4 1 4 4096 k) ![1, 2, 3] h1 c⟩] hc) hs) h2) h3
      = center := by
  refine Cert.Graph.ext fun b n q => ?_
  rw [center_apply, ← hn b n ⟨dil * q.val, hq q⟩, ← cat_apply i c h1 hc b n ⟨dil * q.val, hq q⟩]
  generalize concatenate (T4 2 4 4096 k) 0 _ _ = z
  generalize hw : Host.slice (T4 2 4 4096 20) ![0, 0, 0, 0] ![1, 1, 1, dil] z hs = w
  have e : w (ix4 1 b n q) = z (ix4 1 b n ⟨dil * q.val, hq q⟩) := by
    subst hw
    refine congrArg z ?_
    funext s
    match s with
    | ⟨0, _⟩ => rfl
    | ⟨1, _⟩ => exact Fin.ext (by simp)
    | ⟨2, _⟩ => exact Fin.ext (by simp)
    | ⟨3, _⟩ => exact Fin.ext (by simp)
  rw [← e]
  pointwise

/-- The edge convolution of a layer. -/
def conv {C D : ℕ} (wf : GatherDims.WF (T3 4 C 4096) (T4 4 4096 20 1) (T4 4 C 4096 20) [1] [2] [0] [2] [0] 3 ![1, C, 1])
    (hc : Shape.Concatenates [T4 4 C 4096 20, T4 4 C 4096 20] (T4 4 D 4096 20) 1)
    (wd : DotDims.WF (T4 4 D 4096 20) ⟨2, ![16, D]⟩ (T4 4 4096 20 16) [1] [1] [0, 2, 3] [0] [] [])
    (hs : (T4 4 C 4096 1).ShapeCasts (T3 4 C 4096)) (x : FVec Ideal (T4 4 C 4096 1) .f32) (center near : IVec (T3 4 4096 20) 32)
    (W : FVec Ideal ⟨2, ![16, D]⟩ .f32) (b gamma beta : FVec Ideal O1 .f32) : FVec Ideal (T4 4 16 4096 1) .f32 :=
  norm (linear wd (edges wf hc (shapeCast (T3 4 C 4096) x hs) center near) W b) gamma beta

end Cert.Conv

end
-- ==== Proof.Layer0.lean ====
/- The kernel of layer 0: what one grid point writes, the array after all of them, and the host code after it. -/
module

public import proofs.«01_k».proof.Proof.Gen.Layer0Ideal.Frame
public import Idealize.ShloMosaic.Lib.Pipeline.Value
public import proofs.«01_k».proof.Proof.Tile
public import proofs.«01_k».proof.Proof.Conv

@[expose] public section

set_option maxRecDepth 16384

noncomputable section

namespace Cert.Layer0Ideal.Tile

open Cert.Layer0Ideal Cert.Layer0Ideal.Gen Idealize.ShloMosaic Idealize.ShloMosaic.TcCoe Idealize.SL.Sem
open Cert.Graph (sqDist head sqDist_pad)
open Cert.Tile (cloud row emb_eq axes keep)

/-- The mask's value. -/
abbrev big : Ideal .f32 := Named.named (F := Ideal) κ "taken" (φ := .f32) 0x7F61B1E6#32

/-- Whether a trip's pick is kept, and its place. -/
def bit (k : Fin k0_t1_loop.trips) : BitVec 1 := 1#1

@[inherit_doc bit] def word (k : Fin k0_t1_loop.trips) : BitVec 32 := Scalar.select 0#1 (Scalar.subi (trip_k0_t1.sl.v552 k) 1#32) (trip_k0_t1.sl.v552 k)

variable (𝒱 : Variants) (c : Dev nD) (bd : Option 𝒱.V) (i : grid0.Coords) (arg2 : Memref sig .tc .vmem S1x512x1 .f32) (harg2 : arg2.IsWhole)
  (arg3 : Memref sig .tc .vmem S1x512x8 .f32) (harg3 : arg3.IsWhole) (arg4 : Memref sig .tc .vmem S1x8x4096 .f32) (harg4 : arg4.IsWhole)
  (arg5 : Memref sig .tc .vmem S1x1x4096 .f32) (harg5 : arg5.IsWhole) (arg6 : Memref sig .tc .vmem S1x512x20 .i32) (harg6 : arg6.IsWhole)
  (arg7 : Memref sig .tc .vmem S512x4096 .f32) (harg7 : arg7.IsWhole)

/-- A trip of the loop is the generic trip. -/
theorem trip_eq (k : Fin k0_t1_loop.trips) (acc : IVec S512x20 32 × IVec S512x1 32) (f : BufTy.Contents (Elt Ideal) arg7.view.ty) :
    (tripR_k0_t1 (F := Ideal) 𝒱 c bd i arg2 harg2 arg3 harg3 arg4 harg4 arg5 harg5 arg6 harg6 arg7 harg7 kernelRun0_A.sl.v18 k acc f,
      tripL_k0_t1 (F := Ideal) 𝒱 c bd i arg2 harg2 arg3 harg3 arg4 harg4 arg5 harg5 arg6 harg6 arg7 harg7 kernelRun0_A.sl.v18 k acc f)
      = Trip.trip arg7 big kernelRun0_A.sl.v18 iota_S512x20_d1_w32 (bit k) (word k) acc f := by
  unfold tripR_k0_t1 tripL_k0_t1 trip_k0_t1
  dsimp only
  rfl

/-- The distances the kernel stores first. -/
theorem pay_apply (v0 : Vec Ideal S1x512x8 .f32) (v2 : Vec Ideal S1x8x4096 .f32) (v4 : Vec Ideal S1x512x1 .f32) (v6 : Vec Ideal S1x1x4096 .f32)
    (r : Fin 512) (y : Fin 4096) : k0_pay1 v0 v2 v4 v6 (ix2 r y) = Cert.Tile.tile (C := 8) v4 v0 v2 v6 r y := by
  unfold k0_pay1 Cert.Tile.tile Cert.Graph.mix
  pointwise

/-- What a grid point writes. -/
theorem block (x0 : Vec Ideal S1x512x1 .f32) (x1 : Vec Ideal S1x512x8 .f32) (x2 : Vec Ideal S1x8x4096 .f32) (x3 : Vec Ideal S1x1x4096 .f32) :
    (∀ r y, Cert.Tile.tile (C := 8) x0 x1 x2 x3 r y < ⊤) → ∀ (r : Fin 512) (q : Fin 20),
    out0_A_4 c i arg2 harg2 arg3 harg3 arg4 harg4 arg5 harg5 arg6 harg6 arg7 harg7 x0 x1 x2 x3 (ix3 0 r q)
      = Trip.pickW (Cert.Tile.tile (C := 8) x0 x1 x2 x3 r) (1 * q.val) :=
  Cert.Tile.block arg2 harg2 arg3 harg3 arg4 harg4 arg5 harg5 arg7 VO0_4 big rfl kernelRun0_A.sl.v18 (Cert.Tile.iota_apply iota_S512x4096_d1_w32) iota_S512x20_d1_w32 1 k0_t1_loop.trips
    (by decide) (by decide) (by decide) (bit) (word) (by decide +kernel) k0_pay1 pay_apply x0 x1 x2 x3 _ _ _ _ _ _ _
    (arg7.view.writes (Elt Ideal) arg7.view.junk (kernelRun0_A.sl.HS0_1 c arg2 harg2 arg3 harg3 arg4 harg4 arg5 harg5 x0 x1 x2 x3)) rfl
    (st_k0_t1 Variants.none c none i arg2 harg2 arg3 harg3 arg4 harg4 arg5 harg5 arg6 harg6 arg7 harg7 kernelRun0_A.sl.v18 _ (k0_pay2, k0_pay3))
    rfl (fun k => by
      rw [← trip_eq Variants.none c none i arg2 harg2 arg3 harg3 arg4 harg4 arg5 harg5 arg6 harg6 arg7 harg7 k]
      exact st_k0_t1_succ ..)

/-! ## The blocks and the array -/

/-- The block indices of the five windows. -/
theorem index_eq : ∀ t : Fin grid0.N, win0_0.index t = ![t.val / 8, t.val % 8, 0] ∧ win0_1.index t = ![t.val / 8, t.val % 8, 0]
    ∧ win0_2.index t = ![t.val / 8, 0, 0] ∧ win0_3.index t = ![t.val / 8, 0, 0] ∧ win0_4.index t = ![t.val / 8, t.val % 8, 0] := by decide +kernel

/-- Every grid point writes its block back. -/
theorem flush4 : ∀ t : Fin grid0.N, win0_4.flush t = true := by decide +kernel

/-- Two grid points write different blocks. -/
theorem index_inj : ∀ t t' : Fin grid0.N, win0_4.index t = win0_4.index t' → t = t' := by decide +kernel

variable (m : (ℓ : Loc nD τ sig) → Buf (Elt Ideal) ℓ)

/-- The array's block is what its grid point wrote back. -/
theorem block_eq (t : Fin cfg0.N) : ((cfg0.win 4).blk t).view.read (Elt Ideal) ((dats m 0 c).arrAt 4 cfg0.N) = (dats m 0 c).flushed 4 t :=
  (dats m 0 c).read_blk_arrAt_eq_flushed 4 (fun t t' _ _ hne => (cfg0.win 4).disjoint_blk fun h => hne (index_inj t t' h)) cfg0.N t t.isLt (flush4 t)

/-- What a grid point writes back is what its run left in the block. -/
theorem flushed_eq (t : Fin cfg0.N) : (dats m 0 c).flushed 4 t = (cfg0.win 4).cut (grid0.coords t) (out0_A_4 c (grid0.coords t) (ms0_0 t) (hs0_0 t) (ms0_1 t) (hs0_1 t)
    (ms0_2 t) (hs0_2 t) (ms0_3 t) (hs0_3 t) (ms0_4 t) (hs0_4 t) scM0_0 (Memref.isWhole_whole _) (iblk m c 0 t) (iblk m c 1 t) (iblk m c 2 t) (iblk m c 3 t)) := by
  show (cfg0.win 4).cut (grid0.coords t) ((dats m 0 c).after 4 t) = _
  rw [after0_4]
  simp only [outsAt0]

/-- The points as the host hands them to the kernel. -/
abbrev points : FVec Ideal S4x4096x8 .f32 := V m c main_v4

/-- Entry by entry they are the first three channels of the points, padded with zeros. -/
theorem points_apply : (fun b n k => points c m (ix3 b n k)) = Cert.Graph.pad (head (m ((c.tc : Thread nD τ).loc main_arg0))) := by
  have e : points c m = concatenate (α := EReal) S4x4096x8 2 [⟨S4x4096x3, transpose S4x4096x3 [0, 2, 1] (shapeCast S4x3x4096 (extractStridedSlice S4x3x4096x1 ![0, 0, 0, 0]
      (m ((c.tc : Thread nD τ).loc main_arg0)) slices_S4x4x4096x1_S4x3x4096x1_0_0_0_0) shapeCasts_S4x3x4096x1_S4x3x4096) transposes_S4x3x4096_S4x4096x3_0_2_1⟩,
      ⟨S4x4096x5, broadcastInDim S4x4096x5 ![] bcast_S_S4x4096x5 (constant (F := Ideal) S_ .f32 0x00000000#32)⟩] concatenates_S4x4096x3_S4x4096x5_S4x4096x8_d2 := by
    dsimp only [points, V, V0, List.flatten_cons, List.flatten_nil, List.cons_append, List.nil_append, hostOps0, hostOps0_1]
    after_results
    rfl
  funext b n k
  rw [e]
  unfold Cert.Graph.pad head
  by_cases h : k.val < 3
  · rw [dif_pos h]
    refine (concatenate_pair_apply_left (t := S4x4096x8) (s₁ := S4x4096x3) (s₂ := S4x4096x5) 2 _ _ _ (ix3 b n k) rfl (ix3 b n ⟨k.val, h⟩) (axes rfl rfl rfl)).trans ?_
    pointwise
    rfl
  · rw [dif_neg h]
    refine (concatenate_pair_apply_right (t := S4x4096x8) (s₁ := S4x4096x3) (s₂ := S4x4096x5) 2 _ _ _ (ix3 b n k) rfl rfl (ix3 b n ⟨k.val - 3, by omega⟩) (axes (fun _ => rfl) (fun _ => rfl) (fun h => absurd rfl h)) (by show k.val - 3 + 3 = k.val; omega)).trans ?_
    pointwise

/-- The squared norms as the host hands them to the kernel, the same along a row, and the points by channel. -/
theorem host_norms : @Eq (FVec Ideal S4x4096x1 .f32) (V m c main_call0_v2) (broadcastInDim S4x4096x1 ![0, 1] bcast_S4x4096_S4x4096x1_0_1
      (Host.reduceAdd (mulf (points c m) (points c m)) (constant S_ .f32 0x00000000#32) reducesTo_S4x4096x8_S4x4096_d2 h_S_))
    ∧ @Eq (FVec Ideal S4x1x4096 .f32) (V m c main_call0_v3) (transpose S4x1x4096 [0, 2, 1] (V m c main_call0_v2 : FVec Ideal S4x4096x1 .f32) transposes_S4x4096x1_S4x1x4096_0_2_1)
    ∧ @Eq (FVec Ideal S4x8x4096 .f32) (V m c main_call0_v4) (transpose S4x8x4096 [0, 2, 1] (points c m) transposes_S4x4096x8_S4x8x4096_0_2_1) := by
  dsimp only [points, V, V0, List.flatten_cons, List.flatten_nil, List.cons_append, List.nil_append, hostOps0, hostOps0_1]
  refine ⟨?_, ?_, ?_⟩ <;> (after_results; rfl)

/-- The kernel's result. -/
theorem result_apply : (∀ b n y, sqDist (head (m ((c.tc : Thread nD τ).loc main_arg0))) b n y < ⊤) → ∀ (b : Fin 4) (n : Fin 4096) (q : Fin 20),
    ((dats m 0 c).arrAt 4 cfg0.N : IVec S4x4096x20 32) (ix3 b n q) = Trip.pickW (sqDist (head (m ((c.tc : Thread nD τ).loc main_arg0))) b n) (1 * q.val) := by
  rw [← sqDist_pad, ← points_apply]
  exact Cert.Tile.result (points c m) reducesTo_S4x4096x8_S4x4096_d2 h_S_ bcast_S4x4096_S4x4096x1_0_1 transposes_S4x4096x1_S4x1x4096_0_2_1
    transposes_S4x4096x8_S4x8x4096_0_2_1 1 _ (fun t => (dats m 0 c).flushed 4 t) (iblk m c 0) (iblk m c 1) (iblk m c 2) (iblk m c 3)
    (fun t r q => (congrArg ((dats m 0 c).arrAt 4 cfg0.N : IVec S4x4096x20 32) (emb_eq win0_4 t (ix3 0 r q) (ix3 (cloud t) (row t r) q) rfl (index_eq t).2.2.2.2
      (axes (Nat.mul_one _) rfl (keep _ _))).symm).trans (congrFun (block_eq c m t) (ix3 0 r q)))
    (fun t hx r q => (congrFun (flushed_eq c m t) (ix3 0 r q)).trans (block c _ _ _ _ _ _ _ _ _ _ _ _ _ _ _ _ _ hx r q))
    (fun t r => (congrArg (V m c main_call0_v2 : FVec Ideal S4x4096x1 .f32) (emb_eq win0_0 t (ix3 0 r 0) (ix3 (cloud t) (row t r) 0) rfl (index_eq t).1
      (axes (Nat.mul_one _) rfl rfl))).trans (congrFun (host_norms c m).1 _))
    (fun t r k => congrArg (points c m) (emb_eq win0_1 t (ix3 0 r k) (ix3 (cloud t) (row t r) k) rfl (index_eq t).2.1 (axes (Nat.mul_one _) rfl (keep _ _))))
    (fun t k y => (congrArg (V m c main_call0_v4 : FVec Ideal S4x8x4096 .f32) (emb_eq win0_2 t (ix3 0 k y) (ix3 (cloud t) k y) rfl (index_eq t).2.2.1
      (axes (Nat.mul_one _) (keep _ _) (keep _ _)))).trans (congrFun (host_norms c m).2.2 _))
    (fun t y => (congrArg (V m c main_call0_v3 : FVec Ideal S4x1x4096 .f32) (emb_eq win0_3 t (ix3 0 0 y) (ix3 (cloud t) 0 y) rfl (index_eq t).2.2.2.1
      (axes (Nat.mul_one _) rfl (keep _ _)))).trans ((congrFun (host_norms c m).2.1 _).trans (by rw [(host_norms c m).1])))

/-! ## The host code after the kernel -/

/-- The edge convolution of layer 0, on a table of neighbours. -/
abbrev conv (x : FVec Ideal S4x4x4096x1 .f32) (near : IVec S4x4096x20 32) (W : FVec Ideal S16x8 .f32) (b gamma beta : FVec Ideal S16 .f32) : FVec Ideal S4x16x4096x1 .f32 :=
  Cert.Conv.conv gather_S4x4x4096_S4x4096x20x1_S4x4x4096x20_1_2_0_0_2_3_141_wf concatenates_S4x4x4096x20_S4x4x4096x20_S4x8x4096x20_d1
    dot_S4x8x4096x20_S16x8_S4x4096x20x16_1_1_023_0_n_n_wf shapeCasts_S4x4x4096x1_S4x4x4096 x Cert.Conv.center near W b gamma beta

set_option maxHeartbeats 2000000 in
/-- The host code after the kernel, from any memory. -/
theorem tail_apply (W : Valuation τ sig (Elt Ideal)) : @Eq (FVec Ideal S4x16x4096x1 .f32) (StableHlo.after [hostOps1, hostOps1_1, hostOps1_2, hostOps1_3, hostOps1_4].flatten W (Proc.devRef .tc main_v52))
    (conv (W (Proc.devRef .tc main_arg0)) (W (Proc.devRef .tc main_v5)) (W (Proc.devRef .tc main_arg1)) (W (Proc.devRef .tc main_arg2)) (W (Proc.devRef .tc main_arg3)) (W (Proc.devRef .tc main_arg4))) := by
  dsimp only [List.flatten_cons, List.flatten_nil, List.cons_append, List.nil_append, hostOps1, hostOps1_1, hostOps1_2, hostOps1_3, hostOps1_4]
  simp only [StableHlo.TRef.binary, StableHlo.TRef.nullary, StableHlo.TRef.ternary, StableHlo.TRef.unary, StableHlo.TRef.toBuf, StableHlo.TRef.ofBuf, cast_eq]
  after_results
  rfl

/-- The memory the host code after the kernel starts from. -/
abbrev mid : Valuation τ sig (Elt Ideal) := Pipeline.withArrays (cfgs 0).spec c (V0 m c) fun w => (dats m 0 c).arrAt w (cfgs 0).N

/-- It holds the kernel's array and the arguments. -/
theorem mid_apply : mid c m (Proc.devRef .tc main_v5) = (dats m 0 c).arrAt 4 cfg0.N ∧ mid c m (Proc.devRef .tc main_arg0) = m ((c.tc : Thread nD τ).loc main_arg0)
    ∧ mid c m (Proc.devRef .tc main_arg1) = m ((c.tc : Thread nD τ).loc main_arg1) ∧ mid c m (Proc.devRef .tc main_arg2) = m ((c.tc : Thread nD τ).loc main_arg2)
    ∧ mid c m (Proc.devRef .tc main_arg3) = m ((c.tc : Thread nD τ).loc main_arg3) ∧ mid c m (Proc.devRef .tc main_arg4) = m ((c.tc : Thread nD τ).loc main_arg4) :=
  ⟨Pipeline.withArrays_arr (cfgs 0).spec (by decide) c _ _ 4, (Pipeline.withArrays_of_ne _ c _ _ main_arg0 (by decide)).trans (V_main_arg0 m c),
    (Pipeline.withArrays_of_ne _ c _ _ main_arg1 (by decide)).trans (V_main_arg1 m c), (Pipeline.withArrays_of_ne _ c _ _ main_arg2 (by decide)).trans (V_main_arg2 m c),
    (Pipeline.withArrays_of_ne _ c _ _ main_arg3 (by decide)).trans (V_main_arg3 m c), (Pipeline.withArrays_of_ne _ c _ _ main_arg4 (by decide)).trans (V_main_arg4 m c)⟩

variable (ρ : Dev nD → PrngReg)

/-- The run: its results, and its arguments unchanged. -/
theorem run_apply : θ_run defs (onTc (τ := τ) (main (F := Ideal))) ⟨m, fun _ => 0, ρ⟩ fun r => ∀ c : Dev nD,
    (@Eq (FVec Ideal S4x16x4096x1 .f32) (r.2.mem ((c.tc : Thread nD τ).loc main_v52)) (conv (m ((c.tc : Thread nD τ).loc main_arg0)) ((dats m 0 c).arrAt 4 cfg0.N)
          (m ((c.tc : Thread nD τ).loc main_arg1)) (m ((c.tc : Thread nD τ).loc main_arg2)) (m ((c.tc : Thread nD τ).loc main_arg3)) (m ((c.tc : Thread nD τ).loc main_arg4)))
      ∧ r.2.mem ((c.tc : Thread nD τ).loc main_v5) = (dats m 0 c).arrAt 4 cfg0.N)
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨⟨?_, (h.1 c).1 4⟩, h.2 c⟩) (θ_run_and (run_main m ρ) (unchanged m ρ))
  refine ((h.1 c).2 main_v52 (Pipeline.mem_restRefs_of main_v52 (by decide) (by decide))).trans ((tail_apply (mid c m)).trans ?_)
  obtain ⟨e, a0, a1, a2, a3, a4⟩ := mid_apply c m
  rw [e, a0, a1, a2, a3, a4]

end Cert.Layer0Ideal.Tile

end
-- ==== Proof.Line.lean ====
/- A straight line of host operations: the list of the operations, read off the program. -/
module

public import Idealize.ShloMosaic.Lib.StableHlo.Run
public import Idealize.ShloMosaic.Lib.Pipeline.Frame

@[expose] public section

noncomputable section

namespace Cert

open Idealize.SL Idealize.ShloMosaic Idealize.ShloMosaic.TcCoe Idealize.SL.Sem Idealize.ShloMosaic.StableHlo

variable {nD : Nat} {τ : Topo} {sig : RefSig} {Val : EltTy → Type} {Λ : Labels}

/-- A program that runs a list of host operations one after the other, each on the core's own buffers. -/
structure Line (p : Prog (TpuEff nD τ sig Val Λ .tc) PUnit) where
  ops : List (HloOp τ sig Val)
  eq : p = seq ops
  bufs : ops.Forall fun op => op.bufs ⊆ tcRefs τ sig
  fresh : ∀ op ∈ ops, op.fresh = ∅

/-- A list run in two parts. -/
theorem after_split (k : ℕ) (l : List (HloOp τ sig Val)) (V : Valuation τ sig Val) : after l V = after (l.drop k) (after (l.take k) V) := by
  induction l generalizing k V with
  | nil => simp
  | cons a l ih =>
    cases k with
    | zero => rfl
    | succ k => exact ih k _

namespace Line

variable {p q : Prog (TpuEff nD τ sig Val Λ .tc) PUnit}

/-- Doing nothing runs the empty list. -/
def nil : Line (nD := nD) (τ := τ) (sig := sig) (Val := Val) (Λ := Λ) (pure ⟨⟩) := ⟨[], rfl, trivial, fun _ h => nomatch h⟩

/-- One operation before a line. -/
def cons (op : HloOp τ sig Val) (l : Line q)
    (hb : op.bufs ⊆ tcRefs τ sig := by first
      | with_reducible exact nullary_bufs_sub .. | with_reducible exact unary_bufs_sub .. | with_reducible exact binary_bufs_sub ..
      | with_reducible exact reshape_bufs_sub .. | with_reducible exact ternary_bufs_sub ..
      | exact nullary_bufs_sub .. | exact unary_bufs_sub .. | exact binary_bufs_sub .. | exact reshape_bufs_sub .. | exact ternary_bufs_sub ..)
    (hf : op.fresh = ∅ := by rfl) :
    Line ((hlo rfl op fun _ => .ret (⟨⟩ : PUnit)) >>= fun _ => q) where
  ops := op :: l.ops
  eq := congrArg (fun x => (hlo rfl op fun _ => .ret (⟨⟩ : PUnit)) >>= fun _ => x) l.eq
  bufs := (List.forall_cons _ _ _).2 ⟨hb, l.bufs⟩
  fresh := by
    intro o h
    rcases List.mem_cons.1 h with h | h
    exacts [h ▸ hf, l.fresh o h]

/-- One operation alone. -/
def one (op : HloOp τ sig Val)
    (hb : op.bufs ⊆ tcRefs τ sig := by first
      | with_reducible exact nullary_bufs_sub .. | with_reducible exact unary_bufs_sub .. | with_reducible exact binary_bufs_sub ..
      | with_reducible exact reshape_bufs_sub .. | with_reducible exact ternary_bufs_sub ..
      | exact nullary_bufs_sub .. | exact unary_bufs_sub .. | exact binary_bufs_sub .. | exact reshape_bufs_sub .. | exact ternary_bufs_sub ..)
    (hf : op.fresh = ∅ := by rfl) :
    Line (nD := nD) (Λ := Λ) (hlo rfl op fun _ => .ret (⟨⟩ : PUnit)) where
  ops := [op]
  eq := rfl
  bufs := hb
  fresh := fun o h => by rw [List.mem_singleton.1 h]; exact hf

/-- One line before another. -/
def append (k : Line p) (l : Line q) : Line (p >>= fun _ => q) where
  ops := k.ops ++ l.ops
  eq := (congrArg₂ (fun x y => x >>= fun _ => y) k.eq l.eq).trans (seq_append k.ops l.ops).symm
  bufs := List.forall_iff_forall_mem.2 fun o h => by
    rcases List.mem_append.1 h with h | h
    exacts [List.forall_iff_forall_mem.1 k.bufs o h, List.forall_iff_forall_mem.1 l.bufs o h]
  fresh := fun o h => by
    rcases List.mem_append.1 h with h | h
    exacts [k.fresh o h, l.fresh o h]

end Line

end Cert

end
-- ==== Proof.Plain0.lean ====
/- The reference of layer 0. -/
module

public import proofs.«01_k».proof.Proof.Gen.Plain0Ideal
public import proofs.«01_k».proof.Proof.Line
public import proofs.«01_k».proof.Proof.Conv

@[expose] public section

set_option maxRecDepth 16384

noncomputable section

namespace Cert.Plain0Ideal.Run

open Cert.Graph (sqDist head)
open Cert.Plain0Ideal Cert.Plain0Ideal.Gen Idealize.SL Idealize.ShloMosaic Idealize.ShloMosaic.TcCoe Idealize.SL.Sem Idealize.ShloMosaic.StableHlo

set_option maxHeartbeats 4000000 in
/-- The first window of the reference's operations. -/
def line0 (c : Dev nD) : Line (main_part0 (F := Ideal) c) := by
  unfold main_part0
  repeat first | refine Line.cons _ ?_ | exact Line.nil | exact Line.one _

set_option maxHeartbeats 4000000 in
@[inherit_doc line0] def line1 (c : Dev nD) : Line (main_part1 (F := Ideal) c) := by
  unfold main_part1 fn_var.body fn_relu.body fn_where.body
  repeat first | refine Line.cons _ ?_ | exact Line.nil | exact Line.one _ | refine Line.append ?_ ?_

/-- The reference's operations. -/
def line (c : Dev nD) : Line (main (F := Ideal) c) := (line0 c).append (line1 c)

/-- The edge list: the operations up to it, and those after it. -/
def pre (c : Dev nD) : List (HloOp τ sig (Elt Ideal)) := (line c).ops.take 26

@[inherit_doc pre] def post (c : Dev nD) : List (HloOp τ sig (Elt Ideal)) := (line c).ops.drop 26

/-- The edge convolution of layer 0, on a table of neighbours. -/
abbrev conv (x : FVec Ideal S4x4x4096x1 .f32) (self near : IVec S4x4096x20 32) (W : FVec Ideal S16x8 .f32) (b gamma beta : FVec Ideal S16 .f32) : FVec Ideal S4x16x4096x1 .f32 :=
  Cert.Conv.conv gather_S4x4x4096_S4x4096x20x1_S4x4x4096x20_1_2_0_0_2_3_141_wf concatenates_S4x4x4096x20_S4x4x4096x20_S4x8x4096x20_d1
    dot_S4x8x4096x20_S16x8_S4x4096x20x16_1_1_023_0_n_n_wf shapeCasts_S4x4x4096x1_S4x4x4096 x self near W b gamma beta

variable (W : Valuation τ sig (Elt Ideal)) (c : Dev nD)

/-- The row of the edge list that holds the neighbours, and the one that holds the points themselves. -/
def near (g : IVec S2x4x4096x20 32) : IVec S4x4096x20 32 :=
  shapeCast S4x4096x20 (extractStridedSlice S1x4x4096x20 ![0, 0, 0, 0] g slices_S2x4x4096x20_S1x4x4096x20_0_0_0_0) shapeCasts_S1x4x4096x20_S4x4096x20

@[inherit_doc near] def self (g : IVec S2x4x4096x20 32) : IVec S4x4096x20 32 :=
  shapeCast S4x4096x20 (extractStridedSlice S1x4x4096x20 ![1, 0, 0, 0] g slices_S2x4x4096x20_S1x4x4096x20_1_0_0_0) shapeCasts_S1x4x4096x20_S4x4096x20

set_option maxHeartbeats 2000000 in
/-- After the edge list the run computes the edge convolution and returns the neighbours; the arguments stay. -/
theorem post_apply : @Eq (FVec Ideal S4x16x4096x1 .f32) (after (post c) W (Proc.devRef .tc main_v69))
      (conv (W (Proc.devRef .tc main_arg0)) (self (W (Proc.devRef .tc main_v21))) (near (W (Proc.devRef .tc main_v21))) (W (Proc.devRef .tc main_arg1))
          (W (Proc.devRef .tc main_arg2)) (W (Proc.devRef .tc main_arg3)) (W (Proc.devRef .tc main_arg4)))
    ∧ @Eq (IVec S4x4096x20 32) (after (post c) W (Proc.devRef .tc main_v71)) (near (W (Proc.devRef .tc main_v21)))
    ∧ after (post c) W (Proc.devRef .tc main_arg0) = W (Proc.devRef .tc main_arg0) ∧ after (post c) W (Proc.devRef .tc main_arg1) = W (Proc.devRef .tc main_arg1)
    ∧ after (post c) W (Proc.devRef .tc main_arg2) = W (Proc.devRef .tc main_arg2) ∧ after (post c) W (Proc.devRef .tc main_arg3) = W (Proc.devRef .tc main_arg3)
    ∧ after (post c) W (Proc.devRef .tc main_arg4) = W (Proc.devRef .tc main_arg4) := by
  have e : after (post c) W = after (post c) W := rfl
  conv_rhs at e =>
    enter [1]
    dsimp only [id, post, line, line0, line1, Line.append, Line.cons, Line.nil, Line.one, List.cons_append, List.nil_append]
    whnf
  simp only [TRef.binary, TRef.nullary, TRef.ternary, TRef.unary, TRef.toBuf, TRef.ofBuf, cast_eq] at e
  rw [e]
  refine ⟨?_, ?_, ?_, ?_, ?_, ?_, ?_⟩ <;> after_results
  all_goals rfl

/-- The points, one per row. -/
abbrev points : FVec Ideal S4x4096x3 .f32 :=
  transpose S4x4096x3 [0, 2, 1] (shapeCast S4x3x4096 (extractStridedSlice S4x3x4096x1 ![0, 0, 0, 0] (W (Proc.devRef .tc main_arg0)) slices_S4x4x4096x1_S4x3x4096x1_0_0_0_0)
    shapeCasts_S4x3x4096x1_S4x3x4096) transposes_S4x3x4096_S4x4096x3_0_2_1

/-- Entry by entry they are the first three channels of the points. -/
theorem points_apply : (fun b n k => points W (ix3 b n k)) = head (W (Proc.devRef .tc main_arg0)) := by
  funext b n k
  unfold head
  pointwise
  rfl

set_option maxHeartbeats 2000000 in
/-- The edge list as the run computes it; the arguments stay. -/
theorem pre_apply : (∀ b n (q : Fin 20), near (after (pre c) W (Proc.devRef .tc main_v21)) (ix3 b n q) = Trip.pickW (sqDist (head (W (Proc.devRef .tc main_arg0))) b n) (1 * q.val))
    ∧ self (after (pre c) W (Proc.devRef .tc main_v21)) = Cert.Conv.center
    ∧ after (pre c) W (Proc.devRef .tc main_arg0) = W (Proc.devRef .tc main_arg0) ∧ after (pre c) W (Proc.devRef .tc main_arg1) = W (Proc.devRef .tc main_arg1)
    ∧ after (pre c) W (Proc.devRef .tc main_arg2) = W (Proc.devRef .tc main_arg2) ∧ after (pre c) W (Proc.devRef .tc main_arg3) = W (Proc.devRef .tc main_arg3)
    ∧ after (pre c) W (Proc.devRef .tc main_arg4) = W (Proc.devRef .tc main_arg4) := by
  have e : after (pre c) W = after (pre c) W := rfl
  conv_rhs at e =>
    enter [1]
    dsimp only [id, pre, line, line0, line1, Line.append, Line.cons, Line.nil, Line.one, List.cons_append, List.nil_append]
    simp only [List.take_succ_cons, List.take_zero]
  rw [e]
  refine ⟨fun b n q => ?_, ?_, ?_, ?_, ?_, ?_, ?_⟩
  · have hq : 1 * q.val < 40 := by omega
    after_results
    refine (Cert.Graph.tail_apply _ _ _ _ _ _ b n q).trans ?_
    refine (Cert.Graph.pick_apply _ (sqDist (head (W (Proc.devRef .tc main_arg0)))) (fun b n y => ?_) _ (by decide) b n q).trans (by rw [Nat.one_mul])
    exact (Cert.Graph.adj_apply (points W) _ _ _ _ _ _ _ _ _ b n y).trans (by rw [points_apply])
  · after_results
    exact Cert.Conv.self_eq _ _ _ _ (Cert.Conv.own_apply _ _) _ _
  all_goals after_results

variable (m : (ℓ : Loc nD τ sig) → Buf (Elt Ideal) ℓ) (ρ : Dev nD → PrngReg)

/-- The run: its two results, and its arguments unchanged. -/
theorem result_apply : θ_run defs (onTc (τ := τ) (main (F := Ideal))) ⟨m, fun _ => 0, ρ⟩ fun r => ∀ c : Dev nD,
    ((∀ b n (q : Fin 20), (r.2.mem ((c.tc : Thread nD τ).loc main_v71) : IVec S4x4096x20 32) (ix3 b n q) = Trip.pickW (sqDist (head (m ((c.tc : Thread nD τ).loc main_arg0))) b n) (1 * q.val))
      ∧ @Eq (FVec Ideal S4x16x4096x1 .f32) (r.2.mem ((c.tc : Thread nD τ).loc main_v69)) (conv (m ((c.tc : Thread nD τ).loc main_arg0)) Cert.Conv.center (r.2.mem ((c.tc : Thread nD τ).loc main_v71))
          (m ((c.tc : Thread nD τ).loc main_arg1)) (m ((c.tc : Thread nD τ).loc main_arg2)) (m ((c.tc : Thread nD τ).loc main_arg3)) (m ((c.tc : Thread nD τ).loc main_arg4))))
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (run_seq (by decide) (by decide) defs main (fun c => (line c).ops) (fun c => (line c).eq) (fun c => (line c).bufs) m ρ (fun c => (line c).fresh))
  obtain ⟨p0, p1, a0, a1, a2, a3, a4⟩ := pre_apply (launchContents m c) c
  obtain ⟨q0, q1, k0, k1, k2, k3, k4⟩ := post_apply (after (pre c) (launchContents m c)) c
  have e : ∀ b : Ref sig .tc, r.2.mem ((c.tc : Thread nD τ).loc b) = after (post c) (after (pre c) (launchContents m c)) (Proc.devRef .tc b) := fun b =>
    (h c b).trans (congrFun (after_split 26 (line c).ops (launchContents m c)) _)
  refine ⟨⟨fun b n q => ?_, ?_⟩, (e _).trans (k0.trans a0), (e _).trans (k1.trans a1), (e _).trans (k2.trans a2), (e _).trans (k3.trans a3), (e _).trans (k4.trans a4)⟩
  · rw [e, q1]
    exact p0 b n q
  · rw [e, e, q0, q1, p1, a0, a1, a2, a3, a4]

end Cert.Plain0Ideal.Run

end
-- ==== Proof.Call0.lean ====
/- The claims of layer 0. -/
module

public import proofs.«01_k».proof.Defs
public import proofs.«01_k».proof.Proof.Gen.Layer0.Frame
public import proofs.«01_k».proof.Proof.Gen.Pre_finite
public import proofs.«01_k».proof.Proof.Layer0
public import proofs.«01_k».proof.Proof.Plain0

@[expose] public section

noncomputable section

namespace Cert.Call0

open Idealize.ShloMosaic Idealize.ShloMosaic.TcCoe Idealize.SL.Sem

/-- The facts the programs of this layer and their precondition state. -/
local instance facts : Cert.Layer0.Facts := Cert.Layer0.Gen.facts
@[inherit_doc facts] local instance factsI : Cert.Layer0Ideal.Facts := Cert.Layer0Ideal.Gen.facts
@[inherit_doc facts] local instance factsR : Cert.Plain0Ideal.Facts := Cert.Plain0Ideal.Gen.facts
@[inherit_doc facts] local instance factsP : Cert.Pre_finite.Facts := Cert.Pre_finite.Gen.facts

/-- The reference leaves its arguments and its counters alone. -/
theorem frame_ref : Cert.quiescent_Plain0Ideal := fun m ρ _ =>
  (θ_run _ _ _).mono (fun r h => ⟨fun c => (h c).2, sem_eq_zero_of_no_sems (by decide) r.2⟩) (Cert.Plain0Ideal.Run.result_apply m ρ)

/-- On finite points the kernel's layer is the reference's. -/
theorem algebraic : Cert.algebraic_Layer0Ideal_Plain0Ideal_pre_finite := by
  intro m g m' g' hpre hagree
  refine ⟨_, _, (θ_run _ _ _).mono (fun r h c => ⟨(h c).1.1, (h c).1.2, (h c).2⟩) (Cert.Layer0Ideal.Tile.run_apply m g), (θ_run _ _ _).mono (fun r h c => ?_) (Cert.Plain0Ideal.Run.result_apply m' g')⟩
  obtain ⟨⟨hn, hf⟩, ha⟩ := h c
  obtain ⟨e0, e1, e2, e3, e4⟩ := hagree c
  have en : r.2.mem ((c.tc : Thread Cert.Plain0Ideal.nD Cert.Plain0Ideal.τ).loc Cert.Plain0Ideal.main_v71) = (Cert.Layer0Ideal.Gen.dats m 0 c).arrAt 4 Cert.Layer0Ideal.cfg0.N := by
    refine Cert.Graph.ext fun b n q => (hn b n q).trans ?_
    rw [e0]
    exact (Cert.Layer0Ideal.Tile.result_apply c m (Cert.Graph.head_lt_top _ _ (hpre c)) b n q).symm
  refine ⟨hf.trans ?_, en, ha⟩
  rw [en, e0, e1, e2, e3, e4]

end Cert.Call0

end
-- ==== Proof.Layer1.lean ====
/- The kernel of layer 1: what one grid point writes, the array after all of them, and the host code after it. -/
module

public import proofs.«01_k».proof.Proof.Gen.Layer1Ideal.Frame
public import Idealize.ShloMosaic.Lib.Pipeline.Value
public import proofs.«01_k».proof.Proof.Tile
public import proofs.«01_k».proof.Proof.Conv

@[expose] public section

set_option maxRecDepth 16384

noncomputable section

namespace Cert.Layer1Ideal.Tile

open Cert.Layer1Ideal Cert.Layer1Ideal.Gen Idealize.ShloMosaic Idealize.ShloMosaic.TcCoe Idealize.SL.Sem
open Cert.Graph (sqDist feat)
open Cert.Tile (cloud row emb_eq axes keep)

/-- The mask's value. -/
abbrev big : Ideal .f32 := Named.named (F := Ideal) κ "taken" (φ := .f32) 0x7F61B1E6#32

/-- Whether a trip's pick is kept, and its place. -/
def bit (k : Fin k0_t1_loop.trips) : BitVec 1 := 1#1

@[inherit_doc bit] def word (k : Fin k0_t1_loop.trips) : BitVec 32 := Scalar.select 0#1 (Scalar.subi (trip_k0_t1.sl.v552 k) 1#32) (trip_k0_t1.sl.v552 k)

variable (𝒱 : Variants) (c : Dev nD) (bd : Option 𝒱.V) (i : grid0.Coords) (arg2 : Memref sig .tc .vmem S1x512x1 .f32) (harg2 : arg2.IsWhole)
  (arg3 : Memref sig .tc .vmem S1x512x16 .f32) (harg3 : arg3.IsWhole) (arg4 : Memref sig .tc .vmem S1x16x4096 .f32) (harg4 : arg4.IsWhole)
  (arg5 : Memref sig .tc .vmem S1x1x4096 .f32) (harg5 : arg5.IsWhole) (arg6 : Memref sig .tc .vmem S1x512x20 .i32) (harg6 : arg6.IsWhole)
  (arg7 : Memref sig .tc .vmem S512x4096 .f32) (harg7 : arg7.IsWhole)

/-- A trip of the loop is the generic trip. -/
theorem trip_eq (k : Fin k0_t1_loop.trips) (acc : IVec S512x20 32 × IVec S512x1 32) (f : BufTy.Contents (Elt Ideal) arg7.view.ty) :
    (tripR_k0_t1 (F := Ideal) 𝒱 c bd i arg2 harg2 arg3 harg3 arg4 harg4 arg5 harg5 arg6 harg6 arg7 harg7 kernelRun0_A.sl.v18 k acc f,
      tripL_k0_t1 (F := Ideal) 𝒱 c bd i arg2 harg2 arg3 harg3 arg4 harg4 arg5 harg5 arg6 harg6 arg7 harg7 kernelRun0_A.sl.v18 k acc f)
      = Trip.trip arg7 big kernelRun0_A.sl.v18 iota_S512x20_d1_w32 (bit k) (word k) acc f := by
  unfold tripR_k0_t1 tripL_k0_t1 trip_k0_t1
  dsimp only
  rfl

/-- The distances the kernel stores first. -/
theorem pay_apply (v0 : Vec Ideal S1x512x16 .f32) (v2 : Vec Ideal S1x16x4096 .f32) (v4 : Vec Ideal S1x512x1 .f32) (v6 : Vec Ideal S1x1x4096 .f32)
    (r : Fin 512) (y : Fin 4096) : k0_pay1 v0 v2 v4 v6 (ix2 r y) = Cert.Tile.tile (C := 16) v4 v0 v2 v6 r y := by
  unfold k0_pay1 Cert.Tile.tile Cert.Graph.mix
  pointwise

/-- What a grid point writes. -/
theorem block (x0 : Vec Ideal S1x512x1 .f32) (x1 : Vec Ideal S1x512x16 .f32) (x2 : Vec Ideal S1x16x4096 .f32) (x3 : Vec Ideal S1x1x4096 .f32) :
    (∀ r y, Cert.Tile.tile (C := 16) x0 x1 x2 x3 r y < ⊤) → ∀ (r : Fin 512) (q : Fin 20),
    out0_A_4 c i arg2 harg2 arg3 harg3 arg4 harg4 arg5 harg5 arg6 harg6 arg7 harg7 x0 x1 x2 x3 (ix3 0 r q)
      = Trip.pickW (Cert.Tile.tile (C := 16) x0 x1 x2 x3 r) (1 * q.val) :=
  Cert.Tile.block arg2 harg2 arg3 harg3 arg4 harg4 arg5 harg5 arg7 VO0_4 big rfl kernelRun0_A.sl.v18 (Cert.Tile.iota_apply iota_S512x4096_d1_w32) iota_S512x20_d1_w32 1 k0_t1_loop.trips
    (by decide) (by decide) (by decide) (bit) (word) (by decide +kernel) k0_pay1 pay_apply x0 x1 x2 x3 _ _ _ _ _ _ _
    (arg7.view.writes (Elt Ideal) arg7.view.junk (kernelRun0_A.sl.HS0_1 c arg2 harg2 arg3 harg3 arg4 harg4 arg5 harg5 x0 x1 x2 x3)) rfl
    (st_k0_t1 Variants.none c none i arg2 harg2 arg3 harg3 arg4 harg4 arg5 harg5 arg6 harg6 arg7 harg7 kernelRun0_A.sl.v18 _ (k0_pay2, k0_pay3))
    rfl (fun k => by
      rw [← trip_eq Variants.none c none i arg2 harg2 arg3 harg3 arg4 harg4 arg5 harg5 arg6 harg6 arg7 harg7 k]
      exact st_k0_t1_succ ..)

/-! ## The blocks and the array -/

/-- The block indices of the five windows. -/
theorem index_eq : ∀ t : Fin grid0.N, win0_0.index t = ![t.val / 8, t.val % 8, 0] ∧ win0_1.index t = ![t.val / 8, t.val % 8, 0]
    ∧ win0_2.index t = ![t.val / 8, 0, 0] ∧ win0_3.index t = ![t.val / 8, 0, 0] ∧ win0_4.index t = ![t.val / 8, t.val % 8, 0] := by decide +kernel

/-- Every grid point writes its block back. -/
theorem flush4 : ∀ t : Fin grid0.N, win0_4.flush t = true := by decide +kernel

/-- Two grid points write different blocks. -/
theorem index_inj : ∀ t t' : Fin grid0.N, win0_4.index t = win0_4.index t' → t = t' := by decide +kernel

variable (m : (ℓ : Loc nD τ sig) → Buf (Elt Ideal) ℓ)

/-- The array's block is what its grid point wrote back. -/
theorem block_eq (t : Fin cfg0.N) : ((cfg0.win 4).blk t).view.read (Elt Ideal) ((dats m 0 c).arrAt 4 cfg0.N) = (dats m 0 c).flushed 4 t :=
  (dats m 0 c).read_blk_arrAt_eq_flushed 4 (fun t t' _ _ hne => (cfg0.win 4).disjoint_blk fun h => hne (index_inj t t' h)) cfg0.N t t.isLt (flush4 t)

/-- What a grid point writes back is what its run left in the block. -/
theorem flushed_eq (t : Fin cfg0.N) : (dats m 0 c).flushed 4 t = (cfg0.win 4).cut (grid0.coords t) (out0_A_4 c (grid0.coords t) (ms0_0 t) (hs0_0 t) (ms0_1 t) (hs0_1 t)
    (ms0_2 t) (hs0_2 t) (ms0_3 t) (hs0_3 t) (ms0_4 t) (hs0_4 t) scM0_0 (Memref.isWhole_whole _) (iblk m c 0 t) (iblk m c 1 t) (iblk m c 2 t) (iblk m c 3 t)) := by
  show (cfg0.win 4).cut (grid0.coords t) ((dats m 0 c).after 4 t) = _
  rw [after0_4]
  simp only [outsAt0]

/-- The points as the host hands them to the kernel. -/
abbrev points : FVec Ideal S4x4096x16 .f32 := V m c main_v1

/-- Entry by entry they are the features. -/
theorem points_apply : (fun b n k => points c m (ix3 b n k)) = feat (m ((c.tc : Thread nD τ).loc main_arg0)) := by
  have e : points c m = transpose S4x4096x16 [0, 2, 1] (shapeCast S4x16x4096 (m ((c.tc : Thread nD τ).loc main_arg0)) shapeCasts_S4x16x4096x1_S4x16x4096) transposes_S4x16x4096_S4x4096x16_0_2_1 := by
    dsimp only [points, V, V0, List.flatten_cons, List.flatten_nil, List.cons_append, List.nil_append, hostOps0, hostOps0_1]
    after_results
    rfl
  funext b n k
  rw [e]
  unfold feat
  pointwise

/-- The squared norms as the host hands them to the kernel, the same along a row, and the points by channel. -/
theorem host_norms : @Eq (FVec Ideal S4x4096x1 .f32) (V m c main_call0_v2) (broadcastInDim S4x4096x1 ![0, 1] bcast_S4x4096_S4x4096x1_0_1
      (Host.reduceAdd (mulf (points c m) (points c m)) (constant S_ .f32 0x00000000#32) reducesTo_S4x4096x16_S4x4096_d2 h_S_))
    ∧ @Eq (FVec Ideal S4x1x4096 .f32) (V m c main_call0_v3) (transpose S4x1x4096 [0, 2, 1] (V m c main_call0_v2 : FVec Ideal S4x4096x1 .f32) transposes_S4x4096x1_S4x1x4096_0_2_1)
    ∧ @Eq (FVec Ideal S4x16x4096 .f32) (V m c main_call0_v4) (transpose S4x16x4096 [0, 2, 1] (points c m) transposes_S4x4096x16_S4x16x4096_0_2_1) := by
  dsimp only [points, V, V0, List.flatten_cons, List.flatten_nil, List.cons_append, List.nil_append, hostOps0, hostOps0_1]
  refine ⟨?_, ?_, ?_⟩ <;> (after_results; rfl)

/-- The kernel's result. -/
theorem result_apply : (∀ b n y, sqDist (feat (m ((c.tc : Thread nD τ).loc main_arg0))) b n y < ⊤) → ∀ (b : Fin 4) (n : Fin 4096) (q : Fin 20),
    ((dats m 0 c).arrAt 4 cfg0.N : IVec S4x4096x20 32) (ix3 b n q) = Trip.pickW (sqDist (feat (m ((c.tc : Thread nD τ).loc main_arg0))) b n) (1 * q.val) := by
  rw [← points_apply]
  exact Cert.Tile.result (points c m) reducesTo_S4x4096x16_S4x4096_d2 h_S_ bcast_S4x4096_S4x4096x1_0_1 transposes_S4x4096x1_S4x1x4096_0_2_1
    transposes_S4x4096x16_S4x16x4096_0_2_1 1 _ (fun t => (dats m 0 c).flushed 4 t) (iblk m c 0) (iblk m c 1) (iblk m c 2) (iblk m c 3)
    (fun t r q => (congrArg ((dats m 0 c).arrAt 4 cfg0.N : IVec S4x4096x20 32) (emb_eq win0_4 t (ix3 0 r q) (ix3 (cloud t) (row t r) q) rfl (index_eq t).2.2.2.2
      (axes (Nat.mul_one _) rfl (keep _ _))).symm).trans (congrFun (block_eq c m t) (ix3 0 r q)))
    (fun t hx r q => (congrFun (flushed_eq c m t) (ix3 0 r q)).trans (block c _ _ _ _ _ _ _ _ _ _ _ _ _ _ _ _ _ hx r q))
    (fun t r => (congrArg (V m c main_call0_v2 : FVec Ideal S4x4096x1 .f32) (emb_eq win0_0 t (ix3 0 r 0) (ix3 (cloud t) (row t r) 0) rfl (index_eq t).1
      (axes (Nat.mul_one _) rfl rfl))).trans (congrFun (host_norms c m).1 _))
    (fun t r k => congrArg (points c m) (emb_eq win0_1 t (ix3 0 r k) (ix3 (cloud t) (row t r) k) rfl (index_eq t).2.1 (axes (Nat.mul_one _) rfl (keep _ _))))
    (fun t k y => (congrArg (V m c main_call0_v4 : FVec Ideal S4x16x4096 .f32) (emb_eq win0_2 t (ix3 0 k y) (ix3 (cloud t) k y) rfl (index_eq t).2.2.1
      (axes (Nat.mul_one _) (keep _ _) (keep _ _)))).trans (congrFun (host_norms c m).2.2 _))
    (fun t y => (congrArg (V m c main_call0_v3 : FVec Ideal S4x1x4096 .f32) (emb_eq win0_3 t (ix3 0 0 y) (ix3 (cloud t) 0 y) rfl (index_eq t).2.2.2.1
      (axes (Nat.mul_one _) rfl (keep _ _)))).trans ((congrFun (host_norms c m).2.1 _).trans (by rw [(host_norms c m).1])))

/-! ## The host code after the kernel -/

/-- The edge convolution of layer 1, on a table of neighbours. -/
abbrev conv (x : FVec Ideal S4x16x4096x1 .f32) (near : IVec S4x4096x20 32) (W : FVec Ideal S16x32 .f32) (b gamma beta : FVec Ideal S16 .f32) : FVec Ideal S4x16x4096x1 .f32 :=
  Cert.Conv.conv gather_S4x16x4096_S4x4096x20x1_S4x16x4096x20_1_2_0_0_2_3_1161_wf concatenates_S4x16x4096x20_S4x16x4096x20_S4x32x4096x20_d1
    dot_S4x32x4096x20_S16x32_S4x4096x20x16_1_1_023_0_n_n_wf shapeCasts_S4x16x4096x1_S4x16x4096 x Cert.Conv.center near W b gamma beta

set_option maxHeartbeats 2000000 in
/-- The host code after the kernel, from any memory. -/
theorem tail_apply (W : Valuation τ sig (Elt Ideal)) : @Eq (FVec Ideal S4x16x4096x1 .f32) (StableHlo.after [hostOps1, hostOps1_1, hostOps1_2, hostOps1_3, hostOps1_4].flatten W (Proc.devRef .tc main_v50))
    (addf (conv (W (Proc.devRef .tc main_arg0)) (W (Proc.devRef .tc main_v2)) (W (Proc.devRef .tc main_arg1)) (W (Proc.devRef .tc main_arg2)) (W (Proc.devRef .tc main_arg3)) (W (Proc.devRef .tc main_arg4)))
      (W (Proc.devRef .tc main_arg0))) := by
  dsimp only [List.flatten_cons, List.flatten_nil, List.cons_append, List.nil_append, hostOps1, hostOps1_1, hostOps1_2, hostOps1_3, hostOps1_4]
  simp only [StableHlo.TRef.binary, StableHlo.TRef.nullary, StableHlo.TRef.ternary, StableHlo.TRef.unary, StableHlo.TRef.toBuf, StableHlo.TRef.ofBuf, cast_eq]
  after_results
  rfl

/-- The memory the host code after the kernel starts from. -/
abbrev mid : Valuation τ sig (Elt Ideal) := Pipeline.withArrays (cfgs 0).spec c (V0 m c) fun w => (dats m 0 c).arrAt w (cfgs 0).N

/-- It holds the kernel's array and the arguments. -/
theorem mid_apply : mid c m (Proc.devRef .tc main_v2) = (dats m 0 c).arrAt 4 cfg0.N ∧ mid c m (Proc.devRef .tc main_arg0) = m ((c.tc : Thread nD τ).loc main_arg0)
    ∧ mid c m (Proc.devRef .tc main_arg1) = m ((c.tc : Thread nD τ).loc main_arg1) ∧ mid c m (Proc.devRef .tc main_arg2) = m ((c.tc : Thread nD τ).loc main_arg2)
    ∧ mid c m (Proc.devRef .tc main_arg3) = m ((c.tc : Thread nD τ).loc main_arg3) ∧ mid c m (Proc.devRef .tc main_arg4) = m ((c.tc : Thread nD τ).loc main_arg4) :=
  ⟨Pipeline.withArrays_arr (cfgs 0).spec (by decide) c _ _ 4, (Pipeline.withArrays_of_ne _ c _ _ main_arg0 (by decide)).trans (V_main_arg0 m c),
    (Pipeline.withArrays_of_ne _ c _ _ main_arg1 (by decide)).trans (V_main_arg1 m c), (Pipeline.withArrays_of_ne _ c _ _ main_arg2 (by decide)).trans (V_main_arg2 m c),
    (Pipeline.withArrays_of_ne _ c _ _ main_arg3 (by decide)).trans (V_main_arg3 m c), (Pipeline.withArrays_of_ne _ c _ _ main_arg4 (by decide)).trans (V_main_arg4 m c)⟩

variable (ρ : Dev nD → PrngReg)

/-- The run: its results, and its arguments unchanged. -/
theorem run_apply : θ_run defs (onTc (τ := τ) (main (F := Ideal))) ⟨m, fun _ => 0, ρ⟩ fun r => ∀ c : Dev nD,
    (@Eq (FVec Ideal S4x16x4096x1 .f32) (r.2.mem ((c.tc : Thread nD τ).loc main_v50)) (addf (conv (m ((c.tc : Thread nD τ).loc main_arg0)) ((dats m 0 c).arrAt 4 cfg0.N)
          (m ((c.tc : Thread nD τ).loc main_arg1)) (m ((c.tc : Thread nD τ).loc main_arg2)) (m ((c.tc : Thread nD τ).loc main_arg3)) (m ((c.tc : Thread nD τ).loc main_arg4)))
          (m ((c.tc : Thread nD τ).loc main_arg0)))
      ∧ r.2.mem ((c.tc : Thread nD τ).loc main_v2) = (dats m 0 c).arrAt 4 cfg0.N)
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨⟨?_, (h.1 c).1 4⟩, h.2 c⟩) (θ_run_and (run_main m ρ) (unchanged m ρ))
  refine ((h.1 c).2 main_v50 (Pipeline.mem_restRefs_of main_v50 (by decide) (by decide))).trans ((tail_apply (mid c m)).trans ?_)
  obtain ⟨e, a0, a1, a2, a3, a4⟩ := mid_apply c m
  rw [e, a0, a1, a2, a3, a4]

end Cert.Layer1Ideal.Tile

end
-- ==== Proof.Plain1.lean ====
/- The reference of layer 1. -/
module

public import proofs.«01_k».proof.Proof.Gen.Plain1Ideal
public import proofs.«01_k».proof.Proof.Line
public import proofs.«01_k».proof.Proof.Conv

@[expose] public section

set_option maxRecDepth 16384

noncomputable section

namespace Cert.Plain1Ideal.Run

open Cert.Graph (sqDist feat)
open Cert.Plain1Ideal Cert.Plain1Ideal.Gen Idealize.SL Idealize.ShloMosaic Idealize.ShloMosaic.TcCoe Idealize.SL.Sem Idealize.ShloMosaic.StableHlo

set_option maxHeartbeats 4000000 in
/-- The first window of the reference's operations. -/
def line0 (c : Dev nD) : Line (main_part0 (F := Ideal) c) := by
  unfold main_part0
  repeat first | refine Line.cons _ ?_ | exact Line.nil | exact Line.one _

set_option maxHeartbeats 4000000 in
@[inherit_doc line0] def line1 (c : Dev nD) : Line (main_part1 (F := Ideal) c) := by
  unfold main_part1 fn_var.body fn_relu.body fn_where.body
  repeat first | refine Line.cons _ ?_ | exact Line.nil | exact Line.one _ | refine Line.append ?_ ?_

/-- The reference's operations. -/
def line (c : Dev nD) : Line (main (F := Ideal) c) := (line0 c).append (line1 c)

/-- The edge list: the operations up to it, and those after it. -/
def pre (c : Dev nD) : List (HloOp τ sig (Elt Ideal)) := (line c).ops.take 25

@[inherit_doc pre] def post (c : Dev nD) : List (HloOp τ sig (Elt Ideal)) := (line c).ops.drop 25

/-- The edge convolution of layer 1, on a table of neighbours. -/
abbrev conv (x : FVec Ideal S4x16x4096x1 .f32) (self near : IVec S4x4096x20 32) (W : FVec Ideal S16x32 .f32) (b gamma beta : FVec Ideal S16 .f32) : FVec Ideal S4x16x4096x1 .f32 :=
  Cert.Conv.conv gather_S4x16x4096_S4x4096x20x1_S4x16x4096x20_1_2_0_0_2_3_1161_wf concatenates_S4x16x4096x20_S4x16x4096x20_S4x32x4096x20_d1
    dot_S4x32x4096x20_S16x32_S4x4096x20x16_1_1_023_0_n_n_wf shapeCasts_S4x16x4096x1_S4x16x4096 x self near W b gamma beta

variable (W : Valuation τ sig (Elt Ideal)) (c : Dev nD)

/-- The row of the edge list that holds the neighbours, and the one that holds the points themselves. -/
def near (g : IVec S2x4x4096x20 32) : IVec S4x4096x20 32 :=
  shapeCast S4x4096x20 (extractStridedSlice S1x4x4096x20 ![0, 0, 0, 0] g slices_S2x4x4096x20_S1x4x4096x20_0_0_0_0) shapeCasts_S1x4x4096x20_S4x4096x20

@[inherit_doc near] def self (g : IVec S2x4x4096x20 32) : IVec S4x4096x20 32 :=
  shapeCast S4x4096x20 (extractStridedSlice S1x4x4096x20 ![1, 0, 0, 0] g slices_S2x4x4096x20_S1x4x4096x20_1_0_0_0) shapeCasts_S1x4x4096x20_S4x4096x20

set_option maxHeartbeats 2000000 in
/-- After the edge list the run computes the edge convolution, adds the features and returns the neighbours; the arguments stay. -/
theorem post_apply : @Eq (FVec Ideal S4x16x4096x1 .f32) (after (post c) W (Proc.devRef .tc main_v69))
      (addf (conv (W (Proc.devRef .tc main_arg0)) (self (W (Proc.devRef .tc main_v20))) (near (W (Proc.devRef .tc main_v20))) (W (Proc.devRef .tc main_arg1))
          (W (Proc.devRef .tc main_arg2)) (W (Proc.devRef .tc main_arg3)) (W (Proc.devRef .tc main_arg4)))
        (W (Proc.devRef .tc main_arg0)))
    ∧ @Eq (IVec S4x4096x20 32) (after (post c) W (Proc.devRef .tc main_v71)) (near (W (Proc.devRef .tc main_v20)))
    ∧ after (post c) W (Proc.devRef .tc main_arg0) = W (Proc.devRef .tc main_arg0) ∧ after (post c) W (Proc.devRef .tc main_arg1) = W (Proc.devRef .tc main_arg1)
    ∧ after (post c) W (Proc.devRef .tc main_arg2) = W (Proc.devRef .tc main_arg2) ∧ after (post c) W (Proc.devRef .tc main_arg3) = W (Proc.devRef .tc main_arg3)
    ∧ after (post c) W (Proc.devRef .tc main_arg4) = W (Proc.devRef .tc main_arg4) := by
  have e : after (post c) W = after (post c) W := rfl
  conv_rhs at e =>
    enter [1]
    dsimp only [id, post, line, line0, line1, Line.append, Line.cons, Line.nil, Line.one, List.cons_append, List.nil_append]
    whnf
  simp only [TRef.binary, TRef.nullary, TRef.ternary, TRef.unary, TRef.toBuf, TRef.ofBuf, cast_eq] at e
  rw [e]
  refine ⟨?_, ?_, ?_, ?_, ?_, ?_, ?_⟩ <;> after_results
  all_goals rfl

/-- The points, one per row. -/
abbrev points : FVec Ideal S4x4096x16 .f32 :=
  transpose S4x4096x16 [0, 2, 1] (shapeCast S4x16x4096 (W (Proc.devRef .tc main_arg0)) shapeCasts_S4x16x4096x1_S4x16x4096) transposes_S4x16x4096_S4x4096x16_0_2_1

/-- Entry by entry they are the features. -/
theorem points_apply : (fun b n k => points W (ix3 b n k)) = feat (W (Proc.devRef .tc main_arg0)) := by
  funext b n k
  unfold feat
  pointwise

set_option maxHeartbeats 2000000 in
/-- The edge list as the run computes it; the arguments stay. -/
theorem pre_apply : (∀ b n (q : Fin 20), near (after (pre c) W (Proc.devRef .tc main_v20)) (ix3 b n q) = Trip.pickW (sqDist (feat (W (Proc.devRef .tc main_arg0))) b n) (1 * q.val))
    ∧ self (after (pre c) W (Proc.devRef .tc main_v20)) = Cert.Conv.center
    ∧ after (pre c) W (Proc.devRef .tc main_arg0) = W (Proc.devRef .tc main_arg0) ∧ after (pre c) W (Proc.devRef .tc main_arg1) = W (Proc.devRef .tc main_arg1)
    ∧ after (pre c) W (Proc.devRef .tc main_arg2) = W (Proc.devRef .tc main_arg2) ∧ after (pre c) W (Proc.devRef .tc main_arg3) = W (Proc.devRef .tc main_arg3)
    ∧ after (pre c) W (Proc.devRef .tc main_arg4) = W (Proc.devRef .tc main_arg4) := by
  have e : after (pre c) W = after (pre c) W := rfl
  conv_rhs at e =>
    enter [1]
    dsimp only [id, pre, line, line0, line1, Line.append, Line.cons, Line.nil, Line.one, List.cons_append, List.nil_append]
    simp only [List.take_succ_cons, List.take_zero]
  rw [e]
  refine ⟨fun b n q => ?_, ?_, ?_, ?_, ?_, ?_, ?_⟩
  · have hq : 1 * q.val < 40 := by omega
    after_results
    refine (Cert.Graph.tail_apply _ _ _ _ _ _ b n q).trans ?_
    refine (Cert.Graph.pick_apply _ (sqDist (feat (W (Proc.devRef .tc main_arg0)))) (fun b n y => ?_) _ (by decide) b n q).trans (by rw [Nat.one_mul])
    exact (Cert.Graph.adj_apply (points W) _ _ _ _ _ _ _ _ _ b n y).trans (by rw [points_apply])
  · after_results
    exact Cert.Conv.self_eq _ _ _ _ (Cert.Conv.own_apply _ _) _ _
  all_goals after_results

variable (m : (ℓ : Loc nD τ sig) → Buf (Elt Ideal) ℓ) (ρ : Dev nD → PrngReg)

/-- The run: its two results, and its arguments unchanged. -/
theorem result_apply : θ_run defs (onTc (τ := τ) (main (F := Ideal))) ⟨m, fun _ => 0, ρ⟩ fun r => ∀ c : Dev nD,
    ((∀ b n (q : Fin 20), (r.2.mem ((c.tc : Thread nD τ).loc main_v71) : IVec S4x4096x20 32) (ix3 b n q) = Trip.pickW (sqDist (feat (m ((c.tc : Thread nD τ).loc main_arg0))) b n) (1 * q.val))
      ∧ @Eq (FVec Ideal S4x16x4096x1 .f32) (r.2.mem ((c.tc : Thread nD τ).loc main_v69)) (addf (conv (m ((c.tc : Thread nD τ).loc main_arg0)) Cert.Conv.center (r.2.mem ((c.tc : Thread nD τ).loc main_v71))
          (m ((c.tc : Thread nD τ).loc main_arg1)) (m ((c.tc : Thread nD τ).loc main_arg2)) (m ((c.tc : Thread nD τ).loc main_arg3)) (m ((c.tc : Thread nD τ).loc main_arg4)))
          (m ((c.tc : Thread nD τ).loc main_arg0))))
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (run_seq (by decide) (by decide) defs main (fun c => (line c).ops) (fun c => (line c).eq) (fun c => (line c).bufs) m ρ (fun c => (line c).fresh))
  obtain ⟨p0, p1, a0, a1, a2, a3, a4⟩ := pre_apply (launchContents m c) c
  obtain ⟨q0, q1, k0, k1, k2, k3, k4⟩ := post_apply (after (pre c) (launchContents m c)) c
  have e : ∀ b : Ref sig .tc, r.2.mem ((c.tc : Thread nD τ).loc b) = after (post c) (after (pre c) (launchContents m c)) (Proc.devRef .tc b) := fun b =>
    (h c b).trans (congrFun (after_split 25 (line c).ops (launchContents m c)) _)
  refine ⟨⟨fun b n q => ?_, ?_⟩, (e _).trans (k0.trans a0), (e _).trans (k1.trans a1), (e _).trans (k2.trans a2), (e _).trans (k3.trans a3), (e _).trans (k4.trans a4)⟩
  · rw [e, q1]
    exact p0 b n q
  · rw [e, e, q0, q1, p1, a0, a1, a2, a3, a4]

end Cert.Plain1Ideal.Run

end
-- ==== Proof.Call1.lean ====
/- The claims of layer 1. -/
module

public import proofs.«01_k».proof.Defs
public import proofs.«01_k».proof.Proof.Gen.Layer1.Frame
public import proofs.«01_k».proof.Proof.Gen.Pre_finite_feat
public import proofs.«01_k».proof.Proof.Layer1
public import proofs.«01_k».proof.Proof.Plain1

@[expose] public section

noncomputable section

namespace Cert.Call1

open Idealize.ShloMosaic Idealize.ShloMosaic.TcCoe Idealize.SL.Sem

/-- The facts the programs of this layer and their precondition state. -/
local instance facts : Cert.Layer1.Facts := Cert.Layer1.Gen.facts
@[inherit_doc facts] local instance factsI : Cert.Layer1Ideal.Facts := Cert.Layer1Ideal.Gen.facts
@[inherit_doc facts] local instance factsR : Cert.Plain1Ideal.Facts := Cert.Plain1Ideal.Gen.facts
@[inherit_doc facts] local instance factsP : Cert.Pre_finite_feat.Facts := Cert.Pre_finite_feat.Gen.facts

/-- The reference leaves its arguments and its counters alone. -/
theorem frame_ref : Cert.quiescent_Plain1Ideal := fun m ρ _ =>
  (θ_run _ _ _).mono (fun r h => ⟨fun c => (h c).2, sem_eq_zero_of_no_sems (by decide) r.2⟩) (Cert.Plain1Ideal.Run.result_apply m ρ)

/-- On finite features the kernel's layer is the reference's. -/
theorem algebraic : Cert.algebraic_Layer1Ideal_Plain1Ideal_pre_finite_feat := by
  intro m g m' g' hpre hagree
  refine ⟨_, _, (θ_run _ _ _).mono (fun r h c => ⟨(h c).1.1, (h c).1.2, (h c).2⟩) (Cert.Layer1Ideal.Tile.run_apply m g), (θ_run _ _ _).mono (fun r h c => ?_) (Cert.Plain1Ideal.Run.result_apply m' g')⟩
  obtain ⟨⟨hn, hf⟩, ha⟩ := h c
  obtain ⟨e0, e1, e2, e3, e4⟩ := hagree c
  have en : r.2.mem ((c.tc : Thread Cert.Plain1Ideal.nD Cert.Plain1Ideal.τ).loc Cert.Plain1Ideal.main_v71) = (Cert.Layer1Ideal.Gen.dats m 0 c).arrAt 4 Cert.Layer1Ideal.cfg0.N := by
    refine Cert.Graph.ext fun b n q => (hn b n q).trans ?_
    rw [e0]
    exact (Cert.Layer1Ideal.Tile.result_apply c m (Cert.Graph.feat_lt_top _ _ (hpre c)) b n q).symm
  refine ⟨hf.trans ?_, en, ha⟩
  rw [en, e0, e1, e2, e3, e4]

end Cert.Call1

end
-- ==== Proof.Layer2.lean ====
/- The kernel of layer 2: what one grid point writes, the array after all of them, and the host code after it. -/
module

public import proofs.«01_k».proof.Proof.Gen.Layer2Ideal.Frame
public import Idealize.ShloMosaic.Lib.Pipeline.Value
public import proofs.«01_k».proof.Proof.Tile
public import proofs.«01_k».proof.Proof.Conv

@[expose] public section

set_option maxRecDepth 16384

noncomputable section

namespace Cert.Layer2Ideal.Tile

open Cert.Layer2Ideal Cert.Layer2Ideal.Gen Idealize.ShloMosaic Idealize.ShloMosaic.TcCoe Idealize.SL.Sem
open Cert.Graph (sqDist feat)
open Cert.Tile (cloud row emb_eq axes keep)

/-- The mask's value. -/
abbrev big : Ideal .f32 := Named.named (F := Ideal) κ "taken" (φ := .f32) 0x7F61B1E6#32

/-- Whether a trip's pick is kept, and its place. -/
def bit (k : Fin k0_t1_loop.trips) : BitVec 1 := trip_k0_t1.sl.v551 k

@[inherit_doc bit] def word (k : Fin k0_t1_loop.trips) : BitVec 32 := Scalar.select 0#1 (Scalar.subi (trip_k0_t1.sl.v552 k) 1#32) (trip_k0_t1.sl.v552 k)

variable (𝒱 : Variants) (c : Dev nD) (bd : Option 𝒱.V) (i : grid0.Coords) (arg2 : Memref sig .tc .vmem S1x512x1 .f32) (harg2 : arg2.IsWhole)
  (arg3 : Memref sig .tc .vmem S1x512x16 .f32) (harg3 : arg3.IsWhole) (arg4 : Memref sig .tc .vmem S1x16x4096 .f32) (harg4 : arg4.IsWhole)
  (arg5 : Memref sig .tc .vmem S1x1x4096 .f32) (harg5 : arg5.IsWhole) (arg6 : Memref sig .tc .vmem S1x512x20 .i32) (harg6 : arg6.IsWhole)
  (arg7 : Memref sig .tc .vmem S512x4096 .f32) (harg7 : arg7.IsWhole)

/-- A trip of the loop is the generic trip. -/
theorem trip_eq (k : Fin k0_t1_loop.trips) (acc : IVec S512x20 32 × IVec S512x1 32) (f : BufTy.Contents (Elt Ideal) arg7.view.ty) :
    (tripR_k0_t1 (F := Ideal) 𝒱 c bd i arg2 harg2 arg3 harg3 arg4 harg4 arg5 harg5 arg6 harg6 arg7 harg7 kernelRun0_A.sl.v18 k acc f,
      tripL_k0_t1 (F := Ideal) 𝒱 c bd i arg2 harg2 arg3 harg3 arg4 harg4 arg5 harg5 arg6 harg6 arg7 harg7 kernelRun0_A.sl.v18 k acc f)
      = Trip.trip arg7 big kernelRun0_A.sl.v18 iota_S512x20_d1_w32 (bit k) (word k) acc f := by
  unfold tripR_k0_t1 tripL_k0_t1 trip_k0_t1
  dsimp only
  rfl

/-- The distances the kernel stores first. -/
theorem pay_apply (v0 : Vec Ideal S1x512x16 .f32) (v2 : Vec Ideal S1x16x4096 .f32) (v4 : Vec Ideal S1x512x1 .f32) (v6 : Vec Ideal S1x1x4096 .f32)
    (r : Fin 512) (y : Fin 4096) : k0_pay1 v0 v2 v4 v6 (ix2 r y) = Cert.Tile.tile (C := 16) v4 v0 v2 v6 r y := by
  unfold k0_pay1 Cert.Tile.tile Cert.Graph.mix
  pointwise

/-- What a grid point writes. -/
theorem block (x0 : Vec Ideal S1x512x1 .f32) (x1 : Vec Ideal S1x512x16 .f32) (x2 : Vec Ideal S1x16x4096 .f32) (x3 : Vec Ideal S1x1x4096 .f32) :
    (∀ r y, Cert.Tile.tile (C := 16) x0 x1 x2 x3 r y < ⊤) → ∀ (r : Fin 512) (q : Fin 20),
    out0_A_4 c i arg2 harg2 arg3 harg3 arg4 harg4 arg5 harg5 arg6 harg6 arg7 harg7 x0 x1 x2 x3 (ix3 0 r q)
      = Trip.pickW (Cert.Tile.tile (C := 16) x0 x1 x2 x3 r) (2 * q.val) :=
  Cert.Tile.block arg2 harg2 arg3 harg3 arg4 harg4 arg5 harg5 arg7 VO0_4 big rfl kernelRun0_A.sl.v18 (Cert.Tile.iota_apply iota_S512x4096_d1_w32) iota_S512x20_d1_w32 2 k0_t1_loop.trips
    (by decide) (by decide) (by decide) (bit) (word) (by decide +kernel) k0_pay1 pay_apply x0 x1 x2 x3 _ _ _ _ _ _ _
    (arg7.view.writes (Elt Ideal) arg7.view.junk (kernelRun0_A.sl.HS0_1 c arg2 harg2 arg3 harg3 arg4 harg4 arg5 harg5 x0 x1 x2 x3)) rfl
    (st_k0_t1 Variants.none c none i arg2 harg2 arg3 harg3 arg4 harg4 arg5 harg5 arg6 harg6 arg7 harg7 kernelRun0_A.sl.v18 _ (k0_pay2, k0_pay3))
    rfl (fun k => by
      rw [← trip_eq Variants.none c none i arg2 harg2 arg3 harg3 arg4 harg4 arg5 harg5 arg6 harg6 arg7 harg7 k]
      exact st_k0_t1_succ ..)

/-! ## The blocks and the array -/

/-- The block indices of the five windows. -/
theorem index_eq : ∀ t : Fin grid0.N, win0_0.index t = ![t.val / 8, t.val % 8, 0] ∧ win0_1.index t = ![t.val / 8, t.val % 8, 0]
    ∧ win0_2.index t = ![t.val / 8, 0, 0] ∧ win0_3.index t = ![t.val / 8, 0, 0] ∧ win0_4.index t = ![t.val / 8, t.val % 8, 0] := by decide +kernel

/-- Every grid point writes its block back. -/
theorem flush4 : ∀ t : Fin grid0.N, win0_4.flush t = true := by decide +kernel

/-- Two grid points write different blocks. -/
theorem index_inj : ∀ t t' : Fin grid0.N, win0_4.index t = win0_4.index t' → t = t' := by decide +kernel

variable (m : (ℓ : Loc nD τ sig) → Buf (Elt Ideal) ℓ)

/-- The array's block is what its grid point wrote back. -/
theorem block_eq (t : Fin cfg0.N) : ((cfg0.win 4).blk t).view.read (Elt Ideal) ((dats m 0 c).arrAt 4 cfg0.N) = (dats m 0 c).flushed 4 t :=
  (dats m 0 c).read_blk_arrAt_eq_flushed 4 (fun t t' _ _ hne => (cfg0.win 4).disjoint_blk fun h => hne (index_inj t t' h)) cfg0.N t t.isLt (flush4 t)

/-- What a grid point writes back is what its run left in the block. -/
theorem flushed_eq (t : Fin cfg0.N) : (dats m 0 c).flushed 4 t = (cfg0.win 4).cut (grid0.coords t) (out0_A_4 c (grid0.coords t) (ms0_0 t) (hs0_0 t) (ms0_1 t) (hs0_1 t)
    (ms0_2 t) (hs0_2 t) (ms0_3 t) (hs0_3 t) (ms0_4 t) (hs0_4 t) scM0_0 (Memref.isWhole_whole _) (iblk m c 0 t) (iblk m c 1 t) (iblk m c 2 t) (iblk m c 3 t)) := by
  show (cfg0.win 4).cut (grid0.coords t) ((dats m 0 c).after 4 t) = _
  rw [after0_4]
  simp only [outsAt0]

/-- The points as the host hands them to the kernel. -/
abbrev points : FVec Ideal S4x4096x16 .f32 := V m c main_v1

/-- Entry by entry they are the features. -/
theorem points_apply : (fun b n k => points c m (ix3 b n k)) = feat (m ((c.tc : Thread nD τ).loc main_arg0)) := by
  have e : points c m = transpose S4x4096x16 [0, 2, 1] (shapeCast S4x16x4096 (m ((c.tc : Thread nD τ).loc main_arg0)) shapeCasts_S4x16x4096x1_S4x16x4096) transposes_S4x16x4096_S4x4096x16_0_2_1 := by
    dsimp only [points, V, V0, List.flatten_cons, List.flatten_nil, List.cons_append, List.nil_append, hostOps0, hostOps0_1]
    after_results
    rfl
  funext b n k
  rw [e]
  unfold feat
  pointwise

/-- The squared norms as the host hands them to the kernel, the same along a row, and the points by channel. -/
theorem host_norms : @Eq (FVec Ideal S4x4096x1 .f32) (V m c main_call0_v2) (broadcastInDim S4x4096x1 ![0, 1] bcast_S4x4096_S4x4096x1_0_1
      (Host.reduceAdd (mulf (points c m) (points c m)) (constant S_ .f32 0x00000000#32) reducesTo_S4x4096x16_S4x4096_d2 h_S_))
    ∧ @Eq (FVec Ideal S4x1x4096 .f32) (V m c main_call0_v3) (transpose S4x1x4096 [0, 2, 1] (V m c main_call0_v2 : FVec Ideal S4x4096x1 .f32) transposes_S4x4096x1_S4x1x4096_0_2_1)
    ∧ @Eq (FVec Ideal S4x16x4096 .f32) (V m c main_call0_v4) (transpose S4x16x4096 [0, 2, 1] (points c m) transposes_S4x4096x16_S4x16x4096_0_2_1) := by
  dsimp only [points, V, V0, List.flatten_cons, List.flatten_nil, List.cons_append, List.nil_append, hostOps0, hostOps0_1]
  refine ⟨?_, ?_, ?_⟩ <;> (after_results; rfl)

/-- The kernel's result. -/
theorem result_apply : (∀ b n y, sqDist (feat (m ((c.tc : Thread nD τ).loc main_arg0))) b n y < ⊤) → ∀ (b : Fin 4) (n : Fin 4096) (q : Fin 20),
    ((dats m 0 c).arrAt 4 cfg0.N : IVec S4x4096x20 32) (ix3 b n q) = Trip.pickW (sqDist (feat (m ((c.tc : Thread nD τ).loc main_arg0))) b n) (2 * q.val) := by
  rw [← points_apply]
  exact Cert.Tile.result (points c m) reducesTo_S4x4096x16_S4x4096_d2 h_S_ bcast_S4x4096_S4x4096x1_0_1 transposes_S4x4096x1_S4x1x4096_0_2_1
    transposes_S4x4096x16_S4x16x4096_0_2_1 2 _ (fun t => (dats m 0 c).flushed 4 t) (iblk m c 0) (iblk m c 1) (iblk m c 2) (iblk m c 3)
    (fun t r q => (congrArg ((dats m 0 c).arrAt 4 cfg0.N : IVec S4x4096x20 32) (emb_eq win0_4 t (ix3 0 r q) (ix3 (cloud t) (row t r) q) rfl (index_eq t).2.2.2.2
      (axes (Nat.mul_one _) rfl (keep _ _))).symm).trans (congrFun (block_eq c m t) (ix3 0 r q)))
    (fun t hx r q => (congrFun (flushed_eq c m t) (ix3 0 r q)).trans (block c _ _ _ _ _ _ _ _ _ _ _ _ _ _ _ _ _ hx r q))
    (fun t r => (congrArg (V m c main_call0_v2 : FVec Ideal S4x4096x1 .f32) (emb_eq win0_0 t (ix3 0 r 0) (ix3 (cloud t) (row t r) 0) rfl (index_eq t).1
      (axes (Nat.mul_one _) rfl rfl))).trans (congrFun (host_norms c m).1 _))
    (fun t r k => congrArg (points c m) (emb_eq win0_1 t (ix3 0 r k) (ix3 (cloud t) (row t r) k) rfl (index_eq t).2.1 (axes (Nat.mul_one _) rfl (keep _ _))))
    (fun t k y => (congrArg (V m c main_call0_v4 : FVec Ideal S4x16x4096 .f32) (emb_eq win0_2 t (ix3 0 k y) (ix3 (cloud t) k y) rfl (index_eq t).2.2.1
      (axes (Nat.mul_one _) (keep _ _) (keep _ _)))).trans (congrFun (host_norms c m).2.2 _))
    (fun t y => (congrArg (V m c main_call0_v3 : FVec Ideal S4x1x4096 .f32) (emb_eq win0_3 t (ix3 0 0 y) (ix3 (cloud t) 0 y) rfl (index_eq t).2.2.2.1
      (axes (Nat.mul_one _) rfl (keep _ _)))).trans ((congrFun (host_norms c m).2.1 _).trans (by rw [(host_norms c m).1])))

/-! ## The host code after the kernel -/

/-- The edge convolution of layer 2, on a table of neighbours. -/
abbrev conv (x : FVec Ideal S4x16x4096x1 .f32) (near : IVec S4x4096x20 32) (W : FVec Ideal S16x32 .f32) (b gamma beta : FVec Ideal S16 .f32) : FVec Ideal S4x16x4096x1 .f32 :=
  Cert.Conv.conv gather_S4x16x4096_S4x4096x20x1_S4x16x4096x20_1_2_0_0_2_3_1161_wf concatenates_S4x16x4096x20_S4x16x4096x20_S4x32x4096x20_d1
    dot_S4x32x4096x20_S16x32_S4x4096x20x16_1_1_023_0_n_n_wf shapeCasts_S4x16x4096x1_S4x16x4096 x Cert.Conv.center near W b gamma beta

set_option maxHeartbeats 2000000 in
/-- The host code after the kernel, from any memory. -/
theorem tail_apply (W : Valuation τ sig (Elt Ideal)) : @Eq (FVec Ideal S4x16x4096x1 .f32) (StableHlo.after [hostOps1, hostOps1_1, hostOps1_2, hostOps1_3, hostOps1_4].flatten W (Proc.devRef .tc main_v50))
    (addf (conv (W (Proc.devRef .tc main_arg0)) (W (Proc.devRef .tc main_v2)) (W (Proc.devRef .tc main_arg1)) (W (Proc.devRef .tc main_arg2)) (W (Proc.devRef .tc main_arg3)) (W (Proc.devRef .tc main_arg4)))
      (W (Proc.devRef .tc main_arg0))) := by
  dsimp only [List.flatten_cons, List.flatten_nil, List.cons_append, List.nil_append, hostOps1, hostOps1_1, hostOps1_2, hostOps1_3, hostOps1_4]
  simp only [StableHlo.TRef.binary, StableHlo.TRef.nullary, StableHlo.TRef.ternary, StableHlo.TRef.unary, StableHlo.TRef.toBuf, StableHlo.TRef.ofBuf, cast_eq]
  after_results
  rfl

/-- The memory the host code after the kernel starts from. -/
abbrev mid : Valuation τ sig (Elt Ideal) := Pipeline.withArrays (cfgs 0).spec c (V0 m c) fun w => (dats m 0 c).arrAt w (cfgs 0).N

/-- It holds the kernel's array and the arguments. -/
theorem mid_apply : mid c m (Proc.devRef .tc main_v2) = (dats m 0 c).arrAt 4 cfg0.N ∧ mid c m (Proc.devRef .tc main_arg0) = m ((c.tc : Thread nD τ).loc main_arg0)
    ∧ mid c m (Proc.devRef .tc main_arg1) = m ((c.tc : Thread nD τ).loc main_arg1) ∧ mid c m (Proc.devRef .tc main_arg2) = m ((c.tc : Thread nD τ).loc main_arg2)
    ∧ mid c m (Proc.devRef .tc main_arg3) = m ((c.tc : Thread nD τ).loc main_arg3) ∧ mid c m (Proc.devRef .tc main_arg4) = m ((c.tc : Thread nD τ).loc main_arg4) :=
  ⟨Pipeline.withArrays_arr (cfgs 0).spec (by decide) c _ _ 4, (Pipeline.withArrays_of_ne _ c _ _ main_arg0 (by decide)).trans (V_main_arg0 m c),
    (Pipeline.withArrays_of_ne _ c _ _ main_arg1 (by decide)).trans (V_main_arg1 m c), (Pipeline.withArrays_of_ne _ c _ _ main_arg2 (by decide)).trans (V_main_arg2 m c),
    (Pipeline.withArrays_of_ne _ c _ _ main_arg3 (by decide)).trans (V_main_arg3 m c), (Pipeline.withArrays_of_ne _ c _ _ main_arg4 (by decide)).trans (V_main_arg4 m c)⟩

variable (ρ : Dev nD → PrngReg)

/-- The run: its results, and its arguments unchanged. -/
theorem run_apply : θ_run defs (onTc (τ := τ) (main (F := Ideal))) ⟨m, fun _ => 0, ρ⟩ fun r => ∀ c : Dev nD,
    (@Eq (FVec Ideal S4x16x4096x1 .f32) (r.2.mem ((c.tc : Thread nD τ).loc main_v50)) (addf (conv (m ((c.tc : Thread nD τ).loc main_arg0)) ((dats m 0 c).arrAt 4 cfg0.N)
          (m ((c.tc : Thread nD τ).loc main_arg1)) (m ((c.tc : Thread nD τ).loc main_arg2)) (m ((c.tc : Thread nD τ).loc main_arg3)) (m ((c.tc : Thread nD τ).loc main_arg4)))
          (m ((c.tc : Thread nD τ).loc main_arg0)))
      ∧ r.2.mem ((c.tc : Thread nD τ).loc main_v2) = (dats m 0 c).arrAt 4 cfg0.N)
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨⟨?_, (h.1 c).1 4⟩, h.2 c⟩) (θ_run_and (run_main m ρ) (unchanged m ρ))
  refine ((h.1 c).2 main_v50 (Pipeline.mem_restRefs_of main_v50 (by decide) (by decide))).trans ((tail_apply (mid c m)).trans ?_)
  obtain ⟨e, a0, a1, a2, a3, a4⟩ := mid_apply c m
  rw [e, a0, a1, a2, a3, a4]

end Cert.Layer2Ideal.Tile

end
-- ==== Proof.Plain2.lean ====
/- The reference of layer 2. -/
module

public import proofs.«01_k».proof.Proof.Gen.Plain2Ideal
public import proofs.«01_k».proof.Proof.Line
public import proofs.«01_k».proof.Proof.Conv

@[expose] public section

set_option maxRecDepth 16384

noncomputable section

namespace Cert.Plain2Ideal.Run

open Cert.Graph (sqDist feat)
open Cert.Plain2Ideal Cert.Plain2Ideal.Gen Idealize.SL Idealize.ShloMosaic Idealize.ShloMosaic.TcCoe Idealize.SL.Sem Idealize.ShloMosaic.StableHlo

set_option maxHeartbeats 4000000 in
/-- The first window of the reference's operations. -/
def line0 (c : Dev nD) : Line (main_part0 (F := Ideal) c) := by
  unfold main_part0
  repeat first | refine Line.cons _ ?_ | exact Line.nil | exact Line.one _

set_option maxHeartbeats 4000000 in
@[inherit_doc line0] def line1 (c : Dev nD) : Line (main_part1 (F := Ideal) c) := by
  unfold main_part1 fn_var.body fn_relu.body fn_where.body
  repeat first | refine Line.cons _ ?_ | exact Line.nil | exact Line.one _ | refine Line.append ?_ ?_

/-- The reference's operations. -/
def line (c : Dev nD) : Line (main (F := Ideal) c) := (line0 c).append (line1 c)

/-- The edge list: the operations up to it, and those after it. -/
def pre (c : Dev nD) : List (HloOp τ sig (Elt Ideal)) := (line c).ops.take 26

@[inherit_doc pre] def post (c : Dev nD) : List (HloOp τ sig (Elt Ideal)) := (line c).ops.drop 26

/-- The edge convolution of layer 2, on a table of neighbours. -/
abbrev conv (x : FVec Ideal S4x16x4096x1 .f32) (self near : IVec S4x4096x20 32) (W : FVec Ideal S16x32 .f32) (b gamma beta : FVec Ideal S16 .f32) : FVec Ideal S4x16x4096x1 .f32 :=
  Cert.Conv.conv gather_S4x16x4096_S4x4096x20x1_S4x16x4096x20_1_2_0_0_2_3_1161_wf concatenates_S4x16x4096x20_S4x16x4096x20_S4x32x4096x20_d1
    dot_S4x32x4096x20_S16x32_S4x4096x20x16_1_1_023_0_n_n_wf shapeCasts_S4x16x4096x1_S4x16x4096 x self near W b gamma beta

variable (W : Valuation τ sig (Elt Ideal)) (c : Dev nD)

/-- The row of the edge list that holds the neighbours, and the one that holds the points themselves. -/
def near (g : IVec S2x4x4096x20 32) : IVec S4x4096x20 32 :=
  shapeCast S4x4096x20 (extractStridedSlice S1x4x4096x20 ![0, 0, 0, 0] g slices_S2x4x4096x20_S1x4x4096x20_0_0_0_0) shapeCasts_S1x4x4096x20_S4x4096x20

@[inherit_doc near] def self (g : IVec S2x4x4096x20 32) : IVec S4x4096x20 32 :=
  shapeCast S4x4096x20 (extractStridedSlice S1x4x4096x20 ![1, 0, 0, 0] g slices_S2x4x4096x20_S1x4x4096x20_1_0_0_0) shapeCasts_S1x4x4096x20_S4x4096x20

set_option maxHeartbeats 2000000 in
/-- After the edge list the run computes the edge convolution, adds the features and returns the neighbours; the arguments stay. -/
theorem post_apply : @Eq (FVec Ideal S4x16x4096x1 .f32) (after (post c) W (Proc.devRef .tc main_v70))
      (addf (conv (W (Proc.devRef .tc main_arg0)) (self (W (Proc.devRef .tc main_v21))) (near (W (Proc.devRef .tc main_v21))) (W (Proc.devRef .tc main_arg1))
          (W (Proc.devRef .tc main_arg2)) (W (Proc.devRef .tc main_arg3)) (W (Proc.devRef .tc main_arg4)))
        (W (Proc.devRef .tc main_arg0)))
    ∧ @Eq (IVec S4x4096x20 32) (after (post c) W (Proc.devRef .tc main_v72)) (near (W (Proc.devRef .tc main_v21)))
    ∧ after (post c) W (Proc.devRef .tc main_arg0) = W (Proc.devRef .tc main_arg0) ∧ after (post c) W (Proc.devRef .tc main_arg1) = W (Proc.devRef .tc main_arg1)
    ∧ after (post c) W (Proc.devRef .tc main_arg2) = W (Proc.devRef .tc main_arg2) ∧ after (post c) W (Proc.devRef .tc main_arg3) = W (Proc.devRef .tc main_arg3)
    ∧ after (post c) W (Proc.devRef .tc main_arg4) = W (Proc.devRef .tc main_arg4) := by
  have e : after (post c) W = after (post c) W := rfl
  conv_rhs at e =>
    enter [1]
    dsimp only [id, post, line, line0, line1, Line.append, Line.cons, Line.nil, Line.one, List.cons_append, List.nil_append]
    whnf
  simp only [TRef.binary, TRef.nullary, TRef.ternary, TRef.unary, TRef.toBuf, TRef.ofBuf, cast_eq] at e
  rw [e]
  refine ⟨?_, ?_, ?_, ?_, ?_, ?_, ?_⟩ <;> after_results
  all_goals rfl

/-- The points, one per row. -/
abbrev points : FVec Ideal S4x4096x16 .f32 :=
  transpose S4x4096x16 [0, 2, 1] (shapeCast S4x16x4096 (W (Proc.devRef .tc main_arg0)) shapeCasts_S4x16x4096x1_S4x16x4096) transposes_S4x16x4096_S4x4096x16_0_2_1

/-- Entry by entry they are the features. -/
theorem points_apply : (fun b n k => points W (ix3 b n k)) = feat (W (Proc.devRef .tc main_arg0)) := by
  funext b n k
  unfold feat
  pointwise

set_option maxHeartbeats 2000000 in
/-- The edge list as the run computes it; the arguments stay. -/
theorem pre_apply : (∀ b n (q : Fin 20), near (after (pre c) W (Proc.devRef .tc main_v21)) (ix3 b n q) = Trip.pickW (sqDist (feat (W (Proc.devRef .tc main_arg0))) b n) (2 * q.val))
    ∧ self (after (pre c) W (Proc.devRef .tc main_v21)) = Cert.Conv.center
    ∧ after (pre c) W (Proc.devRef .tc main_arg0) = W (Proc.devRef .tc main_arg0) ∧ after (pre c) W (Proc.devRef .tc main_arg1) = W (Proc.devRef .tc main_arg1)
    ∧ after (pre c) W (Proc.devRef .tc main_arg2) = W (Proc.devRef .tc main_arg2) ∧ after (pre c) W (Proc.devRef .tc main_arg3) = W (Proc.devRef .tc main_arg3)
    ∧ after (pre c) W (Proc.devRef .tc main_arg4) = W (Proc.devRef .tc main_arg4) := by
  have e : after (pre c) W = after (pre c) W := rfl
  conv_rhs at e =>
    enter [1]
    dsimp only [id, pre, line, line0, line1, Line.append, Line.cons, Line.nil, Line.one, List.cons_append, List.nil_append]
    simp only [List.take_succ_cons, List.take_zero]
  rw [e]
  refine ⟨fun b n q => ?_, ?_, ?_, ?_, ?_, ?_, ?_⟩
  · have hq : 2 * q.val < 40 := by omega
    after_results
    refine (Cert.Graph.tail_dil_apply _ _ _ _ _ _ _ b n q hq).trans ?_
    refine Cert.Graph.pick_apply _ (sqDist (feat (W (Proc.devRef .tc main_arg0)))) (fun b n y => ?_) _ (by decide) b n ⟨2 * q.val, hq⟩
    exact (Cert.Graph.adj_apply (points W) _ _ _ _ _ _ _ _ _ b n y).trans (by rw [points_apply])
  · after_results
    exact Cert.Conv.self_dil_eq _ _ _ _ (Cert.Conv.own_apply _ _) _ _ _ (fun q => by omega)
  all_goals after_results

variable (m : (ℓ : Loc nD τ sig) → Buf (Elt Ideal) ℓ) (ρ : Dev nD → PrngReg)

/-- The run: its two results, and its arguments unchanged. -/
theorem result_apply : θ_run defs (onTc (τ := τ) (main (F := Ideal))) ⟨m, fun _ => 0, ρ⟩ fun r => ∀ c : Dev nD,
    ((∀ b n (q : Fin 20), (r.2.mem ((c.tc : Thread nD τ).loc main_v72) : IVec S4x4096x20 32) (ix3 b n q) = Trip.pickW (sqDist (feat (m ((c.tc : Thread nD τ).loc main_arg0))) b n) (2 * q.val))
      ∧ @Eq (FVec Ideal S4x16x4096x1 .f32) (r.2.mem ((c.tc : Thread nD τ).loc main_v70)) (addf (conv (m ((c.tc : Thread nD τ).loc main_arg0)) Cert.Conv.center (r.2.mem ((c.tc : Thread nD τ).loc main_v72))
          (m ((c.tc : Thread nD τ).loc main_arg1)) (m ((c.tc : Thread nD τ).loc main_arg2)) (m ((c.tc : Thread nD τ).loc main_arg3)) (m ((c.tc : Thread nD τ).loc main_arg4)))
          (m ((c.tc : Thread nD τ).loc main_arg0))))
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (run_seq (by decide) (by decide) defs main (fun c => (line c).ops) (fun c => (line c).eq) (fun c => (line c).bufs) m ρ (fun c => (line c).fresh))
  obtain ⟨p0, p1, a0, a1, a2, a3, a4⟩ := pre_apply (launchContents m c) c
  obtain ⟨q0, q1, k0, k1, k2, k3, k4⟩ := post_apply (after (pre c) (launchContents m c)) c
  have e : ∀ b : Ref sig .tc, r.2.mem ((c.tc : Thread nD τ).loc b) = after (post c) (after (pre c) (launchContents m c)) (Proc.devRef .tc b) := fun b =>
    (h c b).trans (congrFun (after_split 26 (line c).ops (launchContents m c)) _)
  refine ⟨⟨fun b n q => ?_, ?_⟩, (e _).trans (k0.trans a0), (e _).trans (k1.trans a1), (e _).trans (k2.trans a2), (e _).trans (k3.trans a3), (e _).trans (k4.trans a4)⟩
  · rw [e, q1]
    exact p0 b n q
  · rw [e, e, q0, q1, p1, a0, a1, a2, a3, a4]

end Cert.Plain2Ideal.Run

end
-- ==== Proof.Call2.lean ====
/- The claims of layer 2. -/
module

public import proofs.«01_k».proof.Defs
public import proofs.«01_k».proof.Proof.Gen.Layer2.Frame
public import proofs.«01_k».proof.Proof.Gen.Pre_finite_feat
public import proofs.«01_k».proof.Proof.Layer2
public import proofs.«01_k».proof.Proof.Plain2

@[expose] public section

noncomputable section

namespace Cert.Call2

open Idealize.ShloMosaic Idealize.ShloMosaic.TcCoe Idealize.SL.Sem

/-- The facts the programs of this layer and their precondition state. -/
local instance facts : Cert.Layer2.Facts := Cert.Layer2.Gen.facts
@[inherit_doc facts] local instance factsI : Cert.Layer2Ideal.Facts := Cert.Layer2Ideal.Gen.facts
@[inherit_doc facts] local instance factsR : Cert.Plain2Ideal.Facts := Cert.Plain2Ideal.Gen.facts
@[inherit_doc facts] local instance factsP : Cert.Pre_finite_feat.Facts := Cert.Pre_finite_feat.Gen.facts

/-- The reference leaves its arguments and its counters alone. -/
theorem frame_ref : Cert.quiescent_Plain2Ideal := fun m ρ _ =>
  (θ_run _ _ _).mono (fun r h => ⟨fun c => (h c).2, sem_eq_zero_of_no_sems (by decide) r.2⟩) (Cert.Plain2Ideal.Run.result_apply m ρ)

/-- On finite features the kernel's layer is the reference's. -/
theorem algebraic : Cert.algebraic_Layer2Ideal_Plain2Ideal_pre_finite_feat := by
  intro m g m' g' hpre hagree
  refine ⟨_, _, (θ_run _ _ _).mono (fun r h c => ⟨(h c).1.1, (h c).1.2, (h c).2⟩) (Cert.Layer2Ideal.Tile.run_apply m g), (θ_run _ _ _).mono (fun r h c => ?_) (Cert.Plain2Ideal.Run.result_apply m' g')⟩
  obtain ⟨⟨hn, hf⟩, ha⟩ := h c
  obtain ⟨e0, e1, e2, e3, e4⟩ := hagree c
  have en : r.2.mem ((c.tc : Thread Cert.Plain2Ideal.nD Cert.Plain2Ideal.τ).loc Cert.Plain2Ideal.main_v72) = (Cert.Layer2Ideal.Gen.dats m 0 c).arrAt 4 Cert.Layer2Ideal.cfg0.N := by
    refine Cert.Graph.ext fun b n q => (hn b n q).trans ?_
    rw [e0]
    exact (Cert.Layer2Ideal.Tile.result_apply c m (Cert.Graph.feat_lt_top _ _ (hpre c)) b n q).symm
  refine ⟨hf.trans ?_, en, ha⟩
  rw [en, e0, e1, e2, e3, e4]

end Cert.Call2

end
-- ==== Proof.Layer3.lean ====
/- The kernel of layer 3: what one grid point writes, the array after all of them, and the host code after it. -/
module

public import proofs.«01_k».proof.Proof.Gen.Layer3Ideal.Frame
public import Idealize.ShloMosaic.Lib.Pipeline.Value
public import proofs.«01_k».proof.Proof.Tile
public import proofs.«01_k».proof.Proof.Conv

@[expose] public section

set_option maxRecDepth 16384

noncomputable section

namespace Cert.Layer3Ideal.Tile

open Cert.Layer3Ideal Cert.Layer3Ideal.Gen Idealize.ShloMosaic Idealize.ShloMosaic.TcCoe Idealize.SL.Sem
open Cert.Graph (sqDist feat)
open Cert.Tile (cloud row emb_eq axes keep)

/-- The mask's value. -/
abbrev big : Ideal .f32 := Named.named (F := Ideal) κ "taken" (φ := .f32) 0x7F61B1E6#32

/-- Whether a trip's pick is kept, and its place. -/
def bit (k : Fin k0_t1_loop.trips) : BitVec 1 := trip_k0_t1.sl.v551 k

@[inherit_doc bit] def word (k : Fin k0_t1_loop.trips) : BitVec 32 := Scalar.select 0#1 (Scalar.subi (trip_k0_t1.sl.v552 k) 1#32) (trip_k0_t1.sl.v552 k)

variable (𝒱 : Variants) (c : Dev nD) (bd : Option 𝒱.V) (i : grid0.Coords) (arg2 : Memref sig .tc .vmem S1x512x1 .f32) (harg2 : arg2.IsWhole)
  (arg3 : Memref sig .tc .vmem S1x512x16 .f32) (harg3 : arg3.IsWhole) (arg4 : Memref sig .tc .vmem S1x16x4096 .f32) (harg4 : arg4.IsWhole)
  (arg5 : Memref sig .tc .vmem S1x1x4096 .f32) (harg5 : arg5.IsWhole) (arg6 : Memref sig .tc .vmem S1x512x20 .i32) (harg6 : arg6.IsWhole)
  (arg7 : Memref sig .tc .vmem S512x4096 .f32) (harg7 : arg7.IsWhole)

/-- A trip of the loop is the generic trip. -/
theorem trip_eq (k : Fin k0_t1_loop.trips) (acc : IVec S512x20 32 × IVec S512x1 32) (f : BufTy.Contents (Elt Ideal) arg7.view.ty) :
    (tripR_k0_t1 (F := Ideal) 𝒱 c bd i arg2 harg2 arg3 harg3 arg4 harg4 arg5 harg5 arg6 harg6 arg7 harg7 kernelRun0_A.sl.v18 k acc f,
      tripL_k0_t1 (F := Ideal) 𝒱 c bd i arg2 harg2 arg3 harg3 arg4 harg4 arg5 harg5 arg6 harg6 arg7 harg7 kernelRun0_A.sl.v18 k acc f)
      = Trip.trip arg7 big kernelRun0_A.sl.v18 iota_S512x20_d1_w32 (bit k) (word k) acc f := by
  unfold tripR_k0_t1 tripL_k0_t1 trip_k0_t1
  dsimp only
  rfl

/-- The distances the kernel stores first. -/
theorem pay_apply (v0 : Vec Ideal S1x512x16 .f32) (v2 : Vec Ideal S1x16x4096 .f32) (v4 : Vec Ideal S1x512x1 .f32) (v6 : Vec Ideal S1x1x4096 .f32)
    (r : Fin 512) (y : Fin 4096) : k0_pay1 v0 v2 v4 v6 (ix2 r y) = Cert.Tile.tile (C := 16) v4 v0 v2 v6 r y := by
  unfold k0_pay1 Cert.Tile.tile Cert.Graph.mix
  pointwise

/-- What a grid point writes. -/
theorem block (x0 : Vec Ideal S1x512x1 .f32) (x1 : Vec Ideal S1x512x16 .f32) (x2 : Vec Ideal S1x16x4096 .f32) (x3 : Vec Ideal S1x1x4096 .f32) :
    (∀ r y, Cert.Tile.tile (C := 16) x0 x1 x2 x3 r y < ⊤) → ∀ (r : Fin 512) (q : Fin 20),
    out0_A_4 c i arg2 harg2 arg3 harg3 arg4 harg4 arg5 harg5 arg6 harg6 arg7 harg7 x0 x1 x2 x3 (ix3 0 r q)
      = Trip.pickW (Cert.Tile.tile (C := 16) x0 x1 x2 x3 r) (3 * q.val) :=
  Cert.Tile.block arg2 harg2 arg3 harg3 arg4 harg4 arg5 harg5 arg7 VO0_4 big rfl kernelRun0_A.sl.v18 (Cert.Tile.iota_apply iota_S512x4096_d1_w32) iota_S512x20_d1_w32 3 k0_t1_loop.trips
    (by decide) (by decide) (by decide) (bit) (word) (by decide +kernel) k0_pay1 pay_apply x0 x1 x2 x3 _ _ _ _ _ _ _
    (arg7.view.writes (Elt Ideal) arg7.view.junk (kernelRun0_A.sl.HS0_1 c arg2 harg2 arg3 harg3 arg4 harg4 arg5 harg5 x0 x1 x2 x3)) rfl
    (st_k0_t1 Variants.none c none i arg2 harg2 arg3 harg3 arg4 harg4 arg5 harg5 arg6 harg6 arg7 harg7 kernelRun0_A.sl.v18 _ (k0_pay2, k0_pay3))
    rfl (fun k => by
      rw [← trip_eq Variants.none c none i arg2 harg2 arg3 harg3 arg4 harg4 arg5 harg5 arg6 harg6 arg7 harg7 k]
      exact st_k0_t1_succ ..)

/-! ## The blocks and the array -/

/-- The block indices of the five windows. -/
theorem index_eq : ∀ t : Fin grid0.N, win0_0.index t = ![t.val / 8, t.val % 8, 0] ∧ win0_1.index t = ![t.val / 8, t.val % 8, 0]
    ∧ win0_2.index t = ![t.val / 8, 0, 0] ∧ win0_3.index t = ![t.val / 8, 0, 0] ∧ win0_4.index t = ![t.val / 8, t.val % 8, 0] := by decide +kernel

/-- Every grid point writes its block back. -/
theorem flush4 : ∀ t : Fin grid0.N, win0_4.flush t = true := by decide +kernel

/-- Two grid points write different blocks. -/
theorem index_inj : ∀ t t' : Fin grid0.N, win0_4.index t = win0_4.index t' → t = t' := by decide +kernel

variable (m : (ℓ : Loc nD τ sig) → Buf (Elt Ideal) ℓ)

/-- The array's block is what its grid point wrote back. -/
theorem block_eq (t : Fin cfg0.N) : ((cfg0.win 4).blk t).view.read (Elt Ideal) ((dats m 0 c).arrAt 4 cfg0.N) = (dats m 0 c).flushed 4 t :=
  (dats m 0 c).read_blk_arrAt_eq_flushed 4 (fun t t' _ _ hne => (cfg0.win 4).disjoint_blk fun h => hne (index_inj t t' h)) cfg0.N t t.isLt (flush4 t)

/-- What a grid point writes back is what its run left in the block. -/
theorem flushed_eq (t : Fin cfg0.N) : (dats m 0 c).flushed 4 t = (cfg0.win 4).cut (grid0.coords t) (out0_A_4 c (grid0.coords t) (ms0_0 t) (hs0_0 t) (ms0_1 t) (hs0_1 t)
    (ms0_2 t) (hs0_2 t) (ms0_3 t) (hs0_3 t) (ms0_4 t) (hs0_4 t) scM0_0 (Memref.isWhole_whole _) (iblk m c 0 t) (iblk m c 1 t) (iblk m c 2 t) (iblk m c 3 t)) := by
  show (cfg0.win 4).cut (grid0.coords t) ((dats m 0 c).after 4 t) = _
  rw [after0_4]
  simp only [outsAt0]

/-- The points as the host hands them to the kernel. -/
abbrev points : FVec Ideal S4x4096x16 .f32 := V m c main_v1

/-- Entry by entry they are the features. -/
theorem points_apply : (fun b n k => points c m (ix3 b n k)) = feat (m ((c.tc : Thread nD τ).loc main_arg0)) := by
  have e : points c m = transpose S4x4096x16 [0, 2, 1] (shapeCast S4x16x4096 (m ((c.tc : Thread nD τ).loc main_arg0)) shapeCasts_S4x16x4096x1_S4x16x4096) transposes_S4x16x4096_S4x4096x16_0_2_1 := by
    dsimp only [points, V, V0, List.flatten_cons, List.flatten_nil, List.cons_append, List.nil_append, hostOps0, hostOps0_1]
    after_results
    rfl
  funext b n k
  rw [e]
  unfold feat
  pointwise

/-- The squared norms as the host hands them to the kernel, the same along a row, and the points by channel. -/
theorem host_norms : @Eq (FVec Ideal S4x4096x1 .f32) (V m c main_call0_v2) (broadcastInDim S4x4096x1 ![0, 1] bcast_S4x4096_S4x4096x1_0_1
      (Host.reduceAdd (mulf (points c m) (points c m)) (constant S_ .f32 0x00000000#32) reducesTo_S4x4096x16_S4x4096_d2 h_S_))
    ∧ @Eq (FVec Ideal S4x1x4096 .f32) (V m c main_call0_v3) (transpose S4x1x4096 [0, 2, 1] (V m c main_call0_v2 : FVec Ideal S4x4096x1 .f32) transposes_S4x4096x1_S4x1x4096_0_2_1)
    ∧ @Eq (FVec Ideal S4x16x4096 .f32) (V m c main_call0_v4) (transpose S4x16x4096 [0, 2, 1] (points c m) transposes_S4x4096x16_S4x16x4096_0_2_1) := by
  dsimp only [points, V, V0, List.flatten_cons, List.flatten_nil, List.cons_append, List.nil_append, hostOps0, hostOps0_1]
  refine ⟨?_, ?_, ?_⟩ <;> (after_results; rfl)

/-- The kernel's result. -/
theorem result_apply : (∀ b n y, sqDist (feat (m ((c.tc : Thread nD τ).loc main_arg0))) b n y < ⊤) → ∀ (b : Fin 4) (n : Fin 4096) (q : Fin 20),
    ((dats m 0 c).arrAt 4 cfg0.N : IVec S4x4096x20 32) (ix3 b n q) = Trip.pickW (sqDist (feat (m ((c.tc : Thread nD τ).loc main_arg0))) b n) (3 * q.val) := by
  rw [← points_apply]
  exact Cert.Tile.result (points c m) reducesTo_S4x4096x16_S4x4096_d2 h_S_ bcast_S4x4096_S4x4096x1_0_1 transposes_S4x4096x1_S4x1x4096_0_2_1
    transposes_S4x4096x16_S4x16x4096_0_2_1 3 _ (fun t => (dats m 0 c).flushed 4 t) (iblk m c 0) (iblk m c 1) (iblk m c 2) (iblk m c 3)
    (fun t r q => (congrArg ((dats m 0 c).arrAt 4 cfg0.N : IVec S4x4096x20 32) (emb_eq win0_4 t (ix3 0 r q) (ix3 (cloud t) (row t r) q) rfl (index_eq t).2.2.2.2
      (axes (Nat.mul_one _) rfl (keep _ _))).symm).trans (congrFun (block_eq c m t) (ix3 0 r q)))
    (fun t hx r q => (congrFun (flushed_eq c m t) (ix3 0 r q)).trans (block c _ _ _ _ _ _ _ _ _ _ _ _ _ _ _ _ _ hx r q))
    (fun t r => (congrArg (V m c main_call0_v2 : FVec Ideal S4x4096x1 .f32) (emb_eq win0_0 t (ix3 0 r 0) (ix3 (cloud t) (row t r) 0) rfl (index_eq t).1
      (axes (Nat.mul_one _) rfl rfl))).trans (congrFun (host_norms c m).1 _))
    (fun t r k => congrArg (points c m) (emb_eq win0_1 t (ix3 0 r k) (ix3 (cloud t) (row t r) k) rfl (index_eq t).2.1 (axes (Nat.mul_one _) rfl (keep _ _))))
    (fun t k y => (congrArg (V m c main_call0_v4 : FVec Ideal S4x16x4096 .f32) (emb_eq win0_2 t (ix3 0 k y) (ix3 (cloud t) k y) rfl (index_eq t).2.2.1
      (axes (Nat.mul_one _) (keep _ _) (keep _ _)))).trans (congrFun (host_norms c m).2.2 _))
    (fun t y => (congrArg (V m c main_call0_v3 : FVec Ideal S4x1x4096 .f32) (emb_eq win0_3 t (ix3 0 0 y) (ix3 (cloud t) 0 y) rfl (index_eq t).2.2.2.1
      (axes (Nat.mul_one _) rfl (keep _ _)))).trans ((congrFun (host_norms c m).2.1 _).trans (by rw [(host_norms c m).1])))

/-! ## The host code after the kernel -/

/-- The edge convolution of layer 3, on a table of neighbours. -/
abbrev conv (x : FVec Ideal S4x16x4096x1 .f32) (near : IVec S4x4096x20 32) (W : FVec Ideal S16x32 .f32) (b gamma beta : FVec Ideal S16 .f32) : FVec Ideal S4x16x4096x1 .f32 :=
  Cert.Conv.conv gather_S4x16x4096_S4x4096x20x1_S4x16x4096x20_1_2_0_0_2_3_1161_wf concatenates_S4x16x4096x20_S4x16x4096x20_S4x32x4096x20_d1
    dot_S4x32x4096x20_S16x32_S4x4096x20x16_1_1_023_0_n_n_wf shapeCasts_S4x16x4096x1_S4x16x4096 x Cert.Conv.center near W b gamma beta

set_option maxHeartbeats 2000000 in
/-- The host code after the kernel, from any memory. -/
theorem tail_apply (W : Valuation τ sig (Elt Ideal)) : @Eq (FVec Ideal S4x16x4096x1 .f32) (StableHlo.after [hostOps1, hostOps1_1, hostOps1_2, hostOps1_3, hostOps1_4].flatten W (Proc.devRef .tc main_v50))
    (addf (conv (W (Proc.devRef .tc main_arg0)) (W (Proc.devRef .tc main_v2)) (W (Proc.devRef .tc main_arg1)) (W (Proc.devRef .tc main_arg2)) (W (Proc.devRef .tc main_arg3)) (W (Proc.devRef .tc main_arg4)))
      (W (Proc.devRef .tc main_arg0))) := by
  dsimp only [List.flatten_cons, List.flatten_nil, List.cons_append, List.nil_append, hostOps1, hostOps1_1, hostOps1_2, hostOps1_3, hostOps1_4]
  simp only [StableHlo.TRef.binary, StableHlo.TRef.nullary, StableHlo.TRef.ternary, StableHlo.TRef.unary, StableHlo.TRef.toBuf, StableHlo.TRef.ofBuf, cast_eq]
  after_results
  rfl

/-- The memory the host code after the kernel starts from. -/
abbrev mid : Valuation τ sig (Elt Ideal) := Pipeline.withArrays (cfgs 0).spec c (V0 m c) fun w => (dats m 0 c).arrAt w (cfgs 0).N

/-- It holds the kernel's array and the arguments. -/
theorem mid_apply : mid c m (Proc.devRef .tc main_v2) = (dats m 0 c).arrAt 4 cfg0.N ∧ mid c m (Proc.devRef .tc main_arg0) = m ((c.tc : Thread nD τ).loc main_arg0)
    ∧ mid c m (Proc.devRef .tc main_arg1) = m ((c.tc : Thread nD τ).loc main_arg1) ∧ mid c m (Proc.devRef .tc main_arg2) = m ((c.tc : Thread nD τ).loc main_arg2)
    ∧ mid c m (Proc.devRef .tc main_arg3) = m ((c.tc : Thread nD τ).loc main_arg3) ∧ mid c m (Proc.devRef .tc main_arg4) = m ((c.tc : Thread nD τ).loc main_arg4) :=
  ⟨Pipeline.withArrays_arr (cfgs 0).spec (by decide) c _ _ 4, (Pipeline.withArrays_of_ne _ c _ _ main_arg0 (by decide)).trans (V_main_arg0 m c),
    (Pipeline.withArrays_of_ne _ c _ _ main_arg1 (by decide)).trans (V_main_arg1 m c), (Pipeline.withArrays_of_ne _ c _ _ main_arg2 (by decide)).trans (V_main_arg2 m c),
    (Pipeline.withArrays_of_ne _ c _ _ main_arg3 (by decide)).trans (V_main_arg3 m c), (Pipeline.withArrays_of_ne _ c _ _ main_arg4 (by decide)).trans (V_main_arg4 m c)⟩

variable (ρ : Dev nD → PrngReg)

/-- The run: its results, and its arguments unchanged. -/
theorem run_apply : θ_run defs (onTc (τ := τ) (main (F := Ideal))) ⟨m, fun _ => 0, ρ⟩ fun r => ∀ c : Dev nD,
    (@Eq (FVec Ideal S4x16x4096x1 .f32) (r.2.mem ((c.tc : Thread nD τ).loc main_v50)) (addf (conv (m ((c.tc : Thread nD τ).loc main_arg0)) ((dats m 0 c).arrAt 4 cfg0.N)
          (m ((c.tc : Thread nD τ).loc main_arg1)) (m ((c.tc : Thread nD τ).loc main_arg2)) (m ((c.tc : Thread nD τ).loc main_arg3)) (m ((c.tc : Thread nD τ).loc main_arg4)))
          (m ((c.tc : Thread nD τ).loc main_arg0)))
      ∧ r.2.mem ((c.tc : Thread nD τ).loc main_v2) = (dats m 0 c).arrAt 4 cfg0.N)
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨⟨?_, (h.1 c).1 4⟩, h.2 c⟩) (θ_run_and (run_main m ρ) (unchanged m ρ))
  refine ((h.1 c).2 main_v50 (Pipeline.mem_restRefs_of main_v50 (by decide) (by decide))).trans ((tail_apply (mid c m)).trans ?_)
  obtain ⟨e, a0, a1, a2, a3, a4⟩ := mid_apply c m
  rw [e, a0, a1, a2, a3, a4]

end Cert.Layer3Ideal.Tile

end
-- ==== Proof.Plain3.lean ====
/- The reference of layer 3. -/
module

public import proofs.«01_k».proof.Proof.Gen.Plain3Ideal
public import proofs.«01_k».proof.Proof.Line
public import proofs.«01_k».proof.Proof.Conv

@[expose] public section

set_option maxRecDepth 16384

noncomputable section

namespace Cert.Plain3Ideal.Run

open Cert.Graph (sqDist feat)
open Cert.Plain3Ideal Cert.Plain3Ideal.Gen Idealize.SL Idealize.ShloMosaic Idealize.ShloMosaic.TcCoe Idealize.SL.Sem Idealize.ShloMosaic.StableHlo

set_option maxHeartbeats 4000000 in
/-- The first window of the reference's operations. -/
def line0 (c : Dev nD) : Line (main_part0 (F := Ideal) c) := by
  unfold main_part0
  repeat first | refine Line.cons _ ?_ | exact Line.nil | exact Line.one _

set_option maxHeartbeats 4000000 in
@[inherit_doc line0] def line1 (c : Dev nD) : Line (main_part1 (F := Ideal) c) := by
  unfold main_part1 fn_var.body fn_relu.body fn_where.body
  repeat first | refine Line.cons _ ?_ | exact Line.nil | exact Line.one _ | refine Line.append ?_ ?_

/-- The reference's operations. -/
def line (c : Dev nD) : Line (main (F := Ideal) c) := (line0 c).append (line1 c)

/-- The edge list: the operations up to it, and those after it. -/
def pre (c : Dev nD) : List (HloOp τ sig (Elt Ideal)) := (line c).ops.take 26

@[inherit_doc pre] def post (c : Dev nD) : List (HloOp τ sig (Elt Ideal)) := (line c).ops.drop 26

/-- The edge convolution of layer 3, on a table of neighbours. -/
abbrev conv (x : FVec Ideal S4x16x4096x1 .f32) (self near : IVec S4x4096x20 32) (W : FVec Ideal S16x32 .f32) (b gamma beta : FVec Ideal S16 .f32) : FVec Ideal S4x16x4096x1 .f32 :=
  Cert.Conv.conv gather_S4x16x4096_S4x4096x20x1_S4x16x4096x20_1_2_0_0_2_3_1161_wf concatenates_S4x16x4096x20_S4x16x4096x20_S4x32x4096x20_d1
    dot_S4x32x4096x20_S16x32_S4x4096x20x16_1_1_023_0_n_n_wf shapeCasts_S4x16x4096x1_S4x16x4096 x self near W b gamma beta

variable (W : Valuation τ sig (Elt Ideal)) (c : Dev nD)

/-- The row of the edge list that holds the neighbours, and the one that holds the points themselves. -/
def near (g : IVec S2x4x4096x20 32) : IVec S4x4096x20 32 :=
  shapeCast S4x4096x20 (extractStridedSlice S1x4x4096x20 ![0, 0, 0, 0] g slices_S2x4x4096x20_S1x4x4096x20_0_0_0_0) shapeCasts_S1x4x4096x20_S4x4096x20

@[inherit_doc near] def self (g : IVec S2x4x4096x20 32) : IVec S4x4096x20 32 :=
  shapeCast S4x4096x20 (extractStridedSlice S1x4x4096x20 ![1, 0, 0, 0] g slices_S2x4x4096x20_S1x4x4096x20_1_0_0_0) shapeCasts_S1x4x4096x20_S4x4096x20

set_option maxHeartbeats 2000000 in
/-- After the edge list the run computes the edge convolution, adds the features and returns the neighbours; the arguments stay. -/
theorem post_apply : @Eq (FVec Ideal S4x16x4096x1 .f32) (after (post c) W (Proc.devRef .tc main_v70))
      (addf (conv (W (Proc.devRef .tc main_arg0)) (self (W (Proc.devRef .tc main_v21))) (near (W (Proc.devRef .tc main_v21))) (W (Proc.devRef .tc main_arg1))
          (W (Proc.devRef .tc main_arg2)) (W (Proc.devRef .tc main_arg3)) (W (Proc.devRef .tc main_arg4)))
        (W (Proc.devRef .tc main_arg0)))
    ∧ @Eq (IVec S4x4096x20 32) (after (post c) W (Proc.devRef .tc main_v72)) (near (W (Proc.devRef .tc main_v21)))
    ∧ after (post c) W (Proc.devRef .tc main_arg0) = W (Proc.devRef .tc main_arg0) ∧ after (post c) W (Proc.devRef .tc main_arg1) = W (Proc.devRef .tc main_arg1)
    ∧ after (post c) W (Proc.devRef .tc main_arg2) = W (Proc.devRef .tc main_arg2) ∧ after (post c) W (Proc.devRef .tc main_arg3) = W (Proc.devRef .tc main_arg3)
    ∧ after (post c) W (Proc.devRef .tc main_arg4) = W (Proc.devRef .tc main_arg4) := by
  have e : after (post c) W = after (post c) W := rfl
  conv_rhs at e =>
    enter [1]
    dsimp only [id, post, line, line0, line1, Line.append, Line.cons, Line.nil, Line.one, List.cons_append, List.nil_append]
    whnf
  simp only [TRef.binary, TRef.nullary, TRef.ternary, TRef.unary, TRef.toBuf, TRef.ofBuf, cast_eq] at e
  rw [e]
  refine ⟨?_, ?_, ?_, ?_, ?_, ?_, ?_⟩ <;> after_results
  all_goals rfl

/-- The points, one per row. -/
abbrev points : FVec Ideal S4x4096x16 .f32 :=
  transpose S4x4096x16 [0, 2, 1] (shapeCast S4x16x4096 (W (Proc.devRef .tc main_arg0)) shapeCasts_S4x16x4096x1_S4x16x4096) transposes_S4x16x4096_S4x4096x16_0_2_1

/-- Entry by entry they are the features. -/
theorem points_apply : (fun b n k => points W (ix3 b n k)) = feat (W (Proc.devRef .tc main_arg0)) := by
  funext b n k
  unfold feat
  pointwise

set_option maxHeartbeats 2000000 in
/-- The edge list as the run computes it; the arguments stay. -/
theorem pre_apply : (∀ b n (q : Fin 20), near (after (pre c) W (Proc.devRef .tc main_v21)) (ix3 b n q) = Trip.pickW (sqDist (feat (W (Proc.devRef .tc main_arg0))) b n) (3 * q.val))
    ∧ self (after (pre c) W (Proc.devRef .tc main_v21)) = Cert.Conv.center
    ∧ after (pre c) W (Proc.devRef .tc main_arg0) = W (Proc.devRef .tc main_arg0) ∧ after (pre c) W (Proc.devRef .tc main_arg1) = W (Proc.devRef .tc main_arg1)
    ∧ after (pre c) W (Proc.devRef .tc main_arg2) = W (Proc.devRef .tc main_arg2) ∧ after (pre c) W (Proc.devRef .tc main_arg3) = W (Proc.devRef .tc main_arg3)
    ∧ after (pre c) W (Proc.devRef .tc main_arg4) = W (Proc.devRef .tc main_arg4) := by
  have e : after (pre c) W = after (pre c) W := rfl
  conv_rhs at e =>
    enter [1]
    dsimp only [id, pre, line, line0, line1, Line.append, Line.cons, Line.nil, Line.one, List.cons_append, List.nil_append]
    simp only [List.take_succ_cons, List.take_zero]
  rw [e]
  refine ⟨fun b n q => ?_, ?_, ?_, ?_, ?_, ?_, ?_⟩
  · have hq : 3 * q.val < 60 := by omega
    after_results
    refine (Cert.Graph.tail_dil_apply _ _ _ _ _ _ _ b n q hq).trans ?_
    refine Cert.Graph.pick_apply _ (sqDist (feat (W (Proc.devRef .tc main_arg0)))) (fun b n y => ?_) _ (by decide) b n ⟨3 * q.val, hq⟩
    exact (Cert.Graph.adj_apply (points W) _ _ _ _ _ _ _ _ _ b n y).trans (by rw [points_apply])
  · after_results
    exact Cert.Conv.self_dil_eq _ _ _ _ (Cert.Conv.own_apply _ _) _ _ _ (fun q => by omega)
  all_goals after_results

variable (m : (ℓ : Loc nD τ sig) → Buf (Elt Ideal) ℓ) (ρ : Dev nD → PrngReg)

/-- The run: its two results, and its arguments unchanged. -/
theorem result_apply : θ_run defs (onTc (τ := τ) (main (F := Ideal))) ⟨m, fun _ => 0, ρ⟩ fun r => ∀ c : Dev nD,
    ((∀ b n (q : Fin 20), (r.2.mem ((c.tc : Thread nD τ).loc main_v72) : IVec S4x4096x20 32) (ix3 b n q) = Trip.pickW (sqDist (feat (m ((c.tc : Thread nD τ).loc main_arg0))) b n) (3 * q.val))
      ∧ @Eq (FVec Ideal S4x16x4096x1 .f32) (r.2.mem ((c.tc : Thread nD τ).loc main_v70)) (addf (conv (m ((c.tc : Thread nD τ).loc main_arg0)) Cert.Conv.center (r.2.mem ((c.tc : Thread nD τ).loc main_v72))
          (m ((c.tc : Thread nD τ).loc main_arg1)) (m ((c.tc : Thread nD τ).loc main_arg2)) (m ((c.tc : Thread nD τ).loc main_arg3)) (m ((c.tc : Thread nD τ).loc main_arg4)))
          (m ((c.tc : Thread nD τ).loc main_arg0))))
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (run_seq (by decide) (by decide) defs main (fun c => (line c).ops) (fun c => (line c).eq) (fun c => (line c).bufs) m ρ (fun c => (line c).fresh))
  obtain ⟨p0, p1, a0, a1, a2, a3, a4⟩ := pre_apply (launchContents m c) c
  obtain ⟨q0, q1, k0, k1, k2, k3, k4⟩ := post_apply (after (pre c) (launchContents m c)) c
  have e : ∀ b : Ref sig .tc, r.2.mem ((c.tc : Thread nD τ).loc b) = after (post c) (after (pre c) (launchContents m c)) (Proc.devRef .tc b) := fun b =>
    (h c b).trans (congrFun (after_split 26 (line c).ops (launchContents m c)) _)
  refine ⟨⟨fun b n q => ?_, ?_⟩, (e _).trans (k0.trans a0), (e _).trans (k1.trans a1), (e _).trans (k2.trans a2), (e _).trans (k3.trans a3), (e _).trans (k4.trans a4)⟩
  · rw [e, q1]
    exact p0 b n q
  · rw [e, e, q0, q1, p1, a0, a1, a2, a3, a4]

end Cert.Plain3Ideal.Run

end
-- ==== Proof.Call3.lean ====
/- The claims of layer 3. -/
module

public import proofs.«01_k».proof.Defs
public import proofs.«01_k».proof.Proof.Gen.Layer3.Frame
public import proofs.«01_k».proof.Proof.Gen.Pre_finite_feat
public import proofs.«01_k».proof.Proof.Layer3
public import proofs.«01_k».proof.Proof.Plain3

@[expose] public section

noncomputable section

namespace Cert.Call3

open Idealize.ShloMosaic Idealize.ShloMosaic.TcCoe Idealize.SL.Sem

/-- The facts the programs of this layer and their precondition state. -/
local instance facts : Cert.Layer3.Facts := Cert.Layer3.Gen.facts
@[inherit_doc facts] local instance factsI : Cert.Layer3Ideal.Facts := Cert.Layer3Ideal.Gen.facts
@[inherit_doc facts] local instance factsR : Cert.Plain3Ideal.Facts := Cert.Plain3Ideal.Gen.facts
@[inherit_doc facts] local instance factsP : Cert.Pre_finite_feat.Facts := Cert.Pre_finite_feat.Gen.facts

/-- The reference leaves its arguments and its counters alone. -/
theorem frame_ref : Cert.quiescent_Plain3Ideal := fun m ρ _ =>
  (θ_run _ _ _).mono (fun r h => ⟨fun c => (h c).2, sem_eq_zero_of_no_sems (by decide) r.2⟩) (Cert.Plain3Ideal.Run.result_apply m ρ)

/-- On finite features the kernel's layer is the reference's. -/
theorem algebraic : Cert.algebraic_Layer3Ideal_Plain3Ideal_pre_finite_feat := by
  intro m g m' g' hpre hagree
  refine ⟨_, _, (θ_run _ _ _).mono (fun r h c => ⟨(h c).1.1, (h c).1.2, (h c).2⟩) (Cert.Layer3Ideal.Tile.run_apply m g), (θ_run _ _ _).mono (fun r h c => ?_) (Cert.Plain3Ideal.Run.result_apply m' g')⟩
  obtain ⟨⟨hn, hf⟩, ha⟩ := h c
  obtain ⟨e0, e1, e2, e3, e4⟩ := hagree c
  have en : r.2.mem ((c.tc : Thread Cert.Plain3Ideal.nD Cert.Plain3Ideal.τ).loc Cert.Plain3Ideal.main_v72) = (Cert.Layer3Ideal.Gen.dats m 0 c).arrAt 4 Cert.Layer3Ideal.cfg0.N := by
    refine Cert.Graph.ext fun b n q => (hn b n q).trans ?_
    rw [e0]
    exact (Cert.Layer3Ideal.Tile.result_apply c m (Cert.Graph.feat_lt_top _ _ (hpre c)) b n q).symm
  refine ⟨hf.trans ?_, en, ha⟩
  rw [en, e0, e1, e2, e3, e4]

end Cert.Call3

end
-- ==== Proof.Layer4.lean ====
/- The kernel of layer 4: what one grid point writes, the array after all of them, and the host code after it. -/
module

public import proofs.«01_k».proof.Proof.Gen.Layer4Ideal.Frame
public import Idealize.ShloMosaic.Lib.Pipeline.Value
public import proofs.«01_k».proof.Proof.Tile
public import proofs.«01_k».proof.Proof.Conv

@[expose] public section

set_option maxRecDepth 16384

noncomputable section

namespace Cert.Layer4Ideal.Tile

open Cert.Layer4Ideal Cert.Layer4Ideal.Gen Idealize.ShloMosaic Idealize.ShloMosaic.TcCoe Idealize.SL.Sem
open Cert.Graph (sqDist feat)
open Cert.Tile (cloud row emb_eq axes keep)

/-- The mask's value. -/
abbrev big : Ideal .f32 := Named.named (F := Ideal) κ "taken" (φ := .f32) 0x7F61B1E6#32

/-- Whether a trip's pick is kept, and its place. -/
def bit (k : Fin k0_t1_loop.trips) : BitVec 1 := trip_k0_t1.sl.v551 k

@[inherit_doc bit] def word (k : Fin k0_t1_loop.trips) : BitVec 32 := Scalar.select 0#1 (Scalar.subi (trip_k0_t1.sl.v552 k) 1#32) (trip_k0_t1.sl.v552 k)

variable (𝒱 : Variants) (c : Dev nD) (bd : Option 𝒱.V) (i : grid0.Coords) (arg2 : Memref sig .tc .vmem S1x512x1 .f32) (harg2 : arg2.IsWhole)
  (arg3 : Memref sig .tc .vmem S1x512x16 .f32) (harg3 : arg3.IsWhole) (arg4 : Memref sig .tc .vmem S1x16x4096 .f32) (harg4 : arg4.IsWhole)
  (arg5 : Memref sig .tc .vmem S1x1x4096 .f32) (harg5 : arg5.IsWhole) (arg6 : Memref sig .tc .vmem S1x512x20 .i32) (harg6 : arg6.IsWhole)
  (arg7 : Memref sig .tc .vmem S512x4096 .f32) (harg7 : arg7.IsWhole)

/-- A trip of the loop is the generic trip. -/
theorem trip_eq (k : Fin k0_t1_loop.trips) (acc : IVec S512x20 32 × IVec S512x1 32) (f : BufTy.Contents (Elt Ideal) arg7.view.ty) :
    (tripR_k0_t1 (F := Ideal) 𝒱 c bd i arg2 harg2 arg3 harg3 arg4 harg4 arg5 harg5 arg6 harg6 arg7 harg7 kernelRun0_A.sl.v18 k acc f,
      tripL_k0_t1 (F := Ideal) 𝒱 c bd i arg2 harg2 arg3 harg3 arg4 harg4 arg5 harg5 arg6 harg6 arg7 harg7 kernelRun0_A.sl.v18 k acc f)
      = Trip.trip arg7 big kernelRun0_A.sl.v18 iota_S512x20_d1_w32 (bit k) (word k) acc f := by
  unfold tripR_k0_t1 tripL_k0_t1 trip_k0_t1
  dsimp only
  rfl

/-- The distances the kernel stores first. -/
theorem pay_apply (v0 : Vec Ideal S1x512x16 .f32) (v2 : Vec Ideal S1x16x4096 .f32) (v4 : Vec Ideal S1x512x1 .f32) (v6 : Vec Ideal S1x1x4096 .f32)
    (r : Fin 512) (y : Fin 4096) : k0_pay1 v0 v2 v4 v6 (ix2 r y) = Cert.Tile.tile (C := 16) v4 v0 v2 v6 r y := by
  unfold k0_pay1 Cert.Tile.tile Cert.Graph.mix
  pointwise

/-- What a grid point writes. -/
theorem block (x0 : Vec Ideal S1x512x1 .f32) (x1 : Vec Ideal S1x512x16 .f32) (x2 : Vec Ideal S1x16x4096 .f32) (x3 : Vec Ideal S1x1x4096 .f32) :
    (∀ r y, Cert.Tile.tile (C := 16) x0 x1 x2 x3 r y < ⊤) → ∀ (r : Fin 512) (q : Fin 20),
    out0_A_4 c i arg2 harg2 arg3 harg3 arg4 harg4 arg5 harg5 arg6 harg6 arg7 harg7 x0 x1 x2 x3 (ix3 0 r q)
      = Trip.pickW (Cert.Tile.tile (C := 16) x0 x1 x2 x3 r) (4 * q.val) :=
  Cert.Tile.block arg2 harg2 arg3 harg3 arg4 harg4 arg5 harg5 arg7 VO0_4 big rfl kernelRun0_A.sl.v18 (Cert.Tile.iota_apply iota_S512x4096_d1_w32) iota_S512x20_d1_w32 4 k0_t1_loop.trips
    (by decide) (by decide) (by decide) (bit) (word) (by decide +kernel) k0_pay1 pay_apply x0 x1 x2 x3 _ _ _ _ _ _ _
    (arg7.view.writes (Elt Ideal) arg7.view.junk (kernelRun0_A.sl.HS0_1 c arg2 harg2 arg3 harg3 arg4 harg4 arg5 harg5 x0 x1 x2 x3)) rfl
    (st_k0_t1 Variants.none c none i arg2 harg2 arg3 harg3 arg4 harg4 arg5 harg5 arg6 harg6 arg7 harg7 kernelRun0_A.sl.v18 _ (k0_pay2, k0_pay3))
    rfl (fun k => by
      rw [← trip_eq Variants.none c none i arg2 harg2 arg3 harg3 arg4 harg4 arg5 harg5 arg6 harg6 arg7 harg7 k]
      exact st_k0_t1_succ ..)

/-! ## The blocks and the array -/

/-- The block indices of the five windows. -/
theorem index_eq : ∀ t : Fin grid0.N, win0_0.index t = ![t.val / 8, t.val % 8, 0] ∧ win0_1.index t = ![t.val / 8, t.val % 8, 0]
    ∧ win0_2.index t = ![t.val / 8, 0, 0] ∧ win0_3.index t = ![t.val / 8, 0, 0] ∧ win0_4.index t = ![t.val / 8, t.val % 8, 0] := by decide +kernel

/-- Every grid point writes its block back. -/
theorem flush4 : ∀ t : Fin grid0.N, win0_4.flush t = true := by decide +kernel

/-- Two grid points write different blocks. -/
theorem index_inj : ∀ t t' : Fin grid0.N, win0_4.index t = win0_4.index t' → t = t' := by decide +kernel

variable (m : (ℓ : Loc nD τ sig) → Buf (Elt Ideal) ℓ)

/-- The array's block is what its grid point wrote back. -/
theorem block_eq (t : Fin cfg0.N) : ((cfg0.win 4).blk t).view.read (Elt Ideal) ((dats m 0 c).arrAt 4 cfg0.N) = (dats m 0 c).flushed 4 t :=
  (dats m 0 c).read_blk_arrAt_eq_flushed 4 (fun t t' _ _ hne => (cfg0.win 4).disjoint_blk fun h => hne (index_inj t t' h)) cfg0.N t t.isLt (flush4 t)

/-- What a grid point writes back is what its run left in the block. -/
theorem flushed_eq (t : Fin cfg0.N) : (dats m 0 c).flushed 4 t = (cfg0.win 4).cut (grid0.coords t) (out0_A_4 c (grid0.coords t) (ms0_0 t) (hs0_0 t) (ms0_1 t) (hs0_1 t)
    (ms0_2 t) (hs0_2 t) (ms0_3 t) (hs0_3 t) (ms0_4 t) (hs0_4 t) scM0_0 (Memref.isWhole_whole _) (iblk m c 0 t) (iblk m c 1 t) (iblk m c 2 t) (iblk m c 3 t)) := by
  show (cfg0.win 4).cut (grid0.coords t) ((dats m 0 c).after 4 t) = _
  rw [after0_4]
  simp only [outsAt0]

/-- The points as the host hands them to the kernel. -/
abbrev points : FVec Ideal S4x4096x16 .f32 := V m c main_v1

/-- Entry by entry they are the features. -/
theorem points_apply : (fun b n k => points c m (ix3 b n k)) = feat (m ((c.tc : Thread nD τ).loc main_arg0)) := by
  have e : points c m = transpose S4x4096x16 [0, 2, 1] (shapeCast S4x16x4096 (m ((c.tc : Thread nD τ).loc main_arg0)) shapeCasts_S4x16x4096x1_S4x16x4096) transposes_S4x16x4096_S4x4096x16_0_2_1 := by
    dsimp only [points, V, V0, List.flatten_cons, List.flatten_nil, List.cons_append, List.nil_append, hostOps0, hostOps0_1]
    after_results
    rfl
  funext b n k
  rw [e]
  unfold feat
  pointwise

/-- The squared norms as the host hands them to the kernel, the same along a row, and the points by channel. -/
theorem host_norms : @Eq (FVec Ideal S4x4096x1 .f32) (V m c main_call0_v2) (broadcastInDim S4x4096x1 ![0, 1] bcast_S4x4096_S4x4096x1_0_1
      (Host.reduceAdd (mulf (points c m) (points c m)) (constant S_ .f32 0x00000000#32) reducesTo_S4x4096x16_S4x4096_d2 h_S_))
    ∧ @Eq (FVec Ideal S4x1x4096 .f32) (V m c main_call0_v3) (transpose S4x1x4096 [0, 2, 1] (V m c main_call0_v2 : FVec Ideal S4x4096x1 .f32) transposes_S4x4096x1_S4x1x4096_0_2_1)
    ∧ @Eq (FVec Ideal S4x16x4096 .f32) (V m c main_call0_v4) (transpose S4x16x4096 [0, 2, 1] (points c m) transposes_S4x4096x16_S4x16x4096_0_2_1) := by
  dsimp only [points, V, V0, List.flatten_cons, List.flatten_nil, List.cons_append, List.nil_append, hostOps0, hostOps0_1]
  refine ⟨?_, ?_, ?_⟩ <;> (after_results; rfl)

/-- The kernel's result. -/
theorem result_apply : (∀ b n y, sqDist (feat (m ((c.tc : Thread nD τ).loc main_arg0))) b n y < ⊤) → ∀ (b : Fin 4) (n : Fin 4096) (q : Fin 20),
    ((dats m 0 c).arrAt 4 cfg0.N : IVec S4x4096x20 32) (ix3 b n q) = Trip.pickW (sqDist (feat (m ((c.tc : Thread nD τ).loc main_arg0))) b n) (4 * q.val) := by
  rw [← points_apply]
  exact Cert.Tile.result (points c m) reducesTo_S4x4096x16_S4x4096_d2 h_S_ bcast_S4x4096_S4x4096x1_0_1 transposes_S4x4096x1_S4x1x4096_0_2_1
    transposes_S4x4096x16_S4x16x4096_0_2_1 4 _ (fun t => (dats m 0 c).flushed 4 t) (iblk m c 0) (iblk m c 1) (iblk m c 2) (iblk m c 3)
    (fun t r q => (congrArg ((dats m 0 c).arrAt 4 cfg0.N : IVec S4x4096x20 32) (emb_eq win0_4 t (ix3 0 r q) (ix3 (cloud t) (row t r) q) rfl (index_eq t).2.2.2.2
      (axes (Nat.mul_one _) rfl (keep _ _))).symm).trans (congrFun (block_eq c m t) (ix3 0 r q)))
    (fun t hx r q => (congrFun (flushed_eq c m t) (ix3 0 r q)).trans (block c _ _ _ _ _ _ _ _ _ _ _ _ _ _ _ _ _ hx r q))
    (fun t r => (congrArg (V m c main_call0_v2 : FVec Ideal S4x4096x1 .f32) (emb_eq win0_0 t (ix3 0 r 0) (ix3 (cloud t) (row t r) 0) rfl (index_eq t).1
      (axes (Nat.mul_one _) rfl rfl))).trans (congrFun (host_norms c m).1 _))
    (fun t r k => congrArg (points c m) (emb_eq win0_1 t (ix3 0 r k) (ix3 (cloud t) (row t r) k) rfl (index_eq t).2.1 (axes (Nat.mul_one _) rfl (keep _ _))))
    (fun t k y => (congrArg (V m c main_call0_v4 : FVec Ideal S4x16x4096 .f32) (emb_eq win0_2 t (ix3 0 k y) (ix3 (cloud t) k y) rfl (index_eq t).2.2.1
      (axes (Nat.mul_one _) (keep _ _) (keep _ _)))).trans (congrFun (host_norms c m).2.2 _))
    (fun t y => (congrArg (V m c main_call0_v3 : FVec Ideal S4x1x4096 .f32) (emb_eq win0_3 t (ix3 0 0 y) (ix3 (cloud t) 0 y) rfl (index_eq t).2.2.2.1
      (axes (Nat.mul_one _) rfl (keep _ _)))).trans ((congrFun (host_norms c m).2.1 _).trans (by rw [(host_norms c m).1])))

/-! ## The host code after the kernel -/

/-- The edge convolution of layer 4, on a table of neighbours. -/
abbrev conv (x : FVec Ideal S4x16x4096x1 .f32) (near : IVec S4x4096x20 32) (W : FVec Ideal S16x32 .f32) (b gamma beta : FVec Ideal S16 .f32) : FVec Ideal S4x16x4096x1 .f32 :=
  Cert.Conv.conv gather_S4x16x4096_S4x4096x20x1_S4x16x4096x20_1_2_0_0_2_3_1161_wf concatenates_S4x16x4096x20_S4x16x4096x20_S4x32x4096x20_d1
    dot_S4x32x4096x20_S16x32_S4x4096x20x16_1_1_023_0_n_n_wf shapeCasts_S4x16x4096x1_S4x16x4096 x Cert.Conv.center near W b gamma beta

set_option maxHeartbeats 2000000 in
/-- The host code after the kernel, from any memory. -/
theorem tail_apply (W : Valuation τ sig (Elt Ideal)) : @Eq (FVec Ideal S4x16x4096x1 .f32) (StableHlo.after [hostOps1, hostOps1_1, hostOps1_2, hostOps1_3, hostOps1_4].flatten W (Proc.devRef .tc main_v50))
    (addf (conv (W (Proc.devRef .tc main_arg0)) (W (Proc.devRef .tc main_v2)) (W (Proc.devRef .tc main_arg1)) (W (Proc.devRef .tc main_arg2)) (W (Proc.devRef .tc main_arg3)) (W (Proc.devRef .tc main_arg4)))
      (W (Proc.devRef .tc main_arg0))) := by
  dsimp only [List.flatten_cons, List.flatten_nil, List.cons_append, List.nil_append, hostOps1, hostOps1_1, hostOps1_2, hostOps1_3, hostOps1_4]
  simp only [StableHlo.TRef.binary, StableHlo.TRef.nullary, StableHlo.TRef.ternary, StableHlo.TRef.unary, StableHlo.TRef.toBuf, StableHlo.TRef.ofBuf, cast_eq]
  after_results
  rfl

/-- The memory the host code after the kernel starts from. -/
abbrev mid : Valuation τ sig (Elt Ideal) := Pipeline.withArrays (cfgs 0).spec c (V0 m c) fun w => (dats m 0 c).arrAt w (cfgs 0).N

/-- It holds the kernel's array and the arguments. -/
theorem mid_apply : mid c m (Proc.devRef .tc main_v2) = (dats m 0 c).arrAt 4 cfg0.N ∧ mid c m (Proc.devRef .tc main_arg0) = m ((c.tc : Thread nD τ).loc main_arg0)
    ∧ mid c m (Proc.devRef .tc main_arg1) = m ((c.tc : Thread nD τ).loc main_arg1) ∧ mid c m (Proc.devRef .tc main_arg2) = m ((c.tc : Thread nD τ).loc main_arg2)
    ∧ mid c m (Proc.devRef .tc main_arg3) = m ((c.tc : Thread nD τ).loc main_arg3) ∧ mid c m (Proc.devRef .tc main_arg4) = m ((c.tc : Thread nD τ).loc main_arg4) :=
  ⟨Pipeline.withArrays_arr (cfgs 0).spec (by decide) c _ _ 4, (Pipeline.withArrays_of_ne _ c _ _ main_arg0 (by decide)).trans (V_main_arg0 m c),
    (Pipeline.withArrays_of_ne _ c _ _ main_arg1 (by decide)).trans (V_main_arg1 m c), (Pipeline.withArrays_of_ne _ c _ _ main_arg2 (by decide)).trans (V_main_arg2 m c),
    (Pipeline.withArrays_of_ne _ c _ _ main_arg3 (by decide)).trans (V_main_arg3 m c), (Pipeline.withArrays_of_ne _ c _ _ main_arg4 (by decide)).trans (V_main_arg4 m c)⟩

variable (ρ : Dev nD → PrngReg)

/-- The run: its results, and its arguments unchanged. -/
theorem run_apply : θ_run defs (onTc (τ := τ) (main (F := Ideal))) ⟨m, fun _ => 0, ρ⟩ fun r => ∀ c : Dev nD,
    (@Eq (FVec Ideal S4x16x4096x1 .f32) (r.2.mem ((c.tc : Thread nD τ).loc main_v50)) (addf (conv (m ((c.tc : Thread nD τ).loc main_arg0)) ((dats m 0 c).arrAt 4 cfg0.N)
          (m ((c.tc : Thread nD τ).loc main_arg1)) (m ((c.tc : Thread nD τ).loc main_arg2)) (m ((c.tc : Thread nD τ).loc main_arg3)) (m ((c.tc : Thread nD τ).loc main_arg4)))
          (m ((c.tc : Thread nD τ).loc main_arg0)))
      ∧ r.2.mem ((c.tc : Thread nD τ).loc main_v2) = (dats m 0 c).arrAt 4 cfg0.N)
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨⟨?_, (h.1 c).1 4⟩, h.2 c⟩) (θ_run_and (run_main m ρ) (unchanged m ρ))
  refine ((h.1 c).2 main_v50 (Pipeline.mem_restRefs_of main_v50 (by decide) (by decide))).trans ((tail_apply (mid c m)).trans ?_)
  obtain ⟨e, a0, a1, a2, a3, a4⟩ := mid_apply c m
  rw [e, a0, a1, a2, a3, a4]

end Cert.Layer4Ideal.Tile

end
-- ==== Proof.Plain4.lean ====
/- The reference of layer 4. -/
module

public import proofs.«01_k».proof.Proof.Gen.Plain4Ideal
public import proofs.«01_k».proof.Proof.Line
public import proofs.«01_k».proof.Proof.Conv

@[expose] public section

set_option maxRecDepth 16384

noncomputable section

namespace Cert.Plain4Ideal.Run

open Cert.Graph (sqDist feat)
open Cert.Plain4Ideal Cert.Plain4Ideal.Gen Idealize.SL Idealize.ShloMosaic Idealize.ShloMosaic.TcCoe Idealize.SL.Sem Idealize.ShloMosaic.StableHlo

set_option maxHeartbeats 4000000 in
/-- The first window of the reference's operations. -/
def line0 (c : Dev nD) : Line (main_part0 (F := Ideal) c) := by
  unfold main_part0
  repeat first | refine Line.cons _ ?_ | exact Line.nil | exact Line.one _

set_option maxHeartbeats 4000000 in
@[inherit_doc line0] def line1 (c : Dev nD) : Line (main_part1 (F := Ideal) c) := by
  unfold main_part1 fn_var.body fn_relu.body fn_where.body
  repeat first | refine Line.cons _ ?_ | exact Line.nil | exact Line.one _ | refine Line.append ?_ ?_

/-- The reference's operations. -/
def line (c : Dev nD) : Line (main (F := Ideal) c) := (line0 c).append (line1 c)

/-- The edge list: the operations up to it, and those after it. -/
def pre (c : Dev nD) : List (HloOp τ sig (Elt Ideal)) := (line c).ops.take 26

@[inherit_doc pre] def post (c : Dev nD) : List (HloOp τ sig (Elt Ideal)) := (line c).ops.drop 26

/-- The edge convolution of layer 4, on a table of neighbours. -/
abbrev conv (x : FVec Ideal S4x16x4096x1 .f32) (self near : IVec S4x4096x20 32) (W : FVec Ideal S16x32 .f32) (b gamma beta : FVec Ideal S16 .f32) : FVec Ideal S4x16x4096x1 .f32 :=
  Cert.Conv.conv gather_S4x16x4096_S4x4096x20x1_S4x16x4096x20_1_2_0_0_2_3_1161_wf concatenates_S4x16x4096x20_S4x16x4096x20_S4x32x4096x20_d1
    dot_S4x32x4096x20_S16x32_S4x4096x20x16_1_1_023_0_n_n_wf shapeCasts_S4x16x4096x1_S4x16x4096 x self near W b gamma beta

variable (W : Valuation τ sig (Elt Ideal)) (c : Dev nD)

/-- The row of the edge list that holds the neighbours, and the one that holds the points themselves. -/
def near (g : IVec S2x4x4096x20 32) : IVec S4x4096x20 32 :=
  shapeCast S4x4096x20 (extractStridedSlice S1x4x4096x20 ![0, 0, 0, 0] g slices_S2x4x4096x20_S1x4x4096x20_0_0_0_0) shapeCasts_S1x4x4096x20_S4x4096x20

@[inherit_doc near] def self (g : IVec S2x4x4096x20 32) : IVec S4x4096x20 32 :=
  shapeCast S4x4096x20 (extractStridedSlice S1x4x4096x20 ![1, 0, 0, 0] g slices_S2x4x4096x20_S1x4x4096x20_1_0_0_0) shapeCasts_S1x4x4096x20_S4x4096x20

set_option maxHeartbeats 2000000 in
/-- After the edge list the run computes the edge convolution, adds the features and returns the neighbours; the arguments stay. -/
theorem post_apply : @Eq (FVec Ideal S4x16x4096x1 .f32) (after (post c) W (Proc.devRef .tc main_v70))
      (addf (conv (W (Proc.devRef .tc main_arg0)) (self (W (Proc.devRef .tc main_v21))) (near (W (Proc.devRef .tc main_v21))) (W (Proc.devRef .tc main_arg1))
          (W (Proc.devRef .tc main_arg2)) (W (Proc.devRef .tc main_arg3)) (W (Proc.devRef .tc main_arg4)))
        (W (Proc.devRef .tc main_arg0)))
    ∧ @Eq (IVec S4x4096x20 32) (after (post c) W (Proc.devRef .tc main_v72)) (near (W (Proc.devRef .tc main_v21)))
    ∧ after (post c) W (Proc.devRef .tc main_arg0) = W (Proc.devRef .tc main_arg0) ∧ after (post c) W (Proc.devRef .tc main_arg1) = W (Proc.devRef .tc main_arg1)
    ∧ after (post c) W (Proc.devRef .tc main_arg2) = W (Proc.devRef .tc main_arg2) ∧ after (post c) W (Proc.devRef .tc main_arg3) = W (Proc.devRef .tc main_arg3)
    ∧ after (post c) W (Proc.devRef .tc main_arg4) = W (Proc.devRef .tc main_arg4) := by
  have e : after (post c) W = after (post c) W := rfl
  conv_rhs at e =>
    enter [1]
    dsimp only [id, post, line, line0, line1, Line.append, Line.cons, Line.nil, Line.one, List.cons_append, List.nil_append]
    whnf
  simp only [TRef.binary, TRef.nullary, TRef.ternary, TRef.unary, TRef.toBuf, TRef.ofBuf, cast_eq] at e
  rw [e]
  refine ⟨?_, ?_, ?_, ?_, ?_, ?_, ?_⟩ <;> after_results
  all_goals rfl

/-- The points, one per row. -/
abbrev points : FVec Ideal S4x4096x16 .f32 :=
  transpose S4x4096x16 [0, 2, 1] (shapeCast S4x16x4096 (W (Proc.devRef .tc main_arg0)) shapeCasts_S4x16x4096x1_S4x16x4096) transposes_S4x16x4096_S4x4096x16_0_2_1

/-- Entry by entry they are the features. -/
theorem points_apply : (fun b n k => points W (ix3 b n k)) = feat (W (Proc.devRef .tc main_arg0)) := by
  funext b n k
  unfold feat
  pointwise

set_option maxHeartbeats 2000000 in
/-- The edge list as the run computes it; the arguments stay. -/
theorem pre_apply : (∀ b n (q : Fin 20), near (after (pre c) W (Proc.devRef .tc main_v21)) (ix3 b n q) = Trip.pickW (sqDist (feat (W (Proc.devRef .tc main_arg0))) b n) (4 * q.val))
    ∧ self (after (pre c) W (Proc.devRef .tc main_v21)) = Cert.Conv.center
    ∧ after (pre c) W (Proc.devRef .tc main_arg0) = W (Proc.devRef .tc main_arg0) ∧ after (pre c) W (Proc.devRef .tc main_arg1) = W (Proc.devRef .tc main_arg1)
    ∧ after (pre c) W (Proc.devRef .tc main_arg2) = W (Proc.devRef .tc main_arg2) ∧ after (pre c) W (Proc.devRef .tc main_arg3) = W (Proc.devRef .tc main_arg3)
    ∧ after (pre c) W (Proc.devRef .tc main_arg4) = W (Proc.devRef .tc main_arg4) := by
  have e : after (pre c) W = after (pre c) W := rfl
  conv_rhs at e =>
    enter [1]
    dsimp only [id, pre, line, line0, line1, Line.append, Line.cons, Line.nil, Line.one, List.cons_append, List.nil_append]
    simp only [List.take_succ_cons, List.take_zero]
  rw [e]
  refine ⟨fun b n q => ?_, ?_, ?_, ?_, ?_, ?_, ?_⟩
  · have hq : 4 * q.val < 80 := by omega
    after_results
    refine (Cert.Graph.tail_dil_apply _ _ _ _ _ _ _ b n q hq).trans ?_
    refine Cert.Graph.pick_apply _ (sqDist (feat (W (Proc.devRef .tc main_arg0)))) (fun b n y => ?_) _ (by decide) b n ⟨4 * q.val, hq⟩
    exact (Cert.Graph.adj_apply (points W) _ _ _ _ _ _ _ _ _ b n y).trans (by rw [points_apply])
  · after_results
    exact Cert.Conv.self_dil_eq _ _ _ _ (Cert.Conv.own_apply _ _) _ _ _ (fun q => by omega)
  all_goals after_results

variable (m : (ℓ : Loc nD τ sig) → Buf (Elt Ideal) ℓ) (ρ : Dev nD → PrngReg)

/-- The run: its two results, and its arguments unchanged. -/
theorem result_apply : θ_run defs (onTc (τ := τ) (main (F := Ideal))) ⟨m, fun _ => 0, ρ⟩ fun r => ∀ c : Dev nD,
    ((∀ b n (q : Fin 20), (r.2.mem ((c.tc : Thread nD τ).loc main_v72) : IVec S4x4096x20 32) (ix3 b n q) = Trip.pickW (sqDist (feat (m ((c.tc : Thread nD τ).loc main_arg0))) b n) (4 * q.val))
      ∧ @Eq (FVec Ideal S4x16x4096x1 .f32) (r.2.mem ((c.tc : Thread nD τ).loc main_v70)) (addf (conv (m ((c.tc : Thread nD τ).loc main_arg0)) Cert.Conv.center (r.2.mem ((c.tc : Thread nD τ).loc main_v72))
          (m ((c.tc : Thread nD τ).loc main_arg1)) (m ((c.tc : Thread nD τ).loc main_arg2)) (m ((c.tc : Thread nD τ).loc main_arg3)) (m ((c.tc : Thread nD τ).loc main_arg4)))
          (m ((c.tc : Thread nD τ).loc main_arg0))))
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (run_seq (by decide) (by decide) defs main (fun c => (line c).ops) (fun c => (line c).eq) (fun c => (line c).bufs) m ρ (fun c => (line c).fresh))
  obtain ⟨p0, p1, a0, a1, a2, a3, a4⟩ := pre_apply (launchContents m c) c
  obtain ⟨q0, q1, k0, k1, k2, k3, k4⟩ := post_apply (after (pre c) (launchContents m c)) c
  have e : ∀ b : Ref sig .tc, r.2.mem ((c.tc : Thread nD τ).loc b) = after (post c) (after (pre c) (launchContents m c)) (Proc.devRef .tc b) := fun b =>
    (h c b).trans (congrFun (after_split 26 (line c).ops (launchContents m c)) _)
  refine ⟨⟨fun b n q => ?_, ?_⟩, (e _).trans (k0.trans a0), (e _).trans (k1.trans a1), (e _).trans (k2.trans a2), (e _).trans (k3.trans a3), (e _).trans (k4.trans a4)⟩
  · rw [e, q1]
    exact p0 b n q
  · rw [e, e, q0, q1, p1, a0, a1, a2, a3, a4]

end Cert.Plain4Ideal.Run

end
-- ==== Proof.Call4.lean ====
/- The claims of layer 4. -/
module

public import proofs.«01_k».proof.Defs
public import proofs.«01_k».proof.Proof.Gen.Layer4.Frame
public import proofs.«01_k».proof.Proof.Gen.Pre_finite_feat
public import proofs.«01_k».proof.Proof.Layer4
public import proofs.«01_k».proof.Proof.Plain4

@[expose] public section

noncomputable section

namespace Cert.Call4

open Idealize.ShloMosaic Idealize.ShloMosaic.TcCoe Idealize.SL.Sem

/-- The facts the programs of this layer and their precondition state. -/
local instance facts : Cert.Layer4.Facts := Cert.Layer4.Gen.facts
@[inherit_doc facts] local instance factsI : Cert.Layer4Ideal.Facts := Cert.Layer4Ideal.Gen.facts
@[inherit_doc facts] local instance factsR : Cert.Plain4Ideal.Facts := Cert.Plain4Ideal.Gen.facts
@[inherit_doc facts] local instance factsP : Cert.Pre_finite_feat.Facts := Cert.Pre_finite_feat.Gen.facts

/-- The reference leaves its arguments and its counters alone. -/
theorem frame_ref : Cert.quiescent_Plain4Ideal := fun m ρ _ =>
  (θ_run _ _ _).mono (fun r h => ⟨fun c => (h c).2, sem_eq_zero_of_no_sems (by decide) r.2⟩) (Cert.Plain4Ideal.Run.result_apply m ρ)

/-- On finite features the kernel's layer is the reference's. -/
theorem algebraic : Cert.algebraic_Layer4Ideal_Plain4Ideal_pre_finite_feat := by
  intro m g m' g' hpre hagree
  refine ⟨_, _, (θ_run _ _ _).mono (fun r h c => ⟨(h c).1.1, (h c).1.2, (h c).2⟩) (Cert.Layer4Ideal.Tile.run_apply m g), (θ_run _ _ _).mono (fun r h c => ?_) (Cert.Plain4Ideal.Run.result_apply m' g')⟩
  obtain ⟨⟨hn, hf⟩, ha⟩ := h c
  obtain ⟨e0, e1, e2, e3, e4⟩ := hagree c
  have en : r.2.mem ((c.tc : Thread Cert.Plain4Ideal.nD Cert.Plain4Ideal.τ).loc Cert.Plain4Ideal.main_v72) = (Cert.Layer4Ideal.Gen.dats m 0 c).arrAt 4 Cert.Layer4Ideal.cfg0.N := by
    refine Cert.Graph.ext fun b n q => (hn b n q).trans ?_
    rw [e0]
    exact (Cert.Layer4Ideal.Tile.result_apply c m (Cert.Graph.feat_lt_top _ _ (hpre c)) b n q).symm
  refine ⟨hf.trans ?_, en, ha⟩
  rw [en, e0, e1, e2, e3, e4]

end Cert.Call4

end
-- ==== Proof.Layer5.lean ====
/- The kernel of layer 5: what one grid point writes, the array after all of them, and the host code after it. -/
module

public import proofs.«01_k».proof.Proof.Gen.Layer5Ideal.Frame
public import Idealize.ShloMosaic.Lib.Pipeline.Value
public import proofs.«01_k».proof.Proof.Tile
public import proofs.«01_k».proof.Proof.Conv

@[expose] public section

set_option maxRecDepth 16384

noncomputable section

namespace Cert.Layer5Ideal.Tile

open Cert.Layer5Ideal Cert.Layer5Ideal.Gen Idealize.ShloMosaic Idealize.ShloMosaic.TcCoe Idealize.SL.Sem
open Cert.Graph (sqDist feat)
open Cert.Tile (cloud row emb_eq axes keep)

/-- The mask's value. -/
abbrev big : Ideal .f32 := Named.named (F := Ideal) κ "taken" (φ := .f32) 0x7F61B1E6#32

/-- Whether a trip's pick is kept, and its place. -/
def bit (k : Fin k0_t1_loop.trips) : BitVec 1 := trip_k0_t1.sl.v551 k

@[inherit_doc bit] def word (k : Fin k0_t1_loop.trips) : BitVec 32 := Scalar.select 0#1 (Scalar.subi (trip_k0_t1.sl.v552 k) 1#32) (trip_k0_t1.sl.v552 k)

variable (𝒱 : Variants) (c : Dev nD) (bd : Option 𝒱.V) (i : grid0.Coords) (arg2 : Memref sig .tc .vmem S1x512x1 .f32) (harg2 : arg2.IsWhole)
  (arg3 : Memref sig .tc .vmem S1x512x16 .f32) (harg3 : arg3.IsWhole) (arg4 : Memref sig .tc .vmem S1x16x4096 .f32) (harg4 : arg4.IsWhole)
  (arg5 : Memref sig .tc .vmem S1x1x4096 .f32) (harg5 : arg5.IsWhole) (arg6 : Memref sig .tc .vmem S1x512x20 .i32) (harg6 : arg6.IsWhole)
  (arg7 : Memref sig .tc .vmem S512x4096 .f32) (harg7 : arg7.IsWhole)

/-- A trip of the loop is the generic trip. -/
theorem trip_eq (k : Fin k0_t1_loop.trips) (acc : IVec S512x20 32 × IVec S512x1 32) (f : BufTy.Contents (Elt Ideal) arg7.view.ty) :
    (tripR_k0_t1 (F := Ideal) 𝒱 c bd i arg2 harg2 arg3 harg3 arg4 harg4 arg5 harg5 arg6 harg6 arg7 harg7 kernelRun0_A.sl.v18 k acc f,
      tripL_k0_t1 (F := Ideal) 𝒱 c bd i arg2 harg2 arg3 harg3 arg4 harg4 arg5 harg5 arg6 harg6 arg7 harg7 kernelRun0_A.sl.v18 k acc f)
      = Trip.trip arg7 big kernelRun0_A.sl.v18 iota_S512x20_d1_w32 (bit k) (word k) acc f := by
  unfold tripR_k0_t1 tripL_k0_t1 trip_k0_t1
  dsimp only
  rfl

/-- The distances the kernel stores first. -/
theorem pay_apply (v0 : Vec Ideal S1x512x16 .f32) (v2 : Vec Ideal S1x16x4096 .f32) (v4 : Vec Ideal S1x512x1 .f32) (v6 : Vec Ideal S1x1x4096 .f32)
    (r : Fin 512) (y : Fin 4096) : k0_pay1 v0 v2 v4 v6 (ix2 r y) = Cert.Tile.tile (C := 16) v4 v0 v2 v6 r y := by
  unfold k0_pay1 Cert.Tile.tile Cert.Graph.mix
  pointwise

/-- What a grid point writes. -/
theorem block (x0 : Vec Ideal S1x512x1 .f32) (x1 : Vec Ideal S1x512x16 .f32) (x2 : Vec Ideal S1x16x4096 .f32) (x3 : Vec Ideal S1x1x4096 .f32) :
    (∀ r y, Cert.Tile.tile (C := 16) x0 x1 x2 x3 r y < ⊤) → ∀ (r : Fin 512) (q : Fin 20),
    out0_A_4 c i arg2 harg2 arg3 harg3 arg4 harg4 arg5 harg5 arg6 harg6 arg7 harg7 x0 x1 x2 x3 (ix3 0 r q)
      = Trip.pickW (Cert.Tile.tile (C := 16) x0 x1 x2 x3 r) (5 * q.val) :=
  Cert.Tile.block arg2 harg2 arg3 harg3 arg4 harg4 arg5 harg5 arg7 VO0_4 big rfl kernelRun0_A.sl.v18 (Cert.Tile.iota_apply iota_S512x4096_d1_w32) iota_S512x20_d1_w32 5 k0_t1_loop.trips
    (by decide) (by decide) (by decide) (bit) (word) (by decide +kernel) k0_pay1 pay_apply x0 x1 x2 x3 _ _ _ _ _ _ _
    (arg7.view.writes (Elt Ideal) arg7.view.junk (kernelRun0_A.sl.HS0_1 c arg2 harg2 arg3 harg3 arg4 harg4 arg5 harg5 x0 x1 x2 x3)) rfl
    (st_k0_t1 Variants.none c none i arg2 harg2 arg3 harg3 arg4 harg4 arg5 harg5 arg6 harg6 arg7 harg7 kernelRun0_A.sl.v18 _ (k0_pay2, k0_pay3))
    rfl (fun k => by
      rw [← trip_eq Variants.none c none i arg2 harg2 arg3 harg3 arg4 harg4 arg5 harg5 arg6 harg6 arg7 harg7 k]
      exact st_k0_t1_succ ..)

/-! ## The blocks and the array -/

/-- The block indices of the five windows. -/
theorem index_eq : ∀ t : Fin grid0.N, win0_0.index t = ![t.val / 8, t.val % 8, 0] ∧ win0_1.index t = ![t.val / 8, t.val % 8, 0]
    ∧ win0_2.index t = ![t.val / 8, 0, 0] ∧ win0_3.index t = ![t.val / 8, 0, 0] ∧ win0_4.index t = ![t.val / 8, t.val % 8, 0] := by decide +kernel

/-- Every grid point writes its block back. -/
theorem flush4 : ∀ t : Fin grid0.N, win0_4.flush t = true := by decide +kernel

/-- Two grid points write different blocks. -/
theorem index_inj : ∀ t t' : Fin grid0.N, win0_4.index t = win0_4.index t' → t = t' := by decide +kernel

variable (m : (ℓ : Loc nD τ sig) → Buf (Elt Ideal) ℓ)

/-- The array's block is what its grid point wrote back. -/
theorem block_eq (t : Fin cfg0.N) : ((cfg0.win 4).blk t).view.read (Elt Ideal) ((dats m 0 c).arrAt 4 cfg0.N) = (dats m 0 c).flushed 4 t :=
  (dats m 0 c).read_blk_arrAt_eq_flushed 4 (fun t t' _ _ hne => (cfg0.win 4).disjoint_blk fun h => hne (index_inj t t' h)) cfg0.N t t.isLt (flush4 t)

/-- What a grid point writes back is what its run left in the block. -/
theorem flushed_eq (t : Fin cfg0.N) : (dats m 0 c).flushed 4 t = (cfg0.win 4).cut (grid0.coords t) (out0_A_4 c (grid0.coords t) (ms0_0 t) (hs0_0 t) (ms0_1 t) (hs0_1 t)
    (ms0_2 t) (hs0_2 t) (ms0_3 t) (hs0_3 t) (ms0_4 t) (hs0_4 t) scM0_0 (Memref.isWhole_whole _) (iblk m c 0 t) (iblk m c 1 t) (iblk m c 2 t) (iblk m c 3 t)) := by
  show (cfg0.win 4).cut (grid0.coords t) ((dats m 0 c).after 4 t) = _
  rw [after0_4]
  simp only [outsAt0]

/-- The points as the host hands them to the kernel. -/
abbrev points : FVec Ideal S4x4096x16 .f32 := V m c main_v1

/-- Entry by entry they are the features. -/
theorem points_apply : (fun b n k => points c m (ix3 b n k)) = feat (m ((c.tc : Thread nD τ).loc main_arg0)) := by
  have e : points c m = transpose S4x4096x16 [0, 2, 1] (shapeCast S4x16x4096 (m ((c.tc : Thread nD τ).loc main_arg0)) shapeCasts_S4x16x4096x1_S4x16x4096) transposes_S4x16x4096_S4x4096x16_0_2_1 := by
    dsimp only [points, V, V0, List.flatten_cons, List.flatten_nil, List.cons_append, List.nil_append, hostOps0, hostOps0_1]
    after_results
    rfl
  funext b n k
  rw [e]
  unfold feat
  pointwise

/-- The squared norms as the host hands them to the kernel, the same along a row, and the points by channel. -/
theorem host_norms : @Eq (FVec Ideal S4x4096x1 .f32) (V m c main_call0_v2) (broadcastInDim S4x4096x1 ![0, 1] bcast_S4x4096_S4x4096x1_0_1
      (Host.reduceAdd (mulf (points c m) (points c m)) (constant S_ .f32 0x00000000#32) reducesTo_S4x4096x16_S4x4096_d2 h_S_))
    ∧ @Eq (FVec Ideal S4x1x4096 .f32) (V m c main_call0_v3) (transpose S4x1x4096 [0, 2, 1] (V m c main_call0_v2 : FVec Ideal S4x4096x1 .f32) transposes_S4x4096x1_S4x1x4096_0_2_1)
    ∧ @Eq (FVec Ideal S4x16x4096 .f32) (V m c main_call0_v4) (transpose S4x16x4096 [0, 2, 1] (points c m) transposes_S4x4096x16_S4x16x4096_0_2_1) := by
  dsimp only [points, V, V0, List.flatten_cons, List.flatten_nil, List.cons_append, List.nil_append, hostOps0, hostOps0_1]
  refine ⟨?_, ?_, ?_⟩ <;> (after_results; rfl)

/-- The kernel's result. -/
theorem result_apply : (∀ b n y, sqDist (feat (m ((c.tc : Thread nD τ).loc main_arg0))) b n y < ⊤) → ∀ (b : Fin 4) (n : Fin 4096) (q : Fin 20),
    ((dats m 0 c).arrAt 4 cfg0.N : IVec S4x4096x20 32) (ix3 b n q) = Trip.pickW (sqDist (feat (m ((c.tc : Thread nD τ).loc main_arg0))) b n) (5 * q.val) := by
  rw [← points_apply]
  exact Cert.Tile.result (points c m) reducesTo_S4x4096x16_S4x4096_d2 h_S_ bcast_S4x4096_S4x4096x1_0_1 transposes_S4x4096x1_S4x1x4096_0_2_1
    transposes_S4x4096x16_S4x16x4096_0_2_1 5 _ (fun t => (dats m 0 c).flushed 4 t) (iblk m c 0) (iblk m c 1) (iblk m c 2) (iblk m c 3)
    (fun t r q => (congrArg ((dats m 0 c).arrAt 4 cfg0.N : IVec S4x4096x20 32) (emb_eq win0_4 t (ix3 0 r q) (ix3 (cloud t) (row t r) q) rfl (index_eq t).2.2.2.2
      (axes (Nat.mul_one _) rfl (keep _ _))).symm).trans (congrFun (block_eq c m t) (ix3 0 r q)))
    (fun t hx r q => (congrFun (flushed_eq c m t) (ix3 0 r q)).trans (block c _ _ _ _ _ _ _ _ _ _ _ _ _ _ _ _ _ hx r q))
    (fun t r => (congrArg (V m c main_call0_v2 : FVec Ideal S4x4096x1 .f32) (emb_eq win0_0 t (ix3 0 r 0) (ix3 (cloud t) (row t r) 0) rfl (index_eq t).1
      (axes (Nat.mul_one _) rfl rfl))).trans (congrFun (host_norms c m).1 _))
    (fun t r k => congrArg (points c m) (emb_eq win0_1 t (ix3 0 r k) (ix3 (cloud t) (row t r) k) rfl (index_eq t).2.1 (axes (Nat.mul_one _) rfl (keep _ _))))
    (fun t k y => (congrArg (V m c main_call0_v4 : FVec Ideal S4x16x4096 .f32) (emb_eq win0_2 t (ix3 0 k y) (ix3 (cloud t) k y) rfl (index_eq t).2.2.1
      (axes (Nat.mul_one _) (keep _ _) (keep _ _)))).trans (congrFun (host_norms c m).2.2 _))
    (fun t y => (congrArg (V m c main_call0_v3 : FVec Ideal S4x1x4096 .f32) (emb_eq win0_3 t (ix3 0 0 y) (ix3 (cloud t) 0 y) rfl (index_eq t).2.2.2.1
      (axes (Nat.mul_one _) rfl (keep _ _)))).trans ((congrFun (host_norms c m).2.1 _).trans (by rw [(host_norms c m).1])))

/-! ## The host code after the kernel -/

/-- The edge convolution of layer 5, on a table of neighbours. -/
abbrev conv (x : FVec Ideal S4x16x4096x1 .f32) (near : IVec S4x4096x20 32) (W : FVec Ideal S16x32 .f32) (b gamma beta : FVec Ideal S16 .f32) : FVec Ideal S4x16x4096x1 .f32 :=
  Cert.Conv.conv gather_S4x16x4096_S4x4096x20x1_S4x16x4096x20_1_2_0_0_2_3_1161_wf concatenates_S4x16x4096x20_S4x16x4096x20_S4x32x4096x20_d1
    dot_S4x32x4096x20_S16x32_S4x4096x20x16_1_1_023_0_n_n_wf shapeCasts_S4x16x4096x1_S4x16x4096 x Cert.Conv.center near W b gamma beta

set_option maxHeartbeats 2000000 in
/-- The host code after the kernel, from any memory. -/
theorem tail_apply (W : Valuation τ sig (Elt Ideal)) : @Eq (FVec Ideal S4x16x4096x1 .f32) (StableHlo.after [hostOps1, hostOps1_1, hostOps1_2, hostOps1_3, hostOps1_4].flatten W (Proc.devRef .tc main_v50))
    (addf (conv (W (Proc.devRef .tc main_arg0)) (W (Proc.devRef .tc main_v2)) (W (Proc.devRef .tc main_arg1)) (W (Proc.devRef .tc main_arg2)) (W (Proc.devRef .tc main_arg3)) (W (Proc.devRef .tc main_arg4)))
      (W (Proc.devRef .tc main_arg0))) := by
  dsimp only [List.flatten_cons, List.flatten_nil, List.cons_append, List.nil_append, hostOps1, hostOps1_1, hostOps1_2, hostOps1_3, hostOps1_4]
  simp only [StableHlo.TRef.binary, StableHlo.TRef.nullary, StableHlo.TRef.ternary, StableHlo.TRef.unary, StableHlo.TRef.toBuf, StableHlo.TRef.ofBuf, cast_eq]
  after_results
  rfl

/-- The memory the host code after the kernel starts from. -/
abbrev mid : Valuation τ sig (Elt Ideal) := Pipeline.withArrays (cfgs 0).spec c (V0 m c) fun w => (dats m 0 c).arrAt w (cfgs 0).N

/-- It holds the kernel's array and the arguments. -/
theorem mid_apply : mid c m (Proc.devRef .tc main_v2) = (dats m 0 c).arrAt 4 cfg0.N ∧ mid c m (Proc.devRef .tc main_arg0) = m ((c.tc : Thread nD τ).loc main_arg0)
    ∧ mid c m (Proc.devRef .tc main_arg1) = m ((c.tc : Thread nD τ).loc main_arg1) ∧ mid c m (Proc.devRef .tc main_arg2) = m ((c.tc : Thread nD τ).loc main_arg2)
    ∧ mid c m (Proc.devRef .tc main_arg3) = m ((c.tc : Thread nD τ).loc main_arg3) ∧ mid c m (Proc.devRef .tc main_arg4) = m ((c.tc : Thread nD τ).loc main_arg4) :=
  ⟨Pipeline.withArrays_arr (cfgs 0).spec (by decide) c _ _ 4, (Pipeline.withArrays_of_ne _ c _ _ main_arg0 (by decide)).trans (V_main_arg0 m c),
    (Pipeline.withArrays_of_ne _ c _ _ main_arg1 (by decide)).trans (V_main_arg1 m c), (Pipeline.withArrays_of_ne _ c _ _ main_arg2 (by decide)).trans (V_main_arg2 m c),
    (Pipeline.withArrays_of_ne _ c _ _ main_arg3 (by decide)).trans (V_main_arg3 m c), (Pipeline.withArrays_of_ne _ c _ _ main_arg4 (by decide)).trans (V_main_arg4 m c)⟩

variable (ρ : Dev nD → PrngReg)

/-- The run: its results, and its arguments unchanged. -/
theorem run_apply : θ_run defs (onTc (τ := τ) (main (F := Ideal))) ⟨m, fun _ => 0, ρ⟩ fun r => ∀ c : Dev nD,
    (@Eq (FVec Ideal S4x16x4096x1 .f32) (r.2.mem ((c.tc : Thread nD τ).loc main_v50)) (addf (conv (m ((c.tc : Thread nD τ).loc main_arg0)) ((dats m 0 c).arrAt 4 cfg0.N)
          (m ((c.tc : Thread nD τ).loc main_arg1)) (m ((c.tc : Thread nD τ).loc main_arg2)) (m ((c.tc : Thread nD τ).loc main_arg3)) (m ((c.tc : Thread nD τ).loc main_arg4)))
          (m ((c.tc : Thread nD τ).loc main_arg0)))
      ∧ r.2.mem ((c.tc : Thread nD τ).loc main_v2) = (dats m 0 c).arrAt 4 cfg0.N)
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨⟨?_, (h.1 c).1 4⟩, h.2 c⟩) (θ_run_and (run_main m ρ) (unchanged m ρ))
  refine ((h.1 c).2 main_v50 (Pipeline.mem_restRefs_of main_v50 (by decide) (by decide))).trans ((tail_apply (mid c m)).trans ?_)
  obtain ⟨e, a0, a1, a2, a3, a4⟩ := mid_apply c m
  rw [e, a0, a1, a2, a3, a4]

end Cert.Layer5Ideal.Tile

end
-- ==== Proof.Plain5.lean ====
/- The reference of layer 5. -/
module

public import proofs.«01_k».proof.Proof.Gen.Plain5Ideal
public import proofs.«01_k».proof.Proof.Line
public import proofs.«01_k».proof.Proof.Conv

@[expose] public section

set_option maxRecDepth 16384

noncomputable section

namespace Cert.Plain5Ideal.Run

open Cert.Graph (sqDist feat)
open Cert.Plain5Ideal Cert.Plain5Ideal.Gen Idealize.SL Idealize.ShloMosaic Idealize.ShloMosaic.TcCoe Idealize.SL.Sem Idealize.ShloMosaic.StableHlo

set_option maxHeartbeats 4000000 in
/-- The first window of the reference's operations. -/
def line0 (c : Dev nD) : Line (main_part0 (F := Ideal) c) := by
  unfold main_part0
  repeat first | refine Line.cons _ ?_ | exact Line.nil | exact Line.one _

set_option maxHeartbeats 4000000 in
@[inherit_doc line0] def line1 (c : Dev nD) : Line (main_part1 (F := Ideal) c) := by
  unfold main_part1 fn_var.body fn_relu.body fn_where.body
  repeat first | refine Line.cons _ ?_ | exact Line.nil | exact Line.one _ | refine Line.append ?_ ?_

/-- The reference's operations. -/
def line (c : Dev nD) : Line (main (F := Ideal) c) := (line0 c).append (line1 c)

/-- The edge list: the operations up to it, and those after it. -/
def pre (c : Dev nD) : List (HloOp τ sig (Elt Ideal)) := (line c).ops.take 26

@[inherit_doc pre] def post (c : Dev nD) : List (HloOp τ sig (Elt Ideal)) := (line c).ops.drop 26

/-- The edge convolution of layer 5, on a table of neighbours. -/
abbrev conv (x : FVec Ideal S4x16x4096x1 .f32) (self near : IVec S4x4096x20 32) (W : FVec Ideal S16x32 .f32) (b gamma beta : FVec Ideal S16 .f32) : FVec Ideal S4x16x4096x1 .f32 :=
  Cert.Conv.conv gather_S4x16x4096_S4x4096x20x1_S4x16x4096x20_1_2_0_0_2_3_1161_wf concatenates_S4x16x4096x20_S4x16x4096x20_S4x32x4096x20_d1
    dot_S4x32x4096x20_S16x32_S4x4096x20x16_1_1_023_0_n_n_wf shapeCasts_S4x16x4096x1_S4x16x4096 x self near W b gamma beta

variable (W : Valuation τ sig (Elt Ideal)) (c : Dev nD)

/-- The row of the edge list that holds the neighbours, and the one that holds the points themselves. -/
def near (g : IVec S2x4x4096x20 32) : IVec S4x4096x20 32 :=
  shapeCast S4x4096x20 (extractStridedSlice S1x4x4096x20 ![0, 0, 0, 0] g slices_S2x4x4096x20_S1x4x4096x20_0_0_0_0) shapeCasts_S1x4x4096x20_S4x4096x20

@[inherit_doc near] def self (g : IVec S2x4x4096x20 32) : IVec S4x4096x20 32 :=
  shapeCast S4x4096x20 (extractStridedSlice S1x4x4096x20 ![1, 0, 0, 0] g slices_S2x4x4096x20_S1x4x4096x20_1_0_0_0) shapeCasts_S1x4x4096x20_S4x4096x20

set_option maxHeartbeats 2000000 in
/-- After the edge list the run computes the edge convolution, adds the features and returns the neighbours; the arguments stay. -/
theorem post_apply : @Eq (FVec Ideal S4x16x4096x1 .f32) (after (post c) W (Proc.devRef .tc main_v70))
      (addf (conv (W (Proc.devRef .tc main_arg0)) (self (W (Proc.devRef .tc main_v21))) (near (W (Proc.devRef .tc main_v21))) (W (Proc.devRef .tc main_arg1))
          (W (Proc.devRef .tc main_arg2)) (W (Proc.devRef .tc main_arg3)) (W (Proc.devRef .tc main_arg4)))
        (W (Proc.devRef .tc main_arg0)))
    ∧ @Eq (IVec S4x4096x20 32) (after (post c) W (Proc.devRef .tc main_v72)) (near (W (Proc.devRef .tc main_v21)))
    ∧ after (post c) W (Proc.devRef .tc main_arg0) = W (Proc.devRef .tc main_arg0) ∧ after (post c) W (Proc.devRef .tc main_arg1) = W (Proc.devRef .tc main_arg1)
    ∧ after (post c) W (Proc.devRef .tc main_arg2) = W (Proc.devRef .tc main_arg2) ∧ after (post c) W (Proc.devRef .tc main_arg3) = W (Proc.devRef .tc main_arg3)
    ∧ after (post c) W (Proc.devRef .tc main_arg4) = W (Proc.devRef .tc main_arg4) := by
  have e : after (post c) W = after (post c) W := rfl
  conv_rhs at e =>
    enter [1]
    dsimp only [id, post, line, line0, line1, Line.append, Line.cons, Line.nil, Line.one, List.cons_append, List.nil_append]
    whnf
  simp only [TRef.binary, TRef.nullary, TRef.ternary, TRef.unary, TRef.toBuf, TRef.ofBuf, cast_eq] at e
  rw [e]
  refine ⟨?_, ?_, ?_, ?_, ?_, ?_, ?_⟩ <;> after_results
  all_goals rfl

/-- The points, one per row. -/
abbrev points : FVec Ideal S4x4096x16 .f32 :=
  transpose S4x4096x16 [0, 2, 1] (shapeCast S4x16x4096 (W (Proc.devRef .tc main_arg0)) shapeCasts_S4x16x4096x1_S4x16x4096) transposes_S4x16x4096_S4x4096x16_0_2_1

/-- Entry by entry they are the features. -/
theorem points_apply : (fun b n k => points W (ix3 b n k)) = feat (W (Proc.devRef .tc main_arg0)) := by
  funext b n k
  unfold feat
  pointwise

set_option maxHeartbeats 2000000 in
/-- The edge list as the run computes it; the arguments stay. -/
theorem pre_apply : (∀ b n (q : Fin 20), near (after (pre c) W (Proc.devRef .tc main_v21)) (ix3 b n q) = Trip.pickW (sqDist (feat (W (Proc.devRef .tc main_arg0))) b n) (5 * q.val))
    ∧ self (after (pre c) W (Proc.devRef .tc main_v21)) = Cert.Conv.center
    ∧ after (pre c) W (Proc.devRef .tc main_arg0) = W (Proc.devRef .tc main_arg0) ∧ after (pre c) W (Proc.devRef .tc main_arg1) = W (Proc.devRef .tc main_arg1)
    ∧ after (pre c) W (Proc.devRef .tc main_arg2) = W (Proc.devRef .tc main_arg2) ∧ after (pre c) W (Proc.devRef .tc main_arg3) = W (Proc.devRef .tc main_arg3)
    ∧ after (pre c) W (Proc.devRef .tc main_arg4) = W (Proc.devRef .tc main_arg4) := by
  have e : after (pre c) W = after (pre c) W := rfl
  conv_rhs at e =>
    enter [1]
    dsimp only [id, pre, line, line0, line1, Line.append, Line.cons, Line.nil, Line.one, List.cons_append, List.nil_append]
    simp only [List.take_succ_cons, List.take_zero]
  rw [e]
  refine ⟨fun b n q => ?_, ?_, ?_, ?_, ?_, ?_, ?_⟩
  · have hq : 5 * q.val < 100 := by omega
    after_results
    refine (Cert.Graph.tail_dil_apply _ _ _ _ _ _ _ b n q hq).trans ?_
    refine Cert.Graph.pick_apply _ (sqDist (feat (W (Proc.devRef .tc main_arg0)))) (fun b n y => ?_) _ (by decide) b n ⟨5 * q.val, hq⟩
    exact (Cert.Graph.adj_apply (points W) _ _ _ _ _ _ _ _ _ b n y).trans (by rw [points_apply])
  · after_results
    exact Cert.Conv.self_dil_eq _ _ _ _ (Cert.Conv.own_apply _ _) _ _ _ (fun q => by omega)
  all_goals after_results

variable (m : (ℓ : Loc nD τ sig) → Buf (Elt Ideal) ℓ) (ρ : Dev nD → PrngReg)

/-- The run: its two results, and its arguments unchanged. -/
theorem result_apply : θ_run defs (onTc (τ := τ) (main (F := Ideal))) ⟨m, fun _ => 0, ρ⟩ fun r => ∀ c : Dev nD,
    ((∀ b n (q : Fin 20), (r.2.mem ((c.tc : Thread nD τ).loc main_v72) : IVec S4x4096x20 32) (ix3 b n q) = Trip.pickW (sqDist (feat (m ((c.tc : Thread nD τ).loc main_arg0))) b n) (5 * q.val))
      ∧ @Eq (FVec Ideal S4x16x4096x1 .f32) (r.2.mem ((c.tc : Thread nD τ).loc main_v70)) (addf (conv (m ((c.tc : Thread nD τ).loc main_arg0)) Cert.Conv.center (r.2.mem ((c.tc : Thread nD τ).loc main_v72))
          (m ((c.tc : Thread nD τ).loc main_arg1)) (m ((c.tc : Thread nD τ).loc main_arg2)) (m ((c.tc : Thread nD τ).loc main_arg3)) (m ((c.tc : Thread nD τ).loc main_arg4)))
          (m ((c.tc : Thread nD τ).loc main_arg0))))
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (run_seq (by decide) (by decide) defs main (fun c => (line c).ops) (fun c => (line c).eq) (fun c => (line c).bufs) m ρ (fun c => (line c).fresh))
  obtain ⟨p0, p1, a0, a1, a2, a3, a4⟩ := pre_apply (launchContents m c) c
  obtain ⟨q0, q1, k0, k1, k2, k3, k4⟩ := post_apply (after (pre c) (launchContents m c)) c
  have e : ∀ b : Ref sig .tc, r.2.mem ((c.tc : Thread nD τ).loc b) = after (post c) (after (pre c) (launchContents m c)) (Proc.devRef .tc b) := fun b =>
    (h c b).trans (congrFun (after_split 26 (line c).ops (launchContents m c)) _)
  refine ⟨⟨fun b n q => ?_, ?_⟩, (e _).trans (k0.trans a0), (e _).trans (k1.trans a1), (e _).trans (k2.trans a2), (e _).trans (k3.trans a3), (e _).trans (k4.trans a4)⟩
  · rw [e, q1]
    exact p0 b n q
  · rw [e, e, q0, q1, p1, a0, a1, a2, a3, a4]

end Cert.Plain5Ideal.Run

end
-- ==== Proof.Call5.lean ====
/- The claims of layer 5. -/
module

public import proofs.«01_k».proof.Defs
public import proofs.«01_k».proof.Proof.Gen.Layer5.Frame
public import proofs.«01_k».proof.Proof.Gen.Pre_finite_feat
public import proofs.«01_k».proof.Proof.Layer5
public import proofs.«01_k».proof.Proof.Plain5

@[expose] public section

noncomputable section

namespace Cert.Call5

open Idealize.ShloMosaic Idealize.ShloMosaic.TcCoe Idealize.SL.Sem

/-- The facts the programs of this layer and their precondition state. -/
local instance facts : Cert.Layer5.Facts := Cert.Layer5.Gen.facts
@[inherit_doc facts] local instance factsI : Cert.Layer5Ideal.Facts := Cert.Layer5Ideal.Gen.facts
@[inherit_doc facts] local instance factsR : Cert.Plain5Ideal.Facts := Cert.Plain5Ideal.Gen.facts
@[inherit_doc facts] local instance factsP : Cert.Pre_finite_feat.Facts := Cert.Pre_finite_feat.Gen.facts

/-- The reference leaves its arguments and its counters alone. -/
theorem frame_ref : Cert.quiescent_Plain5Ideal := fun m ρ _ =>
  (θ_run _ _ _).mono (fun r h => ⟨fun c => (h c).2, sem_eq_zero_of_no_sems (by decide) r.2⟩) (Cert.Plain5Ideal.Run.result_apply m ρ)

/-- On finite features the kernel's layer is the reference's. -/
theorem algebraic : Cert.algebraic_Layer5Ideal_Plain5Ideal_pre_finite_feat := by
  intro m g m' g' hpre hagree
  refine ⟨_, _, (θ_run _ _ _).mono (fun r h c => ⟨(h c).1.1, (h c).1.2, (h c).2⟩) (Cert.Layer5Ideal.Tile.run_apply m g), (θ_run _ _ _).mono (fun r h c => ?_) (Cert.Plain5Ideal.Run.result_apply m' g')⟩
  obtain ⟨⟨hn, hf⟩, ha⟩ := h c
  obtain ⟨e0, e1, e2, e3, e4⟩ := hagree c
  have en : r.2.mem ((c.tc : Thread Cert.Plain5Ideal.nD Cert.Plain5Ideal.τ).loc Cert.Plain5Ideal.main_v72) = (Cert.Layer5Ideal.Gen.dats m 0 c).arrAt 4 Cert.Layer5Ideal.cfg0.N := by
    refine Cert.Graph.ext fun b n q => (hn b n q).trans ?_
    rw [e0]
    exact (Cert.Layer5Ideal.Tile.result_apply c m (Cert.Graph.feat_lt_top _ _ (hpre c)) b n q).symm
  refine ⟨hf.trans ?_, en, ha⟩
  rw [en, e0, e1, e2, e3, e4]

end Cert.Call5

end
-- ==== Proof.Layer6.lean ====
/- The kernel of layer 6: what one grid point writes, the array after all of them, and the host code after it. -/
module

public import proofs.«01_k».proof.Proof.Gen.Layer6Ideal.Frame
public import Idealize.ShloMosaic.Lib.Pipeline.Value
public import proofs.«01_k».proof.Proof.Tile
public import proofs.«01_k».proof.Proof.Conv

@[expose] public section

set_option maxRecDepth 16384

noncomputable section

namespace Cert.Layer6Ideal.Tile

open Cert.Layer6Ideal Cert.Layer6Ideal.Gen Idealize.ShloMosaic Idealize.ShloMosaic.TcCoe Idealize.SL.Sem
open Cert.Graph (sqDist feat)
open Cert.Tile (cloud row emb_eq axes keep)

/-- The mask's value. -/
abbrev big : Ideal .f32 := Named.named (F := Ideal) κ "taken" (φ := .f32) 0x7F61B1E6#32

/-- Whether a trip's pick is kept, and its place. -/
def bit (k : Fin k0_t1_loop.trips) : BitVec 1 := trip_k0_t1.sl.v551 k

@[inherit_doc bit] def word (k : Fin k0_t1_loop.trips) : BitVec 32 := Scalar.select 0#1 (Scalar.subi (trip_k0_t1.sl.v552 k) 1#32) (trip_k0_t1.sl.v552 k)

variable (𝒱 : Variants) (c : Dev nD) (bd : Option 𝒱.V) (i : grid0.Coords) (arg2 : Memref sig .tc .vmem S1x512x1 .f32) (harg2 : arg2.IsWhole)
  (arg3 : Memref sig .tc .vmem S1x512x16 .f32) (harg3 : arg3.IsWhole) (arg4 : Memref sig .tc .vmem S1x16x4096 .f32) (harg4 : arg4.IsWhole)
  (arg5 : Memref sig .tc .vmem S1x1x4096 .f32) (harg5 : arg5.IsWhole) (arg6 : Memref sig .tc .vmem S1x512x20 .i32) (harg6 : arg6.IsWhole)
  (arg7 : Memref sig .tc .vmem S512x4096 .f32) (harg7 : arg7.IsWhole)

/-- A trip of the loop is the generic trip. -/
theorem trip_eq (k : Fin k0_t1_loop.trips) (acc : IVec S512x20 32 × IVec S512x1 32) (f : BufTy.Contents (Elt Ideal) arg7.view.ty) :
    (tripR_k0_t1 (F := Ideal) 𝒱 c bd i arg2 harg2 arg3 harg3 arg4 harg4 arg5 harg5 arg6 harg6 arg7 harg7 kernelRun0_A.sl.v18 k acc f,
      tripL_k0_t1 (F := Ideal) 𝒱 c bd i arg2 harg2 arg3 harg3 arg4 harg4 arg5 harg5 arg6 harg6 arg7 harg7 kernelRun0_A.sl.v18 k acc f)
      = Trip.trip arg7 big kernelRun0_A.sl.v18 iota_S512x20_d1_w32 (bit k) (word k) acc f := by
  unfold tripR_k0_t1 tripL_k0_t1 trip_k0_t1
  dsimp only
  rfl

/-- The distances the kernel stores first. -/
theorem pay_apply (v0 : Vec Ideal S1x512x16 .f32) (v2 : Vec Ideal S1x16x4096 .f32) (v4 : Vec Ideal S1x512x1 .f32) (v6 : Vec Ideal S1x1x4096 .f32)
    (r : Fin 512) (y : Fin 4096) : k0_pay1 v0 v2 v4 v6 (ix2 r y) = Cert.Tile.tile (C := 16) v4 v0 v2 v6 r y := by
  unfold k0_pay1 Cert.Tile.tile Cert.Graph.mix
  pointwise

/-- What a grid point writes. -/
theorem block (x0 : Vec Ideal S1x512x1 .f32) (x1 : Vec Ideal S1x512x16 .f32) (x2 : Vec Ideal S1x16x4096 .f32) (x3 : Vec Ideal S1x1x4096 .f32) :
    (∀ r y, Cert.Tile.tile (C := 16) x0 x1 x2 x3 r y < ⊤) → ∀ (r : Fin 512) (q : Fin 20),
    out0_A_4 c i arg2 harg2 arg3 harg3 arg4 harg4 arg5 harg5 arg6 harg6 arg7 harg7 x0 x1 x2 x3 (ix3 0 r q)
      = Trip.pickW (Cert.Tile.tile (C := 16) x0 x1 x2 x3 r) (6 * q.val) :=
  Cert.Tile.block arg2 harg2 arg3 harg3 arg4 harg4 arg5 harg5 arg7 VO0_4 big rfl kernelRun0_A.sl.v18 (Cert.Tile.iota_apply iota_S512x4096_d1_w32) iota_S512x20_d1_w32 6 k0_t1_loop.trips
    (by decide) (by decide) (by decide) (bit) (word) (by decide +kernel) k0_pay1 pay_apply x0 x1 x2 x3 _ _ _ _ _ _ _
    (arg7.view.writes (Elt Ideal) arg7.view.junk (kernelRun0_A.sl.HS0_1 c arg2 harg2 arg3 harg3 arg4 harg4 arg5 harg5 x0 x1 x2 x3)) rfl
    (st_k0_t1 Variants.none c none i arg2 harg2 arg3 harg3 arg4 harg4 arg5 harg5 arg6 harg6 arg7 harg7 kernelRun0_A.sl.v18 _ (k0_pay2, k0_pay3))
    rfl (fun k => by
      rw [← trip_eq Variants.none c none i arg2 harg2 arg3 harg3 arg4 harg4 arg5 harg5 arg6 harg6 arg7 harg7 k]
      exact st_k0_t1_succ ..)

/-! ## The blocks and the array -/

/-- The block indices of the five windows. -/
theorem index_eq : ∀ t : Fin grid0.N, win0_0.index t = ![t.val / 8, t.val % 8, 0] ∧ win0_1.index t = ![t.val / 8, t.val % 8, 0]
    ∧ win0_2.index t = ![t.val / 8, 0, 0] ∧ win0_3.index t = ![t.val / 8, 0, 0] ∧ win0_4.index t = ![t.val / 8, t.val % 8, 0] := by decide +kernel

/-- Every grid point writes its block back. -/
theorem flush4 : ∀ t : Fin grid0.N, win0_4.flush t = true := by decide +kernel

/-- Two grid points write different blocks. -/
theorem index_inj : ∀ t t' : Fin grid0.N, win0_4.index t = win0_4.index t' → t = t' := by decide +kernel

variable (m : (ℓ : Loc nD τ sig) → Buf (Elt Ideal) ℓ)

/-- The array's block is what its grid point wrote back. -/
theorem block_eq (t : Fin cfg0.N) : ((cfg0.win 4).blk t).view.read (Elt Ideal) ((dats m 0 c).arrAt 4 cfg0.N) = (dats m 0 c).flushed 4 t :=
  (dats m 0 c).read_blk_arrAt_eq_flushed 4 (fun t t' _ _ hne => (cfg0.win 4).disjoint_blk fun h => hne (index_inj t t' h)) cfg0.N t t.isLt (flush4 t)

/-- What a grid point writes back is what its run left in the block. -/
theorem flushed_eq (t : Fin cfg0.N) : (dats m 0 c).flushed 4 t = (cfg0.win 4).cut (grid0.coords t) (out0_A_4 c (grid0.coords t) (ms0_0 t) (hs0_0 t) (ms0_1 t) (hs0_1 t)
    (ms0_2 t) (hs0_2 t) (ms0_3 t) (hs0_3 t) (ms0_4 t) (hs0_4 t) scM0_0 (Memref.isWhole_whole _) (iblk m c 0 t) (iblk m c 1 t) (iblk m c 2 t) (iblk m c 3 t)) := by
  show (cfg0.win 4).cut (grid0.coords t) ((dats m 0 c).after 4 t) = _
  rw [after0_4]
  simp only [outsAt0]

/-- The points as the host hands them to the kernel. -/
abbrev points : FVec Ideal S4x4096x16 .f32 := V m c main_v1

/-- Entry by entry they are the features. -/
theorem points_apply : (fun b n k => points c m (ix3 b n k)) = feat (m ((c.tc : Thread nD τ).loc main_arg0)) := by
  have e : points c m = transpose S4x4096x16 [0, 2, 1] (shapeCast S4x16x4096 (m ((c.tc : Thread nD τ).loc main_arg0)) shapeCasts_S4x16x4096x1_S4x16x4096) transposes_S4x16x4096_S4x4096x16_0_2_1 := by
    dsimp only [points, V, V0, List.flatten_cons, List.flatten_nil, List.cons_append, List.nil_append, hostOps0, hostOps0_1]
    after_results
    rfl
  funext b n k
  rw [e]
  unfold feat
  pointwise

/-- The squared norms as the host hands them to the kernel, the same along a row, and the points by channel. -/
theorem host_norms : @Eq (FVec Ideal S4x4096x1 .f32) (V m c main_call0_v2) (broadcastInDim S4x4096x1 ![0, 1] bcast_S4x4096_S4x4096x1_0_1
      (Host.reduceAdd (mulf (points c m) (points c m)) (constant S_ .f32 0x00000000#32) reducesTo_S4x4096x16_S4x4096_d2 h_S_))
    ∧ @Eq (FVec Ideal S4x1x4096 .f32) (V m c main_call0_v3) (transpose S4x1x4096 [0, 2, 1] (V m c main_call0_v2 : FVec Ideal S4x4096x1 .f32) transposes_S4x4096x1_S4x1x4096_0_2_1)
    ∧ @Eq (FVec Ideal S4x16x4096 .f32) (V m c main_call0_v4) (transpose S4x16x4096 [0, 2, 1] (points c m) transposes_S4x4096x16_S4x16x4096_0_2_1) := by
  dsimp only [points, V, V0, List.flatten_cons, List.flatten_nil, List.cons_append, List.nil_append, hostOps0, hostOps0_1]
  refine ⟨?_, ?_, ?_⟩ <;> (after_results; rfl)

/-- The kernel's result. -/
theorem result_apply : (∀ b n y, sqDist (feat (m ((c.tc : Thread nD τ).loc main_arg0))) b n y < ⊤) → ∀ (b : Fin 4) (n : Fin 4096) (q : Fin 20),
    ((dats m 0 c).arrAt 4 cfg0.N : IVec S4x4096x20 32) (ix3 b n q) = Trip.pickW (sqDist (feat (m ((c.tc : Thread nD τ).loc main_arg0))) b n) (6 * q.val) := by
  rw [← points_apply]
  exact Cert.Tile.result (points c m) reducesTo_S4x4096x16_S4x4096_d2 h_S_ bcast_S4x4096_S4x4096x1_0_1 transposes_S4x4096x1_S4x1x4096_0_2_1
    transposes_S4x4096x16_S4x16x4096_0_2_1 6 _ (fun t => (dats m 0 c).flushed 4 t) (iblk m c 0) (iblk m c 1) (iblk m c 2) (iblk m c 3)
    (fun t r q => (congrArg ((dats m 0 c).arrAt 4 cfg0.N : IVec S4x4096x20 32) (emb_eq win0_4 t (ix3 0 r q) (ix3 (cloud t) (row t r) q) rfl (index_eq t).2.2.2.2
      (axes (Nat.mul_one _) rfl (keep _ _))).symm).trans (congrFun (block_eq c m t) (ix3 0 r q)))
    (fun t hx r q => (congrFun (flushed_eq c m t) (ix3 0 r q)).trans (block c _ _ _ _ _ _ _ _ _ _ _ _ _ _ _ _ _ hx r q))
    (fun t r => (congrArg (V m c main_call0_v2 : FVec Ideal S4x4096x1 .f32) (emb_eq win0_0 t (ix3 0 r 0) (ix3 (cloud t) (row t r) 0) rfl (index_eq t).1
      (axes (Nat.mul_one _) rfl rfl))).trans (congrFun (host_norms c m).1 _))
    (fun t r k => congrArg (points c m) (emb_eq win0_1 t (ix3 0 r k) (ix3 (cloud t) (row t r) k) rfl (index_eq t).2.1 (axes (Nat.mul_one _) rfl (keep _ _))))
    (fun t k y => (congrArg (V m c main_call0_v4 : FVec Ideal S4x16x4096 .f32) (emb_eq win0_2 t (ix3 0 k y) (ix3 (cloud t) k y) rfl (index_eq t).2.2.1
      (axes (Nat.mul_one _) (keep _ _) (keep _ _)))).trans (congrFun (host_norms c m).2.2 _))
    (fun t y => (congrArg (V m c main_call0_v3 : FVec Ideal S4x1x4096 .f32) (emb_eq win0_3 t (ix3 0 0 y) (ix3 (cloud t) 0 y) rfl (index_eq t).2.2.2.1
      (axes (Nat.mul_one _) rfl (keep _ _)))).trans ((congrFun (host_norms c m).2.1 _).trans (by rw [(host_norms c m).1])))

/-! ## The host code after the kernel -/

/-- The edge convolution of layer 6, on a table of neighbours. -/
abbrev conv (x : FVec Ideal S4x16x4096x1 .f32) (near : IVec S4x4096x20 32) (W : FVec Ideal S16x32 .f32) (b gamma beta : FVec Ideal S16 .f32) : FVec Ideal S4x16x4096x1 .f32 :=
  Cert.Conv.conv gather_S4x16x4096_S4x4096x20x1_S4x16x4096x20_1_2_0_0_2_3_1161_wf concatenates_S4x16x4096x20_S4x16x4096x20_S4x32x4096x20_d1
    dot_S4x32x4096x20_S16x32_S4x4096x20x16_1_1_023_0_n_n_wf shapeCasts_S4x16x4096x1_S4x16x4096 x Cert.Conv.center near W b gamma beta

/-- The layer's result: the features added and transposed. -/
abbrev out (y x : FVec Ideal S4x16x4096x1 .f32) : FVec Ideal S4x4096x16 .f32 :=
  transpose S4x4096x16 [0, 2, 1] (shapeCast S4x16x4096 (addf y x) shapeCasts_S4x16x4096x1_S4x16x4096) transposes_S4x16x4096_S4x4096x16_0_2_1

set_option maxHeartbeats 2000000 in
/-- The host code after the kernel, from any memory. -/
theorem tail_apply (W : Valuation τ sig (Elt Ideal)) : @Eq (FVec Ideal S4x4096x16 .f32) (StableHlo.after [hostOps1, hostOps1_1, hostOps1_2, hostOps1_3, hostOps1_4].flatten W (Proc.devRef .tc main_v52))
    (out (conv (W (Proc.devRef .tc main_arg0)) (W (Proc.devRef .tc main_v2)) (W (Proc.devRef .tc main_arg1)) (W (Proc.devRef .tc main_arg2)) (W (Proc.devRef .tc main_arg3)) (W (Proc.devRef .tc main_arg4)))
      (W (Proc.devRef .tc main_arg0))) := by
  dsimp only [List.flatten_cons, List.flatten_nil, List.cons_append, List.nil_append, hostOps1, hostOps1_1, hostOps1_2, hostOps1_3, hostOps1_4]
  simp only [StableHlo.TRef.binary, StableHlo.TRef.nullary, StableHlo.TRef.ternary, StableHlo.TRef.unary, StableHlo.TRef.toBuf, StableHlo.TRef.ofBuf, cast_eq]
  after_results
  rfl

/-- The memory the host code after the kernel starts from. -/
abbrev mid : Valuation τ sig (Elt Ideal) := Pipeline.withArrays (cfgs 0).spec c (V0 m c) fun w => (dats m 0 c).arrAt w (cfgs 0).N

/-- It holds the kernel's array and the arguments. -/
theorem mid_apply : mid c m (Proc.devRef .tc main_v2) = (dats m 0 c).arrAt 4 cfg0.N ∧ mid c m (Proc.devRef .tc main_arg0) = m ((c.tc : Thread nD τ).loc main_arg0)
    ∧ mid c m (Proc.devRef .tc main_arg1) = m ((c.tc : Thread nD τ).loc main_arg1) ∧ mid c m (Proc.devRef .tc main_arg2) = m ((c.tc : Thread nD τ).loc main_arg2)
    ∧ mid c m (Proc.devRef .tc main_arg3) = m ((c.tc : Thread nD τ).loc main_arg3) ∧ mid c m (Proc.devRef .tc main_arg4) = m ((c.tc : Thread nD τ).loc main_arg4) :=
  ⟨Pipeline.withArrays_arr (cfgs 0).spec (by decide) c _ _ 4, (Pipeline.withArrays_of_ne _ c _ _ main_arg0 (by decide)).trans (V_main_arg0 m c),
    (Pipeline.withArrays_of_ne _ c _ _ main_arg1 (by decide)).trans (V_main_arg1 m c), (Pipeline.withArrays_of_ne _ c _ _ main_arg2 (by decide)).trans (V_main_arg2 m c),
    (Pipeline.withArrays_of_ne _ c _ _ main_arg3 (by decide)).trans (V_main_arg3 m c), (Pipeline.withArrays_of_ne _ c _ _ main_arg4 (by decide)).trans (V_main_arg4 m c)⟩

variable (ρ : Dev nD → PrngReg)

/-- The run: its results, and its arguments unchanged. -/
theorem run_apply : θ_run defs (onTc (τ := τ) (main (F := Ideal))) ⟨m, fun _ => 0, ρ⟩ fun r => ∀ c : Dev nD,
    (@Eq (FVec Ideal S4x4096x16 .f32) (r.2.mem ((c.tc : Thread nD τ).loc main_v52)) (out (conv (m ((c.tc : Thread nD τ).loc main_arg0)) ((dats m 0 c).arrAt 4 cfg0.N)
          (m ((c.tc : Thread nD τ).loc main_arg1)) (m ((c.tc : Thread nD τ).loc main_arg2)) (m ((c.tc : Thread nD τ).loc main_arg3)) (m ((c.tc : Thread nD τ).loc main_arg4)))
          (m ((c.tc : Thread nD τ).loc main_arg0)))
      ∧ r.2.mem ((c.tc : Thread nD τ).loc main_v2) = (dats m 0 c).arrAt 4 cfg0.N)
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨⟨?_, (h.1 c).1 4⟩, h.2 c⟩) (θ_run_and (run_main m ρ) (unchanged m ρ))
  refine ((h.1 c).2 main_v52 (Pipeline.mem_restRefs_of main_v52 (by decide) (by decide))).trans ((tail_apply (mid c m)).trans ?_)
  obtain ⟨e, a0, a1, a2, a3, a4⟩ := mid_apply c m
  rw [e, a0, a1, a2, a3, a4]

end Cert.Layer6Ideal.Tile

end
-- ==== Proof.Plain6.lean ====
/- The reference of layer 6. -/
module

public import proofs.«01_k».proof.Proof.Gen.Plain6Ideal
public import proofs.«01_k».proof.Proof.Line
public import proofs.«01_k».proof.Proof.Conv

@[expose] public section

set_option maxRecDepth 16384

noncomputable section

namespace Cert.Plain6Ideal.Run

open Cert.Graph (sqDist feat)
open Cert.Plain6Ideal Cert.Plain6Ideal.Gen Idealize.SL Idealize.ShloMosaic Idealize.ShloMosaic.TcCoe Idealize.SL.Sem Idealize.ShloMosaic.StableHlo

set_option maxHeartbeats 4000000 in
/-- The first window of the reference's operations. -/
def line0 (c : Dev nD) : Line (main_part0 (F := Ideal) c) := by
  unfold main_part0
  repeat first | refine Line.cons _ ?_ | exact Line.nil | exact Line.one _

set_option maxHeartbeats 4000000 in
@[inherit_doc line0] def line1 (c : Dev nD) : Line (main_part1 (F := Ideal) c) := by
  unfold main_part1 fn_var.body fn_relu.body fn_where.body
  repeat first | refine Line.cons _ ?_ | exact Line.nil | exact Line.one _ | refine Line.append ?_ ?_

/-- The reference's operations. -/
def line (c : Dev nD) : Line (main (F := Ideal) c) := (line0 c).append (line1 c)

/-- The edge list: the operations up to it, and those after it. -/
def pre (c : Dev nD) : List (HloOp τ sig (Elt Ideal)) := (line c).ops.take 26

@[inherit_doc pre] def post (c : Dev nD) : List (HloOp τ sig (Elt Ideal)) := (line c).ops.drop 26

/-- The edge convolution of layer 6, on a table of neighbours. -/
abbrev conv (x : FVec Ideal S4x16x4096x1 .f32) (self near : IVec S4x4096x20 32) (W : FVec Ideal S16x32 .f32) (b gamma beta : FVec Ideal S16 .f32) : FVec Ideal S4x16x4096x1 .f32 :=
  Cert.Conv.conv gather_S4x16x4096_S4x4096x20x1_S4x16x4096x20_1_2_0_0_2_3_1161_wf concatenates_S4x16x4096x20_S4x16x4096x20_S4x32x4096x20_d1
    dot_S4x32x4096x20_S16x32_S4x4096x20x16_1_1_023_0_n_n_wf shapeCasts_S4x16x4096x1_S4x16x4096 x self near W b gamma beta

/-- The layer's result: the features added and transposed. -/
abbrev out (y x : FVec Ideal S4x16x4096x1 .f32) : FVec Ideal S4x4096x16 .f32 :=
  transpose S4x4096x16 [0, 2, 1] (shapeCast S4x16x4096 (addf y x) shapeCasts_S4x16x4096x1_S4x16x4096) transposes_S4x16x4096_S4x4096x16_0_2_1

variable (W : Valuation τ sig (Elt Ideal)) (c : Dev nD)

/-- The row of the edge list that holds the neighbours, and the one that holds the points themselves. -/
def near (g : IVec S2x4x4096x20 32) : IVec S4x4096x20 32 :=
  shapeCast S4x4096x20 (extractStridedSlice S1x4x4096x20 ![0, 0, 0, 0] g slices_S2x4x4096x20_S1x4x4096x20_0_0_0_0) shapeCasts_S1x4x4096x20_S4x4096x20

@[inherit_doc near] def self (g : IVec S2x4x4096x20 32) : IVec S4x4096x20 32 :=
  shapeCast S4x4096x20 (extractStridedSlice S1x4x4096x20 ![1, 0, 0, 0] g slices_S2x4x4096x20_S1x4x4096x20_1_0_0_0) shapeCasts_S1x4x4096x20_S4x4096x20

set_option maxHeartbeats 2000000 in
/-- After the edge list the run computes the edge convolution, adds the features, transposes them and returns the neighbours; the arguments stay. -/
theorem post_apply : @Eq (FVec Ideal S4x4096x16 .f32) (after (post c) W (Proc.devRef .tc main_v72))
      (out (conv (W (Proc.devRef .tc main_arg0)) (self (W (Proc.devRef .tc main_v21))) (near (W (Proc.devRef .tc main_v21))) (W (Proc.devRef .tc main_arg1))
          (W (Proc.devRef .tc main_arg2)) (W (Proc.devRef .tc main_arg3)) (W (Proc.devRef .tc main_arg4)))
        (W (Proc.devRef .tc main_arg0)))
    ∧ @Eq (IVec S4x4096x20 32) (after (post c) W (Proc.devRef .tc main_v74)) (near (W (Proc.devRef .tc main_v21)))
    ∧ after (post c) W (Proc.devRef .tc main_arg0) = W (Proc.devRef .tc main_arg0) ∧ after (post c) W (Proc.devRef .tc main_arg1) = W (Proc.devRef .tc main_arg1)
    ∧ after (post c) W (Proc.devRef .tc main_arg2) = W (Proc.devRef .tc main_arg2) ∧ after (post c) W (Proc.devRef .tc main_arg3) = W (Proc.devRef .tc main_arg3)
    ∧ after (post c) W (Proc.devRef .tc main_arg4) = W (Proc.devRef .tc main_arg4) := by
  have e : after (post c) W = after (post c) W := rfl
  conv_rhs at e =>
    enter [1]
    dsimp only [id, post, line, line0, line1, Line.append, Line.cons, Line.nil, Line.one, List.cons_append, List.nil_append]
    whnf
  simp only [TRef.binary, TRef.nullary, TRef.ternary, TRef.unary, TRef.toBuf, TRef.ofBuf, cast_eq] at e
  rw [e]
  refine ⟨?_, ?_, ?_, ?_, ?_, ?_, ?_⟩ <;> after_results
  all_goals rfl

/-- The points, one per row. -/
abbrev points : FVec Ideal S4x4096x16 .f32 :=
  transpose S4x4096x16 [0, 2, 1] (shapeCast S4x16x4096 (W (Proc.devRef .tc main_arg0)) shapeCasts_S4x16x4096x1_S4x16x4096) transposes_S4x16x4096_S4x4096x16_0_2_1

/-- Entry by entry they are the features. -/
theorem points_apply : (fun b n k => points W (ix3 b n k)) = feat (W (Proc.devRef .tc main_arg0)) := by
  funext b n k
  unfold feat
  pointwise

set_option maxHeartbeats 2000000 in
/-- The edge list as the run computes it; the arguments stay. -/
theorem pre_apply : (∀ b n (q : Fin 20), near (after (pre c) W (Proc.devRef .tc main_v21)) (ix3 b n q) = Trip.pickW (sqDist (feat (W (Proc.devRef .tc main_arg0))) b n) (6 * q.val))
    ∧ self (after (pre c) W (Proc.devRef .tc main_v21)) = Cert.Conv.center
    ∧ after (pre c) W (Proc.devRef .tc main_arg0) = W (Proc.devRef .tc main_arg0) ∧ after (pre c) W (Proc.devRef .tc main_arg1) = W (Proc.devRef .tc main_arg1)
    ∧ after (pre c) W (Proc.devRef .tc main_arg2) = W (Proc.devRef .tc main_arg2) ∧ after (pre c) W (Proc.devRef .tc main_arg3) = W (Proc.devRef .tc main_arg3)
    ∧ after (pre c) W (Proc.devRef .tc main_arg4) = W (Proc.devRef .tc main_arg4) := by
  have e : after (pre c) W = after (pre c) W := rfl
  conv_rhs at e =>
    enter [1]
    dsimp only [id, pre, line, line0, line1, Line.append, Line.cons, Line.nil, Line.one, List.cons_append, List.nil_append]
    simp only [List.take_succ_cons, List.take_zero]
  rw [e]
  refine ⟨fun b n q => ?_, ?_, ?_, ?_, ?_, ?_, ?_⟩
  · have hq : 6 * q.val < 120 := by omega
    after_results
    refine (Cert.Graph.tail_dil_apply _ _ _ _ _ _ _ b n q hq).trans ?_
    refine Cert.Graph.pick_apply _ (sqDist (feat (W (Proc.devRef .tc main_arg0)))) (fun b n y => ?_) _ (by decide) b n ⟨6 * q.val, hq⟩
    exact (Cert.Graph.adj_apply (points W) _ _ _ _ _ _ _ _ _ b n y).trans (by rw [points_apply])
  · after_results
    exact Cert.Conv.self_dil_eq _ _ _ _ (Cert.Conv.own_apply _ _) _ _ _ (fun q => by omega)
  all_goals after_results

variable (m : (ℓ : Loc nD τ sig) → Buf (Elt Ideal) ℓ) (ρ : Dev nD → PrngReg)

/-- The run: its two results, and its arguments unchanged. -/
theorem result_apply : θ_run defs (onTc (τ := τ) (main (F := Ideal))) ⟨m, fun _ => 0, ρ⟩ fun r => ∀ c : Dev nD,
    ((∀ b n (q : Fin 20), (r.2.mem ((c.tc : Thread nD τ).loc main_v74) : IVec S4x4096x20 32) (ix3 b n q) = Trip.pickW (sqDist (feat (m ((c.tc : Thread nD τ).loc main_arg0))) b n) (6 * q.val))
      ∧ @Eq (FVec Ideal S4x4096x16 .f32) (r.2.mem ((c.tc : Thread nD τ).loc main_v72)) (out (conv (m ((c.tc : Thread nD τ).loc main_arg0)) Cert.Conv.center (r.2.mem ((c.tc : Thread nD τ).loc main_v74))
          (m ((c.tc : Thread nD τ).loc main_arg1)) (m ((c.tc : Thread nD τ).loc main_arg2)) (m ((c.tc : Thread nD τ).loc main_arg3)) (m ((c.tc : Thread nD τ).loc main_arg4)))
          (m ((c.tc : Thread nD τ).loc main_arg0))))
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (run_seq (by decide) (by decide) defs main (fun c => (line c).ops) (fun c => (line c).eq) (fun c => (line c).bufs) m ρ (fun c => (line c).fresh))
  obtain ⟨p0, p1, a0, a1, a2, a3, a4⟩ := pre_apply (launchContents m c) c
  obtain ⟨q0, q1, k0, k1, k2, k3, k4⟩ := post_apply (after (pre c) (launchContents m c)) c
  have e : ∀ b : Ref sig .tc, r.2.mem ((c.tc : Thread nD τ).loc b) = after (post c) (after (pre c) (launchContents m c)) (Proc.devRef .tc b) := fun b =>
    (h c b).trans (congrFun (after_split 26 (line c).ops (launchContents m c)) _)
  refine ⟨⟨fun b n q => ?_, ?_⟩, (e _).trans (k0.trans a0), (e _).trans (k1.trans a1), (e _).trans (k2.trans a2), (e _).trans (k3.trans a3), (e _).trans (k4.trans a4)⟩
  · rw [e, q1]
    exact p0 b n q
  · rw [e, e, q0, q1, p1, a0, a1, a2, a3, a4]

end Cert.Plain6Ideal.Run

end
-- ==== Proof.Call6.lean ====
/- The claims of layer 6. -/
module

public import proofs.«01_k».proof.Defs
public import proofs.«01_k».proof.Proof.Gen.Layer6.Frame
public import proofs.«01_k».proof.Proof.Gen.Pre_finite_feat
public import proofs.«01_k».proof.Proof.Layer6
public import proofs.«01_k».proof.Proof.Plain6

@[expose] public section

noncomputable section

namespace Cert.Call6

open Idealize.ShloMosaic Idealize.ShloMosaic.TcCoe Idealize.SL.Sem

/-- The facts the programs of this layer and their precondition state. -/
local instance facts : Cert.Layer6.Facts := Cert.Layer6.Gen.facts
@[inherit_doc facts] local instance factsI : Cert.Layer6Ideal.Facts := Cert.Layer6Ideal.Gen.facts
@[inherit_doc facts] local instance factsR : Cert.Plain6Ideal.Facts := Cert.Plain6Ideal.Gen.facts
@[inherit_doc facts] local instance factsP : Cert.Pre_finite_feat.Facts := Cert.Pre_finite_feat.Gen.facts

/-- The reference leaves its arguments and its counters alone. -/
theorem frame_ref : Cert.quiescent_Plain6Ideal := fun m ρ _ =>
  (θ_run _ _ _).mono (fun r h => ⟨fun c => (h c).2, sem_eq_zero_of_no_sems (by decide) r.2⟩) (Cert.Plain6Ideal.Run.result_apply m ρ)

/-- On finite features the kernel's layer is the reference's. -/
theorem algebraic : Cert.algebraic_Layer6Ideal_Plain6Ideal_pre_finite_feat := by
  intro m g m' g' hpre hagree
  refine ⟨_, _, (θ_run _ _ _).mono (fun r h c => ⟨(h c).1.1, (h c).1.2, (h c).2⟩) (Cert.Layer6Ideal.Tile.run_apply m g), (θ_run _ _ _).mono (fun r h c => ?_) (Cert.Plain6Ideal.Run.result_apply m' g')⟩
  obtain ⟨⟨hn, hf⟩, ha⟩ := h c
  obtain ⟨e0, e1, e2, e3, e4⟩ := hagree c
  have en : r.2.mem ((c.tc : Thread Cert.Plain6Ideal.nD Cert.Plain6Ideal.τ).loc Cert.Plain6Ideal.main_v74) = (Cert.Layer6Ideal.Gen.dats m 0 c).arrAt 4 Cert.Layer6Ideal.cfg0.N := by
    refine Cert.Graph.ext fun b n q => (hn b n q).trans ?_
    rw [e0]
    exact (Cert.Layer6Ideal.Tile.result_apply c m (Cert.Graph.feat_lt_top _ _ (hpre c)) b n q).symm
  refine ⟨hf.trans ?_, en, ha⟩
  rw [en, e0, e1, e2, e3, e4]

end Cert.Call6

end
-- ==== Proof.lean ====
module

public import proofs.«01_k».proof.Proof.Call0
public import proofs.«01_k».proof.Proof.Call1
public import proofs.«01_k».proof.Proof.Call2
public import proofs.«01_k».proof.Proof.Call3
public import proofs.«01_k».proof.Proof.Call4
public import proofs.«01_k».proof.Proof.Call5
public import proofs.«01_k».proof.Proof.Call6
public import proofs.«01_k».proof.Defs

@[expose] public section

noncomputable section

namespace Cert.Proof

open Idealize.ShloMosaic Idealize.SL.Sem

/-- Every claim of the certificate. -/
theorem claim : Cert.Claim := ⟨Cert.Layer0.Gen.facts, Cert.Layer0Ideal.Gen.facts, Cert.Plain0Ideal.Gen.facts, Cert.Layer1.Gen.facts, Cert.Layer1Ideal.Gen.facts, Cert.Plain1Ideal.Gen.facts, Cert.Layer2.Gen.facts, Cert.Layer2Ideal.Gen.facts, Cert.Plain2Ideal.Gen.facts, Cert.Layer3.Gen.facts, Cert.Layer3Ideal.Gen.facts, Cert.Plain3Ideal.Gen.facts, Cert.Layer4.Gen.facts, Cert.Layer4Ideal.Gen.facts, Cert.Plain4Ideal.Gen.facts, Cert.Layer5.Gen.facts, Cert.Layer5Ideal.Gen.facts, Cert.Plain5Ideal.Gen.facts, Cert.Layer6.Gen.facts, Cert.Layer6Ideal.Gen.facts, Cert.Plain6Ideal.Gen.facts, Cert.Pre_finite.Gen.facts, Cert.Pre_finite_feat.Gen.facts,
  fun m g _ => Cert.Layer0.Gen.frame m g, fun m g _ => Cert.Layer0Ideal.Gen.frame m g, fun m g _ => Cert.Layer0Ideal.Gen.frame m g, Cert.Call0.frame_ref, fun m g _ => Cert.Call0.frame_ref m g trivial,
  fun m g _ => Cert.Layer1.Gen.frame m g, fun m g _ => Cert.Layer1Ideal.Gen.frame m g, fun m g _ => Cert.Layer1Ideal.Gen.frame m g, Cert.Call1.frame_ref, fun m g _ => Cert.Call1.frame_ref m g trivial,
  fun m g _ => Cert.Layer2.Gen.frame m g, fun m g _ => Cert.Layer2Ideal.Gen.frame m g, fun m g _ => Cert.Layer2Ideal.Gen.frame m g, Cert.Call2.frame_ref, fun m g _ => Cert.Call2.frame_ref m g trivial,
  fun m g _ => Cert.Layer3.Gen.frame m g, fun m g _ => Cert.Layer3Ideal.Gen.frame m g, fun m g _ => Cert.Layer3Ideal.Gen.frame m g, Cert.Call3.frame_ref, fun m g _ => Cert.Call3.frame_ref m g trivial,
  fun m g _ => Cert.Layer4.Gen.frame m g, fun m g _ => Cert.Layer4Ideal.Gen.frame m g, fun m g _ => Cert.Layer4Ideal.Gen.frame m g, Cert.Call4.frame_ref, fun m g _ => Cert.Call4.frame_ref m g trivial,
  fun m g _ => Cert.Layer5.Gen.frame m g, fun m g _ => Cert.Layer5Ideal.Gen.frame m g, fun m g _ => Cert.Layer5Ideal.Gen.frame m g, Cert.Call5.frame_ref, fun m g _ => Cert.Call5.frame_ref m g trivial,
  fun m g _ => Cert.Layer6.Gen.frame m g, fun m g _ => Cert.Layer6Ideal.Gen.frame m g, fun m g _ => Cert.Layer6Ideal.Gen.frame m g, Cert.Call6.frame_ref, fun m g _ => Cert.Call6.frame_ref m g trivial,
  IdealRules.named_const.statement Cert.Layer0Ideal.κ "taken" .f32 0x7F61B1E6#32 ⊤ rfl, Cert.Call0.algebraic,
  IdealRules.named_const.statement Cert.Layer1Ideal.κ "taken" .f32 0x7F61B1E6#32 ⊤ rfl, Cert.Call1.algebraic,
  IdealRules.named_const.statement Cert.Layer2Ideal.κ "taken" .f32 0x7F61B1E6#32 ⊤ rfl, Cert.Call2.algebraic,
  IdealRules.named_const.statement Cert.Layer3Ideal.κ "taken" .f32 0x7F61B1E6#32 ⊤ rfl, Cert.Call3.algebraic,
  IdealRules.named_const.statement Cert.Layer4Ideal.κ "taken" .f32 0x7F61B1E6#32 ⊤ rfl, Cert.Call4.algebraic,
  IdealRules.named_const.statement Cert.Layer5Ideal.κ "taken" .f32 0x7F61B1E6#32 ⊤ rfl, Cert.Call5.algebraic,
  IdealRules.named_const.statement Cert.Layer6Ideal.κ "taken" .f32 0x7F61B1E6#32 ⊤ rfl, Cert.Call6.algebraic⟩

end Cert.Proof

end
